-- ==== Defs.lean ====
def Pre_Fwd (m : (ℓ : Loc Cert.Fwd.nD Cert.Fwd.τ Cert.Fwd.sig) → Buf (Elt Bits) ℓ) : Prop :=
  True

def Pre_FwdIdeal (m : (ℓ : Loc Cert.FwdIdeal.nD Cert.FwdIdeal.τ Cert.FwdIdeal.sig) → Buf (Elt Ideal) ℓ) : Prop :=
  True

def Pre_FwdRefIdeal (m : (ℓ : Loc Cert.FwdRefIdeal.nD Cert.FwdRefIdeal.τ Cert.FwdRefIdeal.sig) → Buf (Elt Ideal) ℓ) : Prop :=
  True

def Pre_DownFwd (m : (ℓ : Loc Cert.DownFwd.nD Cert.DownFwd.τ Cert.DownFwd.sig) → Buf (Elt Bits) ℓ) : Prop :=
  True

def Pre_DownFwdIdeal (m : (ℓ : Loc Cert.DownFwdIdeal.nD Cert.DownFwdIdeal.τ Cert.DownFwdIdeal.sig) → Buf (Elt Ideal) ℓ) : Prop :=
  True

def Pre_DownFwdRefIdeal (m : (ℓ : Loc Cert.DownFwdRefIdeal.nD Cert.DownFwdRefIdeal.τ Cert.DownFwdRefIdeal.sig) → Buf (Elt Ideal) ℓ) : Prop :=
  True

def Pre_Dx (m : (ℓ : Loc Cert.Dx.nD Cert.Dx.τ Cert.Dx.sig) → Buf (Elt Bits) ℓ) : Prop :=
  True

def Pre_DxIdeal (m : (ℓ : Loc Cert.DxIdeal.nD Cert.DxIdeal.τ Cert.DxIdeal.sig) → Buf (Elt Ideal) ℓ) : Prop :=
  True

def Pre_DxRefIdeal (m : (ℓ : Loc Cert.DxRefIdeal.nD Cert.DxRefIdeal.τ Cert.DxRefIdeal.sig) → Buf (Elt Ideal) ℓ) : Prop :=
  True

def Pre_DownBwd (m : (ℓ : Loc Cert.DownBwd.nD Cert.DownBwd.τ Cert.DownBwd.sig) → Buf (Elt Bits) ℓ) : Prop :=
  True

def Pre_DownBwdIdeal (m : (ℓ : Loc Cert.DownBwdIdeal.nD Cert.DownBwdIdeal.τ Cert.DownBwdIdeal.sig) → Buf (Elt Ideal) ℓ) : Prop :=
  True

def Pre_DownBwdRefIdeal (m : (ℓ : Loc Cert.DownBwdRefIdeal.nD Cert.DownBwdRefIdeal.τ Cert.DownBwdRefIdeal.sig) → Buf (Elt Ideal) ℓ) : Prop :=
  True

def Pre_NormGrad (m : (ℓ : Loc Cert.NormGrad.nD Cert.NormGrad.τ Cert.NormGrad.sig) → Buf (Elt Bits) ℓ) : Prop :=
  True

def Pre_NormGradIdeal (m : (ℓ : Loc Cert.NormGradIdeal.nD Cert.NormGradIdeal.τ Cert.NormGradIdeal.sig) → Buf (Elt Ideal) ℓ) : Prop :=
  True

def Pre_NormGradRefIdeal (m : (ℓ : Loc Cert.NormGradRefIdeal.nD Cert.NormGradRefIdeal.τ Cert.NormGradRefIdeal.sig) → Buf (Elt Ideal) ℓ) : Prop :=
  True

def Pre_NormGradDown (m : (ℓ : Loc Cert.NormGradDown.nD Cert.NormGradDown.τ Cert.NormGradDown.sig) → Buf (Elt Bits) ℓ) : Prop :=
  True

def Pre_NormGradDownIdeal (m : (ℓ : Loc Cert.NormGradDownIdeal.nD Cert.NormGradDownIdeal.τ Cert.NormGradDownIdeal.sig) → Buf (Elt Ideal) ℓ) : Prop :=
  True

def Pre_NormGradDownRefIdeal (m : (ℓ : Loc Cert.NormGradDownRefIdeal.nD Cert.NormGradDownRefIdeal.τ Cert.NormGradDownRefIdeal.sig) → Buf (Elt Ideal) ℓ) : Prop :=
  True

def quiescent_Fwd [hFwd : Cert.Fwd.Facts] : Prop :=
  ∀ (m : (ℓ : Loc Cert.Fwd.nD Cert.Fwd.τ Cert.Fwd.sig) → Buf (Elt Bits) ℓ) (g : Dev Cert.Fwd.nD → PrngReg), Pre_Fwd m →
    θ_run (Cert.Fwd.defs (F := Bits)) (onTc (τ := Cert.Fwd.τ) (Cert.Fwd.main (F := Bits))) ⟨m, fun _ => 0, g⟩ (fun r => (∀ c : Dev Cert.Fwd.nD,
      r.2.mem ((c.tc : Thread Cert.Fwd.nD Cert.Fwd.τ).loc Cert.Fwd.main_arg0) = m ((c.tc : Thread Cert.Fwd.nD Cert.Fwd.τ).loc Cert.Fwd.main_arg0)
      ∧ r.2.mem ((c.tc : Thread Cert.Fwd.nD Cert.Fwd.τ).loc Cert.Fwd.main_arg1) = m ((c.tc : Thread Cert.Fwd.nD Cert.Fwd.τ).loc Cert.Fwd.main_arg1)
      ∧ r.2.mem ((c.tc : Thread Cert.Fwd.nD Cert.Fwd.τ).loc Cert.Fwd.main_arg2) = m ((c.tc : Thread Cert.Fwd.nD Cert.Fwd.τ).loc Cert.Fwd.main_arg2)
      ∧ r.2.mem ((c.tc : Thread Cert.Fwd.nD Cert.Fwd.τ).loc Cert.Fwd.main_arg3) = m ((c.tc : Thread Cert.Fwd.nD Cert.Fwd.τ).loc Cert.Fwd.main_arg3)
      ∧ r.2.mem ((c.tc : Thread Cert.Fwd.nD Cert.Fwd.τ).loc Cert.Fwd.main_arg4) = m ((c.tc : Thread Cert.Fwd.nD Cert.Fwd.τ).loc Cert.Fwd.main_arg4)
      ∧ r.2.mem ((c.tc : Thread Cert.Fwd.nD Cert.Fwd.τ).loc Cert.Fwd.main_arg5) = m ((c.tc : Thread Cert.Fwd.nD Cert.Fwd.τ).loc Cert.Fwd.main_arg5)
      ∧ r.2.mem ((c.tc : Thread Cert.Fwd.nD Cert.Fwd.τ).loc Cert.Fwd.main_arg6) = m ((c.tc : Thread Cert.Fwd.nD Cert.Fwd.τ).loc Cert.Fwd.main_arg6)
      ∧ r.2.mem ((c.tc : Thread Cert.Fwd.nD Cert.Fwd.τ).loc Cert.Fwd.main_arg7) = m ((c.tc : Thread Cert.Fwd.nD Cert.Fwd.τ).loc Cert.Fwd.main_arg7)
      ∧ r.2.mem ((c.tc : Thread Cert.Fwd.nD Cert.Fwd.τ).loc Cert.Fwd.main_arg8) = m ((c.tc : Thread Cert.Fwd.nD Cert.Fwd.τ).loc Cert.Fwd.main_arg8)
      ∧ r.2.mem ((c.tc : Thread Cert.Fwd.nD Cert.Fwd.τ).loc Cert.Fwd.main_arg9) = m ((c.tc : Thread Cert.Fwd.nD Cert.Fwd.τ).loc Cert.Fwd.main_arg9))
      ∧ r.2.sem = fun _ => 0)

def quiescent_FwdIdeal [hFwdIdeal : Cert.FwdIdeal.Facts] : Prop :=
  ∀ (m : (ℓ : Loc Cert.FwdIdeal.nD Cert.FwdIdeal.τ Cert.FwdIdeal.sig) → Buf (Elt Ideal) ℓ) (g : Dev Cert.FwdIdeal.nD → PrngReg), Pre_FwdIdeal m →
    θ_run (Cert.FwdIdeal.defs (F := Ideal)) (onTc (τ := Cert.FwdIdeal.τ) (Cert.FwdIdeal.main (F := Ideal))) ⟨m, fun _ => 0, g⟩ (fun r => (∀ c : Dev Cert.FwdIdeal.nD,
      r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
      ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1)
      ∧ r.2.mem ((c.tc : Thread Cert.FwdIdeal.nD Cert.FwdIdeal.τ).loc Cert.FwdIdeal.main_arg2) = m ((c.tc : Thread Cert.FwdIdeal.nD Cert.FwdIdeal.τ).loc Cert.FwdIdeal.main_arg2)
      ∧ r.2.mem ((c.tc : Thread Cert.FwdIdeal.nD Cert.FwdIdeal.τ).loc Cert.FwdIdeal.main_arg3) = m ((c.tc : Thread Cert.FwdIdeal.nD Cert.FwdIdeal.τ).loc Cert.FwdIdeal.main_arg3)
      ∧ r.2.mem ((c.tc : Thread Cert.FwdIdeal.nD Cert.FwdIdeal.τ).loc Cert.FwdIdeal.main_arg4) = m ((c.tc : Thread Cert.FwdIdeal.nD Cert.FwdIdeal.τ).loc Cert.FwdIdeal.main_arg4)
      ∧ r.2.mem ((c.tc : Thread Cert.FwdIdeal.nD Cert.FwdIdeal.τ).loc Cert.FwdIdeal.main_arg5) = m ((c.tc : Thread Cert.FwdIdeal.nD Cert.FwdIdeal.τ).loc Cert.FwdIdeal.main_arg5)
      ∧ r.2.mem ((c.tc : Thread Cert.FwdIdeal.nD Cert.FwdIdeal.τ).loc Cert.FwdIdeal.main_arg6) = m ((c.tc : Thread Cert.FwdIdeal.nD Cert.FwdIdeal.τ).loc Cert.FwdIdeal.main_arg6)
      ∧ r.2.mem ((c.tc : Thread Cert.FwdIdeal.nD Cert.FwdIdeal.τ).loc Cert.FwdIdeal.main_arg7) = m ((c.tc : Thread Cert.FwdIdeal.nD Cert.FwdIdeal.τ).loc Cert.FwdIdeal.main_arg7)
      ∧ r.2.mem ((c.tc : Thread Cert.FwdIdeal.nD Cert.FwdIdeal.τ).loc Cert.FwdIdeal.main_arg8) = m ((c.tc : Thread Cert.FwdIdeal.nD Cert.FwdIdeal.τ).loc Cert.FwdIdeal.main_arg8)
      ∧ r.2.mem ((c.tc : Thread Cert.FwdIdeal.nD Cert.FwdIdeal.τ).loc Cert.FwdIdeal.main_arg9) = m ((c.tc : Thread Cert.FwdIdeal.nD Cert.FwdIdeal.τ).loc Cert.FwdIdeal.main_arg9))
      ∧ r.2.sem = fun _ => 0)

def quiescent_FwdRefIdeal [hFwdRefIdeal : Cert.FwdRefIdeal.Facts] : Prop :=
  ∀ (m : (ℓ : Loc Cert.FwdRefIdeal.nD Cert.FwdRefIdeal.τ Cert.FwdRefIdeal.sig) → Buf (Elt Ideal) ℓ) (g : Dev Cert.FwdRefIdeal.nD → PrngReg), Pre_FwdRefIdeal m →
    θ_run (Cert.FwdRefIdeal.defs (F := Ideal)) (onTc (τ := Cert.FwdRefIdeal.τ) (Cert.FwdRefIdeal.main (F := Ideal))) ⟨m, fun _ => 0, g⟩ (fun r => (∀ c : Dev Cert.FwdRefIdeal.nD,
      r.2.mem ((c.tc : Thread Cert.FwdRefIdeal.nD Cert.FwdRefIdeal.τ).loc Cert.FwdRefIdeal.main_arg0) = m ((c.tc : Thread Cert.FwdRefIdeal.nD Cert.FwdRefIdeal.τ).loc Cert.FwdRefIdeal.main_arg0)
      ∧ r.2.mem ((c.tc : Thread Cert.FwdRefIdeal.nD Cert.FwdRefIdeal.τ).loc Cert.FwdRefIdeal.main_arg1) = m ((c.tc : Thread Cert.FwdRefIdeal.nD Cert.FwdRefIdeal.τ).loc Cert.FwdRefIdeal.main_arg1)
      ∧ r.2.mem ((c.tc : Thread Cert.FwdRefIdeal.nD Cert.FwdRefIdeal.τ).loc Cert.FwdRefIdeal.main_arg2) = m ((c.tc : Thread Cert.FwdRefIdeal.nD Cert.FwdRefIdeal.τ).loc Cert.FwdRefIdeal.main_arg2)
      ∧ r.2.mem ((c.tc : Thread Cert.FwdRefIdeal.nD Cert.FwdRefIdeal.τ).loc Cert.FwdRefIdeal.main_arg3) = m ((c.tc : Thread Cert.FwdRefIdeal.nD Cert.FwdRefIdeal.τ).loc Cert.FwdRefIdeal.main_arg3)
      ∧ r.2.mem ((c.tc : Thread Cert.FwdRefIdeal.nD Cert.FwdRefIdeal.τ).loc Cert.FwdRefIdeal.main_arg4) = m ((c.tc : Thread Cert.FwdRefIdeal.nD Cert.FwdRefIdeal.τ).loc Cert.FwdRefIdeal.main_arg4)
      ∧ r.2.mem ((c.tc : Thread Cert.FwdRefIdeal.nD Cert.FwdRefIdeal.τ).loc Cert.FwdRefIdeal.main_arg5) = m ((c.tc : Thread Cert.FwdRefIdeal.nD Cert.FwdRefIdeal.τ).loc Cert.FwdRefIdeal.main_arg5)
      ∧ r.2.mem ((c.tc : Thread Cert.FwdRefIdeal.nD Cert.FwdRefIdeal.τ).loc Cert.FwdRefIdeal.main_arg6) = m ((c.tc : Thread Cert.FwdRefIdeal.nD Cert.FwdRefIdeal.τ).loc Cert.FwdRefIdeal.main_arg6)
      ∧ r.2.mem ((c.tc : Thread Cert.FwdRefIdeal.nD Cert.FwdRefIdeal.τ).loc Cert.FwdRefIdeal.main_arg7) = m ((c.tc : Thread Cert.FwdRefIdeal.nD Cert.FwdRefIdeal.τ).loc Cert.FwdRefIdeal.main_arg7)
      ∧ r.2.mem ((c.tc : Thread Cert.FwdRefIdeal.nD Cert.FwdRefIdeal.τ).loc Cert.FwdRefIdeal.main_arg8) = m ((c.tc : Thread Cert.FwdRefIdeal.nD Cert.FwdRefIdeal.τ).loc Cert.FwdRefIdeal.main_arg8)
      ∧ r.2.mem ((c.tc : Thread Cert.FwdRefIdeal.nD Cert.FwdRefIdeal.τ).loc Cert.FwdRefIdeal.main_arg9) = m ((c.tc : Thread Cert.FwdRefIdeal.nD Cert.FwdRefIdeal.τ).loc Cert.FwdRefIdeal.main_arg9))
      ∧ r.2.sem = fun _ => 0)

def quiescent_DownFwd [hDownFwd : Cert.DownFwd.Facts] : Prop :=
  ∀ (m : (ℓ : Loc Cert.DownFwd.nD Cert.DownFwd.τ Cert.DownFwd.sig) → Buf (Elt Bits) ℓ) (g : Dev Cert.DownFwd.nD → PrngReg), Pre_DownFwd m →
    θ_run (Cert.DownFwd.defs (F := Bits)) (onTc (τ := Cert.DownFwd.τ) (Cert.DownFwd.main (F := Bits))) ⟨m, fun _ => 0, g⟩ (fun r => (∀ c : Dev Cert.DownFwd.nD,
      r.2.mem ((c.tc : Thread Cert.DownFwd.nD Cert.DownFwd.τ).loc Cert.DownFwd.main_arg0) = m ((c.tc : Thread Cert.DownFwd.nD Cert.DownFwd.τ).loc Cert.DownFwd.main_arg0)
      ∧ r.2.mem ((c.tc : Thread Cert.DownFwd.nD Cert.DownFwd.τ).loc Cert.DownFwd.main_arg1) = m ((c.tc : Thread Cert.DownFwd.nD Cert.DownFwd.τ).loc Cert.DownFwd.main_arg1)
      ∧ r.2.mem ((c.tc : Thread Cert.DownFwd.nD Cert.DownFwd.τ).loc Cert.DownFwd.main_arg2) = m ((c.tc : Thread Cert.DownFwd.nD Cert.DownFwd.τ).loc Cert.DownFwd.main_arg2)
      ∧ r.2.mem ((c.tc : Thread Cert.DownFwd.nD Cert.DownFwd.τ).loc Cert.DownFwd.main_arg3) = m ((c.tc : Thread Cert.DownFwd.nD Cert.DownFwd.τ).loc Cert.DownFwd.main_arg3)
      ∧ r.2.mem ((c.tc : Thread Cert.DownFwd.nD Cert.DownFwd.τ).loc Cert.DownFwd.main_arg4) = m ((c.tc : Thread Cert.DownFwd.nD Cert.DownFwd.τ).loc Cert.DownFwd.main_arg4)
      ∧ r.2.mem ((c.tc : Thread Cert.DownFwd.nD Cert.DownFwd.τ).loc Cert.DownFwd.main_arg5) = m ((c.tc : Thread Cert.DownFwd.nD Cert.DownFwd.τ).loc Cert.DownFwd.main_arg5)
      ∧ r.2.mem ((c.tc : Thread Cert.DownFwd.nD Cert.DownFwd.τ).loc Cert.DownFwd.main_arg6) = m ((c.tc : Thread Cert.DownFwd.nD Cert.DownFwd.τ).loc Cert.DownFwd.main_arg6))
      ∧ r.2.sem = fun _ => 0)

def quiescent_DownFwdIdeal [hDownFwdIdeal : Cert.DownFwdIdeal.Facts] : Prop :=
  ∀ (m : (ℓ : Loc Cert.DownFwdIdeal.nD Cert.DownFwdIdeal.τ Cert.DownFwdIdeal.sig) → Buf (Elt Ideal) ℓ) (g : Dev Cert.DownFwdIdeal.nD → PrngReg), Pre_DownFwdIdeal m →
    θ_run (Cert.DownFwdIdeal.defs (F := Ideal)) (onTc (τ := Cert.DownFwdIdeal.τ) (Cert.DownFwdIdeal.main (F := Ideal))) ⟨m, fun _ => 0, g⟩ (fun r => (∀ c : Dev Cert.DownFwdIdeal.nD,
      r.2.mem ((c.tc : Thread Cert.DownFwdIdeal.nD Cert.DownFwdIdeal.τ).loc Cert.DownFwdIdeal.main_arg0) = m ((c.tc : Thread Cert.DownFwdIdeal.nD Cert.DownFwdIdeal.τ).loc Cert.DownFwdIdeal.main_arg0)
      ∧ r.2.mem ((c.tc : Thread Cert.DownFwdIdeal.nD Cert.DownFwdIdeal.τ).loc Cert.DownFwdIdeal.main_arg1) = m ((c.tc : Thread Cert.DownFwdIdeal.nD Cert.DownFwdIdeal.τ).loc Cert.DownFwdIdeal.main_arg1)
      ∧ r.2.mem ((c.tc : Thread Cert.DownFwdIdeal.nD Cert.DownFwdIdeal.τ).loc Cert.DownFwdIdeal.main_arg2) = m ((c.tc : Thread Cert.DownFwdIdeal.nD Cert.DownFwdIdeal.τ).loc Cert.DownFwdIdeal.main_arg2)
      ∧ r.2.mem ((c.tc : Thread Cert.DownFwdIdeal.nD Cert.DownFwdIdeal.τ).loc Cert.DownFwdIdeal.main_arg3) = m ((c.tc : Thread Cert.DownFwdIdeal.nD Cert.DownFwdIdeal.τ).loc Cert.DownFwdIdeal.main_arg3)
      ∧ r.2.mem ((c.tc : Thread Cert.DownFwdIdeal.nD Cert.DownFwdIdeal.τ).loc Cert.DownFwdIdeal.main_arg4) = m ((c.tc : Thread Cert.DownFwdIdeal.nD Cert.DownFwdIdeal.τ).loc Cert.DownFwdIdeal.main_arg4)
      ∧ r.2.mem ((c.tc : Thread Cert.DownFwdIdeal.nD Cert.DownFwdIdeal.τ).loc Cert.DownFwdIdeal.main_arg5) = m ((c.tc : Thread Cert.DownFwdIdeal.nD Cert.DownFwdIdeal.τ).loc Cert.DownFwdIdeal.main_arg5)
      ∧ r.2.mem ((c.tc : Thread Cert.DownFwdIdeal.nD Cert.DownFwdIdeal.τ).loc Cert.DownFwdIdeal.main_arg6) = m ((c.tc : Thread Cert.DownFwdIdeal.nD Cert.DownFwdIdeal.τ).loc Cert.DownFwdIdeal.main_arg6))
      ∧ r.2.sem = fun _ => 0)

def quiescent_DownFwdRefIdeal [hDownFwdRefIdeal : Cert.DownFwdRefIdeal.Facts] : Prop :=
  ∀ (m : (ℓ : Loc Cert.DownFwdRefIdeal.nD Cert.DownFwdRefIdeal.τ Cert.DownFwdRefIdeal.sig) → Buf (Elt Ideal) ℓ) (g : Dev Cert.DownFwdRefIdeal.nD → PrngReg), Pre_DownFwdRefIdeal m →
    θ_run (Cert.DownFwdRefIdeal.defs (F := Ideal)) (onTc (τ := Cert.DownFwdRefIdeal.τ) (Cert.DownFwdRefIdeal.main (F := Ideal))) ⟨m, fun _ => 0, g⟩ (fun r => (∀ c : Dev Cert.DownFwdRefIdeal.nD,
      r.2.mem ((c.tc : Thread Cert.DownFwdRefIdeal.nD Cert.DownFwdRefIdeal.τ).loc Cert.DownFwdRefIdeal.main_arg0) = m ((c.tc : Thread Cert.DownFwdRefIdeal.nD Cert.DownFwdRefIdeal.τ).loc Cert.DownFwdRefIdeal.main_arg0)
      ∧ r.2.mem ((c.tc : Thread Cert.DownFwdRefIdeal.nD Cert.DownFwdRefIdeal.τ).loc Cert.DownFwdRefIdeal.main_arg1) = m ((c.tc : Thread Cert.DownFwdRefIdeal.nD Cert.DownFwdRefIdeal.τ).loc Cert.DownFwdRefIdeal.main_arg1)
      ∧ r.2.mem ((c.tc : Thread Cert.DownFwdRefIdeal.nD Cert.DownFwdRefIdeal.τ).loc Cert.DownFwdRefIdeal.main_arg2) = m ((c.tc : Thread Cert.DownFwdRefIdeal.nD Cert.DownFwdRefIdeal.τ).loc Cert.DownFwdRefIdeal.main_arg2)
      ∧ r.2.mem ((c.tc : Thread Cert.DownFwdRefIdeal.nD Cert.DownFwdRefIdeal.τ).loc Cert.DownFwdRefIdeal.main_arg3) = m ((c.tc : Thread Cert.DownFwdRefIdeal.nD Cert.DownFwdRefIdeal.τ).loc Cert.DownFwdRefIdeal.main_arg3)
      ∧ r.2.mem ((c.tc : Thread Cert.DownFwdRefIdeal.nD Cert.DownFwdRefIdeal.τ).loc Cert.DownFwdRefIdeal.main_arg4) = m ((c.tc : Thread Cert.DownFwdRefIdeal.nD Cert.DownFwdRefIdeal.τ).loc Cert.DownFwdRefIdeal.main_arg4)
      ∧ r.2.mem ((c.tc : Thread Cert.DownFwdRefIdeal.nD Cert.DownFwdRefIdeal.τ).loc Cert.DownFwdRefIdeal.main_arg5) = m ((c.tc : Thread Cert.DownFwdRefIdeal.nD Cert.DownFwdRefIdeal.τ).loc Cert.DownFwdRefIdeal.main_arg5)
      ∧ r.2.mem ((c.tc : Thread Cert.DownFwdRefIdeal.nD Cert.DownFwdRefIdeal.τ).loc Cert.DownFwdRefIdeal.main_arg6) = m ((c.tc : Thread Cert.DownFwdRefIdeal.nD Cert.DownFwdRefIdeal.τ).loc Cert.DownFwdRefIdeal.main_arg6))
      ∧ r.2.sem = fun _ => 0)

def quiescent_Dx [hDx : Cert.Dx.Facts] : Prop :=
  ∀ (m : (ℓ : Loc Cert.Dx.nD Cert.Dx.τ Cert.Dx.sig) → Buf (Elt Bits) ℓ) (g : Dev Cert.Dx.nD → PrngReg), Pre_Dx m →
    θ_run (Cert.Dx.defs (F := Bits)) (onTc (τ := Cert.Dx.τ) (Cert.Dx.main (F := Bits))) ⟨m, fun _ => 0, g⟩ (fun r => (∀ c : Dev Cert.Dx.nD,
      r.2.mem ((c.tc : Thread Cert.Dx.nD Cert.Dx.τ).loc Cert.Dx.main_arg0) = m ((c.tc : Thread Cert.Dx.nD Cert.Dx.τ).loc Cert.Dx.main_arg0)
      ∧ r.2.mem ((c.tc : Thread Cert.Dx.nD Cert.Dx.τ).loc Cert.Dx.main_arg1) = m ((c.tc : Thread Cert.Dx.nD Cert.Dx.τ).loc Cert.Dx.main_arg1)
      ∧ r.2.mem ((c.tc : Thread Cert.Dx.nD Cert.Dx.τ).loc Cert.Dx.main_arg2) = m ((c.tc : Thread Cert.Dx.nD Cert.Dx.τ).loc Cert.Dx.main_arg2)
      ∧ r.2.mem ((c.tc : Thread Cert.Dx.nD Cert.Dx.τ).loc Cert.Dx.main_arg3) = m ((c.tc : Thread Cert.Dx.nD Cert.Dx.τ).loc Cert.Dx.main_arg3)
      ∧ r.2.mem ((c.tc : Thread Cert.Dx.nD Cert.Dx.τ).loc Cert.Dx.main_arg4) = m ((c.tc : Thread Cert.Dx.nD Cert.Dx.τ).loc Cert.Dx.main_arg4)
      ∧ r.2.mem ((c.tc : Thread Cert.Dx.nD Cert.Dx.τ).loc Cert.Dx.main_arg5) = m ((c.tc : Thread Cert.Dx.nD Cert.Dx.τ).loc Cert.Dx.main_arg5)
      ∧ r.2.mem ((c.tc : Thread Cert.Dx.nD Cert.Dx.τ).loc Cert.Dx.main_arg6) = m ((c.tc : Thread Cert.Dx.nD Cert.Dx.τ).loc Cert.Dx.main_arg6)
      ∧ r.2.mem ((c.tc : Thread Cert.Dx.nD Cert.Dx.τ).loc Cert.Dx.main_arg7) = m ((c.tc : Thread Cert.Dx.nD Cert.Dx.τ).loc Cert.Dx.main_arg7)
      ∧ r.2.mem ((c.tc : Thread Cert.Dx.nD Cert.Dx.τ).loc Cert.Dx.main_arg8) = m ((c.tc : Thread Cert.Dx.nD Cert.Dx.τ).loc Cert.Dx.main_arg8)
      ∧ r.2.mem ((c.tc : Thread Cert.Dx.nD Cert.Dx.τ).loc Cert.Dx.main_arg9) = m ((c.tc : Thread Cert.Dx.nD Cert.Dx.τ).loc Cert.Dx.main_arg9)
      ∧ r.2.mem ((c.tc : Thread Cert.Dx.nD Cert.Dx.τ).loc Cert.Dx.main_arg10) = m ((c.tc : Thread Cert.Dx.nD Cert.Dx.τ).loc Cert.Dx.main_arg10)
      ∧ r.2.mem ((c.tc : Thread Cert.Dx.nD Cert.Dx.τ).loc Cert.Dx.main_arg11) = m ((c.tc : Thread Cert.Dx.nD Cert.Dx.τ).loc Cert.Dx.main_arg11)
      ∧ r.2.mem ((c.tc : Thread Cert.Dx.nD Cert.Dx.τ).loc Cert.Dx.main_arg12) = m ((c.tc : Thread Cert.Dx.nD Cert.Dx.τ).loc Cert.Dx.main_arg12)
      ∧ r.2.mem ((c.tc : Thread Cert.Dx.nD Cert.Dx.τ).loc Cert.Dx.main_arg13) = m ((c.tc : Thread Cert.Dx.nD Cert.Dx.τ).loc Cert.Dx.main_arg13)
      ∧ r.2.mem ((c.tc : Thread Cert.Dx.nD Cert.Dx.τ).loc Cert.Dx.main_arg14) = m ((c.tc : Thread Cert.Dx.nD Cert.Dx.τ).loc Cert.Dx.main_arg14)
      ∧ r.2.mem ((c.tc : Thread Cert.Dx.nD Cert.Dx.τ).loc Cert.Dx.main_arg15) = m ((c.tc : Thread Cert.Dx.nD Cert.Dx.τ).loc Cert.Dx.main_arg15))
      ∧ r.2.sem = fun _ => 0)

def quiescent_DxIdeal [hDxIdeal : Cert.DxIdeal.Facts] : Prop :=
  ∀ (m : (ℓ : Loc Cert.DxIdeal.nD Cert.DxIdeal.τ Cert.DxIdeal.sig) → Buf (Elt Ideal) ℓ) (g : Dev Cert.DxIdeal.nD → PrngReg), Pre_DxIdeal m →
    θ_run (Cert.DxIdeal.defs (F := Ideal)) (onTc (τ := Cert.DxIdeal.τ) (Cert.DxIdeal.main (F := Ideal))) ⟨m, fun _ => 0, g⟩ (fun r => (∀ c : Dev Cert.DxIdeal.nD,
      r.2.mem ((c.tc : Thread Cert.DxIdeal.nD Cert.DxIdeal.τ).loc Cert.DxIdeal.main_arg0) = m ((c.tc : Thread Cert.DxIdeal.nD Cert.DxIdeal.τ).loc Cert.DxIdeal.main_arg0)
      ∧ r.2.mem ((c.tc : Thread Cert.DxIdeal.nD Cert.DxIdeal.τ).loc Cert.DxIdeal.main_arg1) = m ((c.tc : Thread Cert.DxIdeal.nD Cert.DxIdeal.τ).loc Cert.DxIdeal.main_arg1)
      ∧ r.2.mem ((c.tc : Thread Cert.DxIdeal.nD Cert.DxIdeal.τ).loc Cert.DxIdeal.main_arg2) = m ((c.tc : Thread Cert.DxIdeal.nD Cert.DxIdeal.τ).loc Cert.DxIdeal.main_arg2)
      ∧ r.2.mem ((c.tc : Thread Cert.DxIdeal.nD Cert.DxIdeal.τ).loc Cert.DxIdeal.main_arg3) = m ((c.tc : Thread Cert.DxIdeal.nD Cert.DxIdeal.τ).loc Cert.DxIdeal.main_arg3)
      ∧ r.2.mem ((c.tc : Thread Cert.DxIdeal.nD Cert.DxIdeal.τ).loc Cert.DxIdeal.main_arg4) = m ((c.tc : Thread Cert.DxIdeal.nD Cert.DxIdeal.τ).loc Cert.DxIdeal.main_arg4)
      ∧ r.2.mem ((c.tc : Thread Cert.DxIdeal.nD Cert.DxIdeal.τ).loc Cert.DxIdeal.main_arg5) = m ((c.tc : Thread Cert.DxIdeal.nD Cert.DxIdeal.τ).loc Cert.DxIdeal.main_arg5)
      ∧ r.2.mem ((c.tc : Thread Cert.DxIdeal.nD Cert.DxIdeal.τ).loc Cert.DxIdeal.main_arg6) = m ((c.tc : Thread Cert.DxIdeal.nD Cert.DxIdeal.τ).loc Cert.DxIdeal.main_arg6)
      ∧ r.2.mem ((c.tc : Thread Cert.DxIdeal.nD Cert.DxIdeal.τ).loc Cert.DxIdeal.main_arg7) = m ((c.tc : Thread Cert.DxIdeal.nD Cert.DxIdeal.τ).loc Cert.DxIdeal.main_arg7)
      ∧ r.2.mem ((c.tc : Thread Cert.DxIdeal.nD Cert.DxIdeal.τ).loc Cert.DxIdeal.main_arg8) = m ((c.tc : Thread Cert.DxIdeal.nD Cert.DxIdeal.τ).loc Cert.DxIdeal.main_arg8)
      ∧ r.2.mem ((c.tc : Thread Cert.DxIdeal.nD Cert.DxIdeal.τ).loc Cert.DxIdeal.main_arg9) = m ((c.tc : Thread Cert.DxIdeal.nD Cert.DxIdeal.τ).loc Cert.DxIdeal.main_arg9)
      ∧ r.2.mem ((c.tc : Thread Cert.DxIdeal.nD Cert.DxIdeal.τ).loc Cert.DxIdeal.main_arg10) = m ((c.tc : Thread Cert.DxIdeal.nD Cert.DxIdeal.τ).loc Cert.DxIdeal.main_arg10)
      ∧ r.2.mem ((c.tc : Thread Cert.DxIdeal.nD Cert.DxIdeal.τ).loc Cert.DxIdeal.main_arg11) = m ((c.tc : Thread Cert.DxIdeal.nD Cert.DxIdeal.τ).loc Cert.DxIdeal.main_arg11)
      ∧ r.2.mem ((c.tc : Thread Cert.DxIdeal.nD Cert.DxIdeal.τ).loc Cert.DxIdeal.main_arg12) = m ((c.tc : Thread Cert.DxIdeal.nD Cert.DxIdeal.τ).loc Cert.DxIdeal.main_arg12)
      ∧ r.2.mem ((c.tc : Thread Cert.DxIdeal.nD Cert.DxIdeal.τ).loc Cert.DxIdeal.main_arg13) = m ((c.tc : Thread Cert.DxIdeal.nD Cert.DxIdeal.τ).loc Cert.DxIdeal.main_arg13)
      ∧ r.2.mem ((c.tc : Thread Cert.DxIdeal.nD Cert.DxIdeal.τ).loc Cert.DxIdeal.main_arg14) = m ((c.tc : Thread Cert.DxIdeal.nD Cert.DxIdeal.τ).loc Cert.DxIdeal.main_arg14)
      ∧ r.2.mem ((c.tc : Thread Cert.DxIdeal.nD Cert.DxIdeal.τ).loc Cert.DxIdeal.main_arg15) = m ((c.tc : Thread Cert.DxIdeal.nD Cert.DxIdeal.τ).loc Cert.DxIdeal.main_arg15))
      ∧ r.2.sem = fun _ => 0)

def quiescent_DxRefIdeal [hDxRefIdeal : Cert.DxRefIdeal.Facts] : Prop :=
  ∀ (m : (ℓ : Loc Cert.DxRefIdeal.nD Cert.DxRefIdeal.τ Cert.DxRefIdeal.sig) → Buf (Elt Ideal) ℓ) (g : Dev Cert.DxRefIdeal.nD → PrngReg), Pre_DxRefIdeal m →
    θ_run (Cert.DxRefIdeal.defs (F := Ideal)) (onTc (τ := Cert.DxRefIdeal.τ) (Cert.DxRefIdeal.main (F := Ideal))) ⟨m, fun _ => 0, g⟩ (fun r => (∀ c : Dev Cert.DxRefIdeal.nD,
      r.2.mem ((c.tc : Thread Cert.DxRefIdeal.nD Cert.DxRefIdeal.τ).loc Cert.DxRefIdeal.main_arg0) = m ((c.tc : Thread Cert.DxRefIdeal.nD Cert.DxRefIdeal.τ).loc Cert.DxRefIdeal.main_arg0)
      ∧ r.2.mem ((c.tc : Thread Cert.DxRefIdeal.nD Cert.DxRefIdeal.τ).loc Cert.DxRefIdeal.main_arg1) = m ((c.tc : Thread Cert.DxRefIdeal.nD Cert.DxRefIdeal.τ).loc Cert.DxRefIdeal.main_arg1)
      ∧ r.2.mem ((c.tc : Thread Cert.DxRefIdeal.nD Cert.DxRefIdeal.τ).loc Cert.DxRefIdeal.main_arg2) = m ((c.tc : Thread Cert.DxRefIdeal.nD Cert.DxRefIdeal.τ).loc Cert.DxRefIdeal.main_arg2)
      ∧ r.2.mem ((c.tc : Thread Cert.DxRefIdeal.nD Cert.DxRefIdeal.τ).loc Cert.DxRefIdeal.main_arg3) = m ((c.tc : Thread Cert.DxRefIdeal.nD Cert.DxRefIdeal.τ).loc Cert.DxRefIdeal.main_arg3)
      ∧ r.2.mem ((c.tc : Thread Cert.DxRefIdeal.nD Cert.DxRefIdeal.τ).loc Cert.DxRefIdeal.main_arg4) = m ((c.tc : Thread Cert.DxRefIdeal.nD Cert.DxRefIdeal.τ).loc Cert.DxRefIdeal.main_arg4)
      ∧ r.2.mem ((c.tc : Thread Cert.DxRefIdeal.nD Cert.DxRefIdeal.τ).loc Cert.DxRefIdeal.main_arg5) = m ((c.tc : Thread Cert.DxRefIdeal.nD Cert.DxRefIdeal.τ).loc Cert.DxRefIdeal.main_arg5)
      ∧ r.2.mem ((c.tc : Thread Cert.DxRefIdeal.nD Cert.DxRefIdeal.τ).loc Cert.DxRefIdeal.main_arg6) = m ((c.tc : Thread Cert.DxRefIdeal.nD Cert.DxRefIdeal.τ).loc Cert.DxRefIdeal.main_arg6)
      ∧ r.2.mem ((c.tc : Thread Cert.DxRefIdeal.nD Cert.DxRefIdeal.τ).loc Cert.DxRefIdeal.main_arg7) = m ((c.tc : Thread Cert.DxRefIdeal.nD Cert.DxRefIdeal.τ).loc Cert.DxRefIdeal.main_arg7)
      ∧ r.2.mem ((c.tc : Thread Cert.DxRefIdeal.nD Cert.DxRefIdeal.τ).loc Cert.DxRefIdeal.main_arg8) = m ((c.tc : Thread Cert.DxRefIdeal.nD Cert.DxRefIdeal.τ).loc Cert.DxRefIdeal.main_arg8)
      ∧ r.2.mem ((c.tc : Thread Cert.DxRefIdeal.nD Cert.DxRefIdeal.τ).loc Cert.DxRefIdeal.main_arg9) = m ((c.tc : Thread Cert.DxRefIdeal.nD Cert.DxRefIdeal.τ).loc Cert.DxRefIdeal.main_arg9)
      ∧ r.2.mem ((c.tc : Thread Cert.DxRefIdeal.nD Cert.DxRefIdeal.τ).loc Cert.DxRefIdeal.main_arg10) = m ((c.tc : Thread Cert.DxRefIdeal.nD Cert.DxRefIdeal.τ).loc Cert.DxRefIdeal.main_arg10)
      ∧ r.2.mem ((c.tc : Thread Cert.DxRefIdeal.nD Cert.DxRefIdeal.τ).loc Cert.DxRefIdeal.main_arg11) = m ((c.tc : Thread Cert.DxRefIdeal.nD Cert.DxRefIdeal.τ).loc Cert.DxRefIdeal.main_arg11)
      ∧ r.2.mem ((c.tc : Thread Cert.DxRefIdeal.nD Cert.DxRefIdeal.τ).loc Cert.DxRefIdeal.main_arg12) = m ((c.tc : Thread Cert.DxRefIdeal.nD Cert.DxRefIdeal.τ).loc Cert.DxRefIdeal.main_arg12)
      ∧ r.2.mem ((c.tc : Thread Cert.DxRefIdeal.nD Cert.DxRefIdeal.τ).loc Cert.DxRefIdeal.main_arg13) = m ((c.tc : Thread Cert.DxRefIdeal.nD Cert.DxRefIdeal.τ).loc Cert.DxRefIdeal.main_arg13)
      ∧ r.2.mem ((c.tc : Thread Cert.DxRefIdeal.nD Cert.DxRefIdeal.τ).loc Cert.DxRefIdeal.main_arg14) = m ((c.tc : Thread Cert.DxRefIdeal.nD Cert.DxRefIdeal.τ).loc Cert.DxRefIdeal.main_arg14)
      ∧ r.2.mem ((c.tc : Thread Cert.DxRefIdeal.nD Cert.DxRefIdeal.τ).loc Cert.DxRefIdeal.main_arg15) = m ((c.tc : Thread Cert.DxRefIdeal.nD Cert.DxRefIdeal.τ).loc Cert.DxRefIdeal.main_arg15))
      ∧ r.2.sem = fun _ => 0)

def quiescent_DownBwd [hDownBwd : Cert.DownBwd.Facts] : Prop :=
  ∀ (m : (ℓ : Loc Cert.DownBwd.nD Cert.DownBwd.τ Cert.DownBwd.sig) → Buf (Elt Bits) ℓ) (g : Dev Cert.DownBwd.nD → PrngReg), Pre_DownBwd m →
    θ_run (Cert.DownBwd.defs (F := Bits)) (onTc (τ := Cert.DownBwd.τ) (Cert.DownBwd.main (F := Bits))) ⟨m, fun _ => 0, g⟩ (fun r => (∀ c : Dev Cert.DownBwd.nD,
      r.2.mem ((c.tc : Thread Cert.DownBwd.nD Cert.DownBwd.τ).loc Cert.DownBwd.main_arg0) = m ((c.tc : Thread Cert.DownBwd.nD Cert.DownBwd.τ).loc Cert.DownBwd.main_arg0)
      ∧ r.2.mem ((c.tc : Thread Cert.DownBwd.nD Cert.DownBwd.τ).loc Cert.DownBwd.main_arg1) = m ((c.tc : Thread Cert.DownBwd.nD Cert.DownBwd.τ).loc Cert.DownBwd.main_arg1)
      ∧ r.2.mem ((c.tc : Thread Cert.DownBwd.nD Cert.DownBwd.τ).loc Cert.DownBwd.main_arg2) = m ((c.tc : Thread Cert.DownBwd.nD Cert.DownBwd.τ).loc Cert.DownBwd.main_arg2)
      ∧ r.2.mem ((c.tc : Thread Cert.DownBwd.nD Cert.DownBwd.τ).loc Cert.DownBwd.main_arg3) = m ((c.tc : Thread Cert.DownBwd.nD Cert.DownBwd.τ).loc Cert.DownBwd.main_arg3)
      ∧ r.2.mem ((c.tc : Thread Cert.DownBwd.nD Cert.DownBwd.τ).loc Cert.DownBwd.main_arg4) = m ((c.tc : Thread Cert.DownBwd.nD Cert.DownBwd.τ).loc Cert.DownBwd.main_arg4)
      ∧ r.2.mem ((c.tc : Thread Cert.DownBwd.nD Cert.DownBwd.τ).loc Cert.DownBwd.main_arg5) = m ((c.tc : Thread Cert.DownBwd.nD Cert.DownBwd.τ).loc Cert.DownBwd.main_arg5)
      ∧ r.2.mem ((c.tc : Thread Cert.DownBwd.nD Cert.DownBwd.τ).loc Cert.DownBwd.main_arg6) = m ((c.tc : Thread Cert.DownBwd.nD Cert.DownBwd.τ).loc Cert.DownBwd.main_arg6)
      ∧ r.2.mem ((c.tc : Thread Cert.DownBwd.nD Cert.DownBwd.τ).loc Cert.DownBwd.main_arg7) = m ((c.tc : Thread Cert.DownBwd.nD Cert.DownBwd.τ).loc Cert.DownBwd.main_arg7)
      ∧ r.2.mem ((c.tc : Thread Cert.DownBwd.nD Cert.DownBwd.τ).loc Cert.DownBwd.main_arg8) = m ((c.tc : Thread Cert.DownBwd.nD Cert.DownBwd.τ).loc Cert.DownBwd.main_arg8)
      ∧ r.2.mem ((c.tc : Thread Cert.DownBwd.nD Cert.DownBwd.τ).loc Cert.DownBwd.main_arg9) = m ((c.tc : Thread Cert.DownBwd.nD Cert.DownBwd.τ).loc Cert.DownBwd.main_arg9)
      ∧ r.2.mem ((c.tc : Thread Cert.DownBwd.nD Cert.DownBwd.τ).loc Cert.DownBwd.main_arg10) = m ((c.tc : Thread Cert.DownBwd.nD Cert.DownBwd.τ).loc Cert.DownBwd.main_arg10)
      ∧ r.2.mem ((c.tc : Thread Cert.DownBwd.nD Cert.DownBwd.τ).loc Cert.DownBwd.main_arg11) = m ((c.tc : Thread Cert.DownBwd.nD Cert.DownBwd.τ).loc Cert.DownBwd.main_arg11)
      ∧ r.2.mem ((c.tc : Thread Cert.DownBwd.nD Cert.DownBwd.τ).loc Cert.DownBwd.main_arg12) = m ((c.tc : Thread Cert.DownBwd.nD Cert.DownBwd.τ).loc Cert.DownBwd.main_arg12)
      ∧ r.2.mem ((c.tc : Thread Cert.DownBwd.nD Cert.DownBwd.τ).loc Cert.DownBwd.main_arg13) = m ((c.tc : Thread Cert.DownBwd.nD Cert.DownBwd.τ).loc Cert.DownBwd.main_arg13))
      ∧ r.2.sem = fun _ => 0)

def quiescent_DownBwdIdeal [hDownBwdIdeal : Cert.DownBwdIdeal.Facts] : Prop :=
  ∀ (m : (ℓ : Loc Cert.DownBwdIdeal.nD Cert.DownBwdIdeal.τ Cert.DownBwdIdeal.sig) → Buf (Elt Ideal) ℓ) (g : Dev Cert.DownBwdIdeal.nD → PrngReg), Pre_DownBwdIdeal m →
    θ_run (Cert.DownBwdIdeal.defs (F := Ideal)) (onTc (τ := Cert.DownBwdIdeal.τ) (Cert.DownBwdIdeal.main (F := Ideal))) ⟨m, fun _ => 0, g⟩ (fun r => (∀ c : Dev Cert.DownBwdIdeal.nD,
      r.2.mem ((c.tc : Thread Cert.DownBwdIdeal.nD Cert.DownBwdIdeal.τ).loc Cert.DownBwdIdeal.main_arg0) = m ((c.tc : Thread Cert.DownBwdIdeal.nD Cert.DownBwdIdeal.τ).loc Cert.DownBwdIdeal.main_arg0)
      ∧ r.2.mem ((c.tc : Thread Cert.DownBwdIdeal.nD Cert.DownBwdIdeal.τ).loc Cert.DownBwdIdeal.main_arg1) = m ((c.tc : Thread Cert.DownBwdIdeal.nD Cert.DownBwdIdeal.τ).loc Cert.DownBwdIdeal.main_arg1)
      ∧ r.2.mem ((c.tc : Thread Cert.DownBwdIdeal.nD Cert.DownBwdIdeal.τ).loc Cert.DownBwdIdeal.main_arg2) = m ((c.tc : Thread Cert.DownBwdIdeal.nD Cert.DownBwdIdeal.τ).loc Cert.DownBwdIdeal.main_arg2)
      ∧ r.2.mem ((c.tc : Thread Cert.DownBwdIdeal.nD Cert.DownBwdIdeal.τ).loc Cert.DownBwdIdeal.main_arg3) = m ((c.tc : Thread Cert.DownBwdIdeal.nD Cert.DownBwdIdeal.τ).loc Cert.DownBwdIdeal.main_arg3)
      ∧ r.2.mem ((c.tc : Thread Cert.DownBwdIdeal.nD Cert.DownBwdIdeal.τ).loc Cert.DownBwdIdeal.main_arg4) = m ((c.tc : Thread Cert.DownBwdIdeal.nD Cert.DownBwdIdeal.τ).loc Cert.DownBwdIdeal.main_arg4)
      ∧ r.2.mem ((c.tc : Thread Cert.DownBwdIdeal.nD Cert.DownBwdIdeal.τ).loc Cert.DownBwdIdeal.main_arg5) = m ((c.tc : Thread Cert.DownBwdIdeal.nD Cert.DownBwdIdeal.τ).loc Cert.DownBwdIdeal.main_arg5)
      ∧ r.2.mem ((c.tc : Thread Cert.DownBwdIdeal.nD Cert.DownBwdIdeal.τ).loc Cert.DownBwdIdeal.main_arg6) = m ((c.tc : Thread Cert.DownBwdIdeal.nD Cert.DownBwdIdeal.τ).loc Cert.DownBwdIdeal.main_arg6)
      ∧ r.2.mem ((c.tc : Thread Cert.DownBwdIdeal.nD Cert.DownBwdIdeal.τ).loc Cert.DownBwdIdeal.main_arg7) = m ((c.tc : Thread Cert.DownBwdIdeal.nD Cert.DownBwdIdeal.τ).loc Cert.DownBwdIdeal.main_arg7)
      ∧ r.2.mem ((c.tc : Thread Cert.DownBwdIdeal.nD Cert.DownBwdIdeal.τ).loc Cert.DownBwdIdeal.main_arg8) = m ((c.tc : Thread Cert.DownBwdIdeal.nD Cert.DownBwdIdeal.τ).loc Cert.DownBwdIdeal.main_arg8)
      ∧ r.2.mem ((c.tc : Thread Cert.DownBwdIdeal.nD Cert.DownBwdIdeal.τ).loc Cert.DownBwdIdeal.main_arg9) = m ((c.tc : Thread Cert.DownBwdIdeal.nD Cert.DownBwdIdeal.τ).loc Cert.DownBwdIdeal.main_arg9)
      ∧ r.2.mem ((c.tc : Thread Cert.DownBwdIdeal.nD Cert.DownBwdIdeal.τ).loc Cert.DownBwdIdeal.main_arg10) = m ((c.tc : Thread Cert.DownBwdIdeal.nD Cert.DownBwdIdeal.τ).loc Cert.DownBwdIdeal.main_arg10)
      ∧ r.2.mem ((c.tc : Thread Cert.DownBwdIdeal.nD Cert.DownBwdIdeal.τ).loc Cert.DownBwdIdeal.main_arg11) = m ((c.tc : Thread Cert.DownBwdIdeal.nD Cert.DownBwdIdeal.τ).loc Cert.DownBwdIdeal.main_arg11)
      ∧ r.2.mem ((c.tc : Thread Cert.DownBwdIdeal.nD Cert.DownBwdIdeal.τ).loc Cert.DownBwdIdeal.main_arg12) = m ((c.tc : Thread Cert.DownBwdIdeal.nD Cert.DownBwdIdeal.τ).loc Cert.DownBwdIdeal.main_arg12)
      ∧ r.2.mem ((c.tc : Thread Cert.DownBwdIdeal.nD Cert.DownBwdIdeal.τ).loc Cert.DownBwdIdeal.main_arg13) = m ((c.tc : Thread Cert.DownBwdIdeal.nD Cert.DownBwdIdeal.τ).loc Cert.DownBwdIdeal.main_arg13))
      ∧ r.2.sem = fun _ => 0)

def quiescent_DownBwdRefIdeal [hDownBwdRefIdeal : Cert.DownBwdRefIdeal.Facts] : Prop :=
  ∀ (m : (ℓ : Loc Cert.DownBwdRefIdeal.nD Cert.DownBwdRefIdeal.τ Cert.DownBwdRefIdeal.sig) → Buf (Elt Ideal) ℓ) (g : Dev Cert.DownBwdRefIdeal.nD → PrngReg), Pre_DownBwdRefIdeal m →
    θ_run (Cert.DownBwdRefIdeal.defs (F := Ideal)) (onTc (τ := Cert.DownBwdRefIdeal.τ) (Cert.DownBwdRefIdeal.main (F := Ideal))) ⟨m, fun _ => 0, g⟩ (fun r => (∀ c : Dev Cert.DownBwdRefIdeal.nD,
      r.2.mem ((c.tc : Thread Cert.DownBwdRefIdeal.nD Cert.DownBwdRefIdeal.τ).loc Cert.DownBwdRefIdeal.main_arg0) = m ((c.tc : Thread Cert.DownBwdRefIdeal.nD Cert.DownBwdRefIdeal.τ).loc Cert.DownBwdRefIdeal.main_arg0)
      ∧ r.2.mem ((c.tc : Thread Cert.DownBwdRefIdeal.nD Cert.DownBwdRefIdeal.τ).loc Cert.DownBwdRefIdeal.main_arg1) = m ((c.tc : Thread Cert.DownBwdRefIdeal.nD Cert.DownBwdRefIdeal.τ).loc Cert.DownBwdRefIdeal.main_arg1)
      ∧ r.2.mem ((c.tc : Thread Cert.DownBwdRefIdeal.nD Cert.DownBwdRefIdeal.τ).loc Cert.DownBwdRefIdeal.main_arg2) = m ((c.tc : Thread Cert.DownBwdRefIdeal.nD Cert.DownBwdRefIdeal.τ).loc Cert.DownBwdRefIdeal.main_arg2)
      ∧ r.2.mem ((c.tc : Thread Cert.DownBwdRefIdeal.nD Cert.DownBwdRefIdeal.τ).loc Cert.DownBwdRefIdeal.main_arg3) = m ((c.tc : Thread Cert.DownBwdRefIdeal.nD Cert.DownBwdRefIdeal.τ).loc Cert.DownBwdRefIdeal.main_arg3)
      ∧ r.2.mem ((c.tc : Thread Cert.DownBwdRefIdeal.nD Cert.DownBwdRefIdeal.τ).loc Cert.DownBwdRefIdeal.main_arg4) = m ((c.tc : Thread Cert.DownBwdRefIdeal.nD Cert.DownBwdRefIdeal.τ).loc Cert.DownBwdRefIdeal.main_arg4)
      ∧ r.2.mem ((c.tc : Thread Cert.DownBwdRefIdeal.nD Cert.DownBwdRefIdeal.τ).loc Cert.DownBwdRefIdeal.main_arg5) = m ((c.tc : Thread Cert.DownBwdRefIdeal.nD Cert.DownBwdRefIdeal.τ).loc Cert.DownBwdRefIdeal.main_arg5)
      ∧ r.2.mem ((c.tc : Thread Cert.DownBwdRefIdeal.nD Cert.DownBwdRefIdeal.τ).loc Cert.DownBwdRefIdeal.main_arg6) = m ((c.tc : Thread Cert.DownBwdRefIdeal.nD Cert.DownBwdRefIdeal.τ).loc Cert.DownBwdRefIdeal.main_arg6)
      ∧ r.2.mem ((c.tc : Thread Cert.DownBwdRefIdeal.nD Cert.DownBwdRefIdeal.τ).loc Cert.DownBwdRefIdeal.main_arg7) = m ((c.tc : Thread Cert.DownBwdRefIdeal.nD Cert.DownBwdRefIdeal.τ).loc Cert.DownBwdRefIdeal.main_arg7)
      ∧ r.2.mem ((c.tc : Thread Cert.DownBwdRefIdeal.nD Cert.DownBwdRefIdeal.τ).loc Cert.DownBwdRefIdeal.main_arg8) = m ((c.tc : Thread Cert.DownBwdRefIdeal.nD Cert.DownBwdRefIdeal.τ).loc Cert.DownBwdRefIdeal.main_arg8)
      ∧ r.2.mem ((c.tc : Thread Cert.DownBwdRefIdeal.nD Cert.DownBwdRefIdeal.τ).loc Cert.DownBwdRefIdeal.main_arg9) = m ((c.tc : Thread Cert.DownBwdRefIdeal.nD Cert.DownBwdRefIdeal.τ).loc Cert.DownBwdRefIdeal.main_arg9)
      ∧ r.2.mem ((c.tc : Thread Cert.DownBwdRefIdeal.nD Cert.DownBwdRefIdeal.τ).loc Cert.DownBwdRefIdeal.main_arg10) = m ((c.tc : Thread Cert.DownBwdRefIdeal.nD Cert.DownBwdRefIdeal.τ).loc Cert.DownBwdRefIdeal.main_arg10)
      ∧ r.2.mem ((c.tc : Thread Cert.DownBwdRefIdeal.nD Cert.DownBwdRefIdeal.τ).loc Cert.DownBwdRefIdeal.main_arg11) = m ((c.tc : Thread Cert.DownBwdRefIdeal.nD Cert.DownBwdRefIdeal.τ).loc Cert.DownBwdRefIdeal.main_arg11)
      ∧ r.2.mem ((c.tc : Thread Cert.DownBwdRefIdeal.nD Cert.DownBwdRefIdeal.τ).loc Cert.DownBwdRefIdeal.main_arg12) = m ((c.tc : Thread Cert.DownBwdRefIdeal.nD Cert.DownBwdRefIdeal.τ).loc Cert.DownBwdRefIdeal.main_arg12)
      ∧ r.2.mem ((c.tc : Thread Cert.DownBwdRefIdeal.nD Cert.DownBwdRefIdeal.τ).loc Cert.DownBwdRefIdeal.main_arg13) = m ((c.tc : Thread Cert.DownBwdRefIdeal.nD Cert.DownBwdRefIdeal.τ).loc Cert.DownBwdRefIdeal.main_arg13))
      ∧ r.2.sem = fun _ => 0)

def quiescent_NormGrad [hNormGrad : Cert.NormGrad.Facts] : Prop :=
  ∀ (m : (ℓ : Loc Cert.NormGrad.nD Cert.NormGrad.τ Cert.NormGrad.sig) → Buf (Elt Bits) ℓ) (g : Dev Cert.NormGrad.nD → PrngReg), Pre_NormGrad m →
    θ_run (Cert.NormGrad.defs (F := Bits)) (onTc (τ := Cert.NormGrad.τ) (Cert.NormGrad.main (F := Bits))) ⟨m, fun _ => 0, g⟩ (fun r => (∀ c : Dev Cert.NormGrad.nD,
      r.2.mem ((c.tc : Thread Cert.NormGrad.nD Cert.NormGrad.τ).loc Cert.NormGrad.main_arg0) = m ((c.tc : Thread Cert.NormGrad.nD Cert.NormGrad.τ).loc Cert.NormGrad.main_arg0)
      ∧ r.2.mem ((c.tc : Thread Cert.NormGrad.nD Cert.NormGrad.τ).loc Cert.NormGrad.main_arg1) = m ((c.tc : Thread Cert.NormGrad.nD Cert.NormGrad.τ).loc Cert.NormGrad.main_arg1)
      ∧ r.2.mem ((c.tc : Thread Cert.NormGrad.nD Cert.NormGrad.τ).loc Cert.NormGrad.main_arg2) = m ((c.tc : Thread Cert.NormGrad.nD Cert.NormGrad.τ).loc Cert.NormGrad.main_arg2)
      ∧ r.2.mem ((c.tc : Thread Cert.NormGrad.nD Cert.NormGrad.τ).loc Cert.NormGrad.main_arg3) = m ((c.tc : Thread Cert.NormGrad.nD Cert.NormGrad.τ).loc Cert.NormGrad.main_arg3)
      ∧ r.2.mem ((c.tc : Thread Cert.NormGrad.nD Cert.NormGrad.τ).loc Cert.NormGrad.main_arg4) = m ((c.tc : Thread Cert.NormGrad.nD Cert.NormGrad.τ).loc Cert.NormGrad.main_arg4)
      ∧ r.2.mem ((c.tc : Thread Cert.NormGrad.nD Cert.NormGrad.τ).loc Cert.NormGrad.main_arg5) = m ((c.tc : Thread Cert.NormGrad.nD Cert.NormGrad.τ).loc Cert.NormGrad.main_arg5)
      ∧ r.2.mem ((c.tc : Thread Cert.NormGrad.nD Cert.NormGrad.τ).loc Cert.NormGrad.main_arg6) = m ((c.tc : Thread Cert.NormGrad.nD Cert.NormGrad.τ).loc Cert.NormGrad.main_arg6)
      ∧ r.2.mem ((c.tc : Thread Cert.NormGrad.nD Cert.NormGrad.τ).loc Cert.NormGrad.main_arg7) = m ((c.tc : Thread Cert.NormGrad.nD Cert.NormGrad.τ).loc Cert.NormGrad.main_arg7))
      ∧ r.2.sem = fun _ => 0)

def quiescent_NormGradIdeal [hNormGradIdeal : Cert.NormGradIdeal.Facts] : Prop :=
  ∀ (m : (ℓ : Loc Cert.NormGradIdeal.nD Cert.NormGradIdeal.τ Cert.NormGradIdeal.sig) → Buf (Elt Ideal) ℓ) (g : Dev Cert.NormGradIdeal.nD → PrngReg), Pre_NormGradIdeal m →
    θ_run (Cert.NormGradIdeal.defs (F := Ideal)) (onTc (τ := Cert.NormGradIdeal.τ) (Cert.NormGradIdeal.main (F := Ideal))) ⟨m, fun _ => 0, g⟩ (fun r => (∀ c : Dev Cert.NormGradIdeal.nD,
      r.2.mem ((c.tc : Thread Cert.NormGradIdeal.nD Cert.NormGradIdeal.τ).loc Cert.NormGradIdeal.main_arg0) = m ((c.tc : Thread Cert.NormGradIdeal.nD Cert.NormGradIdeal.τ).loc Cert.NormGradIdeal.main_arg0)
      ∧ r.2.mem ((c.tc : Thread Cert.NormGradIdeal.nD Cert.NormGradIdeal.τ).loc Cert.NormGradIdeal.main_arg1) = m ((c.tc : Thread Cert.NormGradIdeal.nD Cert.NormGradIdeal.τ).loc Cert.NormGradIdeal.main_arg1)
      ∧ r.2.mem ((c.tc : Thread Cert.NormGradIdeal.nD Cert.NormGradIdeal.τ).loc Cert.NormGradIdeal.main_arg2) = m ((c.tc : Thread Cert.NormGradIdeal.nD Cert.NormGradIdeal.τ).loc Cert.NormGradIdeal.main_arg2)
      ∧ r.2.mem ((c.tc : Thread Cert.NormGradIdeal.nD Cert.NormGradIdeal.τ).loc Cert.NormGradIdeal.main_arg3) = m ((c.tc : Thread Cert.NormGradIdeal.nD Cert.NormGradIdeal.τ).loc Cert.NormGradIdeal.main_arg3)
      ∧ r.2.mem ((c.tc : Thread Cert.NormGradIdeal.nD Cert.NormGradIdeal.τ).loc Cert.NormGradIdeal.main_arg4) = m ((c.tc : Thread Cert.NormGradIdeal.nD Cert.NormGradIdeal.τ).loc Cert.NormGradIdeal.main_arg4)
      ∧ r.2.mem ((c.tc : Thread Cert.NormGradIdeal.nD Cert.NormGradIdeal.τ).loc Cert.NormGradIdeal.main_arg5) = m ((c.tc : Thread Cert.NormGradIdeal.nD Cert.NormGradIdeal.τ).loc Cert.NormGradIdeal.main_arg5)
      ∧ r.2.mem ((c.tc : Thread Cert.NormGradIdeal.nD Cert.NormGradIdeal.τ).loc Cert.NormGradIdeal.main_arg6) = m ((c.tc : Thread Cert.NormGradIdeal.nD Cert.NormGradIdeal.τ).loc Cert.NormGradIdeal.main_arg6)
      ∧ r.2.mem ((c.tc : Thread Cert.NormGradIdeal.nD Cert.NormGradIdeal.τ).loc Cert.NormGradIdeal.main_arg7) = m ((c.tc : Thread Cert.NormGradIdeal.nD Cert.NormGradIdeal.τ).loc Cert.NormGradIdeal.main_arg7))
      ∧ r.2.sem = fun _ => 0)

def quiescent_NormGradRefIdeal [hNormGradRefIdeal : Cert.NormGradRefIdeal.Facts] : Prop :=
  ∀ (m : (ℓ : Loc Cert.NormGradRefIdeal.nD Cert.NormGradRefIdeal.τ Cert.NormGradRefIdeal.sig) → Buf (Elt Ideal) ℓ) (g : Dev Cert.NormGradRefIdeal.nD → PrngReg), Pre_NormGradRefIdeal m →
    θ_run (Cert.NormGradRefIdeal.defs (F := Ideal)) (onTc (τ := Cert.NormGradRefIdeal.τ) (Cert.NormGradRefIdeal.main (F := Ideal))) ⟨m, fun _ => 0, g⟩ (fun r => (∀ c : Dev Cert.NormGradRefIdeal.nD,
      r.2.mem ((c.tc : Thread Cert.NormGradRefIdeal.nD Cert.NormGradRefIdeal.τ).loc Cert.NormGradRefIdeal.main_arg0) = m ((c.tc : Thread Cert.NormGradRefIdeal.nD Cert.NormGradRefIdeal.τ).loc Cert.NormGradRefIdeal.main_arg0)
      ∧ r.2.mem ((c.tc : Thread Cert.NormGradRefIdeal.nD Cert.NormGradRefIdeal.τ).loc Cert.NormGradRefIdeal.main_arg1) = m ((c.tc : Thread Cert.NormGradRefIdeal.nD Cert.NormGradRefIdeal.τ).loc Cert.NormGradRefIdeal.main_arg1)
      ∧ r.2.mem ((c.tc : Thread Cert.NormGradRefIdeal.nD Cert.NormGradRefIdeal.τ).loc Cert.NormGradRefIdeal.main_arg2) = m ((c.tc : Thread Cert.NormGradRefIdeal.nD Cert.NormGradRefIdeal.τ).loc Cert.NormGradRefIdeal.main_arg2)
      ∧ r.2.mem ((c.tc : Thread Cert.NormGradRefIdeal.nD Cert.NormGradRefIdeal.τ).loc Cert.NormGradRefIdeal.main_arg3) = m ((c.tc : Thread Cert.NormGradRefIdeal.nD Cert.NormGradRefIdeal.τ).loc Cert.NormGradRefIdeal.main_arg3)
      ∧ r.2.mem ((c.tc : Thread Cert.NormGradRefIdeal.nD Cert.NormGradRefIdeal.τ).loc Cert.NormGradRefIdeal.main_arg4) = m ((c.tc : Thread Cert.NormGradRefIdeal.nD Cert.NormGradRefIdeal.τ).loc Cert.NormGradRefIdeal.main_arg4)
      ∧ r.2.mem ((c.tc : Thread Cert.NormGradRefIdeal.nD Cert.NormGradRefIdeal.τ).loc Cert.NormGradRefIdeal.main_arg5) = m ((c.tc : Thread Cert.NormGradRefIdeal.nD Cert.NormGradRefIdeal.τ).loc Cert.NormGradRefIdeal.main_arg5)
      ∧ r.2.mem ((c.tc : Thread Cert.NormGradRefIdeal.nD Cert.NormGradRefIdeal.τ).loc Cert.NormGradRefIdeal.main_arg6) = m ((c.tc : Thread Cert.NormGradRefIdeal.nD Cert.NormGradRefIdeal.τ).loc Cert.NormGradRefIdeal.main_arg6)
      ∧ r.2.mem ((c.tc : Thread Cert.NormGradRefIdeal.nD Cert.NormGradRefIdeal.τ).loc Cert.NormGradRefIdeal.main_arg7) = m ((c.tc : Thread Cert.NormGradRefIdeal.nD Cert.NormGradRefIdeal.τ).loc Cert.NormGradRefIdeal.main_arg7))
      ∧ r.2.sem = fun _ => 0)

def quiescent_NormGradDown [hNormGradDown : Cert.NormGradDown.Facts] : Prop :=
  ∀ (m : (ℓ : Loc Cert.NormGradDown.nD Cert.NormGradDown.τ Cert.NormGradDown.sig) → Buf (Elt Bits) ℓ) (g : Dev Cert.NormGradDown.nD → PrngReg), Pre_NormGradDown m →
    θ_run (Cert.NormGradDown.defs (F := Bits)) (onTc (τ := Cert.NormGradDown.τ) (Cert.NormGradDown.main (F := Bits))) ⟨m, fun _ => 0, g⟩ (fun r => (∀ c : Dev Cert.NormGradDown.nD,
      r.2.mem ((c.tc : Thread Cert.NormGradDown.nD Cert.NormGradDown.τ).loc Cert.NormGradDown.main_arg0) = m ((c.tc : Thread Cert.NormGradDown.nD Cert.NormGradDown.τ).loc Cert.NormGradDown.main_arg0)
      ∧ r.2.mem ((c.tc : Thread Cert.NormGradDown.nD Cert.NormGradDown.τ).loc Cert.NormGradDown.main_arg1) = m ((c.tc : Thread Cert.NormGradDown.nD Cert.NormGradDown.τ).loc Cert.NormGradDown.main_arg1)
      ∧ r.2.mem ((c.tc : Thread Cert.NormGradDown.nD Cert.NormGradDown.τ).loc Cert.NormGradDown.main_arg2) = m ((c.tc : Thread Cert.NormGradDown.nD Cert.NormGradDown.τ).loc Cert.NormGradDown.main_arg2)
      ∧ r.2.mem ((c.tc : Thread Cert.NormGradDown.nD Cert.NormGradDown.τ).loc Cert.NormGradDown.main_arg3) = m ((c.tc : Thread Cert.NormGradDown.nD Cert.NormGradDown.τ).loc Cert.NormGradDown.main_arg3)
      ∧ r.2.mem ((c.tc : Thread Cert.NormGradDown.nD Cert.NormGradDown.τ).loc Cert.NormGradDown.main_arg4) = m ((c.tc : Thread Cert.NormGradDown.nD Cert.NormGradDown.τ).loc Cert.NormGradDown.main_arg4)
      ∧ r.2.mem ((c.tc : Thread Cert.NormGradDown.nD Cert.NormGradDown.τ).loc Cert.NormGradDown.main_arg5) = m ((c.tc : Thread Cert.NormGradDown.nD Cert.NormGradDown.τ).loc Cert.NormGradDown.main_arg5)
      ∧ r.2.mem ((c.tc : Thread Cert.NormGradDown.nD Cert.NormGradDown.τ).loc Cert.NormGradDown.main_arg6) = m ((c.tc : Thread Cert.NormGradDown.nD Cert.NormGradDown.τ).loc Cert.NormGradDown.main_arg6)
      ∧ r.2.mem ((c.tc : Thread Cert.NormGradDown.nD Cert.NormGradDown.τ).loc Cert.NormGradDown.main_arg7) = m ((c.tc : Thread Cert.NormGradDown.nD Cert.NormGradDown.τ).loc Cert.NormGradDown.main_arg7))
      ∧ r.2.sem = fun _ => 0)

def quiescent_NormGradDownIdeal [hNormGradDownIdeal : Cert.NormGradDownIdeal.Facts] : Prop :=
  ∀ (m : (ℓ : Loc Cert.NormGradDownIdeal.nD Cert.NormGradDownIdeal.τ Cert.NormGradDownIdeal.sig) → Buf (Elt Ideal) ℓ) (g : Dev Cert.NormGradDownIdeal.nD → PrngReg), Pre_NormGradDownIdeal m →
    θ_run (Cert.NormGradDownIdeal.defs (F := Ideal)) (onTc (τ := Cert.NormGradDownIdeal.τ) (Cert.NormGradDownIdeal.main (F := Ideal))) ⟨m, fun _ => 0, g⟩ (fun r => (∀ c : Dev Cert.NormGradDownIdeal.nD,
      r.2.mem ((c.tc : Thread Cert.NormGradDownIdeal.nD Cert.NormGradDownIdeal.τ).loc Cert.NormGradDownIdeal.main_arg0) = m ((c.tc : Thread Cert.NormGradDownIdeal.nD Cert.NormGradDownIdeal.τ).loc Cert.NormGradDownIdeal.main_arg0)
      ∧ r.2.mem ((c.tc : Thread Cert.NormGradDownIdeal.nD Cert.NormGradDownIdeal.τ).loc Cert.NormGradDownIdeal.main_arg1) = m ((c.tc : Thread Cert.NormGradDownIdeal.nD Cert.NormGradDownIdeal.τ).loc Cert.NormGradDownIdeal.main_arg1)
      ∧ r.2.mem ((c.tc : Thread Cert.NormGradDownIdeal.nD Cert.NormGradDownIdeal.τ).loc Cert.NormGradDownIdeal.main_arg2) = m ((c.tc : Thread Cert.NormGradDownIdeal.nD Cert.NormGradDownIdeal.τ).loc Cert.NormGradDownIdeal.main_arg2)
      ∧ r.2.mem ((c.tc : Thread Cert.NormGradDownIdeal.nD Cert.NormGradDownIdeal.τ).loc Cert.NormGradDownIdeal.main_arg3) = m ((c.tc : Thread Cert.NormGradDownIdeal.nD Cert.NormGradDownIdeal.τ).loc Cert.NormGradDownIdeal.main_arg3)
      ∧ r.2.mem ((c.tc : Thread Cert.NormGradDownIdeal.nD Cert.NormGradDownIdeal.τ).loc Cert.NormGradDownIdeal.main_arg4) = m ((c.tc : Thread Cert.NormGradDownIdeal.nD Cert.NormGradDownIdeal.τ).loc Cert.NormGradDownIdeal.main_arg4)
      ∧ r.2.mem ((c.tc : Thread Cert.NormGradDownIdeal.nD Cert.NormGradDownIdeal.τ).loc Cert.NormGradDownIdeal.main_arg5) = m ((c.tc : Thread Cert.NormGradDownIdeal.nD Cert.NormGradDownIdeal.τ).loc Cert.NormGradDownIdeal.main_arg5)
      ∧ r.2.mem ((c.tc : Thread Cert.NormGradDownIdeal.nD Cert.NormGradDownIdeal.τ).loc Cert.NormGradDownIdeal.main_arg6) = m ((c.tc : Thread Cert.NormGradDownIdeal.nD Cert.NormGradDownIdeal.τ).loc Cert.NormGradDownIdeal.main_arg6)
      ∧ r.2.mem ((c.tc : Thread Cert.NormGradDownIdeal.nD Cert.NormGradDownIdeal.τ).loc Cert.NormGradDownIdeal.main_arg7) = m ((c.tc : Thread Cert.NormGradDownIdeal.nD Cert.NormGradDownIdeal.τ).loc Cert.NormGradDownIdeal.main_arg7))
      ∧ r.2.sem = fun _ => 0)

def quiescent_NormGradDownRefIdeal [hNormGradDownRefIdeal : Cert.NormGradDownRefIdeal.Facts] : Prop :=
  ∀ (m : (ℓ : Loc Cert.NormGradDownRefIdeal.nD Cert.NormGradDownRefIdeal.τ Cert.NormGradDownRefIdeal.sig) → Buf (Elt Ideal) ℓ) (g : Dev Cert.NormGradDownRefIdeal.nD → PrngReg), Pre_NormGradDownRefIdeal m →
    θ_run (Cert.NormGradDownRefIdeal.defs (F := Ideal)) (onTc (τ := Cert.NormGradDownRefIdeal.τ) (Cert.NormGradDownRefIdeal.main (F := Ideal))) ⟨m, fun _ => 0, g⟩ (fun r => (∀ c : Dev Cert.NormGradDownRefIdeal.nD,
      r.2.mem ((c.tc : Thread Cert.NormGradDownRefIdeal.nD Cert.NormGradDownRefIdeal.τ).loc Cert.NormGradDownRefIdeal.main_arg0) = m ((c.tc : Thread Cert.NormGradDownRefIdeal.nD Cert.NormGradDownRefIdeal.τ).loc Cert.NormGradDownRefIdeal.main_arg0)
      ∧ r.2.mem ((c.tc : Thread Cert.NormGradDownRefIdeal.nD Cert.NormGradDownRefIdeal.τ).loc Cert.NormGradDownRefIdeal.main_arg1) = m ((c.tc : Thread Cert.NormGradDownRefIdeal.nD Cert.NormGradDownRefIdeal.τ).loc Cert.NormGradDownRefIdeal.main_arg1)
      ∧ r.2.mem ((c.tc : Thread Cert.NormGradDownRefIdeal.nD Cert.NormGradDownRefIdeal.τ).loc Cert.NormGradDownRefIdeal.main_arg2) = m ((c.tc : Thread Cert.NormGradDownRefIdeal.nD Cert.NormGradDownRefIdeal.τ).loc Cert.NormGradDownRefIdeal.main_arg2)
      ∧ r.2.mem ((c.tc : Thread Cert.NormGradDownRefIdeal.nD Cert.NormGradDownRefIdeal.τ).loc Cert.NormGradDownRefIdeal.main_arg3) = m ((c.tc : Thread Cert.NormGradDownRefIdeal.nD Cert.NormGradDownRefIdeal.τ).loc Cert.NormGradDownRefIdeal.main_arg3)
      ∧ r.2.mem ((c.tc : Thread Cert.NormGradDownRefIdeal.nD Cert.NormGradDownRefIdeal.τ).loc Cert.NormGradDownRefIdeal.main_arg4) = m ((c.tc : Thread Cert.NormGradDownRefIdeal.nD Cert.NormGradDownRefIdeal.τ).loc Cert.NormGradDownRefIdeal.main_arg4)
      ∧ r.2.mem ((c.tc : Thread Cert.NormGradDownRefIdeal.nD Cert.NormGradDownRefIdeal.τ).loc Cert.NormGradDownRefIdeal.main_arg5) = m ((c.tc : Thread Cert.NormGradDownRefIdeal.nD Cert.NormGradDownRefIdeal.τ).loc Cert.NormGradDownRefIdeal.main_arg5)
      ∧ r.2.mem ((c.tc : Thread Cert.NormGradDownRefIdeal.nD Cert.NormGradDownRefIdeal.τ).loc Cert.NormGradDownRefIdeal.main_arg6) = m ((c.tc : Thread Cert.NormGradDownRefIdeal.nD Cert.NormGradDownRefIdeal.τ).loc Cert.NormGradDownRefIdeal.main_arg6)
      ∧ r.2.mem ((c.tc : Thread Cert.NormGradDownRefIdeal.nD Cert.NormGradDownRefIdeal.τ).loc Cert.NormGradDownRefIdeal.main_arg7) = m ((c.tc : Thread Cert.NormGradDownRefIdeal.nD Cert.NormGradDownRefIdeal.τ).loc Cert.NormGradDownRefIdeal.main_arg7))
      ∧ r.2.sem = fun _ => 0)

def preserves_Fwd_FwdIdeal : Prop :=
  True

def algebraic_FwdIdeal_FwdRefIdeal [hFwdIdeal : Cert.FwdIdeal.Facts] [hFwdRefIdeal : Cert.FwdRefIdeal.Facts] : Prop :=
  ∀ (m : (ℓ : Loc Cert.FwdIdeal.nD Cert.FwdIdeal.τ Cert.FwdIdeal.sig) → Buf (Elt Ideal) ℓ) (g : Dev Cert.FwdIdeal.nD → PrngReg)
    (m' : (ℓ : Loc Cert.FwdRefIdeal.nD Cert.FwdRefIdeal.τ Cert.FwdRefIdeal.sig) → Buf (Elt Ideal) ℓ) (g' : Dev Cert.FwdRefIdeal.nD → PrngReg), Pre_FwdIdeal m →
    (∀ c : Dev Cert.FwdIdeal.nD,
      m' ((c.tc : Thread Cert.FwdRefIdeal.nD Cert.FwdRefIdeal.τ).loc Cert.FwdRefIdeal.main_arg0) = m ((c.tc : Thread Cert.FwdIdeal.nD Cert.FwdIdeal.τ).loc Cert.FwdIdeal.main_arg0)
      ∧ m' ((c.tc : Thread Cert.FwdRefIdeal.nD Cert.FwdRefIdeal.τ).loc Cert.FwdRefIdeal.main_arg1) = m ((c.tc : Thread Cert.FwdIdeal.nD Cert.FwdIdeal.τ).loc Cert.FwdIdeal.main_arg1)
      ∧ m' ((c.tc : Thread Cert.FwdRefIdeal.nD Cert.FwdRefIdeal.τ).loc Cert.FwdRefIdeal.main_arg2) = m ((c.tc : Thread Cert.FwdIdeal.nD Cert.FwdIdeal.τ).loc Cert.FwdIdeal.main_arg2)
      ∧ m' ((c.tc : Thread Cert.FwdRefIdeal.nD Cert.FwdRefIdeal.τ).loc Cert.FwdRefIdeal.main_arg3) = m ((c.tc : Thread Cert.FwdIdeal.nD Cert.FwdIdeal.τ).loc Cert.FwdIdeal.main_arg3)
      ∧ m' ((c.tc : Thread Cert.FwdRefIdeal.nD Cert.FwdRefIdeal.τ).loc Cert.FwdRefIdeal.main_arg4) = m ((c.tc : Thread Cert.FwdIdeal.nD Cert.FwdIdeal.τ).loc Cert.FwdIdeal.main_arg4)
      ∧ m' ((c.tc : Thread Cert.FwdRefIdeal.nD Cert.FwdRefIdeal.τ).loc Cert.FwdRefIdeal.main_arg5) = m ((c.tc : Thread Cert.FwdIdeal.nD Cert.FwdIdeal.τ).loc Cert.FwdIdeal.main_arg5)
      ∧ m' ((c.tc : Thread Cert.FwdRefIdeal.nD Cert.FwdRefIdeal.τ).loc Cert.FwdRefIdeal.main_arg6) = m ((c.tc : Thread Cert.FwdIdeal.nD Cert.FwdIdeal.τ).loc Cert.FwdIdeal.main_arg6)
      ∧ m' ((c.tc : Thread Cert.FwdRefIdeal.nD Cert.FwdRefIdeal.τ).loc Cert.FwdRefIdeal.main_arg7) = m ((c.tc : Thread Cert.FwdIdeal.nD Cert.FwdIdeal.τ).loc Cert.FwdIdeal.main_arg7)
      ∧ m' ((c.tc : Thread Cert.FwdRefIdeal.nD Cert.FwdRefIdeal.τ).loc Cert.FwdRefIdeal.main_arg8) = m ((c.tc : Thread Cert.FwdIdeal.nD Cert.FwdIdeal.τ).loc Cert.FwdIdeal.main_arg8)
      ∧ m' ((c.tc : Thread Cert.FwdRefIdeal.nD Cert.FwdRefIdeal.τ).loc Cert.FwdRefIdeal.main_arg9) = m ((c.tc : Thread Cert.FwdIdeal.nD Cert.FwdIdeal.τ).loc Cert.FwdIdeal.main_arg9)) →
    ∃ (v0 : (c : Dev Cert.FwdIdeal.nD) → Buf (Elt Ideal) ((c.tc : Thread Cert.FwdIdeal.nD Cert.FwdIdeal.τ).loc Cert.FwdIdeal.main_v6_2)) (v1 : (c : Dev Cert.FwdIdeal.nD) → Buf (Elt Ideal) ((c.tc : Thread Cert.FwdIdeal.nD Cert.FwdIdeal.τ).loc Cert.FwdIdeal.main_v6_0)) (v2 : (c : Dev Cert.FwdIdeal.nD) → Buf (Elt Ideal) ((c.tc : Thread Cert.FwdIdeal.nD Cert.FwdIdeal.τ).loc Cert.FwdIdeal.main_v6_1)) (v3 : (c : Dev Cert.FwdIdeal.nD) → Buf (Elt Ideal) ((c.tc : Thread Cert.FwdIdeal.nD Cert.FwdIdeal.τ).loc Cert.FwdIdeal.main_v5_0)) (v4 : (c : Dev Cert.FwdIdeal.nD) → Buf (Elt Ideal) ((c.tc : Thread Cert.FwdIdeal.nD Cert.FwdIdeal.τ).loc Cert.FwdIdeal.main_v5_1)),
      θ_run (Cert.FwdIdeal.defs (F := Ideal)) (onTc (τ := Cert.FwdIdeal.τ) (Cert.FwdIdeal.main (F := Ideal))) ⟨m, fun _ => 0, g⟩ (fun r => ∀ c : Dev Cert.FwdIdeal.nD,
          r.2.mem ((c.tc : Thread Cert.FwdIdeal.nD Cert.FwdIdeal.τ).loc Cert.FwdIdeal.main_v6_2) = v0 c
          ∧ r.2.mem ((c.tc : Thread Cert.FwdIdeal.nD Cert.FwdIdeal.τ).loc Cert.FwdIdeal.main_v6_0) = v1 c
          ∧ r.2.mem ((c.tc : Thread Cert.FwdIdeal.nD Cert.FwdIdeal.τ).loc Cert.FwdIdeal.main_v6_1) = v2 c
          ∧ r.2.mem ((c.tc : Thread Cert.FwdIdeal.nD Cert.FwdIdeal.τ).loc Cert.FwdIdeal.main_v5_0) = v3 c
          ∧ r.2.mem ((c.tc : Thread Cert.FwdIdeal.nD Cert.FwdIdeal.τ).loc Cert.FwdIdeal.main_v5_1) = v4 c
          ∧ r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
          ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1)
          ∧ r.2.mem ((c.tc : Thread Cert.FwdIdeal.nD Cert.FwdIdeal.τ).loc Cert.FwdIdeal.main_arg2) = m ((c.tc : Thread Cert.FwdIdeal.nD Cert.FwdIdeal.τ).loc Cert.FwdIdeal.main_arg2)
          ∧ r.2.mem ((c.tc : Thread Cert.FwdIdeal.nD Cert.FwdIdeal.τ).loc Cert.FwdIdeal.main_arg3) = m ((c.tc : Thread Cert.FwdIdeal.nD Cert.FwdIdeal.τ).loc Cert.FwdIdeal.main_arg3)
          ∧ r.2.mem ((c.tc : Thread Cert.FwdIdeal.nD Cert.FwdIdeal.τ).loc Cert.FwdIdeal.main_arg4) = m ((c.tc : Thread Cert.FwdIdeal.nD Cert.FwdIdeal.τ).loc Cert.FwdIdeal.main_arg4)
          ∧ r.2.mem ((c.tc : Thread Cert.FwdIdeal.nD Cert.FwdIdeal.τ).loc Cert.FwdIdeal.main_arg5) = m ((c.tc : Thread Cert.FwdIdeal.nD Cert.FwdIdeal.τ).loc Cert.FwdIdeal.main_arg5)
          ∧ r.2.mem ((c.tc : Thread Cert.FwdIdeal.nD Cert.FwdIdeal.τ).loc Cert.FwdIdeal.main_arg6) = m ((c.tc : Thread Cert.FwdIdeal.nD Cert.FwdIdeal.τ).loc Cert.FwdIdeal.main_arg6)
          ∧ r.2.mem ((c.tc : Thread Cert.FwdIdeal.nD Cert.FwdIdeal.τ).loc Cert.FwdIdeal.main_arg7) = m ((c.tc : Thread Cert.FwdIdeal.nD Cert.FwdIdeal.τ).loc Cert.FwdIdeal.main_arg7)
          ∧ r.2.mem ((c.tc : Thread Cert.FwdIdeal.nD Cert.FwdIdeal.τ).loc Cert.FwdIdeal.main_arg8) = m ((c.tc : Thread Cert.FwdIdeal.nD Cert.FwdIdeal.τ).loc Cert.FwdIdeal.main_arg8)
          ∧ r.2.mem ((c.tc : Thread Cert.FwdIdeal.nD Cert.FwdIdeal.τ).loc Cert.FwdIdeal.main_arg9) = m ((c.tc : Thread Cert.FwdIdeal.nD Cert.FwdIdeal.τ).loc Cert.FwdIdeal.main_arg9))
      ∧ θ_run (Cert.FwdRefIdeal.defs (F := Ideal)) (onTc (τ := Cert.FwdRefIdeal.τ) (Cert.FwdRefIdeal.main (F := Ideal))) ⟨m', fun _ => 0, g'⟩ (fun r => ∀ c : Dev Cert.FwdRefIdeal.nD,
          r.2.mem ((c.tc : Thread Cert.FwdRefIdeal.nD Cert.FwdRefIdeal.τ).loc Cert.FwdRefIdeal.main_v44) = v0 c
          ∧ r.2.mem ((c.tc : Thread Cert.FwdRefIdeal.nD Cert.FwdRefIdeal.τ).loc Cert.FwdRefIdeal.main_v24) = v1 c
          ∧ r.2.mem ((c.tc : Thread Cert.FwdRefIdeal.nD Cert.FwdRefIdeal.τ).loc Cert.FwdRefIdeal.main_v33) = v2 c
          ∧ r.2.mem ((c.tc : Thread Cert.FwdRefIdeal.nD Cert.FwdRefIdeal.τ).loc Cert.FwdRefIdeal.main_v17) = v3 c
          ∧ r.2.mem ((c.tc : Thread Cert.FwdRefIdeal.nD Cert.FwdRefIdeal.τ).loc Cert.FwdRefIdeal.main_v11) = v4 c
          ∧ r.2.mem ((c.tc : Thread Cert.FwdRefIdeal.nD Cert.FwdRefIdeal.τ).loc Cert.FwdRefIdeal.main_arg0) = m' ((c.tc : Thread Cert.FwdRefIdeal.nD Cert.FwdRefIdeal.τ).loc Cert.FwdRefIdeal.main_arg0)
          ∧ r.2.mem ((c.tc : Thread Cert.FwdRefIdeal.nD Cert.FwdRefIdeal.τ).loc Cert.FwdRefIdeal.main_arg1) = m' ((c.tc : Thread Cert.FwdRefIdeal.nD Cert.FwdRefIdeal.τ).loc Cert.FwdRefIdeal.main_arg1)
          ∧ r.2.mem ((c.tc : Thread Cert.FwdRefIdeal.nD Cert.FwdRefIdeal.τ).loc Cert.FwdRefIdeal.main_arg2) = m' ((c.tc : Thread Cert.FwdRefIdeal.nD Cert.FwdRefIdeal.τ).loc Cert.FwdRefIdeal.main_arg2)
          ∧ r.2.mem ((c.tc : Thread Cert.FwdRefIdeal.nD Cert.FwdRefIdeal.τ).loc Cert.FwdRefIdeal.main_arg3) = m' ((c.tc : Thread Cert.FwdRefIdeal.nD Cert.FwdRefIdeal.τ).loc Cert.FwdRefIdeal.main_arg3)
          ∧ r.2.mem ((c.tc : Thread Cert.FwdRefIdeal.nD Cert.FwdRefIdeal.τ).loc Cert.FwdRefIdeal.main_arg4) = m' ((c.tc : Thread Cert.FwdRefIdeal.nD Cert.FwdRefIdeal.τ).loc Cert.FwdRefIdeal.main_arg4)
          ∧ r.2.mem ((c.tc : Thread Cert.FwdRefIdeal.nD Cert.FwdRefIdeal.τ).loc Cert.FwdRefIdeal.main_arg5) = m' ((c.tc : Thread Cert.FwdRefIdeal.nD Cert.FwdRefIdeal.τ).loc Cert.FwdRefIdeal.main_arg5)
          ∧ r.2.mem ((c.tc : Thread Cert.FwdRefIdeal.nD Cert.FwdRefIdeal.τ).loc Cert.FwdRefIdeal.main_arg6) = m' ((c.tc : Thread Cert.FwdRefIdeal.nD Cert.FwdRefIdeal.τ).loc Cert.FwdRefIdeal.main_arg6)
          ∧ r.2.mem ((c.tc : Thread Cert.FwdRefIdeal.nD Cert.FwdRefIdeal.τ).loc Cert.FwdRefIdeal.main_arg7) = m' ((c.tc : Thread Cert.FwdRefIdeal.nD Cert.FwdRefIdeal.τ).loc Cert.FwdRefIdeal.main_arg7)
          ∧ r.2.mem ((c.tc : Thread Cert.FwdRefIdeal.nD Cert.FwdRefIdeal.τ).loc Cert.FwdRefIdeal.main_arg8) = m' ((c.tc : Thread Cert.FwdRefIdeal.nD Cert.FwdRefIdeal.τ).loc Cert.FwdRefIdeal.main_arg8)
          ∧ r.2.mem ((c.tc : Thread Cert.FwdRefIdeal.nD Cert.FwdRefIdeal.τ).loc Cert.FwdRefIdeal.main_arg9) = m' ((c.tc : Thread Cert.FwdRefIdeal.nD Cert.FwdRefIdeal.τ).loc Cert.FwdRefIdeal.main_arg9))

def preserves_DownFwd_DownFwdIdeal : Prop :=
  True

def algebraic_DownFwdIdeal_DownFwdRefIdeal [hDownFwdIdeal : Cert.DownFwdIdeal.Facts] [hDownFwdRefIdeal : Cert.DownFwdRefIdeal.Facts] : Prop :=
  ∀ (m : (ℓ : Loc Cert.DownFwdIdeal.nD Cert.DownFwdIdeal.τ Cert.DownFwdIdeal.sig) → Buf (Elt Ideal) ℓ) (g : Dev Cert.DownFwdIdeal.nD → PrngReg)
    (m' : (ℓ : Loc Cert.DownFwdRefIdeal.nD Cert.DownFwdRefIdeal.τ Cert.DownFwdRefIdeal.sig) → Buf (Elt Ideal) ℓ) (g' : Dev Cert.DownFwdRefIdeal.nD → PrngReg), Pre_DownFwdIdeal m →
    (∀ c : Dev Cert.DownFwdIdeal.nD,
      m' ((c.tc : Thread Cert.DownFwdRefIdeal.nD Cert.DownFwdRefIdeal.τ).loc Cert.DownFwdRefIdeal.main_arg0) = m ((c.tc : Thread Cert.DownFwdIdeal.nD Cert.DownFwdIdeal.τ).loc Cert.DownFwdIdeal.main_arg0)
      ∧ m' ((c.tc : Thread Cert.DownFwdRefIdeal.nD Cert.DownFwdRefIdeal.τ).loc Cert.DownFwdRefIdeal.main_arg1) = m ((c.tc : Thread Cert.DownFwdIdeal.nD Cert.DownFwdIdeal.τ).loc Cert.DownFwdIdeal.main_arg1)
      ∧ m' ((c.tc : Thread Cert.DownFwdRefIdeal.nD Cert.DownFwdRefIdeal.τ).loc Cert.DownFwdRefIdeal.main_arg2) = m ((c.tc : Thread Cert.DownFwdIdeal.nD Cert.DownFwdIdeal.τ).loc Cert.DownFwdIdeal.main_arg2)
      ∧ m' ((c.tc : Thread Cert.DownFwdRefIdeal.nD Cert.DownFwdRefIdeal.τ).loc Cert.DownFwdRefIdeal.main_arg3) = m ((c.tc : Thread Cert.DownFwdIdeal.nD Cert.DownFwdIdeal.τ).loc Cert.DownFwdIdeal.main_arg3)
      ∧ m' ((c.tc : Thread Cert.DownFwdRefIdeal.nD Cert.DownFwdRefIdeal.τ).loc Cert.DownFwdRefIdeal.main_arg4) = m ((c.tc : Thread Cert.DownFwdIdeal.nD Cert.DownFwdIdeal.τ).loc Cert.DownFwdIdeal.main_arg4)
      ∧ m' ((c.tc : Thread Cert.DownFwdRefIdeal.nD Cert.DownFwdRefIdeal.τ).loc Cert.DownFwdRefIdeal.main_arg5) = m ((c.tc : Thread Cert.DownFwdIdeal.nD Cert.DownFwdIdeal.τ).loc Cert.DownFwdIdeal.main_arg5)
      ∧ m' ((c.tc : Thread Cert.DownFwdRefIdeal.nD Cert.DownFwdRefIdeal.τ).loc Cert.DownFwdRefIdeal.main_arg6) = m ((c.tc : Thread Cert.DownFwdIdeal.nD Cert.DownFwdIdeal.τ).loc Cert.DownFwdIdeal.main_arg6)) →
    ∃ (v0 : (c : Dev Cert.DownFwdIdeal.nD) → Buf (Elt Ideal) ((c.tc : Thread Cert.DownFwdIdeal.nD Cert.DownFwdIdeal.τ).loc Cert.DownFwdIdeal.main_v1_0)) (v1 : (c : Dev Cert.DownFwdIdeal.nD) → Buf (Elt Ideal) ((c.tc : Thread Cert.DownFwdIdeal.nD Cert.DownFwdIdeal.τ).loc Cert.DownFwdIdeal.main_v1_1)) (v2 : (c : Dev Cert.DownFwdIdeal.nD) → Buf (Elt Ideal) ((c.tc : Thread Cert.DownFwdIdeal.nD Cert.DownFwdIdeal.τ).loc Cert.DownFwdIdeal.main_v1_2)),
      θ_run (Cert.DownFwdIdeal.defs (F := Ideal)) (onTc (τ := Cert.DownFwdIdeal.τ) (Cert.DownFwdIdeal.main (F := Ideal))) ⟨m, fun _ => 0, g⟩ (fun r => ∀ c : Dev Cert.DownFwdIdeal.nD,
          r.2.mem ((c.tc : Thread Cert.DownFwdIdeal.nD Cert.DownFwdIdeal.τ).loc Cert.DownFwdIdeal.main_v1_0) = v0 c
          ∧ r.2.mem ((c.tc : Thread Cert.DownFwdIdeal.nD Cert.DownFwdIdeal.τ).loc Cert.DownFwdIdeal.main_v1_1) = v1 c
          ∧ r.2.mem ((c.tc : Thread Cert.DownFwdIdeal.nD Cert.DownFwdIdeal.τ).loc Cert.DownFwdIdeal.main_v1_2) = v2 c
          ∧ r.2.mem ((c.tc : Thread Cert.DownFwdIdeal.nD Cert.DownFwdIdeal.τ).loc Cert.DownFwdIdeal.main_arg0) = m ((c.tc : Thread Cert.DownFwdIdeal.nD Cert.DownFwdIdeal.τ).loc Cert.DownFwdIdeal.main_arg0)
          ∧ r.2.mem ((c.tc : Thread Cert.DownFwdIdeal.nD Cert.DownFwdIdeal.τ).loc Cert.DownFwdIdeal.main_arg1) = m ((c.tc : Thread Cert.DownFwdIdeal.nD Cert.DownFwdIdeal.τ).loc Cert.DownFwdIdeal.main_arg1)
          ∧ r.2.mem ((c.tc : Thread Cert.DownFwdIdeal.nD Cert.DownFwdIdeal.τ).loc Cert.DownFwdIdeal.main_arg2) = m ((c.tc : Thread Cert.DownFwdIdeal.nD Cert.DownFwdIdeal.τ).loc Cert.DownFwdIdeal.main_arg2)
          ∧ r.2.mem ((c.tc : Thread Cert.DownFwdIdeal.nD Cert.DownFwdIdeal.τ).loc Cert.DownFwdIdeal.main_arg3) = m ((c.tc : Thread Cert.DownFwdIdeal.nD Cert.DownFwdIdeal.τ).loc Cert.DownFwdIdeal.main_arg3)
          ∧ r.2.mem ((c.tc : Thread Cert.DownFwdIdeal.nD Cert.DownFwdIdeal.τ).loc Cert.DownFwdIdeal.main_arg4) = m ((c.tc : Thread Cert.DownFwdIdeal.nD Cert.DownFwdIdeal.τ).loc Cert.DownFwdIdeal.main_arg4)
          ∧ r.2.mem ((c.tc : Thread Cert.DownFwdIdeal.nD Cert.DownFwdIdeal.τ).loc Cert.DownFwdIdeal.main_arg5) = m ((c.tc : Thread Cert.DownFwdIdeal.nD Cert.DownFwdIdeal.τ).loc Cert.DownFwdIdeal.main_arg5)
          ∧ r.2.mem ((c.tc : Thread Cert.DownFwdIdeal.nD Cert.DownFwdIdeal.τ).loc Cert.DownFwdIdeal.main_arg6) = m ((c.tc : Thread Cert.DownFwdIdeal.nD Cert.DownFwdIdeal.τ).loc Cert.DownFwdIdeal.main_arg6))
      ∧ θ_run (Cert.DownFwdRefIdeal.defs (F := Ideal)) (onTc (τ := Cert.DownFwdRefIdeal.τ) (Cert.DownFwdRefIdeal.main (F := Ideal))) ⟨m', fun _ => 0, g'⟩ (fun r => ∀ c : Dev Cert.DownFwdRefIdeal.nD,
          r.2.mem ((c.tc : Thread Cert.DownFwdRefIdeal.nD Cert.DownFwdRefIdeal.τ).loc Cert.DownFwdRefIdeal.main_v11) = v0 c
          ∧ r.2.mem ((c.tc : Thread Cert.DownFwdRefIdeal.nD Cert.DownFwdRefIdeal.τ).loc Cert.DownFwdRefIdeal.main_v15) = v1 c
          ∧ r.2.mem ((c.tc : Thread Cert.DownFwdRefIdeal.nD Cert.DownFwdRefIdeal.τ).loc Cert.DownFwdRefIdeal.main_v19) = v2 c
          ∧ r.2.mem ((c.tc : Thread Cert.DownFwdRefIdeal.nD Cert.DownFwdRefIdeal.τ).loc Cert.DownFwdRefIdeal.main_arg0) = m' ((c.tc : Thread Cert.DownFwdRefIdeal.nD Cert.DownFwdRefIdeal.τ).loc Cert.DownFwdRefIdeal.main_arg0)
          ∧ r.2.mem ((c.tc : Thread Cert.DownFwdRefIdeal.nD Cert.DownFwdRefIdeal.τ).loc Cert.DownFwdRefIdeal.main_arg1) = m' ((c.tc : Thread Cert.DownFwdRefIdeal.nD Cert.DownFwdRefIdeal.τ).loc Cert.DownFwdRefIdeal.main_arg1)
          ∧ r.2.mem ((c.tc : Thread Cert.DownFwdRefIdeal.nD Cert.DownFwdRefIdeal.τ).loc Cert.DownFwdRefIdeal.main_arg2) = m' ((c.tc : Thread Cert.DownFwdRefIdeal.nD Cert.DownFwdRefIdeal.τ).loc Cert.DownFwdRefIdeal.main_arg2)
          ∧ r.2.mem ((c.tc : Thread Cert.DownFwdRefIdeal.nD Cert.DownFwdRefIdeal.τ).loc Cert.DownFwdRefIdeal.main_arg3) = m' ((c.tc : Thread Cert.DownFwdRefIdeal.nD Cert.DownFwdRefIdeal.τ).loc Cert.DownFwdRefIdeal.main_arg3)
          ∧ r.2.mem ((c.tc : Thread Cert.DownFwdRefIdeal.nD Cert.DownFwdRefIdeal.τ).loc Cert.DownFwdRefIdeal.main_arg4) = m' ((c.tc : Thread Cert.DownFwdRefIdeal.nD Cert.DownFwdRefIdeal.τ).loc Cert.DownFwdRefIdeal.main_arg4)
          ∧ r.2.mem ((c.tc : Thread Cert.DownFwdRefIdeal.nD Cert.DownFwdRefIdeal.τ).loc Cert.DownFwdRefIdeal.main_arg5) = m' ((c.tc : Thread Cert.DownFwdRefIdeal.nD Cert.DownFwdRefIdeal.τ).loc Cert.DownFwdRefIdeal.main_arg5)
          ∧ r.2.mem ((c.tc : Thread Cert.DownFwdRefIdeal.nD Cert.DownFwdRefIdeal.τ).loc Cert.DownFwdRefIdeal.main_arg6) = m' ((c.tc : Thread Cert.DownFwdRefIdeal.nD Cert.DownFwdRefIdeal.τ).loc Cert.DownFwdRefIdeal.main_arg6))

def preserves_Dx_DxIdeal : Prop :=
  True

def algebraic_DxIdeal_DxRefIdeal [hDxIdeal : Cert.DxIdeal.Facts] [hDxRefIdeal : Cert.DxRefIdeal.Facts] : Prop :=
  ∀ (m : (ℓ : Loc Cert.DxIdeal.nD Cert.DxIdeal.τ Cert.DxIdeal.sig) → Buf (Elt Ideal) ℓ) (g : Dev Cert.DxIdeal.nD → PrngReg)
    (m' : (ℓ : Loc Cert.DxRefIdeal.nD Cert.DxRefIdeal.τ Cert.DxRefIdeal.sig) → Buf (Elt Ideal) ℓ) (g' : Dev Cert.DxRefIdeal.nD → PrngReg), Pre_DxIdeal m →
    (∀ c : Dev Cert.DxIdeal.nD,
      m' ((c.tc : Thread Cert.DxRefIdeal.nD Cert.DxRefIdeal.τ).loc Cert.DxRefIdeal.main_arg0) = m ((c.tc : Thread Cert.DxIdeal.nD Cert.DxIdeal.τ).loc Cert.DxIdeal.main_arg0)
      ∧ m' ((c.tc : Thread Cert.DxRefIdeal.nD Cert.DxRefIdeal.τ).loc Cert.DxRefIdeal.main_arg1) = m ((c.tc : Thread Cert.DxIdeal.nD Cert.DxIdeal.τ).loc Cert.DxIdeal.main_arg1)
      ∧ m' ((c.tc : Thread Cert.DxRefIdeal.nD Cert.DxRefIdeal.τ).loc Cert.DxRefIdeal.main_arg2) = m ((c.tc : Thread Cert.DxIdeal.nD Cert.DxIdeal.τ).loc Cert.DxIdeal.main_arg2)
      ∧ m' ((c.tc : Thread Cert.DxRefIdeal.nD Cert.DxRefIdeal.τ).loc Cert.DxRefIdeal.main_arg3) = m ((c.tc : Thread Cert.DxIdeal.nD Cert.DxIdeal.τ).loc Cert.DxIdeal.main_arg3)
      ∧ m' ((c.tc : Thread Cert.DxRefIdeal.nD Cert.DxRefIdeal.τ).loc Cert.DxRefIdeal.main_arg4) = m ((c.tc : Thread Cert.DxIdeal.nD Cert.DxIdeal.τ).loc Cert.DxIdeal.main_arg4)
      ∧ m' ((c.tc : Thread Cert.DxRefIdeal.nD Cert.DxRefIdeal.τ).loc Cert.DxRefIdeal.main_arg5) = m ((c.tc : Thread Cert.DxIdeal.nD Cert.DxIdeal.τ).loc Cert.DxIdeal.main_arg5)
      ∧ m' ((c.tc : Thread Cert.DxRefIdeal.nD Cert.DxRefIdeal.τ).loc Cert.DxRefIdeal.main_arg6) = m ((c.tc : Thread Cert.DxIdeal.nD Cert.DxIdeal.τ).loc Cert.DxIdeal.main_arg6)
      ∧ m' ((c.tc : Thread Cert.DxRefIdeal.nD Cert.DxRefIdeal.τ).loc Cert.DxRefIdeal.main_arg7) = m ((c.tc : Thread Cert.DxIdeal.nD Cert.DxIdeal.τ).loc Cert.DxIdeal.main_arg7)
      ∧ m' ((c.tc : Thread Cert.DxRefIdeal.nD Cert.DxRefIdeal.τ).loc Cert.DxRefIdeal.main_arg8) = m ((c.tc : Thread Cert.DxIdeal.nD Cert.DxIdeal.τ).loc Cert.DxIdeal.main_arg8)
      ∧ m' ((c.tc : Thread Cert.DxRefIdeal.nD Cert.DxRefIdeal.τ).loc Cert.DxRefIdeal.main_arg9) = m ((c.tc : Thread Cert.DxIdeal.nD Cert.DxIdeal.τ).loc Cert.DxIdeal.main_arg9)
      ∧ m' ((c.tc : Thread Cert.DxRefIdeal.nD Cert.DxRefIdeal.τ).loc Cert.DxRefIdeal.main_arg10) = m ((c.tc : Thread Cert.DxIdeal.nD Cert.DxIdeal.τ).loc Cert.DxIdeal.main_arg10)
      ∧ m' ((c.tc : Thread Cert.DxRefIdeal.nD Cert.DxRefIdeal.τ).loc Cert.DxRefIdeal.main_arg11) = m ((c.tc : Thread Cert.DxIdeal.nD Cert.DxIdeal.τ).loc Cert.DxIdeal.main_arg11)
      ∧ m' ((c.tc : Thread Cert.DxRefIdeal.nD Cert.DxRefIdeal.τ).loc Cert.DxRefIdeal.main_arg12) = m ((c.tc : Thread Cert.DxIdeal.nD Cert.DxIdeal.τ).loc Cert.DxIdeal.main_arg12)
      ∧ m' ((c.tc : Thread Cert.DxRefIdeal.nD Cert.DxRefIdeal.τ).loc Cert.DxRefIdeal.main_arg13) = m ((c.tc : Thread Cert.DxIdeal.nD Cert.DxIdeal.τ).loc Cert.DxIdeal.main_arg13)
      ∧ m' ((c.tc : Thread Cert.DxRefIdeal.nD Cert.DxRefIdeal.τ).loc Cert.DxRefIdeal.main_arg14) = m ((c.tc : Thread Cert.DxIdeal.nD Cert.DxIdeal.τ).loc Cert.DxIdeal.main_arg14)
      ∧ m' ((c.tc : Thread Cert.DxRefIdeal.nD Cert.DxRefIdeal.τ).loc Cert.DxRefIdeal.main_arg15) = m ((c.tc : Thread Cert.DxIdeal.nD Cert.DxIdeal.τ).loc Cert.DxIdeal.main_arg15)) →
    ∃ (v0 : (c : Dev Cert.DxIdeal.nD) → Buf (Elt Ideal) ((c.tc : Thread Cert.DxIdeal.nD Cert.DxIdeal.τ).loc Cert.DxIdeal.main_v0_0)) (v1 : (c : Dev Cert.DxIdeal.nD) → Buf (Elt Ideal) ((c.tc : Thread Cert.DxIdeal.nD Cert.DxIdeal.τ).loc Cert.DxIdeal.main_v0_1)) (v2 : (c : Dev Cert.DxIdeal.nD) → Buf (Elt Ideal) ((c.tc : Thread Cert.DxIdeal.nD Cert.DxIdeal.τ).loc Cert.DxIdeal.main_v0_2)) (v3 : (c : Dev Cert.DxIdeal.nD) → Buf (Elt Ideal) ((c.tc : Thread Cert.DxIdeal.nD Cert.DxIdeal.τ).loc Cert.DxIdeal.main_v0_3)) (v4 : (c : Dev Cert.DxIdeal.nD) → Buf (Elt Ideal) ((c.tc : Thread Cert.DxIdeal.nD Cert.DxIdeal.τ).loc Cert.DxIdeal.main_v0_4)),
      θ_run (Cert.DxIdeal.defs (F := Ideal)) (onTc (τ := Cert.DxIdeal.τ) (Cert.DxIdeal.main (F := Ideal))) ⟨m, fun _ => 0, g⟩ (fun r => ∀ c : Dev Cert.DxIdeal.nD,
          r.2.mem ((c.tc : Thread Cert.DxIdeal.nD Cert.DxIdeal.τ).loc Cert.DxIdeal.main_v0_0) = v0 c
          ∧ r.2.mem ((c.tc : Thread Cert.DxIdeal.nD Cert.DxIdeal.τ).loc Cert.DxIdeal.main_v0_1) = v1 c
          ∧ r.2.mem ((c.tc : Thread Cert.DxIdeal.nD Cert.DxIdeal.τ).loc Cert.DxIdeal.main_v0_2) = v2 c
          ∧ r.2.mem ((c.tc : Thread Cert.DxIdeal.nD Cert.DxIdeal.τ).loc Cert.DxIdeal.main_v0_3) = v3 c
          ∧ r.2.mem ((c.tc : Thread Cert.DxIdeal.nD Cert.DxIdeal.τ).loc Cert.DxIdeal.main_v0_4) = v4 c
          ∧ r.2.mem ((c.tc : Thread Cert.DxIdeal.nD Cert.DxIdeal.τ).loc Cert.DxIdeal.main_arg0) = m ((c.tc : Thread Cert.DxIdeal.nD Cert.DxIdeal.τ).loc Cert.DxIdeal.main_arg0)
          ∧ r.2.mem ((c.tc : Thread Cert.DxIdeal.nD Cert.DxIdeal.τ).loc Cert.DxIdeal.main_arg1) = m ((c.tc : Thread Cert.DxIdeal.nD Cert.DxIdeal.τ).loc Cert.DxIdeal.main_arg1)
          ∧ r.2.mem ((c.tc : Thread Cert.DxIdeal.nD Cert.DxIdeal.τ).loc Cert.DxIdeal.main_arg2) = m ((c.tc : Thread Cert.DxIdeal.nD Cert.DxIdeal.τ).loc Cert.DxIdeal.main_arg2)
          ∧ r.2.mem ((c.tc : Thread Cert.DxIdeal.nD Cert.DxIdeal.τ).loc Cert.DxIdeal.main_arg3) = m ((c.tc : Thread Cert.DxIdeal.nD Cert.DxIdeal.τ).loc Cert.DxIdeal.main_arg3)
          ∧ r.2.mem ((c.tc : Thread Cert.DxIdeal.nD Cert.DxIdeal.τ).loc Cert.DxIdeal.main_arg4) = m ((c.tc : Thread Cert.DxIdeal.nD Cert.DxIdeal.τ).loc Cert.DxIdeal.main_arg4)
          ∧ r.2.mem ((c.tc : Thread Cert.DxIdeal.nD Cert.DxIdeal.τ).loc Cert.DxIdeal.main_arg5) = m ((c.tc : Thread Cert.DxIdeal.nD Cert.DxIdeal.τ).loc Cert.DxIdeal.main_arg5)
          ∧ r.2.mem ((c.tc : Thread Cert.DxIdeal.nD Cert.DxIdeal.τ).loc Cert.DxIdeal.main_arg6) = m ((c.tc : Thread Cert.DxIdeal.nD Cert.DxIdeal.τ).loc Cert.DxIdeal.main_arg6)
          ∧ r.2.mem ((c.tc : Thread Cert.DxIdeal.nD Cert.DxIdeal.τ).loc Cert.DxIdeal.main_arg7) = m ((c.tc : Thread Cert.DxIdeal.nD Cert.DxIdeal.τ).loc Cert.DxIdeal.main_arg7)
          ∧ r.2.mem ((c.tc : Thread Cert.DxIdeal.nD Cert.DxIdeal.τ).loc Cert.DxIdeal.main_arg8) = m ((c.tc : Thread Cert.DxIdeal.nD Cert.DxIdeal.τ).loc Cert.DxIdeal.main_arg8)
          ∧ r.2.mem ((c.tc : Thread Cert.DxIdeal.nD Cert.DxIdeal.τ).loc Cert.DxIdeal.main_arg9) = m ((c.tc : Thread Cert.DxIdeal.nD Cert.DxIdeal.τ).loc Cert.DxIdeal.main_arg9)
          ∧ r.2.mem ((c.tc : Thread Cert.DxIdeal.nD Cert.DxIdeal.τ).loc Cert.DxIdeal.main_arg10) = m ((c.tc : Thread Cert.DxIdeal.nD Cert.DxIdeal.τ).loc Cert.DxIdeal.main_arg10)
          ∧ r.2.mem ((c.tc : Thread Cert.DxIdeal.nD Cert.DxIdeal.τ).loc Cert.DxIdeal.main_arg11) = m ((c.tc : Thread Cert.DxIdeal.nD Cert.DxIdeal.τ).loc Cert.DxIdeal.main_arg11)
          ∧ r.2.mem ((c.tc : Thread Cert.DxIdeal.nD Cert.DxIdeal.τ).loc Cert.DxIdeal.main_arg12) = m ((c.tc : Thread Cert.DxIdeal.nD Cert.DxIdeal.τ).loc Cert.DxIdeal.main_arg12)
          ∧ r.2.mem ((c.tc : Thread Cert.DxIdeal.nD Cert.DxIdeal.τ).loc Cert.DxIdeal.main_arg13) = m ((c.tc : Thread Cert.DxIdeal.nD Cert.DxIdeal.τ).loc Cert.DxIdeal.main_arg13)
          ∧ r.2.mem ((c.tc : Thread Cert.DxIdeal.nD Cert.DxIdeal.τ).loc Cert.DxIdeal.main_arg14) = m ((c.tc : Thread Cert.DxIdeal.nD Cert.DxIdeal.τ).loc Cert.DxIdeal.main_arg14)
          ∧ r.2.mem ((c.tc : Thread Cert.DxIdeal.nD Cert.DxIdeal.τ).loc Cert.DxIdeal.main_arg15) = m ((c.tc : Thread Cert.DxIdeal.nD Cert.DxIdeal.τ).loc Cert.DxIdeal.main_arg15))
      ∧ θ_run (Cert.DxRefIdeal.defs (F := Ideal)) (onTc (τ := Cert.DxRefIdeal.τ) (Cert.DxRefIdeal.main (F := Ideal))) ⟨m', fun _ => 0, g'⟩ (fun r => ∀ c : Dev Cert.DxRefIdeal.nD,
          r.2.mem ((c.tc : Thread Cert.DxRefIdeal.nD Cert.DxRefIdeal.τ).loc Cert.DxRefIdeal.main_v24) = v0 c
          ∧ r.2.mem ((c.tc : Thread Cert.DxRefIdeal.nD Cert.DxRefIdeal.τ).loc Cert.DxRefIdeal.main_v39) = v1 c
          ∧ r.2.mem ((c.tc : Thread Cert.DxRefIdeal.nD Cert.DxRefIdeal.τ).loc Cert.DxRefIdeal.main_v42) = v2 c
          ∧ r.2.mem ((c.tc : Thread Cert.DxRefIdeal.nD Cert.DxRefIdeal.τ).loc Cert.DxRefIdeal.main_v30) = v3 c
          ∧ r.2.mem ((c.tc : Thread Cert.DxRefIdeal.nD Cert.DxRefIdeal.τ).loc Cert.DxRefIdeal.main_v36) = v4 c
          ∧ r.2.mem ((c.tc : Thread Cert.DxRefIdeal.nD Cert.DxRefIdeal.τ).loc Cert.DxRefIdeal.main_arg0) = m' ((c.tc : Thread Cert.DxRefIdeal.nD Cert.DxRefIdeal.τ).loc Cert.DxRefIdeal.main_arg0)
          ∧ r.2.mem ((c.tc : Thread Cert.DxRefIdeal.nD Cert.DxRefIdeal.τ).loc Cert.DxRefIdeal.main_arg1) = m' ((c.tc : Thread Cert.DxRefIdeal.nD Cert.DxRefIdeal.τ).loc Cert.DxRefIdeal.main_arg1)
          ∧ r.2.mem ((c.tc : Thread Cert.DxRefIdeal.nD Cert.DxRefIdeal.τ).loc Cert.DxRefIdeal.main_arg2) = m' ((c.tc : Thread Cert.DxRefIdeal.nD Cert.DxRefIdeal.τ).loc Cert.DxRefIdeal.main_arg2)
          ∧ r.2.mem ((c.tc : Thread Cert.DxRefIdeal.nD Cert.DxRefIdeal.τ).loc Cert.DxRefIdeal.main_arg3) = m' ((c.tc : Thread Cert.DxRefIdeal.nD Cert.DxRefIdeal.τ).loc Cert.DxRefIdeal.main_arg3)
          ∧ r.2.mem ((c.tc : Thread Cert.DxRefIdeal.nD Cert.DxRefIdeal.τ).loc Cert.DxRefIdeal.main_arg4) = m' ((c.tc : Thread Cert.DxRefIdeal.nD Cert.DxRefIdeal.τ).loc Cert.DxRefIdeal.main_arg4)
          ∧ r.2.mem ((c.tc : Thread Cert.DxRefIdeal.nD Cert.DxRefIdeal.τ).loc Cert.DxRefIdeal.main_arg5) = m' ((c.tc : Thread Cert.DxRefIdeal.nD Cert.DxRefIdeal.τ).loc Cert.DxRefIdeal.main_arg5)
          ∧ r.2.mem ((c.tc : Thread Cert.DxRefIdeal.nD Cert.DxRefIdeal.τ).loc Cert.DxRefIdeal.main_arg6) = m' ((c.tc : Thread Cert.DxRefIdeal.nD Cert.DxRefIdeal.τ).loc Cert.DxRefIdeal.main_arg6)
          ∧ r.2.mem ((c.tc : Thread Cert.DxRefIdeal.nD Cert.DxRefIdeal.τ).loc Cert.DxRefIdeal.main_arg7) = m' ((c.tc : Thread Cert.DxRefIdeal.nD Cert.DxRefIdeal.τ).loc Cert.DxRefIdeal.main_arg7)
          ∧ r.2.mem ((c.tc : Thread Cert.DxRefIdeal.nD Cert.DxRefIdeal.τ).loc Cert.DxRefIdeal.main_arg8) = m' ((c.tc : Thread Cert.DxRefIdeal.nD Cert.DxRefIdeal.τ).loc Cert.DxRefIdeal.main_arg8)
          ∧ r.2.mem ((c.tc : Thread Cert.DxRefIdeal.nD Cert.DxRefIdeal.τ).loc Cert.DxRefIdeal.main_arg9) = m' ((c.tc : Thread Cert.DxRefIdeal.nD Cert.DxRefIdeal.τ).loc Cert.DxRefIdeal.main_arg9)
          ∧ r.2.mem ((c.tc : Thread Cert.DxRefIdeal.nD Cert.DxRefIdeal.τ).loc Cert.DxRefIdeal.main_arg10) = m' ((c.tc : Thread Cert.DxRefIdeal.nD Cert.DxRefIdeal.τ).loc Cert.DxRefIdeal.main_arg10)
          ∧ r.2.mem ((c.tc : Thread Cert.DxRefIdeal.nD Cert.DxRefIdeal.τ).loc Cert.DxRefIdeal.main_arg11) = m' ((c.tc : Thread Cert.DxRefIdeal.nD Cert.DxRefIdeal.τ).loc Cert.DxRefIdeal.main_arg11)
          ∧ r.2.mem ((c.tc : Thread Cert.DxRefIdeal.nD Cert.DxRefIdeal.τ).loc Cert.DxRefIdeal.main_arg12) = m' ((c.tc : Thread Cert.DxRefIdeal.nD Cert.DxRefIdeal.τ).loc Cert.DxRefIdeal.main_arg12)
          ∧ r.2.mem ((c.tc : Thread Cert.DxRefIdeal.nD Cert.DxRefIdeal.τ).loc Cert.DxRefIdeal.main_arg13) = m' ((c.tc : Thread Cert.DxRefIdeal.nD Cert.DxRefIdeal.τ).loc Cert.DxRefIdeal.main_arg13)
          ∧ r.2.mem ((c.tc : Thread Cert.DxRefIdeal.nD Cert.DxRefIdeal.τ).loc Cert.DxRefIdeal.main_arg14) = m' ((c.tc : Thread Cert.DxRefIdeal.nD Cert.DxRefIdeal.τ).loc Cert.DxRefIdeal.main_arg14)
          ∧ r.2.mem ((c.tc : Thread Cert.DxRefIdeal.nD Cert.DxRefIdeal.τ).loc Cert.DxRefIdeal.main_arg15) = m' ((c.tc : Thread Cert.DxRefIdeal.nD Cert.DxRefIdeal.τ).loc Cert.DxRefIdeal.main_arg15))

def preserves_DownBwd_DownBwdIdeal : Prop :=
  True

def algebraic_DownBwdIdeal_DownBwdRefIdeal [hDownBwdIdeal : Cert.DownBwdIdeal.Facts] [hDownBwdRefIdeal : Cert.DownBwdRefIdeal.Facts] : Prop :=
  ∀ (m : (ℓ : Loc Cert.DownBwdIdeal.nD Cert.DownBwdIdeal.τ Cert.DownBwdIdeal.sig) → Buf (Elt Ideal) ℓ) (g : Dev Cert.DownBwdIdeal.nD → PrngReg)
    (m' : (ℓ : Loc Cert.DownBwdRefIdeal.nD Cert.DownBwdRefIdeal.τ Cert.DownBwdRefIdeal.sig) → Buf (Elt Ideal) ℓ) (g' : Dev Cert.DownBwdRefIdeal.nD → PrngReg), Pre_DownBwdIdeal m →
    (∀ c : Dev Cert.DownBwdIdeal.nD,
      m' ((c.tc : Thread Cert.DownBwdRefIdeal.nD Cert.DownBwdRefIdeal.τ).loc Cert.DownBwdRefIdeal.main_arg0) = m ((c.tc : Thread Cert.DownBwdIdeal.nD Cert.DownBwdIdeal.τ).loc Cert.DownBwdIdeal.main_arg0)
      ∧ m' ((c.tc : Thread Cert.DownBwdRefIdeal.nD Cert.DownBwdRefIdeal.τ).loc Cert.DownBwdRefIdeal.main_arg1) = m ((c.tc : Thread Cert.DownBwdIdeal.nD Cert.DownBwdIdeal.τ).loc Cert.DownBwdIdeal.main_arg1)
      ∧ m' ((c.tc : Thread Cert.DownBwdRefIdeal.nD Cert.DownBwdRefIdeal.τ).loc Cert.DownBwdRefIdeal.main_arg2) = m ((c.tc : Thread Cert.DownBwdIdeal.nD Cert.DownBwdIdeal.τ).loc Cert.DownBwdIdeal.main_arg2)
      ∧ m' ((c.tc : Thread Cert.DownBwdRefIdeal.nD Cert.DownBwdRefIdeal.τ).loc Cert.DownBwdRefIdeal.main_arg3) = m ((c.tc : Thread Cert.DownBwdIdeal.nD Cert.DownBwdIdeal.τ).loc Cert.DownBwdIdeal.main_arg3)
      ∧ m' ((c.tc : Thread Cert.DownBwdRefIdeal.nD Cert.DownBwdRefIdeal.τ).loc Cert.DownBwdRefIdeal.main_arg4) = m ((c.tc : Thread Cert.DownBwdIdeal.nD Cert.DownBwdIdeal.τ).loc Cert.DownBwdIdeal.main_arg4)
      ∧ m' ((c.tc : Thread Cert.DownBwdRefIdeal.nD Cert.DownBwdRefIdeal.τ).loc Cert.DownBwdRefIdeal.main_arg5) = m ((c.tc : Thread Cert.DownBwdIdeal.nD Cert.DownBwdIdeal.τ).loc Cert.DownBwdIdeal.main_arg5)
      ∧ m' ((c.tc : Thread Cert.DownBwdRefIdeal.nD Cert.DownBwdRefIdeal.τ).loc Cert.DownBwdRefIdeal.main_arg6) = m ((c.tc : Thread Cert.DownBwdIdeal.nD Cert.DownBwdIdeal.τ).loc Cert.DownBwdIdeal.main_arg6)
      ∧ m' ((c.tc : Thread Cert.DownBwdRefIdeal.nD Cert.DownBwdRefIdeal.τ).loc Cert.DownBwdRefIdeal.main_arg7) = m ((c.tc : Thread Cert.DownBwdIdeal.nD Cert.DownBwdIdeal.τ).loc Cert.DownBwdIdeal.main_arg7)
      ∧ m' ((c.tc : Thread Cert.DownBwdRefIdeal.nD Cert.DownBwdRefIdeal.τ).loc Cert.DownBwdRefIdeal.main_arg8) = m ((c.tc : Thread Cert.DownBwdIdeal.nD Cert.DownBwdIdeal.τ).loc Cert.DownBwdIdeal.main_arg8)
      ∧ m' ((c.tc : Thread Cert.DownBwdRefIdeal.nD Cert.DownBwdRefIdeal.τ).loc Cert.DownBwdRefIdeal.main_arg9) = m ((c.tc : Thread Cert.DownBwdIdeal.nD Cert.DownBwdIdeal.τ).loc Cert.DownBwdIdeal.main_arg9)
      ∧ m' ((c.tc : Thread Cert.DownBwdRefIdeal.nD Cert.DownBwdRefIdeal.τ).loc Cert.DownBwdRefIdeal.main_arg10) = m ((c.tc : Thread Cert.DownBwdIdeal.nD Cert.DownBwdIdeal.τ).loc Cert.DownBwdIdeal.main_arg10)
      ∧ m' ((c.tc : Thread Cert.DownBwdRefIdeal.nD Cert.DownBwdRefIdeal.τ).loc Cert.DownBwdRefIdeal.main_arg11) = m ((c.tc : Thread Cert.DownBwdIdeal.nD Cert.DownBwdIdeal.τ).loc Cert.DownBwdIdeal.main_arg11)
      ∧ m' ((c.tc : Thread Cert.DownBwdRefIdeal.nD Cert.DownBwdRefIdeal.τ).loc Cert.DownBwdRefIdeal.main_arg12) = m ((c.tc : Thread Cert.DownBwdIdeal.nD Cert.DownBwdIdeal.τ).loc Cert.DownBwdIdeal.main_arg12)
      ∧ m' ((c.tc : Thread Cert.DownBwdRefIdeal.nD Cert.DownBwdRefIdeal.τ).loc Cert.DownBwdRefIdeal.main_arg13) = m ((c.tc : Thread Cert.DownBwdIdeal.nD Cert.DownBwdIdeal.τ).loc Cert.DownBwdIdeal.main_arg13)) →
    ∃ (v0 : (c : Dev Cert.DownBwdIdeal.nD) → Buf (Elt Ideal) ((c.tc : Thread Cert.DownBwdIdeal.nD Cert.DownBwdIdeal.τ).loc Cert.DownBwdIdeal.main_v3_0)) (v1 : (c : Dev Cert.DownBwdIdeal.nD) → Buf (Elt Ideal) ((c.tc : Thread Cert.DownBwdIdeal.nD Cert.DownBwdIdeal.τ).loc Cert.DownBwdIdeal.main_v3_1)),
      θ_run (Cert.DownBwdIdeal.defs (F := Ideal)) (onTc (τ := Cert.DownBwdIdeal.τ) (Cert.DownBwdIdeal.main (F := Ideal))) ⟨m, fun _ => 0, g⟩ (fun r => ∀ c : Dev Cert.DownBwdIdeal.nD,
          r.2.mem ((c.tc : Thread Cert.DownBwdIdeal.nD Cert.DownBwdIdeal.τ).loc Cert.DownBwdIdeal.main_v3_0) = v0 c
          ∧ r.2.mem ((c.tc : Thread Cert.DownBwdIdeal.nD Cert.DownBwdIdeal.τ).loc Cert.DownBwdIdeal.main_v3_1) = v1 c
          ∧ r.2.mem ((c.tc : Thread Cert.DownBwdIdeal.nD Cert.DownBwdIdeal.τ).loc Cert.DownBwdIdeal.main_arg0) = m ((c.tc : Thread Cert.DownBwdIdeal.nD Cert.DownBwdIdeal.τ).loc Cert.DownBwdIdeal.main_arg0)
          ∧ r.2.mem ((c.tc : Thread Cert.DownBwdIdeal.nD Cert.DownBwdIdeal.τ).loc Cert.DownBwdIdeal.main_arg1) = m ((c.tc : Thread Cert.DownBwdIdeal.nD Cert.DownBwdIdeal.τ).loc Cert.DownBwdIdeal.main_arg1)
          ∧ r.2.mem ((c.tc : Thread Cert.DownBwdIdeal.nD Cert.DownBwdIdeal.τ).loc Cert.DownBwdIdeal.main_arg2) = m ((c.tc : Thread Cert.DownBwdIdeal.nD Cert.DownBwdIdeal.τ).loc Cert.DownBwdIdeal.main_arg2)
          ∧ r.2.mem ((c.tc : Thread Cert.DownBwdIdeal.nD Cert.DownBwdIdeal.τ).loc Cert.DownBwdIdeal.main_arg3) = m ((c.tc : Thread Cert.DownBwdIdeal.nD Cert.DownBwdIdeal.τ).loc Cert.DownBwdIdeal.main_arg3)
          ∧ r.2.mem ((c.tc : Thread Cert.DownBwdIdeal.nD Cert.DownBwdIdeal.τ).loc Cert.DownBwdIdeal.main_arg4) = m ((c.tc : Thread Cert.DownBwdIdeal.nD Cert.DownBwdIdeal.τ).loc Cert.DownBwdIdeal.main_arg4)
          ∧ r.2.mem ((c.tc : Thread Cert.DownBwdIdeal.nD Cert.DownBwdIdeal.τ).loc Cert.DownBwdIdeal.main_arg5) = m ((c.tc : Thread Cert.DownBwdIdeal.nD Cert.DownBwdIdeal.τ).loc Cert.DownBwdIdeal.main_arg5)
          ∧ r.2.mem ((c.tc : Thread Cert.DownBwdIdeal.nD Cert.DownBwdIdeal.τ).loc Cert.DownBwdIdeal.main_arg6) = m ((c.tc : Thread Cert.DownBwdIdeal.nD Cert.DownBwdIdeal.τ).loc Cert.DownBwdIdeal.main_arg6)
          ∧ r.2.mem ((c.tc : Thread Cert.DownBwdIdeal.nD Cert.DownBwdIdeal.τ).loc Cert.DownBwdIdeal.main_arg7) = m ((c.tc : Thread Cert.DownBwdIdeal.nD Cert.DownBwdIdeal.τ).loc Cert.DownBwdIdeal.main_arg7)
          ∧ r.2.mem ((c.tc : Thread Cert.DownBwdIdeal.nD Cert.DownBwdIdeal.τ).loc Cert.DownBwdIdeal.main_arg8) = m ((c.tc : Thread Cert.DownBwdIdeal.nD Cert.DownBwdIdeal.τ).loc Cert.DownBwdIdeal.main_arg8)
          ∧ r.2.mem ((c.tc : Thread Cert.DownBwdIdeal.nD Cert.DownBwdIdeal.τ).loc Cert.DownBwdIdeal.main_arg9) = m ((c.tc : Thread Cert.DownBwdIdeal.nD Cert.DownBwdIdeal.τ).loc Cert.DownBwdIdeal.main_arg9)
          ∧ r.2.mem ((c.tc : Thread Cert.DownBwdIdeal.nD Cert.DownBwdIdeal.τ).loc Cert.DownBwdIdeal.main_arg10) = m ((c.tc : Thread Cert.DownBwdIdeal.nD Cert.DownBwdIdeal.τ).loc Cert.DownBwdIdeal.main_arg10)
          ∧ r.2.mem ((c.tc : Thread Cert.DownBwdIdeal.nD Cert.DownBwdIdeal.τ).loc Cert.DownBwdIdeal.main_arg11) = m ((c.tc : Thread Cert.DownBwdIdeal.nD Cert.DownBwdIdeal.τ).loc Cert.DownBwdIdeal.main_arg11)
          ∧ r.2.mem ((c.tc : Thread Cert.DownBwdIdeal.nD Cert.DownBwdIdeal.τ).loc Cert.DownBwdIdeal.main_arg12) = m ((c.tc : Thread Cert.DownBwdIdeal.nD Cert.DownBwdIdeal.τ).loc Cert.DownBwdIdeal.main_arg12)
          ∧ r.2.mem ((c.tc : Thread Cert.DownBwdIdeal.nD Cert.DownBwdIdeal.τ).loc Cert.DownBwdIdeal.main_arg13) = m ((c.tc : Thread Cert.DownBwdIdeal.nD Cert.DownBwdIdeal.τ).loc Cert.DownBwdIdeal.main_arg13))
      ∧ θ_run (Cert.DownBwdRefIdeal.defs (F := Ideal)) (onTc (τ := Cert.DownBwdRefIdeal.τ) (Cert.DownBwdRefIdeal.main (F := Ideal))) ⟨m', fun _ => 0, g'⟩ (fun r => ∀ c : Dev Cert.DownBwdRefIdeal.nD,
          r.2.mem ((c.tc : Thread Cert.DownBwdRefIdeal.nD Cert.DownBwdRefIdeal.τ).loc Cert.DownBwdRefIdeal.main_v25) = v0 c
          ∧ r.2.mem ((c.tc : Thread Cert.DownBwdRefIdeal.nD Cert.DownBwdRefIdeal.τ).loc Cert.DownBwdRefIdeal.main_v28) = v1 c
          ∧ r.2.mem ((c.tc : Thread Cert.DownBwdRefIdeal.nD Cert.DownBwdRefIdeal.τ).loc Cert.DownBwdRefIdeal.main_arg0) = m' ((c.tc : Thread Cert.DownBwdRefIdeal.nD Cert.DownBwdRefIdeal.τ).loc Cert.DownBwdRefIdeal.main_arg0)
          ∧ r.2.mem ((c.tc : Thread Cert.DownBwdRefIdeal.nD Cert.DownBwdRefIdeal.τ).loc Cert.DownBwdRefIdeal.main_arg1) = m' ((c.tc : Thread Cert.DownBwdRefIdeal.nD Cert.DownBwdRefIdeal.τ).loc Cert.DownBwdRefIdeal.main_arg1)
          ∧ r.2.mem ((c.tc : Thread Cert.DownBwdRefIdeal.nD Cert.DownBwdRefIdeal.τ).loc Cert.DownBwdRefIdeal.main_arg2) = m' ((c.tc : Thread Cert.DownBwdRefIdeal.nD Cert.DownBwdRefIdeal.τ).loc Cert.DownBwdRefIdeal.main_arg2)
          ∧ r.2.mem ((c.tc : Thread Cert.DownBwdRefIdeal.nD Cert.DownBwdRefIdeal.τ).loc Cert.DownBwdRefIdeal.main_arg3) = m' ((c.tc : Thread Cert.DownBwdRefIdeal.nD Cert.DownBwdRefIdeal.τ).loc Cert.DownBwdRefIdeal.main_arg3)
          ∧ r.2.mem ((c.tc : Thread Cert.DownBwdRefIdeal.nD Cert.DownBwdRefIdeal.τ).loc Cert.DownBwdRefIdeal.main_arg4) = m' ((c.tc : Thread Cert.DownBwdRefIdeal.nD Cert.DownBwdRefIdeal.τ).loc Cert.DownBwdRefIdeal.main_arg4)
          ∧ r.2.mem ((c.tc : Thread Cert.DownBwdRefIdeal.nD Cert.DownBwdRefIdeal.τ).loc Cert.DownBwdRefIdeal.main_arg5) = m' ((c.tc : Thread Cert.DownBwdRefIdeal.nD Cert.DownBwdRefIdeal.τ).loc Cert.DownBwdRefIdeal.main_arg5)
          ∧ r.2.mem ((c.tc : Thread Cert.DownBwdRefIdeal.nD Cert.DownBwdRefIdeal.τ).loc Cert.DownBwdRefIdeal.main_arg6) = m' ((c.tc : Thread Cert.DownBwdRefIdeal.nD Cert.DownBwdRefIdeal.τ).loc Cert.DownBwdRefIdeal.main_arg6)
          ∧ r.2.mem ((c.tc : Thread Cert.DownBwdRefIdeal.nD Cert.DownBwdRefIdeal.τ).loc Cert.DownBwdRefIdeal.main_arg7) = m' ((c.tc : Thread Cert.DownBwdRefIdeal.nD Cert.DownBwdRefIdeal.τ).loc Cert.DownBwdRefIdeal.main_arg7)
          ∧ r.2.mem ((c.tc : Thread Cert.DownBwdRefIdeal.nD Cert.DownBwdRefIdeal.τ).loc Cert.DownBwdRefIdeal.main_arg8) = m' ((c.tc : Thread Cert.DownBwdRefIdeal.nD Cert.DownBwdRefIdeal.τ).loc Cert.DownBwdRefIdeal.main_arg8)
          ∧ r.2.mem ((c.tc : Thread Cert.DownBwdRefIdeal.nD Cert.DownBwdRefIdeal.τ).loc Cert.DownBwdRefIdeal.main_arg9) = m' ((c.tc : Thread Cert.DownBwdRefIdeal.nD Cert.DownBwdRefIdeal.τ).loc Cert.DownBwdRefIdeal.main_arg9)
          ∧ r.2.mem ((c.tc : Thread Cert.DownBwdRefIdeal.nD Cert.DownBwdRefIdeal.τ).loc Cert.DownBwdRefIdeal.main_arg10) = m' ((c.tc : Thread Cert.DownBwdRefIdeal.nD Cert.DownBwdRefIdeal.τ).loc Cert.DownBwdRefIdeal.main_arg10)
          ∧ r.2.mem ((c.tc : Thread Cert.DownBwdRefIdeal.nD Cert.DownBwdRefIdeal.τ).loc Cert.DownBwdRefIdeal.main_arg11) = m' ((c.tc : Thread Cert.DownBwdRefIdeal.nD Cert.DownBwdRefIdeal.τ).loc Cert.DownBwdRefIdeal.main_arg11)
          ∧ r.2.mem ((c.tc : Thread Cert.DownBwdRefIdeal.nD Cert.DownBwdRefIdeal.τ).loc Cert.DownBwdRefIdeal.main_arg12) = m' ((c.tc : Thread Cert.DownBwdRefIdeal.nD Cert.DownBwdRefIdeal.τ).loc Cert.DownBwdRefIdeal.main_arg12)
          ∧ r.2.mem ((c.tc : Thread Cert.DownBwdRefIdeal.nD Cert.DownBwdRefIdeal.τ).loc Cert.DownBwdRefIdeal.main_arg13) = m' ((c.tc : Thread Cert.DownBwdRefIdeal.nD Cert.DownBwdRefIdeal.τ).loc Cert.DownBwdRefIdeal.main_arg13))

def preserves_NormGrad_NormGradIdeal : Prop :=
  True

def algebraic_NormGradIdeal_NormGradRefIdeal [hNormGradIdeal : Cert.NormGradIdeal.Facts] [hNormGradRefIdeal : Cert.NormGradRefIdeal.Facts] : Prop :=
  ∀ (m : (ℓ : Loc Cert.NormGradIdeal.nD Cert.NormGradIdeal.τ Cert.NormGradIdeal.sig) → Buf (Elt Ideal) ℓ) (g : Dev Cert.NormGradIdeal.nD → PrngReg)
    (m' : (ℓ : Loc Cert.NormGradRefIdeal.nD Cert.NormGradRefIdeal.τ Cert.NormGradRefIdeal.sig) → Buf (Elt Ideal) ℓ) (g' : Dev Cert.NormGradRefIdeal.nD → PrngReg), Pre_NormGradIdeal m →
    (∀ c : Dev Cert.NormGradIdeal.nD,
      m' ((c.tc : Thread Cert.NormGradRefIdeal.nD Cert.NormGradRefIdeal.τ).loc Cert.NormGradRefIdeal.main_arg0) = m ((c.tc : Thread Cert.NormGradIdeal.nD Cert.NormGradIdeal.τ).loc Cert.NormGradIdeal.main_arg0)
      ∧ m' ((c.tc : Thread Cert.NormGradRefIdeal.nD Cert.NormGradRefIdeal.τ).loc Cert.NormGradRefIdeal.main_arg1) = m ((c.tc : Thread Cert.NormGradIdeal.nD Cert.NormGradIdeal.τ).loc Cert.NormGradIdeal.main_arg1)
      ∧ m' ((c.tc : Thread Cert.NormGradRefIdeal.nD Cert.NormGradRefIdeal.τ).loc Cert.NormGradRefIdeal.main_arg2) = m ((c.tc : Thread Cert.NormGradIdeal.nD Cert.NormGradIdeal.τ).loc Cert.NormGradIdeal.main_arg2)
      ∧ m' ((c.tc : Thread Cert.NormGradRefIdeal.nD Cert.NormGradRefIdeal.τ).loc Cert.NormGradRefIdeal.main_arg3) = m ((c.tc : Thread Cert.NormGradIdeal.nD Cert.NormGradIdeal.τ).loc Cert.NormGradIdeal.main_arg3)
      ∧ m' ((c.tc : Thread Cert.NormGradRefIdeal.nD Cert.NormGradRefIdeal.τ).loc Cert.NormGradRefIdeal.main_arg4) = m ((c.tc : Thread Cert.NormGradIdeal.nD Cert.NormGradIdeal.τ).loc Cert.NormGradIdeal.main_arg4)
      ∧ m' ((c.tc : Thread Cert.NormGradRefIdeal.nD Cert.NormGradRefIdeal.τ).loc Cert.NormGradRefIdeal.main_arg5) = m ((c.tc : Thread Cert.NormGradIdeal.nD Cert.NormGradIdeal.τ).loc Cert.NormGradIdeal.main_arg5)
      ∧ m' ((c.tc : Thread Cert.NormGradRefIdeal.nD Cert.NormGradRefIdeal.τ).loc Cert.NormGradRefIdeal.main_arg6) = m ((c.tc : Thread Cert.NormGradIdeal.nD Cert.NormGradIdeal.τ).loc Cert.NormGradIdeal.main_arg6)
      ∧ m' ((c.tc : Thread Cert.NormGradRefIdeal.nD Cert.NormGradRefIdeal.τ).loc Cert.NormGradRefIdeal.main_arg7) = m ((c.tc : Thread Cert.NormGradIdeal.nD Cert.NormGradIdeal.τ).loc Cert.NormGradIdeal.main_arg7)) →
    ∃ (v0 : (c : Dev Cert.NormGradIdeal.nD) → Buf (Elt Ideal) ((c.tc : Thread Cert.NormGradIdeal.nD Cert.NormGradIdeal.τ).loc Cert.NormGradIdeal.main_v2_0)) (v1 : (c : Dev Cert.NormGradIdeal.nD) → Buf (Elt Ideal) ((c.tc : Thread Cert.NormGradIdeal.nD Cert.NormGradIdeal.τ).loc Cert.NormGradIdeal.main_v2_1)) (v2 : (c : Dev Cert.NormGradIdeal.nD) → Buf (Elt Ideal) ((c.tc : Thread Cert.NormGradIdeal.nD Cert.NormGradIdeal.τ).loc Cert.NormGradIdeal.main_v2_2)) (v3 : (c : Dev Cert.NormGradIdeal.nD) → Buf (Elt Ideal) ((c.tc : Thread Cert.NormGradIdeal.nD Cert.NormGradIdeal.τ).loc Cert.NormGradIdeal.main_v2_3)) (v4 : (c : Dev Cert.NormGradIdeal.nD) → Buf (Elt Ideal) ((c.tc : Thread Cert.NormGradIdeal.nD Cert.NormGradIdeal.τ).loc Cert.NormGradIdeal.main_v2_4)),
      θ_run (Cert.NormGradIdeal.defs (F := Ideal)) (onTc (τ := Cert.NormGradIdeal.τ) (Cert.NormGradIdeal.main (F := Ideal))) ⟨m, fun _ => 0, g⟩ (fun r => ∀ c : Dev Cert.NormGradIdeal.nD,
          r.2.mem ((c.tc : Thread Cert.NormGradIdeal.nD Cert.NormGradIdeal.τ).loc Cert.NormGradIdeal.main_v2_0) = v0 c
          ∧ r.2.mem ((c.tc : Thread Cert.NormGradIdeal.nD Cert.NormGradIdeal.τ).loc Cert.NormGradIdeal.main_v2_1) = v1 c
          ∧ r.2.mem ((c.tc : Thread Cert.NormGradIdeal.nD Cert.NormGradIdeal.τ).loc Cert.NormGradIdeal.main_v2_2) = v2 c
          ∧ r.2.mem ((c.tc : Thread Cert.NormGradIdeal.nD Cert.NormGradIdeal.τ).loc Cert.NormGradIdeal.main_v2_3) = v3 c
          ∧ r.2.mem ((c.tc : Thread Cert.NormGradIdeal.nD Cert.NormGradIdeal.τ).loc Cert.NormGradIdeal.main_v2_4) = v4 c
          ∧ r.2.mem ((c.tc : Thread Cert.NormGradIdeal.nD Cert.NormGradIdeal.τ).loc Cert.NormGradIdeal.main_arg0) = m ((c.tc : Thread Cert.NormGradIdeal.nD Cert.NormGradIdeal.τ).loc Cert.NormGradIdeal.main_arg0)
          ∧ r.2.mem ((c.tc : Thread Cert.NormGradIdeal.nD Cert.NormGradIdeal.τ).loc Cert.NormGradIdeal.main_arg1) = m ((c.tc : Thread Cert.NormGradIdeal.nD Cert.NormGradIdeal.τ).loc Cert.NormGradIdeal.main_arg1)
          ∧ r.2.mem ((c.tc : Thread Cert.NormGradIdeal.nD Cert.NormGradIdeal.τ).loc Cert.NormGradIdeal.main_arg2) = m ((c.tc : Thread Cert.NormGradIdeal.nD Cert.NormGradIdeal.τ).loc Cert.NormGradIdeal.main_arg2)
          ∧ r.2.mem ((c.tc : Thread Cert.NormGradIdeal.nD Cert.NormGradIdeal.τ).loc Cert.NormGradIdeal.main_arg3) = m ((c.tc : Thread Cert.NormGradIdeal.nD Cert.NormGradIdeal.τ).loc Cert.NormGradIdeal.main_arg3)
          ∧ r.2.mem ((c.tc : Thread Cert.NormGradIdeal.nD Cert.NormGradIdeal.τ).loc Cert.NormGradIdeal.main_arg4) = m ((c.tc : Thread Cert.NormGradIdeal.nD Cert.NormGradIdeal.τ).loc Cert.NormGradIdeal.main_arg4)
          ∧ r.2.mem ((c.tc : Thread Cert.NormGradIdeal.nD Cert.NormGradIdeal.τ).loc Cert.NormGradIdeal.main_arg5) = m ((c.tc : Thread Cert.NormGradIdeal.nD Cert.NormGradIdeal.τ).loc Cert.NormGradIdeal.main_arg5)
          ∧ r.2.mem ((c.tc : Thread Cert.NormGradIdeal.nD Cert.NormGradIdeal.τ).loc Cert.NormGradIdeal.main_arg6) = m ((c.tc : Thread Cert.NormGradIdeal.nD Cert.NormGradIdeal.τ).loc Cert.NormGradIdeal.main_arg6)
          ∧ r.2.mem ((c.tc : Thread Cert.NormGradIdeal.nD Cert.NormGradIdeal.τ).loc Cert.NormGradIdeal.main_arg7) = m ((c.tc : Thread Cert.NormGradIdeal.nD Cert.NormGradIdeal.τ).loc Cert.NormGradIdeal.main_arg7))
      ∧ θ_run (Cert.NormGradRefIdeal.defs (F := Ideal)) (onTc (τ := Cert.NormGradRefIdeal.τ) (Cert.NormGradRefIdeal.main (F := Ideal))) ⟨m', fun _ => 0, g'⟩ (fun r => ∀ c : Dev Cert.NormGradRefIdeal.nD,
          r.2.mem ((c.tc : Thread Cert.NormGradRefIdeal.nD Cert.NormGradRefIdeal.τ).loc Cert.NormGradRefIdeal.main_v5) = v0 c
          ∧ r.2.mem ((c.tc : Thread Cert.NormGradRefIdeal.nD Cert.NormGradRefIdeal.τ).loc Cert.NormGradRefIdeal.main_v29) = v1 c
          ∧ r.2.mem ((c.tc : Thread Cert.NormGradRefIdeal.nD Cert.NormGradRefIdeal.τ).loc Cert.NormGradRefIdeal.main_v34) = v2 c
          ∧ r.2.mem ((c.tc : Thread Cert.NormGradRefIdeal.nD Cert.NormGradRefIdeal.τ).loc Cert.NormGradRefIdeal.main_v20) = v3 c
          ∧ r.2.mem ((c.tc : Thread Cert.NormGradRefIdeal.nD Cert.NormGradRefIdeal.τ).loc Cert.NormGradRefIdeal.main_v27) = v4 c
          ∧ r.2.mem ((c.tc : Thread Cert.NormGradRefIdeal.nD Cert.NormGradRefIdeal.τ).loc Cert.NormGradRefIdeal.main_arg0) = m' ((c.tc : Thread Cert.NormGradRefIdeal.nD Cert.NormGradRefIdeal.τ).loc Cert.NormGradRefIdeal.main_arg0)
          ∧ r.2.mem ((c.tc : Thread Cert.NormGradRefIdeal.nD Cert.NormGradRefIdeal.τ).loc Cert.NormGradRefIdeal.main_arg1) = m' ((c.tc : Thread Cert.NormGradRefIdeal.nD Cert.NormGradRefIdeal.τ).loc Cert.NormGradRefIdeal.main_arg1)
          ∧ r.2.mem ((c.tc : Thread Cert.NormGradRefIdeal.nD Cert.NormGradRefIdeal.τ).loc Cert.NormGradRefIdeal.main_arg2) = m' ((c.tc : Thread Cert.NormGradRefIdeal.nD Cert.NormGradRefIdeal.τ).loc Cert.NormGradRefIdeal.main_arg2)
          ∧ r.2.mem ((c.tc : Thread Cert.NormGradRefIdeal.nD Cert.NormGradRefIdeal.τ).loc Cert.NormGradRefIdeal.main_arg3) = m' ((c.tc : Thread Cert.NormGradRefIdeal.nD Cert.NormGradRefIdeal.τ).loc Cert.NormGradRefIdeal.main_arg3)
          ∧ r.2.mem ((c.tc : Thread Cert.NormGradRefIdeal.nD Cert.NormGradRefIdeal.τ).loc Cert.NormGradRefIdeal.main_arg4) = m' ((c.tc : Thread Cert.NormGradRefIdeal.nD Cert.NormGradRefIdeal.τ).loc Cert.NormGradRefIdeal.main_arg4)
          ∧ r.2.mem ((c.tc : Thread Cert.NormGradRefIdeal.nD Cert.NormGradRefIdeal.τ).loc Cert.NormGradRefIdeal.main_arg5) = m' ((c.tc : Thread Cert.NormGradRefIdeal.nD Cert.NormGradRefIdeal.τ).loc Cert.NormGradRefIdeal.main_arg5)
          ∧ r.2.mem ((c.tc : Thread Cert.NormGradRefIdeal.nD Cert.NormGradRefIdeal.τ).loc Cert.NormGradRefIdeal.main_arg6) = m' ((c.tc : Thread Cert.NormGradRefIdeal.nD Cert.NormGradRefIdeal.τ).loc Cert.NormGradRefIdeal.main_arg6)
          ∧ r.2.mem ((c.tc : Thread Cert.NormGradRefIdeal.nD Cert.NormGradRefIdeal.τ).loc Cert.NormGradRefIdeal.main_arg7) = m' ((c.tc : Thread Cert.NormGradRefIdeal.nD Cert.NormGradRefIdeal.τ).loc Cert.NormGradRefIdeal.main_arg7))

def preserves_NormGradDown_NormGradDownIdeal : Prop :=
  True

def algebraic_NormGradDownIdeal_NormGradDownRefIdeal [hNormGradDownIdeal : Cert.NormGradDownIdeal.Facts] [hNormGradDownRefIdeal : Cert.NormGradDownRefIdeal.Facts] : Prop :=
  ∀ (m : (ℓ : Loc Cert.NormGradDownIdeal.nD Cert.NormGradDownIdeal.τ Cert.NormGradDownIdeal.sig) → Buf (Elt Ideal) ℓ) (g : Dev Cert.NormGradDownIdeal.nD → PrngReg)
    (m' : (ℓ : Loc Cert.NormGradDownRefIdeal.nD Cert.NormGradDownRefIdeal.τ Cert.NormGradDownRefIdeal.sig) → Buf (Elt Ideal) ℓ) (g' : Dev Cert.NormGradDownRefIdeal.nD → PrngReg), Pre_NormGradDownIdeal m →
    (∀ c : Dev Cert.NormGradDownIdeal.nD,
      m' ((c.tc : Thread Cert.NormGradDownRefIdeal.nD Cert.NormGradDownRefIdeal.τ).loc Cert.NormGradDownRefIdeal.main_arg0) = m ((c.tc : Thread Cert.NormGradDownIdeal.nD Cert.NormGradDownIdeal.τ).loc Cert.NormGradDownIdeal.main_arg0)
      ∧ m' ((c.tc : Thread Cert.NormGradDownRefIdeal.nD Cert.NormGradDownRefIdeal.τ).loc Cert.NormGradDownRefIdeal.main_arg1) = m ((c.tc : Thread Cert.NormGradDownIdeal.nD Cert.NormGradDownIdeal.τ).loc Cert.NormGradDownIdeal.main_arg1)
      ∧ m' ((c.tc : Thread Cert.NormGradDownRefIdeal.nD Cert.NormGradDownRefIdeal.τ).loc Cert.NormGradDownRefIdeal.main_arg2) = m ((c.tc : Thread Cert.NormGradDownIdeal.nD Cert.NormGradDownIdeal.τ).loc Cert.NormGradDownIdeal.main_arg2)
      ∧ m' ((c.tc : Thread Cert.NormGradDownRefIdeal.nD Cert.NormGradDownRefIdeal.τ).loc Cert.NormGradDownRefIdeal.main_arg3) = m ((c.tc : Thread Cert.NormGradDownIdeal.nD Cert.NormGradDownIdeal.τ).loc Cert.NormGradDownIdeal.main_arg3)
      ∧ m' ((c.tc : Thread Cert.NormGradDownRefIdeal.nD Cert.NormGradDownRefIdeal.τ).loc Cert.NormGradDownRefIdeal.main_arg4) = m ((c.tc : Thread Cert.NormGradDownIdeal.nD Cert.NormGradDownIdeal.τ).loc Cert.NormGradDownIdeal.main_arg4)
      ∧ m' ((c.tc : Thread Cert.NormGradDownRefIdeal.nD Cert.NormGradDownRefIdeal.τ).loc Cert.NormGradDownRefIdeal.main_arg5) = m ((c.tc : Thread Cert.NormGradDownIdeal.nD Cert.NormGradDownIdeal.τ).loc Cert.NormGradDownIdeal.main_arg5)
      ∧ m' ((c.tc : Thread Cert.NormGradDownRefIdeal.nD Cert.NormGradDownRefIdeal.τ).loc Cert.NormGradDownRefIdeal.main_arg6) = m ((c.tc : Thread Cert.NormGradDownIdeal.nD Cert.NormGradDownIdeal.τ).loc Cert.NormGradDownIdeal.main_arg6)
      ∧ m' ((c.tc : Thread Cert.NormGradDownRefIdeal.nD Cert.NormGradDownRefIdeal.τ).loc Cert.NormGradDownRefIdeal.main_arg7) = m ((c.tc : Thread Cert.NormGradDownIdeal.nD Cert.NormGradDownIdeal.τ).loc Cert.NormGradDownIdeal.main_arg7)) →
    ∃ (v0 : (c : Dev Cert.NormGradDownIdeal.nD) → Buf (Elt Ideal) ((c.tc : Thread Cert.NormGradDownIdeal.nD Cert.NormGradDownIdeal.τ).loc Cert.NormGradDownIdeal.main_v2_0)) (v1 : (c : Dev Cert.NormGradDownIdeal.nD) → Buf (Elt Ideal) ((c.tc : Thread Cert.NormGradDownIdeal.nD Cert.NormGradDownIdeal.τ).loc Cert.NormGradDownIdeal.main_v2_1)) (v2 : (c : Dev Cert.NormGradDownIdeal.nD) → Buf (Elt Ideal) ((c.tc : Thread Cert.NormGradDownIdeal.nD Cert.NormGradDownIdeal.τ).loc Cert.NormGradDownIdeal.main_v2_2)) (v3 : (c : Dev Cert.NormGradDownIdeal.nD) → Buf (Elt Ideal) ((c.tc : Thread Cert.NormGradDownIdeal.nD Cert.NormGradDownIdeal.τ).loc Cert.NormGradDownIdeal.main_v2_3)) (v4 : (c : Dev Cert.NormGradDownIdeal.nD) → Buf (Elt Ideal) ((c.tc : Thread Cert.NormGradDownIdeal.nD Cert.NormGradDownIdeal.τ).loc Cert.NormGradDownIdeal.main_v2_4)),
      θ_run (Cert.NormGradDownIdeal.defs (F := Ideal)) (onTc (τ := Cert.NormGradDownIdeal.τ) (Cert.NormGradDownIdeal.main (F := Ideal))) ⟨m, fun _ => 0, g⟩ (fun r => ∀ c : Dev Cert.NormGradDownIdeal.nD,
          r.2.mem ((c.tc : Thread Cert.NormGradDownIdeal.nD Cert.NormGradDownIdeal.τ).loc Cert.NormGradDownIdeal.main_v2_0) = v0 c
          ∧ r.2.mem ((c.tc : Thread Cert.NormGradDownIdeal.nD Cert.NormGradDownIdeal.τ).loc Cert.NormGradDownIdeal.main_v2_1) = v1 c
          ∧ r.2.mem ((c.tc : Thread Cert.NormGradDownIdeal.nD Cert.NormGradDownIdeal.τ).loc Cert.NormGradDownIdeal.main_v2_2) = v2 c
          ∧ r.2.mem ((c.tc : Thread Cert.NormGradDownIdeal.nD Cert.NormGradDownIdeal.τ).loc Cert.NormGradDownIdeal.main_v2_3) = v3 c
          ∧ r.2.mem ((c.tc : Thread Cert.NormGradDownIdeal.nD Cert.NormGradDownIdeal.τ).loc Cert.NormGradDownIdeal.main_v2_4) = v4 c
          ∧ r.2.mem ((c.tc : Thread Cert.NormGradDownIdeal.nD Cert.NormGradDownIdeal.τ).loc Cert.NormGradDownIdeal.main_arg0) = m ((c.tc : Thread Cert.NormGradDownIdeal.nD Cert.NormGradDownIdeal.τ).loc Cert.NormGradDownIdeal.main_arg0)
          ∧ r.2.mem ((c.tc : Thread Cert.NormGradDownIdeal.nD Cert.NormGradDownIdeal.τ).loc Cert.NormGradDownIdeal.main_arg1) = m ((c.tc : Thread Cert.NormGradDownIdeal.nD Cert.NormGradDownIdeal.τ).loc Cert.NormGradDownIdeal.main_arg1)
          ∧ r.2.mem ((c.tc : Thread Cert.NormGradDownIdeal.nD Cert.NormGradDownIdeal.τ).loc Cert.NormGradDownIdeal.main_arg2) = m ((c.tc : Thread Cert.NormGradDownIdeal.nD Cert.NormGradDownIdeal.τ).loc Cert.NormGradDownIdeal.main_arg2)
          ∧ r.2.mem ((c.tc : Thread Cert.NormGradDownIdeal.nD Cert.NormGradDownIdeal.τ).loc Cert.NormGradDownIdeal.main_arg3) = m ((c.tc : Thread Cert.NormGradDownIdeal.nD Cert.NormGradDownIdeal.τ).loc Cert.NormGradDownIdeal.main_arg3)
          ∧ r.2.mem ((c.tc : Thread Cert.NormGradDownIdeal.nD Cert.NormGradDownIdeal.τ).loc Cert.NormGradDownIdeal.main_arg4) = m ((c.tc : Thread Cert.NormGradDownIdeal.nD Cert.NormGradDownIdeal.τ).loc Cert.NormGradDownIdeal.main_arg4)
          ∧ r.2.mem ((c.tc : Thread Cert.NormGradDownIdeal.nD Cert.NormGradDownIdeal.τ).loc Cert.NormGradDownIdeal.main_arg5) = m ((c.tc : Thread Cert.NormGradDownIdeal.nD Cert.NormGradDownIdeal.τ).loc Cert.NormGradDownIdeal.main_arg5)
          ∧ r.2.mem ((c.tc : Thread Cert.NormGradDownIdeal.nD Cert.NormGradDownIdeal.τ).loc Cert.NormGradDownIdeal.main_arg6) = m ((c.tc : Thread Cert.NormGradDownIdeal.nD Cert.NormGradDownIdeal.τ).loc Cert.NormGradDownIdeal.main_arg6)
          ∧ r.2.mem ((c.tc : Thread Cert.NormGradDownIdeal.nD Cert.NormGradDownIdeal.τ).loc Cert.NormGradDownIdeal.main_arg7) = m ((c.tc : Thread Cert.NormGradDownIdeal.nD Cert.NormGradDownIdeal.τ).loc Cert.NormGradDownIdeal.main_arg7))
      ∧ θ_run (Cert.NormGradDownRefIdeal.defs (F := Ideal)) (onTc (τ := Cert.NormGradDownRefIdeal.τ) (Cert.NormGradDownRefIdeal.main (F := Ideal))) ⟨m', fun _ => 0, g'⟩ (fun r => ∀ c : Dev Cert.NormGradDownRefIdeal.nD,
          r.2.mem ((c.tc : Thread Cert.NormGradDownRefIdeal.nD Cert.NormGradDownRefIdeal.τ).loc Cert.NormGradDownRefIdeal.main_v5) = v0 c
          ∧ r.2.mem ((c.tc : Thread Cert.NormGradDownRefIdeal.nD Cert.NormGradDownRefIdeal.τ).loc Cert.NormGradDownRefIdeal.main_v29) = v1 c
          ∧ r.2.mem ((c.tc : Thread Cert.NormGradDownRefIdeal.nD Cert.NormGradDownRefIdeal.τ).loc Cert.NormGradDownRefIdeal.main_v34) = v2 c
          ∧ r.2.mem ((c.tc : Thread Cert.NormGradDownRefIdeal.nD Cert.NormGradDownRefIdeal.τ).loc Cert.NormGradDownRefIdeal.main_v20) = v3 c
          ∧ r.2.mem ((c.tc : Thread Cert.NormGradDownRefIdeal.nD Cert.NormGradDownRefIdeal.τ).loc Cert.NormGradDownRefIdeal.main_v27) = v4 c
          ∧ r.2.mem ((c.tc : Thread Cert.NormGradDownRefIdeal.nD Cert.NormGradDownRefIdeal.τ).loc Cert.NormGradDownRefIdeal.main_arg0) = m' ((c.tc : Thread Cert.NormGradDownRefIdeal.nD Cert.NormGradDownRefIdeal.τ).loc Cert.NormGradDownRefIdeal.main_arg0)
          ∧ r.2.mem ((c.tc : Thread Cert.NormGradDownRefIdeal.nD Cert.NormGradDownRefIdeal.τ).loc Cert.NormGradDownRefIdeal.main_arg1) = m' ((c.tc : Thread Cert.NormGradDownRefIdeal.nD Cert.NormGradDownRefIdeal.τ).loc Cert.NormGradDownRefIdeal.main_arg1)
          ∧ r.2.mem ((c.tc : Thread Cert.NormGradDownRefIdeal.nD Cert.NormGradDownRefIdeal.τ).loc Cert.NormGradDownRefIdeal.main_arg2) = m' ((c.tc : Thread Cert.NormGradDownRefIdeal.nD Cert.NormGradDownRefIdeal.τ).loc Cert.NormGradDownRefIdeal.main_arg2)
          ∧ r.2.mem ((c.tc : Thread Cert.NormGradDownRefIdeal.nD Cert.NormGradDownRefIdeal.τ).loc Cert.NormGradDownRefIdeal.main_arg3) = m' ((c.tc : Thread Cert.NormGradDownRefIdeal.nD Cert.NormGradDownRefIdeal.τ).loc Cert.NormGradDownRefIdeal.main_arg3)
          ∧ r.2.mem ((c.tc : Thread Cert.NormGradDownRefIdeal.nD Cert.NormGradDownRefIdeal.τ).loc Cert.NormGradDownRefIdeal.main_arg4) = m' ((c.tc : Thread Cert.NormGradDownRefIdeal.nD Cert.NormGradDownRefIdeal.τ).loc Cert.NormGradDownRefIdeal.main_arg4)
          ∧ r.2.mem ((c.tc : Thread Cert.NormGradDownRefIdeal.nD Cert.NormGradDownRefIdeal.τ).loc Cert.NormGradDownRefIdeal.main_arg5) = m' ((c.tc : Thread Cert.NormGradDownRefIdeal.nD Cert.NormGradDownRefIdeal.τ).loc Cert.NormGradDownRefIdeal.main_arg5)
          ∧ r.2.mem ((c.tc : Thread Cert.NormGradDownRefIdeal.nD Cert.NormGradDownRefIdeal.τ).loc Cert.NormGradDownRefIdeal.main_arg6) = m' ((c.tc : Thread Cert.NormGradDownRefIdeal.nD Cert.NormGradDownRefIdeal.τ).loc Cert.NormGradDownRefIdeal.main_arg6)
          ∧ r.2.mem ((c.tc : Thread Cert.NormGradDownRefIdeal.nD Cert.NormGradDownRefIdeal.τ).loc Cert.NormGradDownRefIdeal.main_arg7) = m' ((c.tc : Thread Cert.NormGradDownRefIdeal.nD Cert.NormGradDownRefIdeal.τ).loc Cert.NormGradDownRefIdeal.main_arg7))

def Claim : Prop :=
  ∃ (hFwd : Cert.Fwd.Facts) (hFwdIdeal : Cert.FwdIdeal.Facts) (hFwdRefIdeal : Cert.FwdRefIdeal.Facts) (hDownFwd : Cert.DownFwd.Facts) (hDownFwdIdeal : Cert.DownFwdIdeal.Facts) (hDownFwdRefIdeal : Cert.DownFwdRefIdeal.Facts) (hDx : Cert.Dx.Facts) (hDxIdeal : Cert.DxIdeal.Facts) (hDxRefIdeal : Cert.DxRefIdeal.Facts) (hDownBwd : Cert.DownBwd.Facts) (hDownBwdIdeal : Cert.DownBwdIdeal.Facts) (hDownBwdRefIdeal : Cert.DownBwdRefIdeal.Facts) (hNormGrad : Cert.NormGrad.Facts) (hNormGradIdeal : Cert.NormGradIdeal.Facts) (hNormGradRefIdeal : Cert.NormGradRefIdeal.Facts) (hNormGradDown : Cert.NormGradDown.Facts) (hNormGradDownIdeal : Cert.NormGradDownIdeal.Facts) (hNormGradDownRefIdeal : Cert.NormGradDownRefIdeal.Facts),
    quiescent_Fwd (hFwd := hFwd)
    ∧ quiescent_FwdIdeal (hFwdIdeal := hFwdIdeal)
    ∧ quiescent_FwdRefIdeal (hFwdRefIdeal := hFwdRefIdeal)
    ∧ quiescent_DownFwd (hDownFwd := hDownFwd)
    ∧ quiescent_DownFwdIdeal (hDownFwdIdeal := hDownFwdIdeal)
    ∧ quiescent_DownFwdRefIdeal (hDownFwdRefIdeal := hDownFwdRefIdeal)
    ∧ quiescent_Dx (hDx := hDx)
    ∧ quiescent_DxIdeal (hDxIdeal := hDxIdeal)
    ∧ quiescent_DxRefIdeal (hDxRefIdeal := hDxRefIdeal)
    ∧ quiescent_DownBwd (hDownBwd := hDownBwd)
    ∧ quiescent_DownBwdIdeal (hDownBwdIdeal := hDownBwdIdeal)
    ∧ quiescent_DownBwdRefIdeal (hDownBwdRefIdeal := hDownBwdRefIdeal)
    ∧ quiescent_NormGrad (hNormGrad := hNormGrad)
    ∧ quiescent_NormGradIdeal (hNormGradIdeal := hNormGradIdeal)
    ∧ quiescent_NormGradRefIdeal (hNormGradRefIdeal := hNormGradRefIdeal)
    ∧ quiescent_NormGradDown (hNormGradDown := hNormGradDown)
    ∧ quiescent_NormGradDownIdeal (hNormGradDownIdeal := hNormGradDownIdeal)
    ∧ quiescent_NormGradDownRefIdeal (hNormGradDownRefIdeal := hNormGradDownRefIdeal)
    ∧ preserves_Fwd_FwdIdeal
    ∧ algebraic_FwdIdeal_FwdRefIdeal (hFwdIdeal := hFwdIdeal) (hFwdRefIdeal := hFwdRefIdeal)
    ∧ preserves_DownFwd_DownFwdIdeal
    ∧ algebraic_DownFwdIdeal_DownFwdRefIdeal (hDownFwdIdeal := hDownFwdIdeal) (hDownFwdRefIdeal := hDownFwdRefIdeal)
    ∧ preserves_Dx_DxIdeal
    ∧ algebraic_DxIdeal_DxRefIdeal (hDxIdeal := hDxIdeal) (hDxRefIdeal := hDxRefIdeal)
    ∧ preserves_DownBwd_DownBwdIdeal
    ∧ algebraic_DownBwdIdeal_DownBwdRefIdeal (hDownBwdIdeal := hDownBwdIdeal) (hDownBwdRefIdeal := hDownBwdRefIdeal)
    ∧ preserves_NormGrad_NormGradIdeal
    ∧ algebraic_NormGradIdeal_NormGradRefIdeal (hNormGradIdeal := hNormGradIdeal) (hNormGradRefIdeal := hNormGradRefIdeal)
    ∧ preserves_NormGradDown_NormGradDownIdeal
    ∧ algebraic_NormGradDownIdeal_NormGradDownRefIdeal (hNormGradDownIdeal := hNormGradDownIdeal) (hNormGradDownRefIdeal := hNormGradDownRefIdeal)
-- ==== Fwd.lean ====
abbrev S6x2048x8192 : Shape := ⟨3, ![6, 2048, 8192]⟩
abbrev S8192 : Shape := ⟨1, ![8192]⟩
abbrev S64x8192 : Shape := ⟨2, ![64, 8192]⟩
abbrev S3584x8192 : Shape := ⟨2, ![3584, 8192]⟩
abbrev S3584x64 : Shape := ⟨2, ![3584, 64]⟩
abbrev S1x3584 : Shape := ⟨2, ![1, 3584]⟩
abbrev S12288x8192 : Shape := ⟨2, ![12288, 8192]⟩
abbrev S1x8192 : Shape := ⟨2, ![1, 8192]⟩
abbrev S_ : Shape := ⟨0, ![]⟩
abbrev S3584x256 : Shape := ⟨2, ![3584, 256]⟩
abbrev S12288x1 : Shape := ⟨2, ![12288, 1]⟩
abbrev S12288x256 : Shape := ⟨2, ![12288, 256]⟩
abbrev S512x8192 : Shape := ⟨2, ![512, 8192]⟩
abbrev S512x1 : Shape := ⟨2, ![512, 1]⟩
abbrev S512x256 : Shape := ⟨2, ![512, 256]⟩
abbrev S512 : Shape := ⟨1, ![512]⟩
abbrev S128x8192 : Shape := ⟨2, ![128, 8192]⟩
abbrev S512x128 : Shape := ⟨2, ![512, 128]⟩
abbrev S512x64 : Shape := ⟨2, ![512, 64]⟩
abbrev S12288x3584 : Shape := ⟨2, ![12288, 3584]⟩
abbrev S1024x8192 : Shape := ⟨2, ![1024, 8192]⟩
abbrev S1024x256 : Shape := ⟨2, ![1024, 256]⟩
abbrev S256x8192 : Shape := ⟨2, ![256, 8192]⟩
abbrev S256x256 : Shape := ⟨2, ![256, 256]⟩
abbrev S1x256 : Shape := ⟨2, ![1, 256]⟩
abbrev S1024x8448 : Shape := ⟨2, ![1024, 8448]⟩
abbrev S256x8448 : Shape := ⟨2, ![256, 8448]⟩

abbrev nBuf : Space → Nat
  | .hbm => 22
  | .vmem => 33
  | .smem => 0
  | _ => 0

abbrev bufTy : (tb : Table) → Fin (tcTables nBuf tb) → BufTy
  | .hbm, ⟨0, _⟩ => ⟨S6x2048x8192, .bf16⟩
  | .hbm, ⟨1, _⟩ => ⟨S8192, .f32⟩
  | .hbm, ⟨2, _⟩ => ⟨S64x8192, .bf16⟩
  | .hbm, ⟨3, _⟩ => ⟨S64x8192, .bf16⟩
  | .hbm, ⟨4, _⟩ => ⟨S3584x8192, .bf16⟩
  | .hbm, ⟨5, _⟩ => ⟨S3584x8192, .bf16⟩
  | .hbm, ⟨6, _⟩ => ⟨S3584x64, .bf16⟩
  | .hbm, ⟨7, _⟩ => ⟨S3584x64, .bf16⟩
  | .hbm, ⟨8, _⟩ => ⟨S1x3584, .f32⟩
  | .hbm, ⟨9, _⟩ => ⟨S1x3584, .f32⟩
  | .hbm, ⟨10, _⟩ => ⟨S12288x8192, .bf16⟩
  | .hbm, ⟨11, _⟩ => ⟨S1x8192, .f32⟩
  | .hbm, ⟨12, _⟩ => ⟨S_, .bf16⟩
  | .hbm, ⟨13, _⟩ => ⟨S3584x64, .bf16⟩
  | .hbm, ⟨14, _⟩ => ⟨S3584x256, .bf16⟩
  | .hbm, ⟨15, _⟩ => ⟨S3584x256, .bf16⟩
  | .hbm, ⟨16, _⟩ => ⟨S12288x8192, .bf16⟩
  | .hbm, ⟨17, _⟩ => ⟨S12288x1, .f32⟩
  | .hbm, ⟨18, _⟩ => ⟨S12288x256, .bf16⟩
  | .hbm, ⟨19, _⟩ => ⟨S12288x3584, .f32⟩
  | .hbm, ⟨20, _⟩ => ⟨S12288x3584, .f32⟩
  | .hbm, ⟨21, _⟩ => ⟨S12288x3584, .bf16⟩
  | .local _ .vmem, ⟨0, _⟩ => ⟨S512x8192, .bf16⟩
  | .local _ .vmem, ⟨1, _⟩ => ⟨S512x8192, .bf16⟩
  | .local _ .vmem, ⟨2, _⟩ => ⟨S1x8192, .f32⟩
  | .local _ .vmem, ⟨3, _⟩ => ⟨S64x8192, .bf16⟩
  | .local _ .vmem, ⟨4, _⟩ => ⟨S64x8192, .bf16⟩
  | .local _ .vmem, ⟨5, _⟩ => ⟨S512x8192, .bf16⟩
  | .local _ .vmem, ⟨6, _⟩ => ⟨S512x8192, .bf16⟩
  | .local _ .vmem, ⟨7, _⟩ => ⟨S512x1, .f32⟩
  | .local _ .vmem, ⟨8, _⟩ => ⟨S512x1, .f32⟩
  | .local _ .vmem, ⟨9, _⟩ => ⟨S512x256, .bf16⟩
  | .local _ .vmem, ⟨10, _⟩ => ⟨S512x256, .bf16⟩
  | .local _ .vmem, ⟨11, _⟩ => ⟨S1024x8192, .bf16⟩
  | .local _ .vmem, ⟨12, _⟩ => ⟨S1024x8192, .bf16⟩
  | .local _ .vmem, ⟨13, _⟩ => ⟨S1024x256, .bf16⟩
  | .local _ .vmem, ⟨14, _⟩ => ⟨S1024x256, .bf16⟩
  | .local _ .vmem, ⟨15, _⟩ => ⟨S256x8192, .bf16⟩
  | .local _ .vmem, ⟨16, _⟩ => ⟨S256x8192, .bf16⟩
  | .local _ .vmem, ⟨17, _⟩ => ⟨S256x8192, .bf16⟩
  | .local _ .vmem, ⟨18, _⟩ => ⟨S256x8192, .bf16⟩
  | .local _ .vmem, ⟨19, _⟩ => ⟨S256x256, .bf16⟩
  | .local _ .vmem, ⟨20, _⟩ => ⟨S256x256, .bf16⟩
  | .local _ .vmem, ⟨21, _⟩ => ⟨S256x256, .bf16⟩
  | .local _ .vmem, ⟨22, _⟩ => ⟨S256x256, .bf16⟩
  | .local _ .vmem, ⟨23, _⟩ => ⟨S1x256, .f32⟩
  | .local _ .vmem, ⟨24, _⟩ => ⟨S1x256, .f32⟩
  | .local _ .vmem, ⟨25, _⟩ => ⟨S1x256, .f32⟩
  | .local _ .vmem, ⟨26, _⟩ => ⟨S1x256, .f32⟩
  | .local _ .vmem, ⟨27, _⟩ => ⟨S1024x256, .f32⟩
  | .local _ .vmem, ⟨28, _⟩ => ⟨S1024x256, .f32⟩
  | .local _ .vmem, ⟨29, _⟩ => ⟨S1024x256, .f32⟩
  | .local _ .vmem, ⟨30, _⟩ => ⟨S1024x256, .f32⟩
  | .local _ .vmem, ⟨31, _⟩ => ⟨S1024x256, .bf16⟩
  | .local _ .vmem, ⟨32, _⟩ => ⟨S1024x256, .bf16⟩
  | _, _ => ⟨S6x2048x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5_0 : Ref sig .tc := ⟨.hbm, 16, rfl⟩
abbrev main_v5_1 : Ref sig .tc := ⟨.hbm, 17, rfl⟩
abbrev main_v5_2 : Ref sig .tc := ⟨.hbm, 18, rfl⟩
abbrev main_v6_0 : Ref sig .tc := ⟨.hbm, 19, rfl⟩
abbrev main_v6_1 : Ref sig .tc := ⟨.hbm, 20, rfl⟩
abbrev main_v6_2 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc1_stg4_0 : Ref sig .tc := ⟨.vmem, 19, rfl⟩
abbrev cc1_stg4_1 : Ref sig .tc := ⟨.vmem, 20, rfl⟩
abbrev cc1_stg5_0 : Ref sig .tc := ⟨.vmem, 21, rfl⟩
abbrev cc1_stg5_1 : Ref sig .tc := ⟨.vmem, 22, rfl⟩
abbrev cc1_stg6_0 : Ref sig .tc := ⟨.vmem, 23, rfl⟩
abbrev cc1_stg6_1 : Ref sig .tc := ⟨.vmem, 24, rfl⟩
abbrev cc1_stg7_0 : Ref sig .tc := ⟨.vmem, 25, rfl⟩
abbrev cc1_stg7_1 : Ref sig .tc := ⟨.vmem, 26, rfl⟩
abbrev cc1_stg8_0 : Ref sig .tc := ⟨.vmem, 27, rfl⟩
abbrev cc1_stg8_1 : Ref sig .tc := ⟨.vmem, 28, rfl⟩
abbrev cc1_stg9_0 : Ref sig .tc := ⟨.vmem, 29, rfl⟩
abbrev cc1_stg9_1 : Ref sig .tc := ⟨.vmem, 30, rfl⟩
abbrev cc1_stg10_0 : Ref sig .tc := ⟨.vmem, 31, rfl⟩
abbrev cc1_stg10_1 : Ref sig .tc := ⟨.vmem, 32, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem3_1 : DmaSem sig := 18
abbrev cc1_sem4_0 : DmaSem sig := 19
abbrev cc1_sem4_1 : DmaSem sig := 20
abbrev cc1_sem5_0 : DmaSem sig := 21
abbrev cc1_sem5_1 : DmaSem sig := 22
abbrev cc1_sem6_0 : DmaSem sig := 23
abbrev cc1_sem6_1 : DmaSem sig := 24
abbrev cc1_sem7_0 : DmaSem sig := 25
abbrev cc1_sem7_1 : DmaSem sig := 26
abbrev cc1_sem8_0 : DmaSem sig := 27
abbrev cc1_sem8_1 : DmaSem sig := 28
abbrev cc1_sem9_0 : DmaSem sig := 29
abbrev cc1_sem9_1 : DmaSem sig := 30
abbrev cc1_sem10_0 : DmaSem sig := 31
abbrev cc1_sem10_1 : DmaSem sig := 32

abbrev nD : Nat := 1
abbrev τ : Topo := Topo.v7x

variable {F : FTy → Type} [FloatOps F]

abbrev grid0 : Pipeline.Grid := ⟨1, ![24], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x8192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x8192 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x8192 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x8192 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨2, ![12, 14], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_9 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_10 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x8192 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S256x8192 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S256x8192 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S256x256 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![false, true]

abbrev stage1_5 : Fin 2 → Memref sig .tc .vmem S256x256 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![false, true]

abbrev stage1_6 : Fin 2 → Memref sig .tc .vmem S1x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![false, true]

abbrev stage1_7 : Fin 2 → Memref sig .tc .vmem S1x256 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![false, true]

abbrev stage1_8 : Fin 2 → Memref sig .tc .vmem S1024x256 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true]

abbrev stage1_9 : Fin 2 → Memref sig .tc .vmem S1024x256 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, true]

abbrev stage1_10 : Fin 2 → Memref sig .tc .vmem S1024x256 .bf16 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true, true]
-- ==== FwdRefIdeal.lean ====
abbrev S6x2048x8192 : Shape := ⟨3, ![6, 2048, 8192]⟩
abbrev S8192 : Shape := ⟨1, ![8192]⟩
abbrev S64x8192 : Shape := ⟨2, ![64, 8192]⟩
abbrev S3584x8192 : Shape := ⟨2, ![3584, 8192]⟩
abbrev S3584x64 : Shape := ⟨2, ![3584, 64]⟩
abbrev S1x3584 : Shape := ⟨2, ![1, 3584]⟩
abbrev S12288x8192 : Shape := ⟨2, ![12288, 8192]⟩
abbrev S_ : Shape := ⟨0, ![]⟩
abbrev S12288 : Shape := ⟨1, ![12288]⟩
abbrev S12288x1 : Shape := ⟨2, ![12288, 1]⟩
abbrev S1x8192 : Shape := ⟨2, ![1, 8192]⟩
abbrev S12288x64 : Shape := ⟨2, ![12288, 64]⟩
abbrev S12288x3584 : Shape := ⟨2, ![12288, 3584]⟩

abbrev nBuf : Space → Nat
  | .hbm => 63
  | .vmem => 0
  | .smem => 0
  | _ => 0

abbrev bufTy : (tb : Table) → Fin (tcTables nBuf tb) → BufTy
  | .hbm, ⟨0, _⟩ => ⟨S6x2048x8192, .bf16⟩
  | .hbm, ⟨1, _⟩ => ⟨S8192, .f32⟩
  | .hbm, ⟨2, _⟩ => ⟨S64x8192, .bf16⟩
  | .hbm, ⟨3, _⟩ => ⟨S64x8192, .bf16⟩
  | .hbm, ⟨4, _⟩ => ⟨S3584x8192, .bf16⟩
  | .hbm, ⟨5, _⟩ => ⟨S3584x8192, .bf16⟩
  | .hbm, ⟨6, _⟩ => ⟨S3584x64, .bf16⟩
  | .hbm, ⟨7, _⟩ => ⟨S3584x64, .bf16⟩
  | .hbm, ⟨8, _⟩ => ⟨S1x3584, .f32⟩
  | .hbm, ⟨9, _⟩ => ⟨S1x3584, .f32⟩
  | .hbm, ⟨10, _⟩ => ⟨S12288x8192, .bf16⟩
  | .hbm, ⟨11, _⟩ => ⟨S12288x8192, .f32⟩
  | .hbm, ⟨12, _⟩ => ⟨S12288x8192, .f32⟩
  | .hbm, ⟨13, _⟩ => ⟨S_, .f32⟩
  | .hbm, ⟨14, _⟩ => ⟨S12288, .f32⟩
  | .hbm, ⟨15, _⟩ => ⟨S12288x1, .f32⟩
  | .hbm, ⟨16, _⟩ => ⟨S_, .f32⟩
  | .hbm, ⟨17, _⟩ => ⟨S12288x1, .f32⟩
  | .hbm, ⟨18, _⟩ => ⟨S12288x1, .f32⟩
  | .hbm, ⟨19, _⟩ => ⟨S_, .f32⟩
  | .hbm, ⟨20, _⟩ => ⟨S12288x1, .f32⟩
  | .hbm, ⟨21, _⟩ => ⟨S12288x1, .f32⟩
  | .hbm, ⟨22, _⟩ => ⟨S12288x1, .f32⟩
  | .hbm, ⟨23, _⟩ => ⟨S_, .f32⟩
  | .hbm, ⟨24, _⟩ => ⟨S12288x1, .f32⟩
  | .hbm, ⟨25, _⟩ => ⟨S12288x1, .f32⟩
  | .hbm, ⟨26, _⟩ => ⟨S12288x8192, .f32⟩
  | .hbm, ⟨27, _⟩ => ⟨S12288x8192, .f32⟩
  | .hbm, ⟨28, _⟩ => ⟨S1x8192, .f32⟩
  | .hbm, ⟨29, _⟩ => ⟨S12288x8192, .f32⟩
  | .hbm, ⟨30, _⟩ => ⟨S12288x8192, .f32⟩
  | .hbm, ⟨31, _⟩ => ⟨S12288x8192, .bf16⟩
  | .hbm, ⟨32, _⟩ => ⟨S12288x64, .f32⟩
  | .hbm, ⟨33, _⟩ => ⟨S12288x64, .bf16⟩
  | .hbm, ⟨34, _⟩ => ⟨S12288x3584, .f32⟩
  | .hbm, ⟨35, _⟩ => ⟨S12288x3584, .f32⟩
  | .hbm, ⟨36, _⟩ => ⟨S_, .f32⟩
  | .hbm, ⟨37, _⟩ => ⟨S12288x3584, .f32⟩
  | .hbm, ⟨38, _⟩ => ⟨S12288x3584, .f32⟩
  | .hbm, ⟨39, _⟩ => ⟨S12288x3584, .f32⟩
  | .hbm, ⟨40, _⟩ => ⟨S12288x3584, .f32⟩
  | .hbm, ⟨41, _⟩ => ⟨S12288x3584, .f32⟩
  | .hbm, ⟨42, _⟩ => ⟨S12288x64, .f32⟩
  | .hbm, ⟨43, _⟩ => ⟨S12288x64, .bf16⟩
  | .hbm, ⟨44, _⟩ => ⟨S12288x3584, .f32⟩
  | .hbm, ⟨45, _⟩ => ⟨S12288x3584, .f32⟩
  | .hbm, ⟨46, _⟩ => ⟨S_, .f32⟩
  | .hbm, ⟨47, _⟩ => ⟨S12288x3584, .f32⟩
  | .hbm, ⟨48, _⟩ => ⟨S12288x3584, .f32⟩
  | .hbm, ⟨49, _⟩ => ⟨S12288x3584, .f32⟩
  | .hbm, ⟨50, _⟩ => ⟨S12288x3584, .f32⟩
  | .hbm, ⟨51, _⟩ => ⟨S12288x3584, .f32⟩
  | .hbm, ⟨52, _⟩ => ⟨S12288x3584, .f32⟩
  | .hbm, ⟨53, _⟩ => ⟨S12288x3584, .f32⟩
  | .hbm, ⟨54, _⟩ => ⟨S_, .f32⟩
  | .hbm, ⟨55, _⟩ => ⟨S12288x3584, .f32⟩
  | .hbm, ⟨56, _⟩ => ⟨S12288x3584, .f32⟩
  | .hbm, ⟨57, _⟩ => ⟨S_, .f32⟩
  | .hbm, ⟨58, _⟩ => ⟨S12288x3584, .f32⟩
  | .hbm, ⟨59, _⟩ => ⟨S12288x3584, .f32⟩
  | .hbm, ⟨60, _⟩ => ⟨S12288x3584, .f32⟩
  | .hbm, ⟨61, _⟩ => ⟨S12288x3584, .f32⟩
  | .hbm, ⟨62, _⟩ => ⟨S12288x3584, .bf16⟩
  | _, _ => ⟨S6x2048x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_cst_1 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_3 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_4 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_5 : Ref sig .tc := ⟨.hbm, 54, rfl⟩
abbrev main_v38 : Ref sig .tc := ⟨.hbm, 55, rfl⟩
abbrev main_v39 : Ref sig .tc := ⟨.hbm, 56, rfl⟩
abbrev main_cst_6 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩

abbrev nD : Nat := 1
abbrev τ : Topo := Topo.v7x

variable {F : FTy → Type} [FloatOps F]
-- ==== DownFwd.lean ====
abbrev S12288x3584 : Shape := ⟨2, ![12288, 3584]⟩
abbrev S12288x8192 : Shape := ⟨2, ![12288, 8192]⟩
abbrev S8192x3584 : Shape := ⟨2, ![8192, 3584]⟩
abbrev S8192x64 : Shape := ⟨2, ![8192, 64]⟩
abbrev S64x3584 : Shape := ⟨2, ![64, 3584]⟩
abbrev S1x8192 : Shape := ⟨2, ![1, 8192]⟩
abbrev S8192x128 : Shape := ⟨2, ![8192, 128]⟩
abbrev S12288x64 : Shape := ⟨2, ![12288, 64]⟩
abbrev S8x8192 : Shape := ⟨2, ![8, 8192]⟩
abbrev S64x8192 : Shape := ⟨2, ![64, 8192]⟩
abbrev S1024x3584 : Shape := ⟨2, ![1024, 3584]⟩
abbrev S1024x512 : Shape := ⟨2, ![1024, 512]⟩
abbrev S512x3584 : Shape := ⟨2, ![512, 3584]⟩
abbrev S512x128 : Shape := ⟨2, ![512, 128]⟩
abbrev S512x64 : Shape := ⟨2, ![512, 64]⟩
abbrev S1x512 : Shape := ⟨2, ![1, 512]⟩
abbrev S1024x64 : Shape := ⟨2, ![1024, 64]⟩
abbrev S1024x128 : Shape := ⟨2, ![1024, 128]⟩
abbrev S1024x3712 : Shape := ⟨2, ![1024, 3712]⟩
abbrev S512x3712 : Shape := ⟨2, ![512, 3712]⟩
abbrev S8x512 : Shape := ⟨2, ![8, 512]⟩
abbrev S128x8x512 : Shape := ⟨3, ![128, 8, 512]⟩
abbrev S64x512 : Shape := ⟨2, ![64, 512]⟩

abbrev nBuf : Space → Nat
  | .hbm => 13
  | .vmem => 25
  | .smem => 0
  | _ => 0

abbrev bufTy : (tb : Table) → Fin (tcTables nBuf tb) → BufTy
  | .hbm, ⟨0, _⟩ => ⟨S12288x3584, .bf16⟩
  | .hbm, ⟨1, _⟩ => ⟨S12288x8192, .bf16⟩
  | .hbm, ⟨2, _⟩ => ⟨S12288x8192, .bf16⟩
  | .hbm, ⟨3, _⟩ => ⟨S8192x3584, .bf16⟩
  | .hbm, ⟨4, _⟩ => ⟨S8192x64, .bf16⟩
  | .hbm, ⟨5, _⟩ => ⟨S64x3584, .bf16⟩
  | .hbm, ⟨6, _⟩ => ⟨S1x8192, .f32⟩
  | .hbm, ⟨7, _⟩ => ⟨S8192x128, .bf16⟩
  | .hbm, ⟨8, _⟩ => ⟨S12288x8192, .bf16⟩
  | .hbm, ⟨9, _⟩ => ⟨S12288x8192, .bf16⟩
  | .hbm, ⟨10, _⟩ => ⟨S12288x64, .bf16⟩
  | .hbm, ⟨11, _⟩ => ⟨S8x8192, .f32⟩
  | .hbm, ⟨12, _⟩ => ⟨S64x8192, .f32⟩
  | .local _ .vmem, ⟨0, _⟩ => ⟨S1024x3584, .bf16⟩
  | .local _ .vmem, ⟨1, _⟩ => ⟨S1024x3584, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S512x3584, .bf16⟩
  | .local _ .vmem, ⟨7, _⟩ => ⟨S512x3584, .bf16⟩
  | .local _ .vmem, ⟨8, _⟩ => ⟨S512x128, .bf16⟩
  | .local _ .vmem, ⟨9, _⟩ => ⟨S512x128, .bf16⟩
  | .local _ .vmem, ⟨10, _⟩ => ⟨S512x64, .bf16⟩
  | .local _ .vmem, ⟨11, _⟩ => ⟨S512x64, .bf16⟩
  | .local _ .vmem, ⟨12, _⟩ => ⟨S64x3584, .bf16⟩
  | .local _ .vmem, ⟨13, _⟩ => ⟨S1x512, .f32⟩
  | .local _ .vmem, ⟨14, _⟩ => ⟨S1x512, .f32⟩
  | .local _ .vmem, ⟨15, _⟩ => ⟨S1024x512, .bf16⟩
  | .local _ .vmem, ⟨16, _⟩ => ⟨S1024x512, .bf16⟩
  | .local _ .vmem, ⟨17, _⟩ => ⟨S1024x512, .bf16⟩
  | .local _ .vmem, ⟨18, _⟩ => ⟨S1024x512, .bf16⟩
  | .local _ .vmem, ⟨19, _⟩ => ⟨S1024x64, .bf16⟩
  | .local _ .vmem, ⟨20, _⟩ => ⟨S1024x64, .bf16⟩
  | .local _ .vmem, ⟨21, _⟩ => ⟨S8x8192, .f32⟩
  | .local _ .vmem, ⟨22, _⟩ => ⟨S64x8192, .f32⟩
  | .local _ .vmem, ⟨23, _⟩ => ⟨S1024x128, .bf16⟩
  | .local _ .vmem, ⟨24, _⟩ => ⟨S1024x64, .f32⟩
  | _, _ => ⟨S12288x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev main_v1_2 : Ref sig .tc := ⟨.hbm, 10, rfl⟩
abbrev main_v1_3 : Ref sig .tc := ⟨.hbm, 11, rfl⟩
abbrev main_v1_4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg12_0 : Ref sig .tc := ⟨.vmem, 22, rfl⟩
abbrev cc0_scratch0 : Ref sig .tc := ⟨.vmem, 23, rfl⟩
abbrev cc0_scratch1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem12_0 : DmaSem sig := 22

abbrev nD : Nat := 1
abbrev τ : Topo := Topo.v7x

variable {F : FTy → Type} [FloatOps F]

abbrev grid0 : Pipeline.Grid := ⟨2, ![12, 16], ![false, false]⟩

def k0_mult1 (i : grid0.Coords) : BitVec 32 :=
  let arg1 : BitVec 32 := BitVec.ofNat 32 (i 1).val
  let c512_i32 : BitVec 32 := 512#32
  let v0 : BitVec 32 := Scalar.muli arg1 c512_i32
  v0
def k0_off1 (i : grid0.Coords) : Fin 2 → Nat :=
  let c0_19 : Index := 0#32
  let arg1 : BitVec 32 := BitVec.ofNat 32 (i 1).val
  let c512_i32 : BitVec 32 := 512#32
  let v0 : BitVec 32 := Scalar.muli arg1 c512_i32
  let v1 : BitVec 32 := v0
  let v28 : Index := Scalar.indexCast v1
  ![0, v28.toNat]
def k0_off2 (i : grid0.Coords) : Fin 2 → Nat :=
  let c0_31 : Index := 0#32
  let arg1 : BitVec 32 := BitVec.ofNat 32 (i 1).val
  let c512_i32 : BitVec 32 := 512#32
  let v0 : BitVec 32 := Scalar.muli arg1 c512_i32
  let v1 : BitVec 32 := v0
  let v48 : Index := Scalar.indexCast v1
  ![0, v48.toNat]
def k0_cond3 (i : grid0.Coords) : BitVec 1 :=
  let arg1 : BitVec 32 := BitVec.ofNat 32 (i 1).val
  let c15_i32 : BitVec 32 := 15#32
  let v56 : BitVec 1 := Scalar.cmpi .eq arg1 c15_i32
  let v57 : BitVec 32 := Scalar.extui v56
  let c0_i32_36 : BitVec 32 := 0#32
  let v58 : BitVec 1 := Scalar.cmpi .ne v57 c0_i32_36
  v58

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x3584 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x3584 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x64 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S64x3584 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1024x64 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 1 → Memref sig .tc .vmem S8x8192 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S64x8192 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]
-- ==== DownFwdRefIdeal.lean ====
abbrev S12288x3584 : Shape := ⟨2, ![12288, 3584]⟩
abbrev S12288x8192 : Shape := ⟨2, ![12288, 8192]⟩
abbrev S8192x3584 : Shape := ⟨2, ![8192, 3584]⟩
abbrev S8192x64 : Shape := ⟨2, ![8192, 64]⟩
abbrev S64x3584 : Shape := ⟨2, ![64, 3584]⟩
abbrev S1x8192 : Shape := ⟨2, ![1, 8192]⟩
abbrev S12288x64 : Shape := ⟨2, ![12288, 64]⟩
abbrev S_ : Shape := ⟨0, ![]⟩

abbrev nBuf : Space → Nat
  | .hbm => 29
  | .vmem => 0
  | .smem => 0
  | _ => 0

abbrev bufTy : (tb : Table) → Fin (tcTables nBuf tb) → BufTy
  | .hbm, ⟨0, _⟩ => ⟨S12288x3584, .bf16⟩
  | .hbm, ⟨1, _⟩ => ⟨S12288x8192, .bf16⟩
  | .hbm, ⟨2, _⟩ => ⟨S12288x8192, .bf16⟩
  | .hbm, ⟨3, _⟩ => ⟨S8192x3584, .bf16⟩
  | .hbm, ⟨4, _⟩ => ⟨S8192x64, .bf16⟩
  | .hbm, ⟨5, _⟩ => ⟨S64x3584, .bf16⟩
  | .hbm, ⟨6, _⟩ => ⟨S1x8192, .f32⟩
  | .hbm, ⟨7, _⟩ => ⟨S12288x64, .f32⟩
  | .hbm, ⟨8, _⟩ => ⟨S12288x64, .bf16⟩
  | .hbm, ⟨9, _⟩ => ⟨S12288x8192, .f32⟩
  | .hbm, ⟨10, _⟩ => ⟨S12288x8192, .f32⟩
  | .hbm, ⟨11, _⟩ => ⟨S_, .f32⟩
  | .hbm, ⟨12, _⟩ => ⟨S12288x8192, .f32⟩
  | .hbm, ⟨13, _⟩ => ⟨S12288x8192, .f32⟩
  | .hbm, ⟨14, _⟩ => ⟨S12288x8192, .f32⟩
  | .hbm, ⟨15, _⟩ => ⟨S12288x8192, .f32⟩
  | .hbm, ⟨16, _⟩ => ⟨S12288x8192, .f32⟩
  | .hbm, ⟨17, _⟩ => ⟨S12288x8192, .f32⟩
  | .hbm, ⟨18, _⟩ => ⟨S12288x8192, .f32⟩
  | .hbm, ⟨19, _⟩ => ⟨S12288x8192, .bf16⟩
  | .hbm, ⟨20, _⟩ => ⟨S12288x8192, .f32⟩
  | .hbm, ⟨21, _⟩ => ⟨S12288x8192, .f32⟩
  | .hbm, ⟨22, _⟩ => ⟨S12288x8192, .f32⟩
  | .hbm, ⟨23, _⟩ => ⟨S12288x8192, .bf16⟩
  | .hbm, ⟨24, _⟩ => ⟨S12288x64, .f32⟩
  | .hbm, ⟨25, _⟩ => ⟨S_, .f32⟩
  | .hbm, ⟨26, _⟩ => ⟨S12288x64, .f32⟩
  | .hbm, ⟨27, _⟩ => ⟨S12288x64, .f32⟩
  | .hbm, ⟨28, _⟩ => ⟨S12288x64, .bf16⟩
  | _, _ => ⟨S12288x3584, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_0 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩

abbrev nD : Nat := 1
abbrev τ : Topo := Topo.v7x

variable {F : FTy → Type} [FloatOps F]
-- ==== Dx.lean ====
abbrev S12288x3584 : Shape := ⟨2, ![12288, 3584]⟩
abbrev S12288x128 : Shape := ⟨2, ![12288, 128]⟩
abbrev S3584x8192 : Shape := ⟨2, ![3584, 8192]⟩
abbrev S64x8192 : Shape := ⟨2, ![64, 8192]⟩
abbrev S12288x8192 : Shape := ⟨2, ![12288, 8192]⟩
abbrev S12288x1 : Shape := ⟨2, ![12288, 1]⟩
abbrev S1x8192 : Shape := ⟨2, ![1, 8192]⟩
abbrev S64x3584 : Shape := ⟨2, ![64, 3584]⟩
abbrev S1024x3584 : Shape := ⟨2, ![1024, 3584]⟩
abbrev S1024x128 : Shape := ⟨2, ![1024, 128]⟩
abbrev S3584x256 : Shape := ⟨2, ![3584, 256]⟩
abbrev S64x256 : Shape := ⟨2, ![64, 256]⟩
abbrev S1024x256 : Shape := ⟨2, ![1024, 256]⟩
abbrev S1024x1 : Shape := ⟨2, ![1024, 1]⟩
abbrev S1x256 : Shape := ⟨2, ![1, 256]⟩
abbrev S1024x7296 : Shape := ⟨2, ![1024, 7296]⟩
abbrev S7296x256 : Shape := ⟨2, ![7296, 256]⟩
abbrev S128x256 : Shape := ⟨2, ![128, 256]⟩

abbrev nBuf : Space → Nat
  | .hbm => 21
  | .vmem => 36
  | .smem => 0
  | _ => 0

abbrev bufTy : (tb : Table) → Fin (tcTables nBuf tb) → BufTy
  | .hbm, ⟨0, _⟩ => ⟨S12288x3584, .bf16⟩
  | .hbm, ⟨1, _⟩ => ⟨S12288x3584, .bf16⟩
  | .hbm, ⟨2, _⟩ => ⟨S12288x128, .bf16⟩
  | .hbm, ⟨3, _⟩ => ⟨S3584x8192, .bf16⟩
  | .hbm, ⟨4, _⟩ => ⟨S3584x8192, .bf16⟩
  | .hbm, ⟨5, _⟩ => ⟨S64x8192, .bf16⟩
  | .hbm, ⟨6, _⟩ => ⟨S64x8192, .bf16⟩
  | .hbm, ⟨7, _⟩ => ⟨S12288x8192, .bf16⟩
  | .hbm, ⟨8, _⟩ => ⟨S12288x8192, .bf16⟩
  | .hbm, ⟨9, _⟩ => ⟨S12288x1, .f32⟩
  | .hbm, ⟨10, _⟩ => ⟨S12288x1, .f32⟩
  | .hbm, ⟨11, _⟩ => ⟨S1x8192, .f32⟩
  | .hbm, ⟨12, _⟩ => ⟨S64x3584, .bf16⟩
  | .hbm, ⟨13, _⟩ => ⟨S64x3584, .bf16⟩
  | .hbm, ⟨14, _⟩ => ⟨S64x8192, .f32⟩
  | .hbm, ⟨15, _⟩ => ⟨S64x8192, .f32⟩
  | .hbm, ⟨16, _⟩ => ⟨S12288x8192, .bf16⟩
  | .hbm, ⟨17, _⟩ => ⟨S64x8192, .f32⟩
  | .hbm, ⟨18, _⟩ => ⟨S64x8192, .f32⟩
  | .hbm, ⟨19, _⟩ => ⟨S64x8192, .f32⟩
  | .hbm, ⟨20, _⟩ => ⟨S64x8192, .f32⟩
  | .local _ .vmem, ⟨0, _⟩ => ⟨S1024x3584, .bf16⟩
  | .local _ .vmem, ⟨1, _⟩ => ⟨S1024x3584, .bf16⟩
  | .local _ .vmem, ⟨2, _⟩ => ⟨S1024x3584, .bf16⟩
  | .local _ .vmem, ⟨3, _⟩ => ⟨S1024x3584, .bf16⟩
  | .local _ .vmem, ⟨4, _⟩ => ⟨S1024x128, .bf16⟩
  | .local _ .vmem, ⟨5, _⟩ => ⟨S1024x128, .bf16⟩
  | .local _ .vmem, ⟨6, _⟩ => ⟨S3584x256, .bf16⟩
  | .local _ .vmem, ⟨7, _⟩ => ⟨S3584x256, .bf16⟩
  | .local _ .vmem, ⟨8, _⟩ => ⟨S3584x256, .bf16⟩
  | .local _ .vmem, ⟨9, _⟩ => ⟨S3584x256, .bf16⟩
  | .local _ .vmem, ⟨10, _⟩ => ⟨S64x256, .bf16⟩
  | .local _ .vmem, ⟨11, _⟩ => ⟨S64x256, .bf16⟩
  | .local _ .vmem, ⟨12, _⟩ => ⟨S64x256, .bf16⟩
  | .local _ .vmem, ⟨13, _⟩ => ⟨S64x256, .bf16⟩
  | .local _ .vmem, ⟨14, _⟩ => ⟨S1024x256, .bf16⟩
  | .local _ .vmem, ⟨15, _⟩ => ⟨S1024x256, .bf16⟩
  | .local _ .vmem, ⟨16, _⟩ => ⟨S1024x256, .bf16⟩
  | .local _ .vmem, ⟨17, _⟩ => ⟨S1024x256, .bf16⟩
  | .local _ .vmem, ⟨18, _⟩ => ⟨S1024x1, .f32⟩
  | .local _ .vmem, ⟨19, _⟩ => ⟨S1024x1, .f32⟩
  | .local _ .vmem, ⟨20, _⟩ => ⟨S1024x1, .f32⟩
  | .local _ .vmem, ⟨21, _⟩ => ⟨S1024x1, .f32⟩
  | .local _ .vmem, ⟨22, _⟩ => ⟨S1x256, .f32⟩
  | .local _ .vmem, ⟨23, _⟩ => ⟨S1x256, .f32⟩
  | .local _ .vmem, ⟨24, _⟩ => ⟨S64x3584, .bf16⟩
  | .local _ .vmem, ⟨25, _⟩ => ⟨S64x3584, .bf16⟩
  | .local _ .vmem, ⟨26, _⟩ => ⟨S64x256, .f32⟩
  | .local _ .vmem, ⟨27, _⟩ => ⟨S64x256, .f32⟩
  | .local _ .vmem, ⟨28, _⟩ => ⟨S64x256, .f32⟩
  | .local _ .vmem, ⟨29, _⟩ => ⟨S64x256, .f32⟩
  | .local _ .vmem, ⟨30, _⟩ => ⟨S1024x256, .bf16⟩
  | .local _ .vmem, ⟨31, _⟩ => ⟨S1024x256, .bf16⟩
  | .local _ .vmem, ⟨32, _⟩ => ⟨S64x8192, .f32⟩
  | .local _ .vmem, ⟨33, _⟩ => ⟨S64x8192, .f32⟩
  | .local _ .vmem, ⟨34, _⟩ => ⟨S64x8192, .f32⟩
  | .local _ .vmem, ⟨35, _⟩ => ⟨S64x8192, .f32⟩
  | _, _ => ⟨S12288x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0_0 : Ref sig .tc := ⟨.hbm, 16, rfl⟩
abbrev main_v0_1 : Ref sig .tc := ⟨.hbm, 17, rfl⟩
abbrev main_v0_2 : Ref sig .tc := ⟨.hbm, 18, rfl⟩
abbrev main_v0_3 : Ref sig .tc := ⟨.hbm, 19, rfl⟩
abbrev main_v0_4 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg13_0 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg15_1 : Ref sig .tc := ⟨.vmem, 29, rfl⟩
abbrev cc0_stg16_0 : Ref sig .tc := ⟨.vmem, 30, rfl⟩
abbrev cc0_stg16_1 : Ref sig .tc := ⟨.vmem, 31, rfl⟩
abbrev cc0_stg17_0 : Ref sig .tc := ⟨.vmem, 32, rfl⟩
abbrev cc0_stg18_0 : Ref sig .tc := ⟨.vmem, 33, rfl⟩
abbrev cc0_stg19_0 : Ref sig .tc := ⟨.vmem, 34, rfl⟩
abbrev cc0_stg20_0 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem13_0 : DmaSem sig := 25
abbrev cc0_sem14_0 : DmaSem sig := 26
abbrev cc0_sem14_1 : DmaSem sig := 27
abbrev cc0_sem15_0 : DmaSem sig := 28
abbrev cc0_sem15_1 : DmaSem sig := 29
abbrev cc0_sem16_0 : DmaSem sig := 30
abbrev cc0_sem16_1 : DmaSem sig := 31
abbrev cc0_sem17_0 : DmaSem sig := 32
abbrev cc0_sem18_0 : DmaSem sig := 33
abbrev cc0_sem19_0 : DmaSem sig := 34
abbrev cc0_sem20_0 : DmaSem sig := 35

abbrev nD : Nat := 1
abbrev τ : Topo := Topo.v7x

variable {F : FTy → Type} [FloatOps F]

abbrev grid0 : Pipeline.Grid := ⟨2, ![12, 32], ![false, false]⟩

def k0_mult1 (i : grid0.Coords) : BitVec 32 :=
  let arg1 : BitVec 32 := BitVec.ofNat 32 (i 1).val
  let c256_i32 : BitVec 32 := 256#32
  let v0 : BitVec 32 := Scalar.muli arg1 c256_i32
  v0
def k0_cond1 (i : grid0.Coords) : BitVec 1 :=
  let arg0 : BitVec 32 := BitVec.ofNat 32 (i 0).val
  let c0_i32 : BitVec 32 := 0#32
  let v2 : BitVec 1 := Scalar.cmpi .eq arg0 c0_i32
  let v3 : BitVec 32 := Scalar.extui v2
  let c0_i32_0 : BitVec 32 := 0#32
  let v4 : BitVec 1 := Scalar.cmpi .ne v3 c0_i32_0
  v4

def k0_off1 (i : grid0.Coords) : Fin 2 → Nat :=
  let c0_42 : Index := 0#32
  let arg1 : BitVec 32 := BitVec.ofNat 32 (i 1).val
  let c256_i32 : BitVec 32 := 256#32
  let v0 : BitVec 32 := Scalar.muli arg1 c256_i32
  let v1 : BitVec 32 := v0
  let v62 : Index := Scalar.indexCast v1
  ![0, v62.toNat]
def k0_off2 (i : grid0.Coords) : Fin 2 → Nat :=
  let c0_29 : Index := 0#32
  let arg1 : BitVec 32 := BitVec.ofNat 32 (i 1).val
  let c256_i32 : BitVec 32 := 256#32
  let v0 : BitVec 32 := Scalar.muli arg1 c256_i32
  let v1 : BitVec 32 := v0
  let v39 : Index := Scalar.indexCast v1
  ![0, v39.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x3584 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x3584 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S3584x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S3584x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S64x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S64x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1024x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1024x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1024x1 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 1 → Memref sig .tc .vmem S64x3584 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S64x3584 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S64x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![false, true]

abbrev stage0_15 : Fin 2 → Memref sig .tc .vmem S64x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![false, true]

abbrev stage0_16 : Fin 2 → Memref sig .tc .vmem S1024x256 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 1 → Memref sig .tc .vmem S64x8192 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 1 → Memref sig .tc .vmem S64x8192 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, false]

abbrev stage0_19 : Fin 1 → Memref sig .tc .vmem S64x8192 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false, false]

abbrev stage0_20 : Fin 1 → Memref sig .tc .vmem S64x8192 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false, false]
-- ==== DxRefIdeal.lean ====
abbrev S12288x3584 : Shape := ⟨2, ![12288, 3584]⟩
abbrev S12288x128 : Shape := ⟨2, ![12288, 128]⟩
abbrev S3584x8192 : Shape := ⟨2, ![3584, 8192]⟩
abbrev S64x8192 : Shape := ⟨2, ![64, 8192]⟩
abbrev S12288x8192 : Shape := ⟨2, ![12288, 8192]⟩
abbrev S12288x1 : Shape := ⟨2, ![12288, 1]⟩
abbrev S1x8192 : Shape := ⟨2, ![1, 8192]⟩
abbrev S64x3584 : Shape := ⟨2, ![64, 3584]⟩
abbrev S12288x64 : Shape := ⟨2, ![12288, 64]⟩
abbrev S_ : Shape := ⟨0, ![]⟩

abbrev nBuf : Space → Nat
  | .hbm => 63
  | .vmem => 0
  | .smem => 0
  | _ => 0

abbrev bufTy : (tb : Table) → Fin (tcTables nBuf tb) → BufTy
  | .hbm, ⟨0, _⟩ => ⟨S12288x3584, .bf16⟩
  | .hbm, ⟨1, _⟩ => ⟨S12288x3584, .bf16⟩
  | .hbm, ⟨2, _⟩ => ⟨S12288x128, .bf16⟩
  | .hbm, ⟨3, _⟩ => ⟨S3584x8192, .bf16⟩
  | .hbm, ⟨4, _⟩ => ⟨S3584x8192, .bf16⟩
  | .hbm, ⟨5, _⟩ => ⟨S64x8192, .bf16⟩
  | .hbm, ⟨6, _⟩ => ⟨S64x8192, .bf16⟩
  | .hbm, ⟨7, _⟩ => ⟨S12288x8192, .bf16⟩
  | .hbm, ⟨8, _⟩ => ⟨S12288x8192, .bf16⟩
  | .hbm, ⟨9, _⟩ => ⟨S12288x1, .f32⟩
  | .hbm, ⟨10, _⟩ => ⟨S12288x1, .f32⟩
  | .hbm, ⟨11, _⟩ => ⟨S1x8192, .f32⟩
  | .hbm, ⟨12, _⟩ => ⟨S64x3584, .bf16⟩
  | .hbm, ⟨13, _⟩ => ⟨S64x3584, .bf16⟩
  | .hbm, ⟨14, _⟩ => ⟨S64x8192, .f32⟩
  | .hbm, ⟨15, _⟩ => ⟨S64x8192, .f32⟩
  | .hbm, ⟨16, _⟩ => ⟨S12288x8192, .f32⟩
  | .hbm, ⟨17, _⟩ => ⟨S12288x8192, .f32⟩
  | .hbm, ⟨18, _⟩ => ⟨S12288x8192, .f32⟩
  | .hbm, ⟨19, _⟩ => ⟨S12288x64, .bf16⟩
  | .hbm, ⟨20, _⟩ => ⟨S12288x8192, .f32⟩
  | .hbm, ⟨21, _⟩ => ⟨S12288x8192, .f32⟩
  | .hbm, ⟨22, _⟩ => ⟨S12288x64, .bf16⟩
  | .hbm, ⟨23, _⟩ => ⟨S12288x8192, .f32⟩
  | .hbm, ⟨24, _⟩ => ⟨S12288x8192, .f32⟩
  | .hbm, ⟨25, _⟩ => ⟨S12288x8192, .f32⟩
  | .hbm, ⟨26, _⟩ => ⟨S12288x8192, .f32⟩
  | .hbm, ⟨27, _⟩ => ⟨S12288x8192, .f32⟩
  | .hbm, ⟨28, _⟩ => ⟨S12288x8192, .f32⟩
  | .hbm, ⟨29, _⟩ => ⟨S12288x8192, .f32⟩
  | .hbm, ⟨30, _⟩ => ⟨S12288x8192, .bf16⟩
  | .hbm, ⟨31, _⟩ => ⟨S12288x8192, .f32⟩
  | .hbm, ⟨32, _⟩ => ⟨S12288x8192, .f32⟩
  | .hbm, ⟨33, _⟩ => ⟨S12288x8192, .f32⟩
  | .hbm, ⟨34, _⟩ => ⟨S12288x8192, .f32⟩
  | .hbm, ⟨35, _⟩ => ⟨S12288x8192, .f32⟩
  | .hbm, ⟨36, _⟩ => ⟨S12288x8192, .f32⟩
  | .hbm, ⟨37, _⟩ => ⟨S12288x8192, .f32⟩
  | .hbm, ⟨38, _⟩ => ⟨S12288x8192, .f32⟩
  | .hbm, ⟨39, _⟩ => ⟨S12288x8192, .f32⟩
  | .hbm, ⟨40, _⟩ => ⟨S12288x8192, .bf16⟩
  | .hbm, ⟨41, _⟩ => ⟨S64x8192, .f32⟩
  | .hbm, ⟨42, _⟩ => ⟨S_, .f32⟩
  | .hbm, ⟨43, _⟩ => ⟨S64x8192, .f32⟩
  | .hbm, ⟨44, _⟩ => ⟨S64x8192, .f32⟩
  | .hbm, ⟨45, _⟩ => ⟨S_, .f32⟩
  | .hbm, ⟨46, _⟩ => ⟨S64x8192, .f32⟩
  | .hbm, ⟨47, _⟩ => ⟨S64x8192, .f32⟩
  | .hbm, ⟨48, _⟩ => ⟨S64x8192, .f32⟩
  | .hbm, ⟨49, _⟩ => ⟨S64x8192, .f32⟩
  | .hbm, ⟨50, _⟩ => ⟨S_, .f32⟩
  | .hbm, ⟨51, _⟩ => ⟨S64x8192, .f32⟩
  | .hbm, ⟨52, _⟩ => ⟨S64x8192, .f32⟩
  | .hbm, ⟨53, _⟩ => ⟨S_, .f32⟩
  | .hbm, ⟨54, _⟩ => ⟨S64x8192, .f32⟩
  | .hbm, ⟨55, _⟩ => ⟨S64x8192, .f32⟩
  | .hbm, ⟨56, _⟩ => ⟨S64x8192, .f32⟩
  | .hbm, ⟨57, _⟩ => ⟨S12288x64, .bf16⟩
  | .hbm, ⟨58, _⟩ => ⟨S64x8192, .f32⟩
  | .hbm, ⟨59, _⟩ => ⟨S64x8192, .f32⟩
  | .hbm, ⟨60, _⟩ => ⟨S12288x64, .bf16⟩
  | .hbm, ⟨61, _⟩ => ⟨S64x8192, .f32⟩
  | .hbm, ⟨62, _⟩ => ⟨S64x8192, .f32⟩
  | _, _ => ⟨S12288x3584, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst : Ref sig .tc := ⟨.hbm, 42, rfl⟩
abbrev main_v26 : Ref sig .tc := ⟨.hbm, 43, rfl⟩
abbrev main_v27 : Ref sig .tc := ⟨.hbm, 44, rfl⟩
abbrev main_cst_0 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_1 : Ref sig .tc := ⟨.hbm, 50, rfl⟩
abbrev main_v32 : Ref sig .tc := ⟨.hbm, 51, rfl⟩
abbrev main_v33 : Ref sig .tc := ⟨.hbm, 52, rfl⟩
abbrev main_cst_2 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩

abbrev nD : Nat := 1
abbrev τ : Topo := Topo.v7x

variable {F : FTy → Type} [FloatOps F]
-- ==== DownBwd.lean ====
abbrev S12288x8192 : Shape := ⟨2, ![12288, 8192]⟩
abbrev S12288x64 : Shape := ⟨2, ![12288, 64]⟩
abbrev S8192x3584 : Shape := ⟨2, ![8192, 3584]⟩
abbrev S64x3584 : Shape := ⟨2, ![64, 3584]⟩
abbrev S12288x3584 : Shape := ⟨2, ![12288, 3584]⟩
abbrev S1x3584 : Shape := ⟨2, ![1, 3584]⟩
abbrev S12288x256 : Shape := ⟨2, ![12288, 256]⟩
abbrev S3584x64 : Shape := ⟨2, ![3584, 64]⟩
abbrev S64x8192 : Shape := ⟨2, ![64, 8192]⟩
abbrev S_ : Shape := ⟨0, ![]⟩
abbrev S3584x128 : Shape := ⟨2, ![3584, 128]⟩
abbrev S12288x128 : Shape := ⟨2, ![12288, 128]⟩
abbrev S12288x1 : Shape := ⟨2, ![12288, 1]⟩
abbrev S8x3584 : Shape := ⟨2, ![8, 3584]⟩
abbrev S1024x8192 : Shape := ⟨2, ![1024, 8192]⟩
abbrev S1024x64 : Shape := ⟨2, ![1024, 64]⟩
abbrev S8192x256 : Shape := ⟨2, ![8192, 256]⟩
abbrev S64x256 : Shape := ⟨2, ![64, 256]⟩
abbrev S1024x256 : Shape := ⟨2, ![1024, 256]⟩
abbrev S1x256 : Shape := ⟨2, ![1, 256]⟩
abbrev S256x128 : Shape := ⟨2, ![256, 128]⟩
abbrev S1024x128 : Shape := ⟨2, ![1024, 128]⟩
abbrev S1024x1 : Shape := ⟨2, ![1024, 1]⟩
abbrev S1024x8256 : Shape := ⟨2, ![1024, 8256]⟩
abbrev S8256x256 : Shape := ⟨2, ![8256, 256]⟩
abbrev S8x256 : Shape := ⟨2, ![8, 256]⟩
abbrev S128x8x256 : Shape := ⟨3, ![128, 8, 256]⟩
abbrev S1024 : Shape := ⟨1, ![1024]⟩

abbrev nBuf : Space → Nat
  | .hbm => 28
  | .vmem => 43
  | .smem => 0
  | _ => 0

abbrev bufTy : (tb : Table) → Fin (tcTables nBuf tb) → BufTy
  | .hbm, ⟨0, _⟩ => ⟨S12288x8192, .bf16⟩
  | .hbm, ⟨1, _⟩ => ⟨S12288x64, .bf16⟩
  | .hbm, ⟨2, _⟩ => ⟨S8192x3584, .bf16⟩
  | .hbm, ⟨3, _⟩ => ⟨S64x3584, .bf16⟩
  | .hbm, ⟨4, _⟩ => ⟨S12288x3584, .f32⟩
  | .hbm, ⟨5, _⟩ => ⟨S12288x3584, .f32⟩
  | .hbm, ⟨6, _⟩ => ⟨S12288x3584, .bf16⟩
  | .hbm, ⟨7, _⟩ => ⟨S1x3584, .f32⟩
  | .hbm, ⟨8, _⟩ => ⟨S1x3584, .f32⟩
  | .hbm, ⟨9, _⟩ => ⟨S12288x256, .bf16⟩
  | .hbm, ⟨10, _⟩ => ⟨S3584x64, .bf16⟩
  | .hbm, ⟨11, _⟩ => ⟨S3584x64, .bf16⟩
  | .hbm, ⟨12, _⟩ => ⟨S64x8192, .bf16⟩
  | .hbm, ⟨13, _⟩ => ⟨S64x3584, .f32⟩
  | .hbm, ⟨14, _⟩ => ⟨S_, .bf16⟩
  | .hbm, ⟨15, _⟩ => ⟨S3584x64, .bf16⟩
  | .hbm, ⟨16, _⟩ => ⟨S3584x128, .bf16⟩
  | .hbm, ⟨17, _⟩ => ⟨S3584x128, .bf16⟩
  | .hbm, ⟨18, _⟩ => ⟨S12288x3584, .bf16⟩
  | .hbm, ⟨19, _⟩ => ⟨S12288x3584, .bf16⟩
  | .hbm, ⟨20, _⟩ => ⟨S12288x128, .bf16⟩
  | .hbm, ⟨21, _⟩ => ⟨S12288x1, .f32⟩
  | .hbm, ⟨22, _⟩ => ⟨S8x3584, .f32⟩
  | .hbm, ⟨23, _⟩ => ⟨S8x3584, .f32⟩
  | .hbm, ⟨24, _⟩ => ⟨S64x3584, .f32⟩
  | .hbm, ⟨25, _⟩ => ⟨S64x3584, .f32⟩
  | .hbm, ⟨26, _⟩ => ⟨S64x3584, .f32⟩
  | .hbm, ⟨27, _⟩ => ⟨S64x3584, .f32⟩
  | .local _ .vmem, ⟨0, _⟩ => ⟨S1024x8192, .bf16⟩
  | .local _ .vmem, ⟨1, _⟩ => ⟨S1024x8192, .bf16⟩
  | .local _ .vmem, ⟨2, _⟩ => ⟨S1024x64, .bf16⟩
  | .local _ .vmem, ⟨3, _⟩ => ⟨S1024x64, .bf16⟩
  | .local _ .vmem, ⟨4, _⟩ => ⟨S8192x256, .bf16⟩
  | .local _ .vmem, ⟨5, _⟩ => ⟨S8192x256, .bf16⟩
  | .local _ .vmem, ⟨6, _⟩ => ⟨S64x256, .bf16⟩
  | .local _ .vmem, ⟨7, _⟩ => ⟨S64x256, .bf16⟩
  | .local _ .vmem, ⟨8, _⟩ => ⟨S1024x256, .f32⟩
  | .local _ .vmem, ⟨9, _⟩ => ⟨S1024x256, .f32⟩
  | .local _ .vmem, ⟨10, _⟩ => ⟨S1024x256, .f32⟩
  | .local _ .vmem, ⟨11, _⟩ => ⟨S1024x256, .f32⟩
  | .local _ .vmem, ⟨12, _⟩ => ⟨S1024x256, .bf16⟩
  | .local _ .vmem, ⟨13, _⟩ => ⟨S1024x256, .bf16⟩
  | .local _ .vmem, ⟨14, _⟩ => ⟨S1x256, .f32⟩
  | .local _ .vmem, ⟨15, _⟩ => ⟨S1x256, .f32⟩
  | .local _ .vmem, ⟨16, _⟩ => ⟨S1x256, .f32⟩
  | .local _ .vmem, ⟨17, _⟩ => ⟨S1x256, .f32⟩
  | .local _ .vmem, ⟨18, _⟩ => ⟨S1024x256, .bf16⟩
  | .local _ .vmem, ⟨19, _⟩ => ⟨S1024x256, .bf16⟩
  | .local _ .vmem, ⟨20, _⟩ => ⟨S256x128, .bf16⟩
  | .local _ .vmem, ⟨21, _⟩ => ⟨S256x128, .bf16⟩
  | .local _ .vmem, ⟨22, _⟩ => ⟨S256x128, .bf16⟩
  | .local _ .vmem, ⟨23, _⟩ => ⟨S256x128, .bf16⟩
  | .local _ .vmem, ⟨24, _⟩ => ⟨S64x8192, .bf16⟩
  | .local _ .vmem, ⟨25, _⟩ => ⟨S64x256, .f32⟩
  | .local _ .vmem, ⟨26, _⟩ => ⟨S64x256, .f32⟩
  | .local _ .vmem, ⟨27, _⟩ => ⟨S1024x256, .bf16⟩
  | .local _ .vmem, ⟨28, _⟩ => ⟨S1024x256, .bf16⟩
  | .local _ .vmem, ⟨29, _⟩ => ⟨S1024x256, .bf16⟩
  | .local _ .vmem, ⟨30, _⟩ => ⟨S1024x256, .bf16⟩
  | .local _ .vmem, ⟨31, _⟩ => ⟨S1024x128, .bf16⟩
  | .local _ .vmem, ⟨32, _⟩ => ⟨S1024x128, .bf16⟩
  | .local _ .vmem, ⟨33, _⟩ => ⟨S1024x1, .f32⟩
  | .local _ .vmem, ⟨34, _⟩ => ⟨S1024x1, .f32⟩
  | .local _ .vmem, ⟨35, _⟩ => ⟨S8x3584, .f32⟩
  | .local _ .vmem, ⟨36, _⟩ => ⟨S8x3584, .f32⟩
  | .local _ .vmem, ⟨37, _⟩ => ⟨S64x3584, .f32⟩
  | .local _ .vmem, ⟨38, _⟩ => ⟨S64x3584, .f32⟩
  | .local _ .vmem, ⟨39, _⟩ => ⟨S64x3584, .f32⟩
  | .local _ .vmem, ⟨40, _⟩ => ⟨S64x3584, .f32⟩
  | .local _ .vmem, ⟨41, _⟩ => ⟨S1024x128, .f32⟩
  | .local _ .vmem, ⟨42, _⟩ => ⟨S1024x128, .f32⟩
  | _, _ => ⟨S12288x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | _, _ => false

abbrev semScoped : Fin 0 → Bool
  | ⟨_, h⟩ => absurd h (Nat.not_lt_zero _)

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTc nBuf bufTy 0 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3_0 : Ref sig .tc := ⟨.hbm, 18, rfl⟩
abbrev main_v3_1 : Ref sig .tc := ⟨.hbm, 19, rfl⟩
abbrev main_v3_2 : Ref sig .tc := ⟨.hbm, 20, rfl⟩
abbrev main_v3_3 : Ref sig .tc := ⟨.hbm, 21, rfl⟩
abbrev main_v3_4 : Ref sig .tc := ⟨.hbm, 22, rfl⟩
abbrev main_v3_5 : Ref sig .tc := ⟨.hbm, 23, rfl⟩
abbrev main_v3_6 : Ref sig .tc := ⟨.hbm, 24, rfl⟩
abbrev main_v3_7 : Ref sig .tc := ⟨.hbm, 25, rfl⟩
abbrev main_v3_8 : Ref sig .tc := ⟨.hbm, 26, rfl⟩
abbrev main_v3_9 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg13_0 : Ref sig .tc := ⟨.vmem, 25, rfl⟩
abbrev cc0_stg13_1 : Ref sig .tc := ⟨.vmem, 26, rfl⟩
abbrev cc0_stg14_0 : Ref sig .tc := ⟨.vmem, 27, rfl⟩
abbrev cc0_stg14_1 : Ref sig .tc := ⟨.vmem, 28, rfl⟩
abbrev cc0_stg15_0 : Ref sig .tc := ⟨.vmem, 29, rfl⟩
abbrev cc0_stg15_1 : Ref sig .tc := ⟨.vmem, 30, rfl⟩
abbrev cc0_stg16_0 : Ref sig .tc := ⟨.vmem, 31, rfl⟩
abbrev cc0_stg16_1 : Ref sig .tc := ⟨.vmem, 32, rfl⟩
abbrev cc0_stg17_0 : Ref sig .tc := ⟨.vmem, 33, rfl⟩
abbrev cc0_stg17_1 : Ref sig .tc := ⟨.vmem, 34, rfl⟩
abbrev cc0_stg18_0 : Ref sig .tc := ⟨.vmem, 35, rfl⟩
abbrev cc0_stg19_0 : Ref sig .tc := ⟨.vmem, 36, rfl⟩
abbrev cc0_stg20_0 : Ref sig .tc := ⟨.vmem, 37, rfl⟩
abbrev cc0_stg21_0 : Ref sig .tc := ⟨.vmem, 38, rfl⟩
abbrev cc0_stg22_0 : Ref sig .tc := ⟨.vmem, 39, rfl⟩
abbrev cc0_stg23_0 : Ref sig .tc := ⟨.vmem, 40, rfl⟩
abbrev cc0_scratch0 : Ref sig .tc := ⟨.vmem, 41, rfl⟩
abbrev cc0_scratch1 : Ref sig .tc := ⟨.vmem, 42, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem13_0 : DmaSem sig := 25
abbrev cc0_sem13_1 : DmaSem sig := 26
abbrev cc0_sem14_0 : DmaSem sig := 27
abbrev cc0_sem14_1 : DmaSem sig := 28
abbrev cc0_sem15_0 : DmaSem sig := 29
abbrev cc0_sem15_1 : DmaSem sig := 30
abbrev cc0_sem16_0 : DmaSem sig := 31
abbrev cc0_sem16_1 : DmaSem sig := 32
abbrev cc0_sem17_0 : DmaSem sig := 33
abbrev cc0_sem17_1 : DmaSem sig := 34
abbrev cc0_sem18_0 : DmaSem sig := 35
abbrev cc0_sem19_0 : DmaSem sig := 36
abbrev cc0_sem20_0 : DmaSem sig := 37
abbrev cc0_sem21_0 : DmaSem sig := 38
abbrev cc0_sem22_0 : DmaSem sig := 39
abbrev cc0_sem23_0 : DmaSem sig := 40

abbrev nD : Nat := 1
abbrev τ : Topo := Topo.v7x

variable {F : FTy → Type} [FloatOps F]

abbrev grid0 : Pipeline.Grid := ⟨2, ![12, 14], ![false, false]⟩

def k0_mult1 (i : grid0.Coords) : BitVec 32 :=
  let arg1 : BitVec 32 := BitVec.ofNat 32 (i 1).val
  let c256_i32 : BitVec 32 := 256#32
  let v0 : BitVec 32 := Scalar.muli arg1 c256_i32
  v0
def k0_cond3 (i : grid0.Coords) : BitVec 1 :=
  let arg0 : BitVec 32 := BitVec.ofNat 32 (i 0).val
  let c0_i32_4 : BitVec 32 := 0#32
  let v10 : BitVec 1 := Scalar.cmpi .eq arg0 c0_i32_4
  let v11 : BitVec 32 := Scalar.extui v10
  let c0_i32_5 : BitVec 32 := 0#32
  let v12 : BitVec 1 := Scalar.cmpi .ne v11 c0_i32_5
  v12

def k0_off1 (i : grid0.Coords) : Fin 2 → Nat :=
  let c0_74 : Index := 0#32
  let arg1 : BitVec 32 := BitVec.ofNat 32 (i 1).val
  let c256_i32 : BitVec 32 := 256#32
  let v0 : BitVec 32 := Scalar.muli arg1 c256_i32
  let v1 : BitVec 32 := v0
  let v128 : Index := Scalar.indexCast v1
  ![0, v128.toNat]
def k0_off2 (i : grid0.Coords) : Fin 2 → Nat :=
  let c0_23 : Index := 0#32
  let arg1 : BitVec 32 := BitVec.ofNat 32 (i 1).val
  let c256_i32 : BitVec 32 := 256#32
  let v0 : BitVec 32 := Scalar.muli arg1 c256_i32
  let v1 : BitVec 32 := v0
  let v38 : Index := Scalar.indexCast v1
  ![0, v38.toNat]
def k0_off3 (i : grid0.Coords) : Fin 2 → Nat :=
  let c0_48 : Index := 0#32
  let arg1 : BitVec 32 := BitVec.ofNat 32 (i 1).val
  let c256_i32 : BitVec 32 := 256#32
  let v0 : BitVec 32 := Scalar.muli arg1 c256_i32
  let v1 : BitVec 32 := v0
  let v91 : Index := Scalar.indexCast v1
  ![0, v91.toNat]
def k0_cond4 (i : grid0.Coords) : BitVec 1 :=
  let arg1 : BitVec 32 := BitVec.ofNat 32 (i 1).val
  let c13_i32 : BitVec 32 := 13#32
  let v116 : BitVec 1 := Scalar.cmpi .eq arg1 c13_i32
  let v117 : BitVec 32 := Scalar.extui v116
  let c0_i32_64 : BitVec 32 := 0#32
  let v118 : BitVec 1 := Scalar.cmpi .ne v117 c0_i32_64
  v118

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x8192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8192x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S64x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1024x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S256x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S256x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 1 → Memref sig .tc .vmem S64x8192 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S64x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![false, true]

abbrev stage0_14 : Fin 2 → Memref sig .tc .vmem S1024x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1024x256 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1024x128 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, false]

abbrev stage0_17 : Fin 2 → Memref sig .tc .vmem S1024x1 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, false]

abbrev stage0_18 : Fin 1 → Memref sig .tc .vmem S8x3584 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, false]

abbrev stage0_19 : Fin 1 → Memref sig .tc .vmem S8x3584 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false, false]

abbrev stage0_20 : Fin 1 → Memref sig .tc .vmem S64x3584 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false, false]

abbrev stage0_21 : Fin 1 → Memref sig .tc .vmem S64x3584 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false, false]

abbrev stage0_22 : Fin 1 → Memref sig .tc .vmem S64x3584 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false, false]

abbrev stage0_23 : Fin 1 → Memref sig .tc .vmem S64x3584 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false, false]
-- ==== DownBwdRefIdeal.lean ====
abbrev S12288x8192 : Shape := ⟨2, ![12288, 8192]⟩
abbrev S12288x64 : Shape := ⟨2, ![12288, 64]⟩
abbrev S8192x3584 : Shape := ⟨2, ![8192, 3584]⟩
abbrev S64x3584 : Shape := ⟨2, ![64, 3584]⟩
abbrev S12288x3584 : Shape := ⟨2, ![12288, 3584]⟩
abbrev S1x3584 : Shape := ⟨2, ![1, 3584]⟩
abbrev S12288x256 : Shape := ⟨2, ![12288, 256]⟩
abbrev S3584x64 : Shape := ⟨2, ![3584, 64]⟩
abbrev S64x8192 : Shape := ⟨2, ![64, 8192]⟩
abbrev S_ : Shape := ⟨0, ![]⟩

abbrev nBuf : Space → Nat
  | .hbm => 47
  | .vmem => 0
  | .smem => 0
  | _ => 0

abbrev bufTy : (tb : Table) → Fin (tcTables nBuf tb) → BufTy
  | .hbm, ⟨0, _⟩ => ⟨S12288x8192, .bf16⟩
  | .hbm, ⟨1, _⟩ => ⟨S12288x64, .bf16⟩
  | .hbm, ⟨2, _⟩ => ⟨S8192x3584, .bf16⟩
  | .hbm, ⟨3, _⟩ => ⟨S64x3584, .bf16⟩
  | .hbm, ⟨4, _⟩ => ⟨S12288x3584, .f32⟩
  | .hbm, ⟨5, _⟩ => ⟨S12288x3584, .f32⟩
  | .hbm, ⟨6, _⟩ => ⟨S12288x3584, .bf16⟩
  | .hbm, ⟨7, _⟩ => ⟨S1x3584, .f32⟩
  | .hbm, ⟨8, _⟩ => ⟨S1x3584, .f32⟩
  | .hbm, ⟨9, _⟩ => ⟨S12288x256, .bf16⟩
  | .hbm, ⟨10, _⟩ => ⟨S3584x64, .bf16⟩
  | .hbm, ⟨11, _⟩ => ⟨S3584x64, .bf16⟩
  | .hbm, ⟨12, _⟩ => ⟨S64x8192, .bf16⟩
  | .hbm, ⟨13, _⟩ => ⟨S64x3584, .f32⟩
  | .hbm, ⟨14, _⟩ => ⟨S12288x3584, .f32⟩
  | .hbm, ⟨15, _⟩ => ⟨S12288x3584, .f32⟩
  | .hbm, ⟨16, _⟩ => ⟨S12288x3584, .f32⟩
  | .hbm, ⟨17, _⟩ => ⟨S12288x3584, .f32⟩
  | .hbm, ⟨18, _⟩ => ⟨S12288x3584, .f32⟩
  | .hbm, ⟨19, _⟩ => ⟨S12288x3584, .f32⟩
  | .hbm, ⟨20, _⟩ => ⟨S12288x3584, .f32⟩
  | .hbm, ⟨21, _⟩ => ⟨S12288x3584, .f32⟩
  | .hbm, ⟨22, _⟩ => ⟨S12288x3584, .f32⟩
  | .hbm, ⟨23, _⟩ => ⟨S_, .f32⟩
  | .hbm, ⟨24, _⟩ => ⟨S12288x3584, .f32⟩
  | .hbm, ⟨25, _⟩ => ⟨S12288x3584, .f32⟩
  | .hbm, ⟨26, _⟩ => ⟨S_, .f32⟩
  | .hbm, ⟨27, _⟩ => ⟨S12288x3584, .f32⟩
  | .hbm, ⟨28, _⟩ => ⟨S12288x3584, .f32⟩
  | .hbm, ⟨29, _⟩ => ⟨S12288x3584, .f32⟩
  | .hbm, ⟨30, _⟩ => ⟨S12288x3584, .f32⟩
  | .hbm, ⟨31, _⟩ => ⟨S12288x3584, .f32⟩
  | .hbm, ⟨32, _⟩ => ⟨S12288x3584, .f32⟩
  | .hbm, ⟨33, _⟩ => ⟨S_, .f32⟩
  | .hbm, ⟨34, _⟩ => ⟨S12288x3584, .f32⟩
  | .hbm, ⟨35, _⟩ => ⟨S12288x3584, .f32⟩
  | .hbm, ⟨36, _⟩ => ⟨S12288x3584, .f32⟩
  | .hbm, ⟨37, _⟩ => ⟨S_, .f32⟩
  | .hbm, ⟨38, _⟩ => ⟨S12288x3584, .f32⟩
  | .hbm, ⟨39, _⟩ => ⟨S12288x3584, .f32⟩
  | .hbm, ⟨40, _⟩ => ⟨S12288x3584, .f32⟩
  | .hbm, ⟨41, _⟩ => ⟨S12288x3584, .f32⟩
  | .hbm, ⟨42, _⟩ => ⟨S12288x3584, .f32⟩
  | .hbm, ⟨43, _⟩ => ⟨S12288x3584, .bf16⟩
  | .hbm, ⟨44, _⟩ => ⟨S12288x3584, .f32⟩
  | .hbm, ⟨45, _⟩ => ⟨S12288x3584, .f32⟩
  | .hbm, ⟨46, _⟩ => ⟨S12288x3584, .bf16⟩
  | _, _ => ⟨S12288x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_cst : Ref sig .tc := ⟨.hbm, 23, rfl⟩
abbrev main_v9 : Ref sig .tc := ⟨.hbm, 24, rfl⟩
abbrev main_v10 : Ref sig .tc := ⟨.hbm, 25, rfl⟩
abbrev main_cst_0 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst_1 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_2 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩

abbrev nD : Nat := 1
abbrev τ : Topo := Topo.v7x

variable {F : FTy → Type} [FloatOps F]
-- ==== NormGrad.lean ====
abbrev S8x3584 : Shape := ⟨2, ![8, 3584]⟩
abbrev S1x3584 : Shape := ⟨2, ![1, 3584]⟩
abbrev S3584 : Shape := ⟨1, ![3584]⟩
abbrev S3584x64 : Shape := ⟨2, ![3584, 64]⟩
abbrev S64x3584 : Shape := ⟨2, ![64, 3584]⟩
abbrev S64x8192 : Shape := ⟨2, ![64, 8192]⟩
abbrev S64x64 : Shape := ⟨2, ![64, 64]⟩

abbrev nBuf : Space → Nat
  | .hbm => 15
  | .vmem => 13
  | .smem => 0
  | _ => 0

abbrev bufTy : (tb : Table) → Fin (tcTables nBuf tb) → BufTy
  | .hbm, ⟨0, _⟩ => ⟨S8x3584, .f32⟩
  | .hbm, ⟨1, _⟩ => ⟨S1x3584, .f32⟩
  | .hbm, ⟨2, _⟩ => ⟨S3584, .f32⟩
  | .hbm, ⟨3, _⟩ => ⟨S3584x64, .bf16⟩
  | .hbm, ⟨4, _⟩ => ⟨S64x3584, .f32⟩
  | .hbm, ⟨5, _⟩ => ⟨S64x3584, .f32⟩
  | .hbm, ⟨6, _⟩ => ⟨S64x3584, .f32⟩
  | .hbm, ⟨7, _⟩ => ⟨S64x8192, .bf16⟩
  | .hbm, ⟨8, _⟩ => ⟨S1x3584, .f32⟩
  | .hbm, ⟨9, _⟩ => ⟨S64x3584, .bf16⟩
  | .hbm, ⟨10, _⟩ => ⟨S1x3584, .f32⟩
  | .hbm, ⟨11, _⟩ => ⟨S64x3584, .bf16⟩
  | .hbm, ⟨12, _⟩ => ⟨S64x3584, .f32⟩
  | .hbm, ⟨13, _⟩ => ⟨S64x3584, .f32⟩
  | .hbm, ⟨14, _⟩ => ⟨S64x8192, .f32⟩
  | .local _ .vmem, ⟨0, _⟩ => ⟨S8x3584, .f32⟩
  | .local _ .vmem, ⟨1, _⟩ => ⟨S1x3584, .f32⟩
  | .local _ .vmem, ⟨2, _⟩ => ⟨S1x3584, .f32⟩
  | .local _ .vmem, ⟨3, _⟩ => ⟨S64x3584, .bf16⟩
  | .local _ .vmem, ⟨4, _⟩ => ⟨S64x3584, .f32⟩
  | .local _ .vmem, ⟨5, _⟩ => ⟨S64x3584, .f32⟩
  | .local _ .vmem, ⟨6, _⟩ => ⟨S64x3584, .f32⟩
  | .local _ .vmem, ⟨7, _⟩ => ⟨S64x8192, .bf16⟩
  | .local _ .vmem, ⟨8, _⟩ => ⟨S1x3584, .f32⟩
  | .local _ .vmem, ⟨9, _⟩ => ⟨S64x3584, .bf16⟩
  | .local _ .vmem, ⟨10, _⟩ => ⟨S64x3584, .f32⟩
  | .local _ .vmem, ⟨11, _⟩ => ⟨S64x3584, .f32⟩
  | .local _ .vmem, ⟨12, _⟩ => ⟨S64x8192, .f32⟩
  | _, _ => ⟨S8x3584, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2_0 : Ref sig .tc := ⟨.hbm, 10, rfl⟩
abbrev main_v2_1 : Ref sig .tc := ⟨.hbm, 11, rfl⟩
abbrev main_v2_2 : Ref sig .tc := ⟨.hbm, 12, rfl⟩
abbrev main_v2_3 : Ref sig .tc := ⟨.hbm, 13, rfl⟩
abbrev main_v2_4 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F]

abbrev grid0 : Pipeline.Grid := .none

abbrev stage0_0 : Fin 1 → Memref sig .tc .vmem S8x3584 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x3584 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x3584 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64x3584 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S64x3584 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S64x3584 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S64x3584 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S64x8192 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x3584 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S64x3584 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S64x3584 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S64x3584 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S64x8192 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
-- ==== NormGradRefIdeal.lean ====
abbrev S8x3584 : Shape := ⟨2, ![8, 3584]⟩
abbrev S1x3584 : Shape := ⟨2, ![1, 3584]⟩
abbrev S3584 : Shape := ⟨1, ![3584]⟩
abbrev S3584x64 : Shape := ⟨2, ![3584, 64]⟩
abbrev S64x3584 : Shape := ⟨2, ![64, 3584]⟩
abbrev S64x8192 : Shape := ⟨2, ![64, 8192]⟩
abbrev S_ : Shape := ⟨0, ![]⟩
abbrev S3584x1 : Shape := ⟨2, ![3584, 1]⟩
abbrev S64x64 : Shape := ⟨2, ![64, 64]⟩

abbrev nBuf : Space → Nat
  | .hbm => 53
  | .vmem => 0
  | .smem => 0
  | _ => 0

abbrev bufTy : (tb : Table) → Fin (tcTables nBuf tb) → BufTy
  | .hbm, ⟨0, _⟩ => ⟨S8x3584, .f32⟩
  | .hbm, ⟨1, _⟩ => ⟨S1x3584, .f32⟩
  | .hbm, ⟨2, _⟩ => ⟨S3584, .f32⟩
  | .hbm, ⟨3, _⟩ => ⟨S3584x64, .bf16⟩
  | .hbm, ⟨4, _⟩ => ⟨S64x3584, .f32⟩
  | .hbm, ⟨5, _⟩ => ⟨S64x3584, .f32⟩
  | .hbm, ⟨6, _⟩ => ⟨S64x3584, .f32⟩
  | .hbm, ⟨7, _⟩ => ⟨S64x8192, .bf16⟩
  | .hbm, ⟨8, _⟩ => ⟨S_, .f32⟩
  | .hbm, ⟨9, _⟩ => ⟨S1x3584, .f32⟩
  | .hbm, ⟨10, _⟩ => ⟨S1x3584, .i1⟩
  | .hbm, ⟨11, _⟩ => ⟨S_, .f32⟩
  | .hbm, ⟨12, _⟩ => ⟨S_, .f32⟩
  | .hbm, ⟨13, _⟩ => ⟨S1x3584, .f32⟩
  | .hbm, ⟨14, _⟩ => ⟨S1x3584, .f32⟩
  | .hbm, ⟨15, _⟩ => ⟨S_, .f32⟩
  | .hbm, ⟨16, _⟩ => ⟨S3584, .f32⟩
  | .hbm, ⟨17, _⟩ => ⟨S1x3584, .f32⟩
  | .hbm, ⟨18, _⟩ => ⟨S1x3584, .f32⟩
  | .hbm, ⟨19, _⟩ => ⟨S1x3584, .f32⟩
  | .hbm, ⟨20, _⟩ => ⟨S1x3584, .f32⟩
  | .hbm, ⟨21, _⟩ => ⟨S1x3584, .f32⟩
  | .hbm, ⟨22, _⟩ => ⟨S1x3584, .f32⟩
  | .hbm, ⟨23, _⟩ => ⟨S_, .f32⟩
  | .hbm, ⟨24, _⟩ => ⟨S1x3584, .f32⟩
  | .hbm, ⟨25, _⟩ => ⟨S1x3584, .f32⟩
  | .hbm, ⟨26, _⟩ => ⟨S1x3584, .f32⟩
  | .hbm, ⟨27, _⟩ => ⟨S3584x64, .f32⟩
  | .hbm, ⟨28, _⟩ => ⟨S_, .f32⟩
  | .hbm, ⟨29, _⟩ => ⟨S64x3584, .f32⟩
  | .hbm, ⟨30, _⟩ => ⟨S64x3584, .f32⟩
  | .hbm, ⟨31, _⟩ => ⟨S_, .f32⟩
  | .hbm, ⟨32, _⟩ => ⟨S64x3584, .f32⟩
  | .hbm, ⟨33, _⟩ => ⟨S64x3584, .f32⟩
  | .hbm, ⟨34, _⟩ => ⟨S64x3584, .f32⟩
  | .hbm, ⟨35, _⟩ => ⟨S64x3584, .f32⟩
  | .hbm, ⟨36, _⟩ => ⟨S64x3584, .f32⟩
  | .hbm, ⟨37, _⟩ => ⟨S3584x1, .f32⟩
  | .hbm, ⟨38, _⟩ => ⟨S3584x64, .f32⟩
  | .hbm, ⟨39, _⟩ => ⟨S3584x64, .f32⟩
  | .hbm, ⟨40, _⟩ => ⟨S64x3584, .f32⟩
  | .hbm, ⟨41, _⟩ => ⟨S64x64, .f32⟩
  | .hbm, ⟨42, _⟩ => ⟨S64x8192, .f32⟩
  | .hbm, ⟨43, _⟩ => ⟨S64x8192, .f32⟩
  | .hbm, ⟨44, _⟩ => ⟨S64x3584, .f32⟩
  | .hbm, ⟨45, _⟩ => ⟨S64x3584, .bf16⟩
  | .hbm, ⟨46, _⟩ => ⟨S_, .f32⟩
  | .hbm, ⟨47, _⟩ => ⟨S64x3584, .f32⟩
  | .hbm, ⟨48, _⟩ => ⟨S64x3584, .f32⟩
  | .hbm, ⟨49, _⟩ => ⟨S_, .f32⟩
  | .hbm, ⟨50, _⟩ => ⟨S64x3584, .f32⟩
  | .hbm, ⟨51, _⟩ => ⟨S64x3584, .f32⟩
  | .hbm, ⟨52, _⟩ => ⟨S64x3584, .f32⟩
  | _, _ => ⟨S8x3584, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_cst_0 : Ref sig .tc := ⟨.hbm, 11, rfl⟩
abbrev main_call0_v0 : Ref sig .tc := ⟨.hbm, 12, rfl⟩
abbrev main_call0_v1 : Ref sig .tc := ⟨.hbm, 13, rfl⟩
abbrev main_v2 : Ref sig .tc := ⟨.hbm, 14, rfl⟩
abbrev main_cst_1 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_3 : Ref sig .tc := ⟨.hbm, 28, rfl⟩
abbrev main_v14 : Ref sig .tc := ⟨.hbm, 29, rfl⟩
abbrev main_v15 : Ref sig .tc := ⟨.hbm, 30, rfl⟩
abbrev main_cst_4 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_5 : Ref sig .tc := ⟨.hbm, 46, rfl⟩
abbrev main_v30 : Ref sig .tc := ⟨.hbm, 47, rfl⟩
abbrev main_v31 : Ref sig .tc := ⟨.hbm, 48, rfl⟩
abbrev main_cst_6 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩

abbrev nD : Nat := 1
abbrev τ : Topo := Topo.v7x

variable {F : FTy → Type} [FloatOps F]
-- ==== NormGradDown.lean ====
abbrev S8x8192 : Shape := ⟨2, ![8, 8192]⟩
abbrev S1x8192 : Shape := ⟨2, ![1, 8192]⟩
abbrev S8192 : Shape := ⟨1, ![8192]⟩
abbrev S8192x64 : Shape := ⟨2, ![8192, 64]⟩
abbrev S64x8192 : Shape := ⟨2, ![64, 8192]⟩
abbrev S64x3584 : Shape := ⟨2, ![64, 3584]⟩
abbrev S64x64 : Shape := ⟨2, ![64, 64]⟩

abbrev nBuf : Space → Nat
  | .hbm => 15
  | .vmem => 13
  | .smem => 0
  | _ => 0

abbrev bufTy : (tb : Table) → Fin (tcTables nBuf tb) → BufTy
  | .hbm, ⟨0, _⟩ => ⟨S8x8192, .f32⟩
  | .hbm, ⟨1, _⟩ => ⟨S1x8192, .f32⟩
  | .hbm, ⟨2, _⟩ => ⟨S8192, .f32⟩
  | .hbm, ⟨3, _⟩ => ⟨S8192x64, .bf16⟩
  | .hbm, ⟨4, _⟩ => ⟨S64x8192, .f32⟩
  | .hbm, ⟨5, _⟩ => ⟨S64x8192, .f32⟩
  | .hbm, ⟨6, _⟩ => ⟨S64x8192, .f32⟩
  | .hbm, ⟨7, _⟩ => ⟨S64x3584, .bf16⟩
  | .hbm, ⟨8, _⟩ => ⟨S1x8192, .f32⟩
  | .hbm, ⟨9, _⟩ => ⟨S64x8192, .bf16⟩
  | .hbm, ⟨10, _⟩ => ⟨S1x8192, .f32⟩
  | .hbm, ⟨11, _⟩ => ⟨S64x8192, .bf16⟩
  | .hbm, ⟨12, _⟩ => ⟨S64x8192, .f32⟩
  | .hbm, ⟨13, _⟩ => ⟨S64x8192, .f32⟩
  | .hbm, ⟨14, _⟩ => ⟨S64x3584, .f32⟩
  | .local _ .vmem, ⟨0, _⟩ => ⟨S8x8192, .f32⟩
  | .local _ .vmem, ⟨1, _⟩ => ⟨S1x8192, .f32⟩
  | .local _ .vmem, ⟨2, _⟩ => ⟨S1x8192, .f32⟩
  | .local _ .vmem, ⟨3, _⟩ => ⟨S64x8192, .bf16⟩
  | .local _ .vmem, ⟨4, _⟩ => ⟨S64x8192, .f32⟩
  | .local _ .vmem, ⟨5, _⟩ => ⟨S64x8192, .f32⟩
  | .local _ .vmem, ⟨6, _⟩ => ⟨S64x8192, .f32⟩
  | .local _ .vmem, ⟨7, _⟩ => ⟨S64x3584, .bf16⟩
  | .local _ .vmem, ⟨8, _⟩ => ⟨S1x8192, .f32⟩
  | .local _ .vmem, ⟨9, _⟩ => ⟨S64x8192, .bf16⟩
  | .local _ .vmem, ⟨10, _⟩ => ⟨S64x8192, .f32⟩
  | .local _ .vmem, ⟨11, _⟩ => ⟨S64x8192, .f32⟩
  | .local _ .vmem, ⟨12, _⟩ => ⟨S64x3584, .f32⟩
  | _, _ => ⟨S8x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2_0 : Ref sig .tc := ⟨.hbm, 10, rfl⟩
abbrev main_v2_1 : Ref sig .tc := ⟨.hbm, 11, rfl⟩
abbrev main_v2_2 : Ref sig .tc := ⟨.hbm, 12, rfl⟩
abbrev main_v2_3 : Ref sig .tc := ⟨.hbm, 13, rfl⟩
abbrev main_v2_4 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F]

abbrev grid0 : Pipeline.Grid := .none

abbrev stage0_0 : Fin 1 → Memref sig .tc .vmem S8x8192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64x8192 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S64x8192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S64x8192 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S64x8192 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S64x3584 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x8192 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S64x8192 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S64x8192 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S64x8192 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S64x3584 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
-- ==== NormGradDownRefIdeal.lean ====
abbrev S8x8192 : Shape := ⟨2, ![8, 8192]⟩
abbrev S1x8192 : Shape := ⟨2, ![1, 8192]⟩
abbrev S8192 : Shape := ⟨1, ![8192]⟩
abbrev S8192x64 : Shape := ⟨2, ![8192, 64]⟩
abbrev S64x8192 : Shape := ⟨2, ![64, 8192]⟩
abbrev S64x3584 : Shape := ⟨2, ![64, 3584]⟩
abbrev S_ : Shape := ⟨0, ![]⟩
abbrev S8192x1 : Shape := ⟨2, ![8192, 1]⟩
abbrev S64x64 : Shape := ⟨2, ![64, 64]⟩

abbrev nBuf : Space → Nat
  | .hbm => 53
  | .vmem => 0
  | .smem => 0
  | _ => 0

abbrev bufTy : (tb : Table) → Fin (tcTables nBuf tb) → BufTy
  | .hbm, ⟨0, _⟩ => ⟨S8x8192, .f32⟩
  | .hbm, ⟨1, _⟩ => ⟨S1x8192, .f32⟩
  | .hbm, ⟨2, _⟩ => ⟨S8192, .f32⟩
  | .hbm, ⟨3, _⟩ => ⟨S8192x64, .bf16⟩
  | .hbm, ⟨4, _⟩ => ⟨S64x8192, .f32⟩
  | .hbm, ⟨5, _⟩ => ⟨S64x8192, .f32⟩
  | .hbm, ⟨6, _⟩ => ⟨S64x8192, .f32⟩
  | .hbm, ⟨7, _⟩ => ⟨S64x3584, .bf16⟩
  | .hbm, ⟨8, _⟩ => ⟨S_, .f32⟩
  | .hbm, ⟨9, _⟩ => ⟨S1x8192, .f32⟩
  | .hbm, ⟨10, _⟩ => ⟨S1x8192, .i1⟩
  | .hbm, ⟨11, _⟩ => ⟨S_, .f32⟩
  | .hbm, ⟨12, _⟩ => ⟨S_, .f32⟩
  | .hbm, ⟨13, _⟩ => ⟨S1x8192, .f32⟩
  | .hbm, ⟨14, _⟩ => ⟨S1x8192, .f32⟩
  | .hbm, ⟨15, _⟩ => ⟨S_, .f32⟩
  | .hbm, ⟨16, _⟩ => ⟨S8192, .f32⟩
  | .hbm, ⟨17, _⟩ => ⟨S1x8192, .f32⟩
  | .hbm, ⟨18, _⟩ => ⟨S1x8192, .f32⟩
  | .hbm, ⟨19, _⟩ => ⟨S1x8192, .f32⟩
  | .hbm, ⟨20, _⟩ => ⟨S1x8192, .f32⟩
  | .hbm, ⟨21, _⟩ => ⟨S1x8192, .f32⟩
  | .hbm, ⟨22, _⟩ => ⟨S1x8192, .f32⟩
  | .hbm, ⟨23, _⟩ => ⟨S_, .f32⟩
  | .hbm, ⟨24, _⟩ => ⟨S1x8192, .f32⟩
  | .hbm, ⟨25, _⟩ => ⟨S1x8192, .f32⟩
  | .hbm, ⟨26, _⟩ => ⟨S1x8192, .f32⟩
  | .hbm, ⟨27, _⟩ => ⟨S8192x64, .f32⟩
  | .hbm, ⟨28, _⟩ => ⟨S_, .f32⟩
  | .hbm, ⟨29, _⟩ => ⟨S64x8192, .f32⟩
  | .hbm, ⟨30, _⟩ => ⟨S64x8192, .f32⟩
  | .hbm, ⟨31, _⟩ => ⟨S_, .f32⟩
  | .hbm, ⟨32, _⟩ => ⟨S64x8192, .f32⟩
  | .hbm, ⟨33, _⟩ => ⟨S64x8192, .f32⟩
  | .hbm, ⟨34, _⟩ => ⟨S64x8192, .f32⟩
  | .hbm, ⟨35, _⟩ => ⟨S64x8192, .f32⟩
  | .hbm, ⟨36, _⟩ => ⟨S64x8192, .f32⟩
  | .hbm, ⟨37, _⟩ => ⟨S8192x1, .f32⟩
  | .hbm, ⟨38, _⟩ => ⟨S8192x64, .f32⟩
  | .hbm, ⟨39, _⟩ => ⟨S8192x64, .f32⟩
  | .hbm, ⟨40, _⟩ => ⟨S64x8192, .f32⟩
  | .hbm, ⟨41, _⟩ => ⟨S64x64, .f32⟩
  | .hbm, ⟨42, _⟩ => ⟨S64x3584, .f32⟩
  | .hbm, ⟨43, _⟩ => ⟨S64x3584, .f32⟩
  | .hbm, ⟨44, _⟩ => ⟨S64x8192, .f32⟩
  | .hbm, ⟨45, _⟩ => ⟨S64x8192, .bf16⟩
  | .hbm, ⟨46, _⟩ => ⟨S_, .f32⟩
  | .hbm, ⟨47, _⟩ => ⟨S64x8192, .f32⟩
  | .hbm, ⟨48, _⟩ => ⟨S64x8192, .f32⟩
  | .hbm, ⟨49, _⟩ => ⟨S_, .f32⟩
  | .hbm, ⟨50, _⟩ => ⟨S64x8192, .f32⟩
  | .hbm, ⟨51, _⟩ => ⟨S64x8192, .f32⟩
  | .hbm, ⟨52, _⟩ => ⟨S64x8192, .f32⟩
  | _, _ => ⟨S8x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_cst_0 : Ref sig .tc := ⟨.hbm, 11, rfl⟩
abbrev main_call0_v0 : Ref sig .tc := ⟨.hbm, 12, rfl⟩
abbrev main_call0_v1 : Ref sig .tc := ⟨.hbm, 13, rfl⟩
abbrev main_v2 : Ref sig .tc := ⟨.hbm, 14, rfl⟩
abbrev main_cst_1 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_3 : Ref sig .tc := ⟨.hbm, 28, rfl⟩
abbrev main_v14 : Ref sig .tc := ⟨.hbm, 29, rfl⟩
abbrev main_v15 : Ref sig .tc := ⟨.hbm, 30, rfl⟩
abbrev main_cst_4 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_5 : Ref sig .tc := ⟨.hbm, 46, rfl⟩
abbrev main_v30 : Ref sig .tc := ⟨.hbm, 47, rfl⟩
abbrev main_v31 : Ref sig .tc := ⟨.hbm, 48, rfl⟩
abbrev main_cst_6 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩

abbrev nD : Nat := 1
abbrev τ : Topo := Topo.v7x

variable {F : FTy → Type} [FloatOps F]
-- ==== Proof.Fwd.GateUp.lean ====
module

public import proofs.«01_k».proof.Proof.Gen.FwdIdeal.Frame
public import Idealize.ShloMosaic.Lib.Pipeline.ValueKit

/-! The call `gate_up`: what its three result arrays hold after the run, as functions of the arrays it reads. -/

@[expose] public section

set_option maxRecDepth 16384

noncomputable section

open Idealize.ShloMosaic Idealize.ShloMosaic.TcCoe Idealize.SL.Sem
open Idealize.ShloMosaic.Pipeline (Dat)
open scoped BigOperators

namespace Cert.FwdIdeal.Value

open Cert.FwdIdeal Cert.FwdIdeal.Gen

/-- One linear layer: the product with the weight, and the product of the packed low-rank operands. -/
def linear (H : FVec Ideal S12288x8192 .bf16) (T : FVec Ideal S12288x256 .bf16)
    (W : FVec Ideal S3584x8192 .bf16) (B : FVec Ideal S3584x256 .bf16) : FVec Ideal S12288x3584 .f32 :=
  fun j => (((∑ k : Fin 8192, H (ix2 (j 0) k) * W (ix2 (j 1) k)) + ∑ k : Fin 256, T (ix2 (j 0) k) * B (ix2 (j 1) k)) : Ideal .bf16)

/-- The gated activation of the two layers' outputs. -/
def gated (UG UU : FVec Ideal S12288x3584 .f32) (RG RU : FVec Ideal S1x3584 .f32) : FVec Ideal S12288x3584 .bf16 :=
  fun j => ((RG (ix2 0 (j 1)) * UG j * Ideal.logistic (RG (ix2 0 (j 1)) * UG j) * (RU (ix2 0 (j 1)) * UU j)) : Ideal .f32)

theorem pay2 (h : FVec Ideal S1024x8192 .bf16) (t : FVec Ideal S1024x256 .bf16) (w : FVec Ideal S256x8192 .bf16)
    (b : FVec Ideal S256x256 .bf16) (j : S1024x256.Idx) : k1_pay2 (F := Ideal) h t w b j
      = (((∑ k : Fin 8192, h (ix2 (j 0) k) * w (ix2 (j 1) k)) + ∑ k : Fin 256, t (ix2 (j 0) k) * b (ix2 (j 1) k)) : Ideal .bf16) := by
  pointwise [k1_pay2, k1_pay1]

theorem pay3 (h : FVec Ideal S1024x8192 .bf16) (t : FVec Ideal S1024x256 .bf16) (w : FVec Ideal S256x8192 .bf16)
    (b : FVec Ideal S256x256 .bf16) (j : S1024x256.Idx) : k1_pay3 (F := Ideal) h t w b j
      = (((∑ k : Fin 8192, h (ix2 (j 0) k) * w (ix2 (j 1) k)) + ∑ k : Fin 256, t (ix2 (j 0) k) * b (ix2 (j 1) k)) : Ideal .bf16) := by
  pointwise [k1_pay3, k1_pay1]

theorem pay4 (h : FVec Ideal S1024x8192 .bf16) (t : FVec Ideal S1024x256 .bf16) (wg wu : FVec Ideal S256x8192 .bf16)
    (bg bu : FVec Ideal S256x256 .bf16) (rg ru : FVec Ideal S1x256 .f32) (j : S1024x256.Idx) : k1_pay4 (F := Ideal) h t wg bg wu bu rg ru j
      = ((rg (ix2 0 (j 1)) * k1_pay2 (F := Ideal) h t wg bg j * Ideal.logistic (rg (ix2 0 (j 1)) * k1_pay2 (F := Ideal) h t wg bg j)
        * (ru (ix2 0 (j 1)) * k1_pay3 (F := Ideal) h t wu bu j)) : Ideal .f32) := by
  pointwise [k1_pay4]

/-- Every window's block index at a grid point. -/
theorem idx1 : ∀ t : Fin cfg1.N, win1_0.index t = ![t.val / 14, 0] ∧ win1_1.index t = ![t.val / 14, 0]
    ∧ win1_2.index t = ![t.val % 14, 0] ∧ win1_3.index t = ![t.val % 14, 0] ∧ win1_4.index t = ![t.val % 14, 0]
    ∧ win1_5.index t = ![t.val % 14, 0] ∧ win1_6.index t = ![0, t.val % 14] ∧ win1_7.index t = ![0, t.val % 14]
    ∧ win1_8.index t = ![t.val / 14, t.val % 14] ∧ win1_9.index t = ![t.val / 14, t.val % 14]
    ∧ win1_10.index t = ![t.val / 14, t.val % 14] :=
  (by decide +kernel : ∀ t : Fin grid1.N, _)

variable (V : (c : Dev nD) → (b : Ref sig .tc) → Buf (Elt Ideal) ((c : Thread nD τ).loc b))

theorem final1_8 (c : Dev nD) : (dat1 V c).arrAt 8 cfg1.N
    = linear (V c main_v5_0) (V c main_v5_2) (V c main_arg4) (V c main_v3) := by
  refine (dat1 V c).arrAt_eq_of_covers 8 _ (by decide +kernel) fun t _ y => ?_
  blk_simp
  rw [after1_8]; frame_out
  rw [pay2]
  unfold linear
  blk_point [iblk1, idx1 t]
  all_goals blk_ext! [idx1 t]

theorem final1_9 (c : Dev nD) : (dat1 V c).arrAt 9 cfg1.N
    = linear (V c main_v5_0) (V c main_v5_2) (V c main_arg5) (V c main_v4) := by
  refine (dat1 V c).arrAt_eq_of_covers 9 _ (by decide +kernel) fun t _ y => ?_
  blk_simp
  rw [after1_9]; frame_out
  rw [pay3]
  unfold linear
  blk_point [iblk1, idx1 t]
  all_goals blk_ext! [idx1 t]

theorem final1_10 (c : Dev nD) : (dat1 V c).arrAt 10 cfg1.N
    = gated (linear (V c main_v5_0) (V c main_v5_2) (V c main_arg4) (V c main_v3))
      (linear (V c main_v5_0) (V c main_v5_2) (V c main_arg5) (V c main_v4)) (V c main_arg8) (V c main_arg9) := by
  refine (dat1 V c).arrAt_eq_of_covers 10 _ (by decide +kernel) fun t _ y => ?_
  blk_simp
  rw [after1_10]; frame_out
  rw [pay4, pay2, pay3]
  unfold gated linear
  blk_point [iblk1, idx1 t]
  all_goals blk_ext! [idx1 t]

end Cert.FwdIdeal.Value
-- ==== Proof.Fwd.Rms.lean ====
module

public import proofs.«01_k».proof.Proof.Gen.FwdIdeal.Frame
public import Idealize.ShloMosaic.Lib.Pipeline.ValueKit

/-! The call `rms`: what its three result arrays hold after the run, as functions of the arrays it reads. -/

@[expose] public section

set_option maxRecDepth 16384

noncomputable section

open Idealize.ShloMosaic Idealize.ShloMosaic.TcCoe Idealize.SL.Sem
open Idealize.ShloMosaic.Pipeline (Dat)
open scoped BigOperators

namespace Cert.FwdIdeal.Value

open Cert.FwdIdeal Cert.FwdIdeal.Gen

/-- The reciprocal root mean square of one row. -/
def rowInv (x : Fin 8192 → EReal) : EReal :=
  Ideal.div 1 (Ideal.sqrt (Ideal.div (∑ k : Fin 8192, x k * x k) (Ideal.ofBits .f32 0x46000000#32)
    + Ideal.ofBits .f32 0x3727C5AC#32))

/-- The reciprocal root mean square of every row. -/
def rinv (X : FVec Ideal S12288x8192 .bf16) : FVec Ideal S12288x1 .f32 :=
  fun j => rowInv fun k => X (ix2 (j 0) k)

/-- The normalised rows. -/
def normed (X : FVec Ideal S12288x8192 .bf16) (W : FVec Ideal S1x8192 .f32) : FVec Ideal S12288x8192 .bf16 :=
  fun j => ((show EReal from X j) * (show EReal from rowInv fun k => X (ix2 (j 0) k)) * (show EReal from W (ix2 0 (j 1))) : EReal)

/-- The shape of one low-rank product. -/
abbrev S12288x64 : Shape := ⟨2, ![12288, 64]⟩

/-- The product of the rows with one low-rank factor. -/
def lowRank (H : FVec Ideal S12288x8192 .bf16) (A : FVec Ideal S64x8192 .bf16) : FVec Ideal S12288x64 .bf16 :=
  fun j => ∑ k : Fin 8192, H (ix2 (j 0) k) * A (ix2 (j 1) k)

/-- One row of the packed low-rank products: each once times a quarter and once times an eighth. -/
def packRow (a b : Fin 64 → EReal) (l : Fin 256) : EReal :=
  if h : l.val < 64 then a ⟨l.val, h⟩ * Ideal.ofBits .bf16 0x3E80#16
  else if h : l.val - 64 < 64 then a ⟨l.val - 64, h⟩ * Ideal.ofBits .bf16 0x3E00#16
  else if h : l.val - 64 - 64 < 64 then b ⟨l.val - 64 - 64, h⟩ * Ideal.ofBits .bf16 0x3E80#16
  else b ⟨l.val - 64 - 64 - 64, by have := l.isLt; omega⟩ * Ideal.ofBits .bf16 0x3E00#16

/-- Both low-rank products, packed row by row. -/
def packed (A B : FVec Ideal S12288x64 .bf16) : FVec Ideal S12288x256 .bf16 := fun j =>
  packRow (fun k => A (ix2 (j 0) k)) (fun k => B (ix2 (j 0) k)) (j 1)

theorem rinv_block (x : FVec Ideal S512x8192 .bf16) (j : S512x1.Idx) : k0_pay2 (F := Ideal) x j
      = rowInv fun k => x (ix2 (j 0) k) := by
  unfold rowInv
  pointwise [k0_pay2]

theorem normed_block (x : FVec Ideal S512x8192 .bf16) (w : FVec Ideal S1x8192 .f32) (j : S512x8192.Idx) :
    k0_pay3 (F := Ideal) x x w j
      = ((show EReal from x j) * (show EReal from rowInv fun k => x (ix2 (j 0) k)) * (show EReal from w (ix2 0 (j 1))) : EReal) := by
  pointwise [k0_pay3]
  rw [rinv_block]
  rfl

theorem packed_block (a b : FVec Ideal S512x64 .bf16) (j : S512x256.Idx) : k0_pay1 (F := Ideal) a b k0_pay7 j
      = packRow (fun k => a (ix2 (j 0) k)) (fun k => b (ix2 (j 0) k)) (j 1) := by
  idx_vars j
  unfold packRow
  pointwise [k0_pay1, k0_pay7]

theorem lowRank_gate (x : FVec Ideal S512x8192 .bf16) (w : FVec Ideal S1x8192 .f32) (a b : FVec Ideal S64x8192 .bf16)
    (r : Fin 512) (l : Fin 64) : k0_pay5 (F := Ideal) a b (k0_pay3 (F := Ideal) x x w) (ix2 r l)
      = ∑ k : Fin 8192, (show EReal from x (ix2 r k)) * (show EReal from rowInv fun i => x (ix2 r i))
        * (show EReal from w (ix2 0 k)) * (show EReal from a (ix2 l k)) := by
  pointwise [k0_pay5, k0_pay4]
  refine Finset.sum_congr rfl fun k _ => ?_
  rw [normed_block]; rfl

theorem lowRank_up (x : FVec Ideal S512x8192 .bf16) (w : FVec Ideal S1x8192 .f32) (a b : FVec Ideal S64x8192 .bf16)
    (r : Fin 512) (l : Fin 64) : k0_pay6 (F := Ideal) a b (k0_pay3 (F := Ideal) x x w) (ix2 r l)
      = ∑ k : Fin 8192, (show EReal from x (ix2 r k)) * (show EReal from rowInv fun i => x (ix2 r i))
        * (show EReal from w (ix2 0 k)) * (show EReal from b (ix2 l k)) := by
  pointwise [k0_pay6, k0_pay4]
  refine Finset.sum_congr rfl fun k _ => ?_
  rw [normed_block]; rfl

theorem lowRank_normed (X : FVec Ideal S12288x8192 .bf16) (W : FVec Ideal S1x8192 .f32) (A : FVec Ideal S64x8192 .bf16)
    (r : Fin 12288) (l : Fin 64) : lowRank (normed X W) A (ix2 r l)
      = ∑ k : Fin 8192, (show EReal from X (ix2 r k)) * (show EReal from rowInv fun i => X (ix2 r i))
        * (show EReal from W (ix2 0 k)) * (show EReal from A (ix2 l k)) := rfl

/-- Every window's block index at a grid point. -/
theorem idx0 : ∀ t : Fin cfg0.N, win0_0.index t = ![t.val, 0] ∧ win0_1.index t = ![0, 0] ∧ win0_2.index t = ![0, 0]
    ∧ win0_3.index t = ![0, 0] ∧ win0_4.index t = ![t.val, 0] ∧ win0_5.index t = ![t.val, 0]
    ∧ win0_6.index t = ![t.val, 0] :=
  (by decide +kernel : ∀ t : Fin grid0.N, _)

variable (V : (c : Dev nD) → (b : Ref sig .tc) → Buf (Elt Ideal) ((c : Thread nD τ).loc b))

theorem final0_5 (c : Dev nD) : (dat0 V c).arrAt 5 cfg0.N = rinv (V c main_v0) := by
  refine (dat0 V c).arrAt_eq_of_covers 5 _ (by decide +kernel) fun t _ y => ?_
  blk_simp
  rw [after0_5]; frame_out
  rw [rinv_block]
  refine congrArg rowInv (funext fun k => ?_)
  blk_ext! [iblk0, idx0 t]

theorem final0_4 (c : Dev nD) : (dat0 V c).arrAt 4 cfg0.N = normed (V c main_v0) (V c main_v1) := by
  refine (dat0 V c).arrAt_eq_of_covers 4 _ (by decide +kernel) fun t _ y => ?_
  blk_simp
  rw [after0_4, show (outsAt0 V c t).1 = k0_pay3 (iblk0 V c 0 t) (iblk0 V c 0 t) (iblk0 V c 1 t) from by frame_out]
  rw [normed_block]
  refine Ideal.mul_congr (Ideal.mul_congr ?_ (congrArg rowInv (funext fun k => ?_))) ?_
  all_goals blk_ext! [iblk0, idx0 t]

theorem final0_6 (c : Dev nD) : (dat0 V c).arrAt 6 cfg0.N
    = packed (lowRank (normed (V c main_v0) (V c main_v1)) (V c main_arg2))
      (lowRank (normed (V c main_v0) (V c main_v1)) (V c main_arg3)) := by
  refine (dat0 V c).arrAt_eq_of_covers 6 _ (by decide +kernel) fun t _ y => ?_
  blk_simp
  rw [after0_6]; frame_out
  rw [packed_block]
  unfold packed
  refine congr (congrArg₂ _ (funext fun l => ?_) (funext fun l => ?_)) (Fin.ext ?_)
  · refine (lowRank_gate _ _ _ _ _ _).trans (Eq.trans ?_ (lowRank_normed _ _ _ _ _).symm)
    refine Fin.sum_fin_congr fun k => ?_
    refine Ideal.mul_congr (Ideal.mul_congr (Ideal.mul_congr ?_ (congrArg rowInv (funext fun k => ?_))) ?_) ?_
    all_goals blk_ext! [iblk0, idx0 t]
  · refine (lowRank_up _ _ _ _ _ _).trans (Eq.trans ?_ (lowRank_normed _ _ _ _ _).symm)
    refine Fin.sum_fin_congr fun k => ?_
    refine Ideal.mul_congr (Ideal.mul_congr (Ideal.mul_congr ?_ (congrArg rowInv (funext fun k => ?_))) ?_) ?_
    all_goals blk_ext! [iblk0, idx0 t]
  · blk_simp [idx0 t]

end Cert.FwdIdeal.Value
-- ==== Proof.Fwd.Entry.lean ====
module

public import proofs.«01_k».proof.Proof.Fwd.GateUp
public import proofs.«01_k».proof.Proof.Fwd.Rms

/-! What the two calls read: the host operations' arrays and the first call's results. -/

@[expose] public section

set_option maxRecDepth 16384

noncomputable section

open Idealize.ShloMosaic Idealize.ShloMosaic.TcCoe Idealize.SL.Sem
open Idealize.ShloMosaic.Pipeline (Dat)

namespace Cert.FwdIdeal.Value

open Cert.FwdIdeal Cert.FwdIdeal.Gen

variable (m : (ℓ : Loc nD τ sig) → Buf (Elt Ideal) ℓ) (ρ : Dev nD → PrngReg)

/-! ### What the host operations leave -/

theorem x_entry (c : Dev nD) : V1 m ρ c main_v0
    = shapeCast S12288x8192 (m ((c : Thread nD τ).loc main_arg0)) shapeCasts_S6x2048x8192_S12288x8192 := by
  dsimp only [V1, W1]; after_results; try rfl

theorem w_entry (c : Dev nD) : V1 m ρ c main_v1
    = shapeCast S1x8192 (m ((c : Thread nD τ).loc main_arg1)) shapeCasts_S8192_S1x8192 := by
  dsimp only [V1, W1]; after_results; try rfl

/-- The block of zeros beside the low-rank factors. -/
def zeros : FVec Ideal S3584x64 .bf16 := broadcastInDim S3584x64 ![] bcast_S_S3584x64 (constant S_ .bf16 0x0000#16)

theorem bg_entry (c : Dev nD) : V1 m ρ c main_v3
    = concatenate S3584x256 1 [⟨S3584x64, (m ((c : Thread nD τ).loc main_arg6) : FVec Ideal S3584x64 .bf16)⟩,
      ⟨S3584x64, (m ((c : Thread nD τ).loc main_arg6) : FVec Ideal S3584x64 .bf16)⟩, ⟨S3584x64, zeros⟩, ⟨S3584x64, zeros⟩]
      concatenates_S3584x64_S3584x64_S3584x64_S3584x64_S3584x256_d1 := by
  dsimp only [V1, W1]; after_results; try rfl

theorem bu_entry (c : Dev nD) : V1 m ρ c main_v4
    = concatenate S3584x256 1 [⟨S3584x64, zeros⟩, ⟨S3584x64, zeros⟩,
      ⟨S3584x64, (m ((c : Thread nD τ).loc main_arg7) : FVec Ideal S3584x64 .bf16)⟩,
      ⟨S3584x64, (m ((c : Thread nD τ).loc main_arg7) : FVec Ideal S3584x64 .bf16)⟩]
      concatenates_S3584x64_S3584x64_S3584x64_S3584x64_S3584x256_d1 := by
  dsimp only [V1, W1]; after_results; try rfl

/-! ### What the second call reads -/

theorem hn_entry (c : Dev nD) : V2 m ρ c main_v5_0 = normed (V1 m ρ c main_v0) (V1 m ρ c main_v1) :=
  (W2_arr m ρ c 4).trans (final0_4 (V1 m ρ) c)
theorem r_entry (c : Dev nD) : V2 m ρ c main_v5_1 = rinv (V1 m ρ c main_v0) :=
  (W2_arr m ρ c 5).trans (final0_5 (V1 m ρ) c)
theorem t_entry (c : Dev nD) : V2 m ρ c main_v5_2
    = packed (lowRank (normed (V1 m ρ c main_v0) (V1 m ρ c main_v1)) (m ((c : Thread nD τ).loc main_arg2)))
      (lowRank (normed (V1 m ρ c main_v0) (V1 m ρ c main_v1)) (m ((c : Thread nD τ).loc main_arg3))) := by
  refine ((W2_arr m ρ c 6).trans (final0_6 (V1 m ρ) c)).trans ?_
  rw [show V1 m ρ c main_arg2 = _ from W1_args m ρ c main_arg2 (by decide), show V1 m ρ c main_arg3 = _ from W1_args m ρ c main_arg3 (by decide)]
theorem bg_kept (c : Dev nD) : V2 m ρ c main_v3 = V1 m ρ c main_v3 := W2_of m ρ c main_v3 (by decide)
theorem bu_kept (c : Dev nD) : V2 m ρ c main_v4 = V1 m ρ c main_v4 := W2_of m ρ c main_v4 (by decide)

end Cert.FwdIdeal.Value
-- ==== Proof.Fwd.Run.lean ====
module

public import proofs.«01_k».proof.Proof.Gen.FwdIdeal.Frame
public import Idealize.ShloMosaic.Lib.Pipeline.ValueKit

/-! The run of the two calls: where the results lie at the end. -/

@[expose] public section

set_option maxRecDepth 16384

noncomputable section

namespace Cert.FwdIdeal.Value

open Cert.FwdIdeal Cert.FwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- Every execution ends with the results at what the two calls leave and the arguments unchanged. -/
theorem run : θ_run defs (onTc (τ := τ) (main (F := Ideal))) ⟨m, fun _ => 0, ρ⟩ (fun r => (∀ c : Dev nD,
      r.2.mem ((c.tc : Thread nD τ).loc main_v6_2) = W3 m ρ c main_v6_2
      ∧ r.2.mem ((c.tc : Thread nD τ).loc main_v6_0) = W3 m ρ c main_v6_0
      ∧ r.2.mem ((c.tc : Thread nD τ).loc main_v6_1) = W3 m ρ c main_v6_1
      ∧ r.2.mem ((c.tc : Thread nD τ).loc main_v5_0) = W3 m ρ c main_v5_0
      ∧ r.2.mem ((c.tc : Thread nD τ).loc main_v5_1) = W3 m ρ c main_v5_1
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h hz => fun c =>
      ⟨h c _ (mem_uc main_v6_2 (by decide)), h c _ (mem_uc main_v6_0 (by decide)), h c _ (mem_uc main_v6_1 (by decide)),
       h c _ (mem_uc main_v5_0 (by decide)), h c _ (mem_uc main_v5_1 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c),
       (h c _ (mem_uc main_arg5 (by decide))).trans (W3_main_arg5 m ρ c),
       (h c _ (mem_uc main_arg6 (by decide))).trans (W3_main_arg6 m ρ c),
       (h c _ (mem_uc main_arg7 (by decide))).trans (W3_main_arg7 m ρ c),
       (h c _ (mem_uc main_arg8 (by decide))).trans (W3_main_arg8 m ρ c),
       (h c _ (mem_uc main_arg9 (by decide))).trans (W3_main_arg9 m ρ c)⟩)

end Cert.FwdIdeal.Value
-- ==== Proof.Common.Scale.lean ====
module

public import Idealize.ShloMosaic.Lib.Pipeline.ValueKit

/-! The adapter's scale three eighths, split into a quarter and an eighth: sums over the extended reals. -/

@[expose] public section

noncomputable section

open Idealize.ShloMosaic
open scoped BigOperators

namespace Cert.Scale

theorem quarter : Ideal.ofBits .bf16 0x3E80#16 = ((1 / 4 : ℝ) : EReal) := by
  simp [Ideal.ofBits, Ideal.ieee]
  norm_num
  rw [← EReal.coe_mul]
  norm_num
theorem eighth : Ideal.ofBits .bf16 0x3E00#16 = ((1 / 8 : ℝ) : EReal) := by
  simp [Ideal.ofBits, Ideal.ieee]
  norm_num
  rw [← EReal.coe_mul]
  norm_num
theorem scale : Ideal.ofBits .f32 0x3EC00000#32 = ((3 / 8 : ℝ) : EReal) := by
  simp [Ideal.ofBits, Ideal.ieee]
  norm_num
  rw [← EReal.coe_mul]
  norm_num

/-- A finite nonnegative factor moves into a sum. -/
theorem mul_sum {n : ℕ} (c : ℝ) (hc : 0 ≤ c) (f : Fin n → EReal) : (c : EReal) * ∑ k, f k = ∑ k, (c : EReal) * f k := by
  have h : ∀ s : Finset (Fin n), (c : EReal) * ∑ k ∈ s, f k = ∑ k ∈ s, (c : EReal) * f k := by
    intro s
    induction s using Finset.induction_on with
    | empty => simp
    | insert a s ha ih =>
      rw [Finset.sum_insert ha, Finset.sum_insert ha,
        EReal.left_distrib_of_nonneg_of_ne_top (by exact_mod_cast hc) (EReal.coe_ne_top c), ih]
  exact h _

/-- A quarter and an eighth of a value make three eighths of it. -/
theorem quarter_add_eighth (x : EReal) : ((1 / 4 : ℝ) : EReal) * x + ((1 / 8 : ℝ) : EReal) * x = ((3 / 8 : ℝ) : EReal) * x := by
  rw [← EReal.right_distrib_of_nonneg (by exact_mod_cast (by norm_num : (0 : ℝ) ≤ 1 / 4)) (by exact_mod_cast (by norm_num : (0 : ℝ) ≤ 1 / 8)),
    ← EReal.coe_add]
  norm_num

/-- A contraction whose left operand carries both parts of the scale. -/
theorem sum_scaled {n : ℕ} (a b : Fin n → EReal) :
    (∑ k, a k * Ideal.ofBits .bf16 0x3E80#16 * b k) + ∑ k, a k * Ideal.ofBits .bf16 0x3E00#16 * b k
      = Ideal.ofBits .f32 0x3EC00000#32 * ∑ k, a k * b k := by
  rw [quarter, eighth, scale, ← quarter_add_eighth, mul_sum _ (by norm_num), mul_sum _ (by norm_num)]
  congr 1 <;> exact Finset.sum_congr rfl fun k _ => by rw [mul_comm (a k), mul_assoc]

end Cert.Scale
-- ==== Proof.Fwd.Ref.lean ====
module

public import proofs.«01_k».proof.Proof.Fwd.GateUp
public import proofs.«01_k».proof.Proof.Fwd.Rms
public import proofs.«01_k».proof.Proof.Common.Scale
public import proofs.«01_k».proof.Proof.Gen.FwdRefIdeal.Read

/-! The reference of the forward part, layer by layer, equals what the two calls compute. -/

@[expose] public section

set_option maxRecDepth 16384

noncomputable section

open Idealize.ShloMosaic Idealize.ShloMosaic.TcCoe Idealize.SL.Sem
open scoped BigOperators

namespace Cert.FwdIdeal.Value

open Cert.FwdRefIdeal.Read

theorem ref_rinv (x : FVec Ideal Cert.FwdIdeal.S6x2048x8192 .bf16) :
    val_main_v11 (F := Ideal) x = rinv (val_main_v0 (F := Ideal) x) := by
  funext j
  idx_vars j
  unfold rinv rowInv
  pointwise [val_main_v11, val_main_v10, val_main_v9, val_main_v8, val_main_v7, val_main_v6, val_main_v5, val_main_v4,
    val_main_v3, val_main_v2, val_main_v1, val_main_cst, val_main_cst_0, val_main_cst_1, val_main_cst_2]

theorem ref_normed (x : FVec Ideal Cert.FwdIdeal.S6x2048x8192 .bf16) (w : FVec Ideal Cert.FwdIdeal.S8192 .f32)
    (W : FVec Ideal Cert.FwdIdeal.S1x8192 .f32) (hW : ∀ k : Fin 8192, W (ix2 0 k) = w (ix1 k)) :
    val_main_v17 (F := Ideal) x w = normed (val_main_v0 (F := Ideal) x) W := by
  funext j
  idx_vars j
  pointwise [val_main_v17, val_main_v16, val_main_v15, val_main_v14, val_main_v13, val_main_v12, val_main_v1]
  rw [ref_rinv, ← hW]
  rfl

theorem ref_low_gate (x : FVec Ideal Cert.FwdIdeal.S6x2048x8192 .bf16) (w : FVec Ideal Cert.FwdIdeal.S8192 .f32)
    (a : FVec Ideal Cert.FwdIdeal.S64x8192 .bf16) : val_main_v19 (F := Ideal) x w a = lowRank (val_main_v17 (F := Ideal) x w) a := by
  funext j
  idx_vars j
  unfold lowRank
  pointwise [val_main_v19, val_main_v18]

theorem ref_low_up (x : FVec Ideal Cert.FwdIdeal.S6x2048x8192 .bf16) (w : FVec Ideal Cert.FwdIdeal.S8192 .f32)
    (a : FVec Ideal Cert.FwdIdeal.S64x8192 .bf16) : val_main_v28 (F := Ideal) x w a = lowRank (val_main_v17 (F := Ideal) x w) a := by
  funext j
  idx_vars j
  unfold lowRank
  pointwise [val_main_v28, val_main_v27]

/-- A contraction with a packed row, piece by piece. -/
theorem sum_packRow (a b p q u v : Fin 64 → EReal) :
    (∑ k : Fin 256, packRow a b k
        * (if h : k.val < 64 then p ⟨k.val, h⟩ else if h : k.val - 64 < 64 then q ⟨k.val - 64, h⟩
          else if h : k.val - 64 - 64 < 64 then u ⟨k.val - 64 - 64, h⟩
          else v ⟨k.val - 64 - 64 - 64, by have := k.isLt; omega⟩))
      = (∑ k : Fin 64, a k * Ideal.ofBits .bf16 0x3E80#16 * p k) + (∑ k : Fin 64, a k * Ideal.ofBits .bf16 0x3E00#16 * q k)
        + ((∑ k : Fin 64, b k * Ideal.ofBits .bf16 0x3E80#16 * u k) + ∑ k : Fin 64, b k * Ideal.ofBits .bf16 0x3E00#16 * v k) := by
  rw [Fin.sum_univ_two_halves 128 128 rfl, Fin.sum_univ_two_halves 64 64 rfl, Fin.sum_univ_two_halves 64 64 rfl]
  unfold packRow
  refine congrArg₂ (· + ·) (congrArg₂ (· + ·) ?_ ?_) (congrArg₂ (· + ·) ?_ ?_)
  all_goals
    refine Finset.sum_congr rfl fun k _ => ?_
    have hk := k.isLt
    simp (disch := omega) only [dif_pos, dif_neg] <;>
    exact congrArg₂ (· * ·) (congrArg (· * _) (congrArg _ (Fin.ext (by first | rfl | (dsimp only; omega)))))
      (congrArg _ (Fin.ext (by first | rfl | (dsimp only; omega))))

theorem packed_gate (tg tu : FVec Ideal S12288x64 .bf16) (b z : FVec Ideal Cert.FwdIdeal.S3584x64 .bf16)
    (hz : ∀ o k, z (ix2 o k) = (0 : EReal)) (h) (i : Fin 12288) (o : Fin 3584) :
    (∑ k : Fin 256, packed tg tu (ix2 i k) * (concatenate Cert.FwdIdeal.S3584x256 1 [⟨Cert.FwdIdeal.S3584x64, b⟩, ⟨Cert.FwdIdeal.S3584x64, b⟩, ⟨Cert.FwdIdeal.S3584x64, z⟩, ⟨Cert.FwdIdeal.S3584x64, z⟩] h : FVec Ideal Cert.FwdIdeal.S3584x256 .bf16) (ix2 o k))
      = Ideal.ofBits .f32 0x3EC00000#32 * ∑ k : Fin 64, tg (ix2 i k) * b (ix2 o k) := by
  unfold packed
  pointwise []
  refine (sum_packRow (fun k => tg (ix2 i k)) (fun k => tu (ix2 i k)) (fun k => b (ix2 o k)) (fun k => b (ix2 o k))
    (fun k => z (ix2 o k)) (fun k => z (ix2 o k))).trans ?_
  simp only [hz, mul_zero, Finset.sum_const_zero, add_zero]
  exact Scale.sum_scaled _ _

theorem packed_up (tg tu : FVec Ideal S12288x64 .bf16) (b z : FVec Ideal Cert.FwdIdeal.S3584x64 .bf16)
    (hz : ∀ o k, z (ix2 o k) = (0 : EReal)) (h) (i : Fin 12288) (o : Fin 3584) :
    (∑ k : Fin 256, packed tg tu (ix2 i k) * (concatenate Cert.FwdIdeal.S3584x256 1 [⟨Cert.FwdIdeal.S3584x64, z⟩, ⟨Cert.FwdIdeal.S3584x64, z⟩, ⟨Cert.FwdIdeal.S3584x64, b⟩, ⟨Cert.FwdIdeal.S3584x64, b⟩] h : FVec Ideal Cert.FwdIdeal.S3584x256 .bf16) (ix2 o k))
      = Ideal.ofBits .f32 0x3EC00000#32 * ∑ k : Fin 64, tu (ix2 i k) * b (ix2 o k) := by
  unfold packed
  pointwise []
  refine (sum_packRow (fun k => tg (ix2 i k)) (fun k => tu (ix2 i k)) (fun k => z (ix2 o k)) (fun k => z (ix2 o k))
    (fun k => b (ix2 o k)) (fun k => b (ix2 o k))).trans ?_
  simp only [hz, mul_zero, Finset.sum_const_zero, zero_add]
  exact Scale.sum_scaled _ _

theorem ref_gate (x : FVec Ideal Cert.FwdIdeal.S6x2048x8192 .bf16) (w : FVec Ideal Cert.FwdIdeal.S8192 .f32)
    (a a' : FVec Ideal Cert.FwdIdeal.S64x8192 .bf16) (g : FVec Ideal Cert.FwdIdeal.S3584x8192 .bf16)
    (b z : FVec Ideal Cert.FwdIdeal.S3584x64 .bf16) (hz : ∀ o k, z (ix2 o k) = (0 : EReal)) (h) :
    val_main_v24 (F := Ideal) x w a g b = linear (val_main_v17 (F := Ideal) x w)
      (packed (val_main_v19 (F := Ideal) x w a) (val_main_v28 (F := Ideal) x w a')) g
      (concatenate Cert.FwdIdeal.S3584x256 1 [⟨Cert.FwdIdeal.S3584x64, b⟩, ⟨Cert.FwdIdeal.S3584x64, b⟩, ⟨Cert.FwdIdeal.S3584x64, z⟩, ⟨Cert.FwdIdeal.S3584x64, z⟩] h) := by
  funext j
  idx_vars j
  refine Eq.trans ?_ (congrArg (fun e : EReal => (∑ k : Fin 8192, val_main_v17 (F := Ideal) x w (ix2 j0 k) * g (ix2 j1 k) : EReal) + e) (packed_gate _ _ b z hz h j0 j1).symm)
  pointwise [val_main_v24, val_main_v23, val_main_v22, val_main_v21, val_main_v20, val_main_cst_3]

theorem ref_up (x : FVec Ideal Cert.FwdIdeal.S6x2048x8192 .bf16) (w : FVec Ideal Cert.FwdIdeal.S8192 .f32)
    (a a' : FVec Ideal Cert.FwdIdeal.S64x8192 .bf16) (g : FVec Ideal Cert.FwdIdeal.S3584x8192 .bf16)
    (b z : FVec Ideal Cert.FwdIdeal.S3584x64 .bf16) (hz : ∀ o k, z (ix2 o k) = (0 : EReal)) (h) :
    val_main_v33 (F := Ideal) x w a' g b = linear (val_main_v17 (F := Ideal) x w)
      (packed (val_main_v19 (F := Ideal) x w a) (val_main_v28 (F := Ideal) x w a')) g
      (concatenate Cert.FwdIdeal.S3584x256 1 [⟨Cert.FwdIdeal.S3584x64, z⟩, ⟨Cert.FwdIdeal.S3584x64, z⟩, ⟨Cert.FwdIdeal.S3584x64, b⟩, ⟨Cert.FwdIdeal.S3584x64, b⟩] h) := by
  funext j
  idx_vars j
  refine Eq.trans ?_ (congrArg (fun e : EReal => (∑ k : Fin 8192, val_main_v17 (F := Ideal) x w (ix2 j0 k) * g (ix2 j1 k) : EReal) + e) (packed_up _ _ b z hz h j0 j1).symm)
  pointwise [val_main_v33, val_main_v32, val_main_v31, val_main_v30, val_main_v29, val_main_cst_4]

theorem ref_act (x : FVec Ideal Cert.FwdIdeal.S6x2048x8192 .bf16) (w : FVec Ideal Cert.FwdIdeal.S8192 .f32)
    (a b wg wu bg bu rg ru) : val_main_v44 (F := Ideal) x w a b wg wu bg bu rg ru
      = gated (val_main_v24 (F := Ideal) x w a wg bg) (val_main_v33 (F := Ideal) x w b wu bu) rg ru := by
  funext j
  idx_vars j
  unfold gated Ideal.logistic
  pointwise [val_main_v44, val_main_v43, val_main_v42, val_main_v41, val_main_v40, val_main_v39, val_main_v38, val_main_v37, val_main_v36, val_main_v35, val_main_v34, val_main_v26, val_main_v25, val_main_cst_5, val_main_cst_6]

end Cert.FwdIdeal.Value
-- ==== Proof.Fwd.Equation.lean ====
module

public import proofs.«01_k».proof.Proof.Fwd.Entry
public import proofs.«01_k».proof.Proof.Fwd.Run
public import proofs.«01_k».proof.Proof.Fwd.Ref

/-! The results of the two calls are the reference's. -/

@[expose] public section

set_option maxRecDepth 16384

noncomputable section

open Idealize.ShloMosaic Idealize.ShloMosaic.TcCoe Idealize.SL.Sem

namespace Cert.FwdIdeal.Value

open Cert.FwdIdeal Cert.FwdIdeal.Gen Cert.FwdRefIdeal.Read

variable (m : (ℓ : Loc nD τ sig) → Buf (Elt Ideal) ℓ) (ρ : Dev nD → PrngReg)

theorem zeros_apply (o : Fin 3584) (k : Fin 64) : zeros (ix2 o k) = (0 : EReal) := by
  pointwise [zeros]

theorem w_row (w : FVec Ideal S8192 .f32) (k : Fin 8192) :
    shapeCast S1x8192 w shapeCasts_S8192_S1x8192 (ix2 0 k) = w (ix1 k) := by
  pointwise []

theorem final_r (c : Dev nD) : W3 m ρ c main_v5_1 = val_main_v11 (F := Ideal) (m ((c : Thread nD τ).loc main_arg0)) := by
  refine (W3_of m ρ c main_v5_1 (by decide)).trans ((r_entry m ρ c).trans ?_)
  rw [ref_rinv, x_entry]
  rfl

theorem hn_ref (c : Dev nD) : normed (V1 m ρ c main_v0) (V1 m ρ c main_v1)
    = val_main_v17 (F := Ideal) (m ((c : Thread nD τ).loc main_arg0)) (m ((c : Thread nD τ).loc main_arg1)) := by
  rw [ref_normed _ _ _ (w_row (m ((c : Thread nD τ).loc main_arg1))), x_entry, w_entry]
  rfl

theorem final_hn (c : Dev nD) : W3 m ρ c main_v5_0
    = val_main_v17 (F := Ideal) (m ((c : Thread nD τ).loc main_arg0)) (m ((c : Thread nD τ).loc main_arg1)) :=
  (W3_of m ρ c main_v5_0 (by decide)).trans ((hn_entry m ρ c).trans (hn_ref m ρ c))

theorem t_ref (c : Dev nD) : V2 m ρ c main_v5_2
    = packed (val_main_v19 (F := Ideal) (m ((c : Thread nD τ).loc main_arg0)) (m ((c : Thread nD τ).loc main_arg1)) (m ((c : Thread nD τ).loc main_arg2)))
      (val_main_v28 (F := Ideal) (m ((c : Thread nD τ).loc main_arg0)) (m ((c : Thread nD τ).loc main_arg1)) (m ((c : Thread nD τ).loc main_arg3))) := by
  rw [t_entry, hn_ref, ← ref_low_gate, ← ref_low_up]

theorem gate_ref (c : Dev nD) : linear (V2 m ρ c main_v5_0) (V2 m ρ c main_v5_2) (V2 m ρ c main_arg4) (V2 m ρ c main_v3)
    = val_main_v24 (F := Ideal) (m ((c : Thread nD τ).loc main_arg0)) (m ((c : Thread nD τ).loc main_arg1))
      (m ((c : Thread nD τ).loc main_arg2)) (m ((c : Thread nD τ).loc main_arg4)) (m ((c : Thread nD τ).loc main_arg6)) := by
  rw [hn_entry, hn_ref, t_ref, bg_kept, bg_entry, show V2 m ρ c main_arg4 = _ from W2_args m ρ c main_arg4 (by decide)]
  exact (ref_gate _ _ _ _ _ _ zeros zeros_apply _).symm

theorem up_ref (c : Dev nD) : linear (V2 m ρ c main_v5_0) (V2 m ρ c main_v5_2) (V2 m ρ c main_arg5) (V2 m ρ c main_v4)
    = val_main_v33 (F := Ideal) (m ((c : Thread nD τ).loc main_arg0)) (m ((c : Thread nD τ).loc main_arg1))
      (m ((c : Thread nD τ).loc main_arg3)) (m ((c : Thread nD τ).loc main_arg5)) (m ((c : Thread nD τ).loc main_arg7)) := by
  rw [hn_entry, hn_ref, t_ref, bu_kept, bu_entry, show V2 m ρ c main_arg5 = _ from W2_args m ρ c main_arg5 (by decide)]
  exact (ref_up _ _ _ _ _ _ zeros zeros_apply _).symm

theorem final_ug (c : Dev nD) : W3 m ρ c main_v6_0
    = val_main_v24 (F := Ideal) (m ((c : Thread nD τ).loc main_arg0)) (m ((c : Thread nD τ).loc main_arg1))
      (m ((c : Thread nD τ).loc main_arg2)) (m ((c : Thread nD τ).loc main_arg4)) (m ((c : Thread nD τ).loc main_arg6)) :=
  (W3_arr m ρ c 8).trans ((final1_8 (V2 m ρ) c).trans (gate_ref m ρ c))

theorem final_uu (c : Dev nD) : W3 m ρ c main_v6_1
    = val_main_v33 (F := Ideal) (m ((c : Thread nD τ).loc main_arg0)) (m ((c : Thread nD τ).loc main_arg1))
      (m ((c : Thread nD τ).loc main_arg3)) (m ((c : Thread nD τ).loc main_arg5)) (m ((c : Thread nD τ).loc main_arg7)) :=
  (W3_arr m ρ c 9).trans ((final1_9 (V2 m ρ) c).trans (up_ref m ρ c))

theorem final_act (c : Dev nD) : W3 m ρ c main_v6_2
    = val_main_v44 (F := Ideal) (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7))
      (m ((c : Thread nD τ).loc main_arg8)) (m ((c : Thread nD τ).loc main_arg9)) := by
  refine (W3_arr m ρ c 10).trans ((final1_10 (V2 m ρ) c).trans ?_)
  rw [gate_ref, up_ref, ref_act, show V2 m ρ c main_arg8 = _ from W2_args m ρ c main_arg8 (by decide),
    show V2 m ρ c main_arg9 = _ from W2_args m ρ c main_arg9 (by decide)]

end Cert.FwdIdeal.Value
-- ==== Proof.Fwd.Claim.lean ====
module

public import proofs.«01_k».proof.Defs
public import proofs.«01_k».proof.Proof.Fwd.Equation
public import proofs.«01_k».proof.Proof.Gen.Fwd.Frame
public import proofs.«01_k».proof.Proof.Gen.FwdRefIdeal.Run
public import proofs.«01_k».proof.Proof.Gen.FwdRefIdeal.Read
public import Idealize.ShloMosaic.Adequacy
public import Idealize.ShloMosaic.Init

/-! The claims about the forward calls and their reference. -/

@[expose] public section

set_option maxRecDepth 16384

noncomputable section

open Idealize.ShloMosaic Idealize.SL.Sem

namespace Cert.FwdIdeal.Value

/-- The reference runs, leaves its arguments unchanged and every semaphore counter at zero. -/
theorem frame_ref : Cert.quiescent_FwdRefIdeal := by
  intro m g _
  hlo_run
  · exact fun _ => ⟨trivial, trivial, trivial, trivial, trivial, trivial, trivial, trivial, trivial, trivial⟩
  · exact sem_eq_zero_of_no_sems (sig := Cert.FwdRefIdeal.sig) (by decide) _

open Cert.FwdRefIdeal.Read in
set_option maxHeartbeats 1600000 in
/-- The two calls and the reference end with equal results over the extended reals. -/
theorem algebraic : Cert.algebraic_FwdIdeal_FwdRefIdeal := by
  pair_intro
  · run_from Cert.FwdIdeal.Value.run m g
  · run_from Cert.FwdRefIdeal.Value.run m' g'
    · obtain ⟨h0, h1, h2, h3, h4, h5, h6, h7, h8, h9⟩ := hagree c
      rw [val_main_v44_eq, h0, h1, h2, h3, h4, h5, h6, h7, h8, h9]
      exact (final_act m g c).symm
    · exact (final_ug m g c).symm
    · exact (final_uu m g c).symm
    · exact (final_hn m g c).symm
    · exact (final_r m g c).symm

end Cert.FwdIdeal.Value
-- ==== Proof.DownFwd.Payload.lean ====
module

public import proofs.«01_k».proof.Proof.Gen.DownFwdIdeal.Skeleton
public import proofs.«01_k».proof.Proof.Common.Scale
public import Idealize.ShloMosaic.Lib.Pipeline.ValueKit

/-! The call `down_fwd`: the functions it computes, and what one grid point computes, element by element. -/

@[expose] public section

set_option maxRecDepth 16384

noncomputable section

open Idealize.ShloMosaic Idealize.ShloMosaic.TcCoe Idealize.SL.Sem
open scoped BigOperators

namespace Cert.DownFwdIdeal.Value

open Cert.DownFwdIdeal Cert.DownFwdIdeal.Gen

abbrev S12288x128 : Shape := ⟨2, ![12288, 128]⟩

/-- The adapter's inner product of a token with a rank row. -/
def lowRank (X : FVec Ideal S12288x3584 .bf16) (A : FVec Ideal S64x3584 .bf16) : FVec Ideal S12288x64 .bf16 :=
  fun j => ((∑ k : Fin 3584, X (ix2 (j 0) k) * A (ix2 (j 1) k)) : Ideal .bf16)

/-- The low-rank value scaled by a quarter, beside itself scaled by an eighth. -/
def packed (T : FVec Ideal S12288x64 .bf16) : FVec Ideal S12288x128 .bf16 :=
  fun j => ((if h : (j 1).val < 64 then T (ix2 (j 0) ⟨(j 1).val, h⟩) * Ideal.ofBits .bf16 0x3E80#16
    else T (ix2 (j 0) ⟨(j 1).val - 64, by have : (j 1).val < 128 := (j 1).isLt; omega⟩) * Ideal.ofBits .bf16 0x3E00#16) : Ideal .bf16)

/-- The residual plus the scaled linear layer. -/
def output (X : FVec Ideal S12288x3584 .bf16) (T : FVec Ideal S12288x128 .bf16) (W : FVec Ideal S8192x3584 .bf16)
    (B : FVec Ideal S8192x128 .bf16) (R : FVec Ideal S1x8192 .f32) (X0 : FVec Ideal S12288x8192 .bf16) : FVec Ideal S12288x8192 .bf16 :=
  fun j => (X0 j + R (ix2 0 (j 1)) * ((∑ k : Fin 3584, X (ix2 (j 0) k) * W (ix2 (j 1) k)) + ∑ k : Fin 128, T (ix2 (j 0) k) * B (ix2 (j 1) k)) : Ideal .bf16)

/-- The scaled output gradient. -/
def grad (DY : FVec Ideal S12288x8192 .bf16) (R : FVec Ideal S1x8192 .f32) : FVec Ideal S12288x8192 .bf16 :=
  fun j => (DY j * R (ix2 0 (j 1)) : Ideal .bf16)

/-- The gradient of the low-rank value. -/
def lowGrad (G : FVec Ideal S12288x8192 .bf16) (B : FVec Ideal S8192x64 .bf16) : FVec Ideal S12288x64 .bf16 :=
  fun j => (Ideal.ofBits .f32 0x3EC00000#32 * ∑ k : Fin 8192, G (ix2 (j 0) k) * B (ix2 k (j 1)) : Ideal .bf16)

theorem pay8 (x : FVec Ideal S1024x3584 .bf16) (a : FVec Ideal S64x3584 .bf16) (j : S1024x128.Idx) : k0_pay8 (F := Ideal) x a j
      = ((if h : (j 1).val < 64 then (∑ k : Fin 3584, x (ix2 (j 0) k) * a (ix2 ⟨(j 1).val, h⟩ k)) * Ideal.ofBits .bf16 0x3E80#16
        else (∑ k : Fin 3584, x (ix2 (j 0) k) * a (ix2 ⟨(j 1).val - 64, by have : (j 1).val < 128 := (j 1).isLt; omega⟩ k)) * Ideal.ofBits .bf16 0x3E00#16) : Ideal .bf16) := by
  pointwise [k0_pay8]

theorem pay11 (h : FVec Ideal S1024x3584 .bf16) (t : FVec Ideal S1024x128 .bf16) (w : FVec Ideal S512x3584 .bf16)
    (b : FVec Ideal S512x128 .bf16) (r : FVec Ideal S1x512 .f32) (x : FVec Ideal S1024x512 .bf16) (j : S1024x512.Idx) :
    k0_pay11 (F := Ideal) h t w b r x j
      = (x j + r (ix2 0 (j 1)) * ((∑ k : Fin 3584, h (ix2 (j 0) k) * w (ix2 (j 1) k)) + ∑ k : Fin 128, t (ix2 (j 0) k) * b (ix2 (j 1) k)) : Ideal .bf16) := by
  pointwise [k0_pay11, k0_pay10]

theorem pay2 (r : FVec Ideal S1x512 .f32) (d : FVec Ideal S1024x512 .bf16) (j : S1024x512.Idx) :
    k0_pay2 (F := Ideal) r (k0_pay12 (F := Ideal) d) j = (d j * r (ix2 0 (j 1)) : Ideal .bf16) := by
  pointwise [k0_pay2, k0_pay12]

theorem pay3 (r : FVec Ideal S1x512 .f32) (d : FVec Ideal S1024x512 .bf16) (s : FVec Ideal S1024x64 .f32) (b : FVec Ideal S512x64 .bf16)
    (j : S1024x64.Idx) : k0_pay3 (F := Ideal) r (k0_pay12 (F := Ideal) d) s b j
      = (s j + ∑ k : Fin 512, d (ix2 (j 0) k) * r (ix2 0 k) * b (ix2 k (j 1)) : Ideal .f32) := by
  pointwise [k0_pay3, k0_pay2, k0_pay12]

theorem pay5 (s : FVec Ideal S1024x64 .f32) (j : S1024x64.Idx) :
    k0_pay5 (F := Ideal) s j = (Ideal.ofBits .f32 0x3EC00000#32 * s j : Ideal .bf16) := by
  pointwise [k0_pay5]

theorem pay9 (j : S1024x64.Idx) : k0_pay9 (F := Ideal) j = (0 : Ideal .f32) := by
  pointwise [k0_pay9]

end Cert.DownFwdIdeal.Value
-- ==== Proof.DownFwd.Points.lean ====
module

public import proofs.«01_k».proof.Proof.DownFwd.Payload
public import proofs.«01_k».proof.Proof.Gen.DownFwdIdeal.Frame
public import Idealize.ShloMosaic.Lib.Pipeline.ValueKit
public import Idealize.ShloMosaic.Lib.Pipeline.ReadBack

/-! The call `down_fwd`: what each grid point leaves in its output blocks and in the two buffers carried between points. -/

@[expose] public section

set_option maxRecDepth 16384

noncomputable section

open Idealize.ShloMosaic Idealize.ShloMosaic.TcCoe Idealize.SL.Sem
open Idealize.ShloMosaic.Pipeline (Dat)
open scoped BigOperators

namespace Cert.DownFwdIdeal.Value

open Cert.DownFwdIdeal Cert.DownFwdIdeal.Gen

variable (m : (ℓ : Loc nD τ sig) → Buf (Elt Ideal) ℓ)

/-- The low-rank operand a point holds. -/
abbrev low (c : Dev nD) (n : ℕ) (h : n < cfg0.N) : FVec Ideal S1024x128 .bf16 := (outsAt0 m c n h).2.2.2.2.2.1

/-- The partial low-rank gradient a point leaves. -/
abbrev part (c : Dev nD) (n : ℕ) (h : n < cfg0.N) : FVec Ideal S1024x64 .f32 := (outsAt0 m c n h).2.2.2.2.2.2

theorem low_first (c : Dev nD) (t : Fin cfg0.N) (h1 : t.val % 16 = 0) :
    low m c t.val t.isLt = k0_pay8 (F := Ideal) (iblk m c 0 t) (iblk m c 6 t) := by
  by_cases h0 : t.val % 192 = 0
  · unfold low; rw [outsAt0_A m c t h0 h1 (by omega)]; frame_out
  · unfold low; rw [outsAt0_D m c t h0 h1 (by omega)]; frame_out

theorem low_next (c : Dev nD) (t : Fin cfg0.N) (h1 : ¬ t.val % 16 = 0) :
    low m c t.val t.isLt = low m c (t.val - 1) (Nat.lt_of_le_of_lt (Nat.sub_le _ _) t.isLt) := by
  by_cases h2 : t.val % 16 = 15
  · unfold low; rw [outsAt0_C m c t (by omega) h1 h2]; rfl
  · unfold low; rw [outsAt0_B m c t (by omega) h1 h2]; rfl

theorem part_first (c : Dev nD) (t : Fin cfg0.N) (h1 : t.val % 16 = 0) :
    part m c t.val t.isLt = k0_pay3 (F := Ideal) (iblk m c 7 t) (k0_pay12 (F := Ideal) (iblk m c 2 t)) (k0_pay9 (F := Ideal)) (iblk m c 5 t) := by
  by_cases h0 : t.val % 192 = 0
  · unfold part; rw [outsAt0_A m c t h0 h1 (by omega)]; frame_out
  · unfold part; rw [outsAt0_D m c t h0 h1 (by omega)]; frame_out

theorem part_next (c : Dev nD) (t : Fin cfg0.N) (h1 : ¬ t.val % 16 = 0) :
    part m c t.val t.isLt = k0_pay3 (F := Ideal) (iblk m c 7 t) (k0_pay12 (F := Ideal) (iblk m c 2 t))
      (part m c (t.val - 1) (Nat.lt_of_le_of_lt (Nat.sub_le _ _) t.isLt)) (iblk m c 5 t) := by
  by_cases h2 : t.val % 16 = 15
  · unfold part; rw [outsAt0_C m c t (by omega) h1 h2]; frame_out; rw [read_unread_whole]
  · unfold part; rw [outsAt0_B m c t (by omega) h1 h2]; frame_out; rw [read_unread_whole]

theorem out_y (c : Dev nD) (t : Fin cfg0.N) : (outsAt0 m c t.val t.isLt).1
    = k0_pay11 (F := Ideal) (iblk m c 0 t) (low m c t.val t.isLt) (iblk m c 3 t) (iblk m c 4 t) (iblk m c 7 t) (iblk m c 1 t) := by
  by_cases h1 : t.val % 16 = 0
  · rw [low_first m c t h1]
    by_cases h0 : t.val % 192 = 0
    · rw [outsAt0_A m c t h0 h1 (by omega)]; frame_out
    · rw [outsAt0_D m c t h0 h1 (by omega)]; frame_out
  · rw [low_next m c t h1]
    by_cases h2 : t.val % 16 = 15
    · rw [outsAt0_C m c t (by omega) h1 h2]; frame_out; rw [read_unread_whole]
    · rw [outsAt0_B m c t (by omega) h1 h2]; frame_out; rw [read_unread_whole]

theorem out_g (c : Dev nD) (t : Fin cfg0.N) : (outsAt0 m c t.val t.isLt).2.1
    = k0_pay2 (F := Ideal) (iblk m c 7 t) (k0_pay12 (F := Ideal) (iblk m c 2 t)) := by
  by_cases h1 : t.val % 16 = 0
  · by_cases h0 : t.val % 192 = 0
    · rw [outsAt0_A m c t h0 h1 (by omega)]; frame_out
    · rw [outsAt0_D m c t h0 h1 (by omega)]; frame_out
  · by_cases h2 : t.val % 16 = 15
    · rw [outsAt0_C m c t (by omega) h1 h2]; frame_out
    · rw [outsAt0_B m c t (by omega) h1 h2]; frame_out

theorem out_s (c : Dev nD) (t : Fin cfg0.N) (h2 : t.val % 16 = 15) : (outsAt0 m c t.val t.isLt).2.2.1
    = k0_pay5 (F := Ideal) (part m c t.val t.isLt) := by
  rw [part_next m c t (by omega), outsAt0_C m c t (by omega) (by omega) h2]; frame_out; rw [read_unread_whole]

end Cert.DownFwdIdeal.Value
-- ==== Proof.DownFwd.Final.lean ====
module

public import proofs.«01_k».proof.Proof.DownFwd.Points

/-! The call `down_fwd`: what its result arrays hold after the run, as functions of the arrays it reads. -/

@[expose] public section

set_option maxRecDepth 16384

noncomputable section

open Idealize.ShloMosaic Idealize.ShloMosaic.TcCoe Idealize.SL.Sem
open Idealize.ShloMosaic.Pipeline (Dat)
open scoped BigOperators

namespace Cert.DownFwdIdeal.Value

open Cert.DownFwdIdeal Cert.DownFwdIdeal.Gen

variable (m : (ℓ : Loc nD τ sig) → Buf (Elt Ideal) ℓ)

/-- Every window's block index at a grid point. -/
theorem idx : ∀ t : Fin cfg0.N, win0_0.index t = ![t.val / 16, 0] ∧ win0_1.index t = ![t.val / 16, t.val % 16]
    ∧ win0_2.index t = ![t.val / 16, t.val % 16] ∧ win0_3.index t = ![t.val % 16, 0] ∧ win0_4.index t = ![t.val % 16, 0]
    ∧ win0_5.index t = ![t.val % 16, 0] ∧ win0_6.index t = ![0, 0] ∧ win0_7.index t = ![0, t.val % 16]
    ∧ win0_8.index t = ![t.val / 16, t.val % 16] ∧ win0_9.index t = ![t.val / 16, t.val % 16]
    ∧ win0_10.index t = ![t.val / 16, 0] :=
  (by decide +kernel : ∀ t : Fin grid0.N, _)

abbrev X (c : Dev nD) : FVec Ideal S12288x3584 .bf16 := V m c main_arg0
abbrev X0 (c : Dev nD) : FVec Ideal S12288x8192 .bf16 := V m c main_arg1
abbrev DY (c : Dev nD) : FVec Ideal S12288x8192 .bf16 := V m c main_arg2
abbrev W (c : Dev nD) : FVec Ideal S8192x3584 .bf16 := V m c main_arg3
abbrev B (c : Dev nD) : FVec Ideal S8192x64 .bf16 := V m c main_arg4
abbrev BX (c : Dev nD) : FVec Ideal S8192x128 .bf16 := V m c main_v0
abbrev R (c : Dev nD) : FVec Ideal S1x8192 .f32 := V m c main_arg6
abbrev A (c : Dev nD) : FVec Ideal S64x3584 .bf16 := V m c main_arg5

/-- The low-rank operand of a point is its rows of the packed low-rank value. -/
theorem low_eq (c : Dev nD) : ∀ (n : ℕ) (h : n < cfg0.N) (j : S1024x128.Idx),
    low m c n h j = packed (lowRank (X m c) (A m c)) (ix2 ⟨n / 16 * 1024 + (j 0).val, by
      have h' : n < 192 := h
      have : (j 0).val < 1024 := (j 0).isLt
      omega⟩ (j 1)) := by
  intro n
  induction n using Nat.strong_induction_on with
  | _ n ih =>
    intro h j
    by_cases h1 : n % 16 = 0
    · refine (congrFun (low_first m c ⟨n, h⟩ h1) j).trans ((pay8 _ _ j).trans ?_)
      unfold packed lowRank
      blk_point [iblk, idx ⟨n, h⟩]
      all_goals contradiction
    · refine (congrFun (low_next m c ⟨n, h⟩ h1) j).trans ((ih (n - 1) (by omega) _ j).trans ?_)
      refine congrArg (packed _) (congrArg₂ (ix2 (n0 := 12288) (n1 := 128)) (Fin.ext ?_) rfl)
      show (n - 1) / 16 * 1024 + _ = n / 16 * 1024 + _
      omega

theorem low_at (c : Dev nD) (n : ℕ) (h : n < cfg0.N) (p : Fin 1024) (q : Fin 128) (r : Fin 12288) (hr : r.val = n / 16 * 1024 + p.val) :
    low m c n h (ix2 p q) = packed (lowRank (X m c) (A m c)) (ix2 r q) := by
  obtain ⟨r, hr'⟩ := r
  obtain rfl : r = n / 16 * 1024 + p.val := hr
  exact low_eq m c n h (ix2 p q)

theorem final8 (c : Dev nD) : (dats m 0 c).arrAt 8 cfg0.N
    = output (X m c) (packed (lowRank (X m c) (A m c))) (W m c) (BX m c) (R m c) (X0 m c) := by
  refine (dats m 0 c).arrAt_eq_of_covers 8 _ (by decide +kernel) fun t hf y => ?_
  blk_simp
  rw [after0_8, out_y, pay11]
  unfold output
  refine Ideal.add_congr ?_ (Ideal.mul_congr ?_ (Ideal.add_congr (Fin.sum_fin_congr fun k => Ideal.mul_congr ?_ ?_)
    (Fin.sum_fin_congr fun k => Ideal.mul_congr (low_at m c t.val t.isLt (y 0) k _ ?_) ?_)))
  · blk_point [iblk, idx t]
  · blk_point [iblk, idx t]
  · blk_point [iblk, idx t]
  · blk_point [iblk, idx t]
  · blk_ext! [idx t]
  · blk_point [iblk, idx t]

theorem final9 (c : Dev nD) : (dats m 0 c).arrAt 9 cfg0.N = grad (DY m c) (R m c) := by
  refine (dats m 0 c).arrAt_eq_of_covers 9 _ (by decide +kernel) fun t hf y => ?_
  blk_simp
  rw [after0_9, out_g, pay2]
  unfold grad
  blk_point [iblk, idx t]

/-- What one point adds to the partial low-rank gradient. -/
def partTerm (d : FVec Ideal S1024x512 .bf16) (r : FVec Ideal S1x512 .f32) (b : FVec Ideal S512x64 .bf16) (j : S1024x64.Idx) : EReal :=
  (∑ k : Fin 512, d (ix2 (j 0) k) * r (ix2 0 k) * b (ix2 k (j 1)) : Ideal .f32)

theorem part_sum (c : Dev nD) (t : Fin cfg0.N) (hr : t.val % 16 = 15) (j : S1024x64.Idx) : part m c t.val t.isLt j
    = ∑ s : Fin 16, partTerm (iblk m c 2 ⟨16 * (t.val / 16) + s.val, Pipeline.run_point_lt_of_flush t hr s⟩)
        (iblk m c 7 ⟨16 * (t.val / 16) + s.val, Pipeline.run_point_lt_of_flush t hr s⟩)
        (iblk m c 5 ⟨16 * (t.val / 16) + s.val, Pipeline.run_point_lt_of_flush t hr s⟩) j := by
  refine (Pipeline.eq_sum_fin_of_reset_step_apply_of_flush (M := EReal) (fun n h => part m c n h) 16 (fun _ => 0)
    (fun t j => partTerm (iblk m c 2 t) (iblk m c 7 t) (iblk m c 5 t) j)
    (fun t h i => ?_) (fun t h i => ?_) t hr _).trans (zero_add _)
  · refine (congrFun (part_first m c t h) i).trans ((pay3 _ _ _ _ i).trans ?_)
    rw [pay9]; rfl
  · exact (congrFun (part_next m c t h) i).trans (pay3 _ _ _ _ i)

theorem final10 (c : Dev nD) : (dats m 0 c).arrAt 10 cfg0.N = lowGrad (grad (DY m c) (R m c)) (B m c) := by
  refine (dats m 0 c).arrAt_eq_of_covers 10 _ (by decide +kernel) fun t hf y => ?_
  have hr := (flush0_10 t).mp hf
  blk_simp
  rw [after0_10, out_s m c t hr, pay5]
  unfold lowGrad
  refine Ideal.mul_congr rfl ((part_sum m c t hr _).trans ?_)
  refine Fin.sum_mul_add_congr (n := 512) fun s k hl => ?_
  unfold grad
  blk_point [iblk, idx t, idx ⟨16 * (t.val / 16) + s.val, Pipeline.run_point_lt_of_flush t hr s⟩]

end Cert.DownFwdIdeal.Value
-- ==== Proof.DownFwd.Ref.lean ====
module

public import proofs.«01_k».proof.Proof.DownFwd.Payload
public import proofs.«01_k».proof.Proof.Gen.DownFwdRefIdeal.Read

/-! The reference of the down projection, layer by layer, equals what the call computes. -/

@[expose] public section

set_option maxRecDepth 16384

noncomputable section

open Idealize.ShloMosaic Idealize.ShloMosaic.TcCoe Idealize.SL.Sem
open scoped BigOperators

namespace Cert.DownFwdIdeal.Value

open Cert.DownFwdIdeal Cert.DownFwdRefIdeal.Read

theorem ref_low (x : FVec Ideal S12288x3584 .bf16) (a : FVec Ideal S64x3584 .bf16) :
    val_main_v1 (F := Ideal) x a = lowRank x a := by
  funext j
  idx_vars j
  unfold lowRank
  pointwise [val_main_v1, val_main_v0]

theorem ref_g (d : FVec Ideal S12288x8192 .bf16) (r : FVec Ideal S1x8192 .f32) : val_main_v15 (F := Ideal) d r = grad d r := by
  funext j
  idx_vars j
  unfold grad
  pointwise [val_main_v15, val_main_v14, val_main_v13, val_main_v12]

theorem ref_s (d : FVec Ideal S12288x8192 .bf16) (b : FVec Ideal S8192x64 .bf16) (r : FVec Ideal S1x8192 .f32) :
    val_main_v19 (F := Ideal) d b r = lowGrad (grad d r) b := by
  rw [← ref_g]
  funext j
  idx_vars j
  unfold lowGrad
  pointwise [val_main_v19, val_main_v18, val_main_v17, val_main_v16, val_main_cst_0]

/-- The packed contraction is the adapter's product, scaled once. -/
theorem packed_sum (t : FVec Ideal S12288x64 .bf16) (b : FVec Ideal S8192x64 .bf16) (h) (i : Fin 12288) (o : Fin 8192) :
    (∑ k : Fin 128, packed t (ix2 i k) * (concatenate S8192x128 1 [⟨S8192x64, b⟩, ⟨S8192x64, b⟩] h : FVec Ideal S8192x128 .bf16) (ix2 o k))
      = Ideal.ofBits .f32 0x3EC00000#32 * ∑ k : Fin 64, t (ix2 i k) * b (ix2 o k) := by
  refine Eq.trans ?_ (Scale.sum_scaled _ _)
  rw [Fin.sum_univ_two_halves 64 64 rfl]
  unfold packed
  refine congrArg₂ (· + ·) ?_ ?_
  all_goals
    refine Finset.sum_congr rfl fun k _ => ?_
    pointwise []

theorem ref_y (x : FVec Ideal S12288x3584 .bf16) (x0 : FVec Ideal S12288x8192 .bf16) (w : FVec Ideal S8192x3584 .bf16)
    (b : FVec Ideal S8192x64 .bf16) (a : FVec Ideal S64x3584 .bf16) (r : FVec Ideal S1x8192 .f32) (h) :
    val_main_v11 (F := Ideal) x x0 w b a r
      = output x (packed (lowRank x a)) w (concatenate S8192x128 1 [⟨S8192x64, b⟩, ⟨S8192x64, b⟩] h : FVec Ideal S8192x128 .bf16) r x0 := by
  funext j
  idx_vars j
  unfold output
  refine Eq.trans ?_ (congrArg (fun e : EReal => (x0 (ix2 j0 j1) : EReal) + r (ix2 0 j1) * ((∑ k : Fin 3584, x (ix2 j0 k) * w (ix2 j1 k) : EReal) + e))
    (packed_sum (lowRank x a) b h j0 j1).symm)
  rw [← ref_low]
  pointwise [val_main_v11, val_main_v10, val_main_v9, val_main_v8, val_main_v7, val_main_v6, val_main_v5, val_main_v4, val_main_v3, val_main_v2, val_main_cst]

end Cert.DownFwdIdeal.Value
-- ==== Proof.DownFwd.Claim.lean ====
module

public import proofs.«01_k».proof.Proof.DownFwd.Final
public import proofs.«01_k».proof.Proof.DownFwd.Ref
public import proofs.«01_k».proof.Defs

/-! The call `down_fwd`: its frame of the reference and the equality of the results over the extended reals. -/

@[expose] public section

set_option maxRecDepth 16384

noncomputable section

open Idealize.ShloMosaic Idealize.ShloMosaic.TcCoe Idealize.SL.Sem

namespace Cert.DownFwdIdeal.Value

open Cert.DownFwdIdeal Cert.DownFwdIdeal.Gen

variable (m : (ℓ : Loc nD τ sig) → Buf (Elt Ideal) ℓ)

/-- The weight the kernel reads beside the low-rank value: the factor twice. -/
theorem V_factor (c : Dev nD) (h) : V m c main_v0
    = concatenate S8192x128 1 [⟨S8192x64, m ((c : Thread nD τ).loc main_arg4)⟩, ⟨S8192x64, m ((c : Thread nD τ).loc main_arg4)⟩] h := by
  unfold V; after_results; try rfl

/-- The residual plus the scaled linear layer, of the arrays as given. -/
theorem result_y (c : Dev nD) : (dats m 0 c).arrAt 8 cfg0.N = Cert.DownFwdRefIdeal.Read.val_main_v11 (F := Ideal)
    (m ((c : Thread nD τ).loc main_arg0)) (m ((c : Thread nD τ).loc main_arg1)) (m ((c : Thread nD τ).loc main_arg3))
    (m ((c : Thread nD τ).loc main_arg4)) (m ((c : Thread nD τ).loc main_arg5)) (m ((c : Thread nD τ).loc main_arg6)) := by
  refine (final8 m c).trans ?_
  unfold X A W BX R X0
  rw [V_factor m c Gen.concatenates_S8192x64_S8192x64_S8192x128_d1, V_main_arg0, V_main_arg1, V_main_arg3, V_main_arg5, V_main_arg6]
  exact (ref_y _ _ _ _ _ _ _).symm

/-- The scaled output gradient, of the arrays as given. -/
theorem result_g (c : Dev nD) : (dats m 0 c).arrAt 9 cfg0.N = Cert.DownFwdRefIdeal.Read.val_main_v15 (F := Ideal)
    (m ((c : Thread nD τ).loc main_arg2)) (m ((c : Thread nD τ).loc main_arg6)) := by
  refine (final9 m c).trans ?_
  unfold DY R
  rw [V_main_arg2, V_main_arg6]
  exact (ref_g _ _).symm

/-- The gradient of the low-rank value, of the arrays as given. -/
theorem result_s (c : Dev nD) : (dats m 0 c).arrAt 10 cfg0.N = Cert.DownFwdRefIdeal.Read.val_main_v19 (F := Ideal)
    (m ((c : Thread nD τ).loc main_arg2)) (m ((c : Thread nD τ).loc main_arg4)) (m ((c : Thread nD τ).loc main_arg6)) := by
  refine (final10 m c).trans ?_
  unfold DY R B
  rw [V_main_arg2, V_main_arg4, V_main_arg6]
  exact (ref_s _ _ _).symm

/-- The reference runs, leaves its arguments unchanged and every semaphore counter at zero. -/
theorem frame_ref : Cert.quiescent_DownFwdRefIdeal := by
  intro m g _
  hlo_run
  · exact fun _ => ⟨trivial, trivial, trivial, trivial, trivial, trivial, trivial⟩
  · exact sem_eq_zero_of_no_sems (sig := Cert.DownFwdRefIdeal.sig) (by decide) _

open Cert.DownFwdRefIdeal.Read in
set_option maxHeartbeats 1600000 in
/-- The call and the reference end with equal results over the extended reals. -/
theorem algebraic : Cert.algebraic_DownFwdIdeal_DownFwdRefIdeal := by
  pair_intro
  · run_from Cert.DownFwdIdeal.Gen.run_main m g
  · run_from Cert.DownFwdRefIdeal.Value.run m' g'
    · exact (val_main_v11_eq _ _ _ _ _ _).trans (result_y m c).symm
    · exact (val_main_v15_eq _ _).trans (result_g m c).symm
    · exact (val_main_v19_eq _ _ _).trans (result_s m c).symm

end Cert.DownFwdIdeal.Value
-- ==== Proof.Dx.Kit.lean ====
module

public import proofs.«01_k».proof.Proof.Gen.Dx.Skeleton
public import proofs.«01_k».proof.Proof.Gen.Dx.Frame
public import Idealize.ShloMosaic.Lib.VecWindow

/-! The call `dx`: when its conditional is taken, where its windows are idle, and its staging buffers. -/

@[expose] public section

set_option maxRecDepth 16384

noncomputable section

namespace Cert.Dx.Frame

open Cert.Dx Cert.Dx.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A load of the whole of a buffer that holds `x` reads `x`. -/
theorem load_whole {κ : Kind} {sp : Space} {s : Shape} {e : EltTy} (M : Memref sig κ sp s e) (h : M.IsWhole) (x : s.Idx → Elt F e)
    {off : Fin s.rank → ℕ} (inb : ∀ a, off a + s.size a ≤ s.size a) :
    M.view.readAt (Elt F) (Rect.unit off s.size inb).toLoadRect (h.unread x) = x :=
  (View.readAt_full M.view (h.unread x) inb).trans (h.read_unread x)

set_option maxHeartbeats 4000000 in
/-- A run whose arrays follow any relational data leaves the arguments as they were. -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      (Pipeline.RDat.FramePost.arr_in h c 2 rfl).trans ((hA c 2).trans (V_main_arg2 m c)),
      (Pipeline.RDat.FramePost.arr_in h c 3 rfl).trans ((hA c 3).trans (V_main_arg3 m c)),
      (Pipeline.RDat.FramePost.arr_in h c 4 rfl).trans ((hA c 4).trans (V_main_arg4 m c)),
      (Pipeline.RDat.FramePost.arr_in h c 5 rfl).trans ((hA c 5).trans (V_main_arg5 m c)),
      (Pipeline.RDat.FramePost.arr_in h c 6 rfl).trans ((hA c 6).trans (V_main_arg6 m c)),
      (Pipeline.RDat.FramePost.arr_in h c 7 rfl).trans ((hA c 7).trans (V_main_arg7 m c)),
      (Pipeline.RDat.FramePost.arr_in h c 8 rfl).trans ((hA c 8).trans (V_main_arg8 m c)),
      (Pipeline.RDat.FramePost.arr_in h c 9 rfl).trans ((hA c 9).trans (V_main_arg9 m c)),
      (Pipeline.RDat.FramePost.arr_in h c 10 rfl).trans ((hA c 10).trans (V_main_arg10 m c)),
      (Pipeline.RDat.FramePost.arr_in h c 11 rfl).trans ((hA c 11).trans (V_main_arg11 m c)),
      (Pipeline.RDat.FramePost.arr_in h c 12 rfl).trans ((hA c 12).trans (V_main_arg12 m c)),
      (Pipeline.RDat.FramePost.arr_in h c 13 rfl).trans ((hA c 13).trans (V_main_arg13 m c)),
      (Pipeline.RDat.FramePost.arr_in h c 14 rfl).trans ((hA c 14).trans (V_main_arg14 m c)),
      (Pipeline.RDat.FramePost.arr_in h c 15 rfl).trans ((hA c 15).trans (V_main_arg15 m c))⟩) h

/-! ## The body's branch conditions -/

/-- The condition of the body's `scf.if` 0 (`k0_h1`), from the grid coordinates. -/
abbrev cond0_0 (i : grid0.Coords) : Prop := k0_cond1 i = 1#1
/-- It holds at the points before point 32. -/
theorem hcond0_0 : ∀ t : Fin cfg0.N, cond0_0 (grid0.coords t) ↔ t.val < 32 :=
  (fun t => by
    have ht : t.val < 384 := Nat.lt_of_lt_of_eq t.isLt N_0
    have e0 : (grid0.coords t 0).val = t.val / 32 % 12 := Pipeline.Grid.coords_val t 0 (by decide) rfl
    have e1 : (grid0.coords t 1).val = t.val / 1 % 32 := Pipeline.Grid.coords_val t 1 (by decide) rfl
    simp only [cond0_0, k0_cond1, e0, e1]
    word_cmp
   : ∀ t : Fin grid0.N, cond0_0 (grid0.coords t) ↔ t.val < 32)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-- Window 8 is never idle (an input). -/
theorem liveAt0_8 : ∀ t : Fin cfg0.N, cfg0.idle 8 (grid0.coords t) = false := fun _ => rfl
/-- Window 9 is never idle (an input). -/
theorem liveAt0_9 : ∀ t : Fin cfg0.N, cfg0.idle 9 (grid0.coords t) = false := fun _ => rfl
/-- Window 10 is never idle (an input). -/
theorem liveAt0_10 : ∀ t : Fin cfg0.N, cfg0.idle 10 (grid0.coords t) = false := fun _ => rfl
/-- Window 11 is never idle (an input). -/
theorem liveAt0_11 : ∀ t : Fin cfg0.N, cfg0.idle 11 (grid0.coords t) = false := fun _ => rfl
/-- Window 12 is never idle (an input). -/
theorem liveAt0_12 : ∀ t : Fin cfg0.N, cfg0.idle 12 (grid0.coords t) = false := fun _ => rfl
/-- Window 13 is never idle (an input). -/
theorem liveAt0_13 : ∀ t : Fin cfg0.N, cfg0.idle 13 (grid0.coords t) = false := fun _ => rfl
/-- Window 14 is never idle (an input). -/
theorem liveAt0_14 : ∀ t : Fin cfg0.N, cfg0.idle 14 (grid0.coords t) = false := fun _ => rfl
/-- Window 15 is never idle (an input). -/
theorem liveAt0_15 : ∀ t : Fin cfg0.N, cfg0.idle 15 (grid0.coords t) = false := fun _ => rfl
theorem liveAt0_16 : ∀ t : Fin cfg0.N, cfg0.idle 16 (grid0.coords t) = false := fun _ => rfl

/-- Each window's current staging memref at point `t`, spelled as the pipeline passes it (`bodyAt0`), and its wholeness. -/
abbrev ms0_0 (t : Fin cfg0.N) : Memref sig .tc .vmem S1024x3584 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x3584 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S3584x256 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S3584x256 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S64x256 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S64x256 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1024x256 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1024x256 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1024x1 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1024x1 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x256 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S64x3584 .bf16 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S64x3584 .bf16 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S64x256 .f32 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S64x256 .f32 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S1024x256 .bf16 := win0_16.stage (cfg0.slots t 16)
abbrev hs0_16 (t : Fin cfg0.N) : (ms0_16 t).IsWhole := hstage0_16 ((cfg0.slots t 16).cast nbuf0_16)
abbrev ms0_17 (t : Fin cfg0.N) : Memref sig .tc .vmem S64x8192 .f32 := win0_17.stage (cfg0.slots t 17)
abbrev hs0_17 (t : Fin cfg0.N) : (ms0_17 t).IsWhole := hstage0_17 ((cfg0.slots t 17).cast nbuf0_17)
abbrev ms0_18 (t : Fin cfg0.N) : Memref sig .tc .vmem S64x8192 .f32 := win0_18.stage (cfg0.slots t 18)
abbrev hs0_18 (t : Fin cfg0.N) : (ms0_18 t).IsWhole := hstage0_18 ((cfg0.slots t 18).cast nbuf0_18)
abbrev ms0_19 (t : Fin cfg0.N) : Memref sig .tc .vmem S64x8192 .f32 := win0_19.stage (cfg0.slots t 19)
abbrev hs0_19 (t : Fin cfg0.N) : (ms0_19 t).IsWhole := hstage0_19 ((cfg0.slots t 19).cast nbuf0_19)
abbrev ms0_20 (t : Fin cfg0.N) : Memref sig .tc .vmem S64x8192 .f32 := win0_20.stage (cfg0.slots t 20)
abbrev hs0_20 (t : Fin cfg0.N) : (ms0_20 t).IsWhole := hstage0_20 ((cfg0.slots t 20).cast nbuf0_20)

end Cert.Dx.Frame
-- ==== Proof.Dx.RunA.lean ====
module

public import proofs.«01_k».proof.Proof.Dx.Kit

/-! The call `dx`: one run of the body. -/

@[expose] public section

set_option maxRecDepth 16384

noncomputable section

namespace Cert.Dx.Frame

open Cert.Dx Cert.Dx.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body at a point where its conditional is taken: `dx` is left at its value, the four gradient buffers at something. -/
theorem kernelRun0_A (c : Dev nD) (i : grid0.Coords) (arg2 : Memref sig .tc .vmem S1024x3584 .bf16) (harg2 : arg2.IsWhole) (arg3 : Memref sig .tc .vmem S1024x3584 .bf16) (harg3 : arg3.IsWhole) (arg4 : Memref sig .tc .vmem S1024x128 .bf16) (harg4 : arg4.IsWhole) (arg5 : Memref sig .tc .vmem S3584x256 .bf16) (harg5 : arg5.IsWhole) (arg6 : Memref sig .tc .vmem S3584x256 .bf16) (harg6 : arg6.IsWhole) (arg7 : Memref sig .tc .vmem S64x256 .bf16) (harg7 : arg7.IsWhole) (arg8 : Memref sig .tc .vmem S64x256 .bf16) (harg8 : arg8.IsWhole) (arg9 : Memref sig .tc .vmem S1024x256 .bf16) (harg9 : arg9.IsWhole) (arg10 : Memref sig .tc .vmem S1024x256 .bf16) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1x256 .f32) (harg13 : arg13.IsWhole) (arg14 : Memref sig .tc .vmem S64x3584 .bf16) (harg14 : arg14.IsWhole) (arg15 : Memref sig .tc .vmem S64x3584 .bf16) (harg15 : arg15.IsWhole) (arg16 : Memref sig .tc .vmem S64x256 .f32) (harg16 : arg16.IsWhole) (arg17 : Memref sig .tc .vmem S64x256 .f32) (harg17 : arg17.IsWhole) (arg18 : Memref sig .tc .vmem S1024x256 .bf16) (harg18 : arg18.IsWhole) (arg19 : Memref sig .tc .vmem S64x8192 .f32) (harg19 : arg19.IsWhole) (arg20 : Memref sig .tc .vmem S64x8192 .f32) (harg20 : arg20.IsWhole) (arg21 : Memref sig .tc .vmem S64x8192 .f32) (harg21 : arg21.IsWhole) (arg22 : Memref sig .tc .vmem S64x8192 .f32) (harg22 : arg22.IsWhole) (hc0 : cond0_0 i)
    (x0 : Vec F S1024x3584 .bf16) (x1 : Vec F S1024x3584 .bf16) (x2 : Vec F S1024x128 .bf16) (x3 : Vec F S3584x256 .bf16) (x4 : Vec F S3584x256 .bf16) (x5 : Vec F S64x256 .bf16) (x6 : Vec F S64x256 .bf16) (x7 : Vec F S1024x256 .bf16) (x8 : Vec F S1024x256 .bf16) (x9 : Vec F S1024x1 .f32) (x10 : Vec F S1024x1 .f32) (x11 : Vec F S1x256 .f32) (x12 : Vec F S64x3584 .bf16) (x13 : Vec F S64x3584 .bf16) (x14 : Vec F S64x256 .f32) (x15 : Vec F S64x256 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare (k0_pay1 (F := F) x9 (k0_pay8 (F := F) x8) (k0_pay9 (F := F) x0 x1 x2 x3 x4 x5 x6 x9 x11 x7 x10)) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d)) -∗ K ⟨⟩))
          ⊢ wp frame (wpE (defs₀ (F := F)) Variants.none c none) E (cc0_dx i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K := by
    intro E K
    simp only [cc0_dx_eq_skeleton]; unfold cc0_dx_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%d17, %f17, -, H17⟩, ⟨%d18, %f18, -, H18⟩, ⟨%d19, %f19, -, H19⟩, ⟨%d20, %f20, -, H20⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]
    · iexists _; isplitr; · ipureintro; exact harg17.read_unread _
      iexact H15
    isplitl [H16]
    · iexists _; isplitr; swap; · iexact H16
      ipureintro
      refine (View.read_writes_full _ _ _ _ _).trans ?_
      unfold kernelRun0_A.sl.r kernelRun0_A.sl.r_3 kernelRun0_A.sl.r_4
      exact congr (congr (congrArg k0_pay1 (load_whole arg11 harg11 x9 _)) (congrArg k0_pay8 (load_whole arg10 harg10 x8 _)))
        (congr (congr (congr (congr (congr (congr (congr (congr (congr (congr (congrArg k0_pay9 (load_whole arg2 harg2 x0 _)) (load_whole arg3 harg3 x1 _)) (load_whole arg4 harg4 x2 _)) (load_whole arg5 harg5 x3 _)) (load_whole arg6 harg6 x4 _)) (load_whole arg7 harg7 x5 _)) (load_whole arg8 harg8 x6 _)) (load_whole arg11 harg11 x9 _)) (load_whole arg13 harg13 x11 _)) (load_whole arg9 harg9 x7 _)) (load_whole arg12 harg12 x10 _))
    isplitl [H17]
    · iexists _, _; isplitr; swap; · iexact H17
      ipureintro; rfl
    isplitl [H18]
    · iexists _, _; isplitr; swap; · iexact H18
      ipureintro; rfl
    isplitl [H19]
    · iexists _, _; isplitr; swap; · iexact H19
      ipureintro; rfl
    iexists _, _; isplitr; swap; · iexact H20
    ipureintro; rfl

end Cert.Dx.Frame
-- ==== Proof.Dx.RunB.lean ====
module

public import proofs.«01_k».proof.Proof.Dx.RunA

/-! The call `dx`: one run of the body. -/

@[expose] public section

set_option maxRecDepth 16384

noncomputable section

namespace Cert.Dx.Frame

open Cert.Dx Cert.Dx.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body at a point where its conditional is not taken: `dx` is left at its value, the four gradient buffers at something. -/
theorem kernelRun0_B (c : Dev nD) (i : grid0.Coords) (arg2 : Memref sig .tc .vmem S1024x3584 .bf16) (harg2 : arg2.IsWhole) (arg3 : Memref sig .tc .vmem S1024x3584 .bf16) (harg3 : arg3.IsWhole) (arg4 : Memref sig .tc .vmem S1024x128 .bf16) (harg4 : arg4.IsWhole) (arg5 : Memref sig .tc .vmem S3584x256 .bf16) (harg5 : arg5.IsWhole) (arg6 : Memref sig .tc .vmem S3584x256 .bf16) (harg6 : arg6.IsWhole) (arg7 : Memref sig .tc .vmem S64x256 .bf16) (harg7 : arg7.IsWhole) (arg8 : Memref sig .tc .vmem S64x256 .bf16) (harg8 : arg8.IsWhole) (arg9 : Memref sig .tc .vmem S1024x256 .bf16) (harg9 : arg9.IsWhole) (arg10 : Memref sig .tc .vmem S1024x256 .bf16) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1x256 .f32) (harg13 : arg13.IsWhole) (arg14 : Memref sig .tc .vmem S64x3584 .bf16) (harg14 : arg14.IsWhole) (arg15 : Memref sig .tc .vmem S64x3584 .bf16) (harg15 : arg15.IsWhole) (arg16 : Memref sig .tc .vmem S64x256 .f32) (harg16 : arg16.IsWhole) (arg17 : Memref sig .tc .vmem S64x256 .f32) (harg17 : arg17.IsWhole) (arg18 : Memref sig .tc .vmem S1024x256 .bf16) (harg18 : arg18.IsWhole) (arg19 : Memref sig .tc .vmem S64x8192 .f32) (harg19 : arg19.IsWhole) (arg20 : Memref sig .tc .vmem S64x8192 .f32) (harg20 : arg20.IsWhole) (arg21 : Memref sig .tc .vmem S64x8192 .f32) (harg21 : arg21.IsWhole) (arg22 : Memref sig .tc .vmem S64x8192 .f32) (harg22 : arg22.IsWhole) (hc0 : ¬cond0_0 i)
    (x0 : Vec F S1024x3584 .bf16) (x1 : Vec F S1024x3584 .bf16) (x2 : Vec F S1024x128 .bf16) (x3 : Vec F S3584x256 .bf16) (x4 : Vec F S3584x256 .bf16) (x5 : Vec F S64x256 .bf16) (x6 : Vec F S64x256 .bf16) (x7 : Vec F S1024x256 .bf16) (x8 : Vec F S1024x256 .bf16) (x9 : Vec F S1024x1 .f32) (x10 : Vec F S1024x1 .f32) (x11 : Vec F S1x256 .f32) (x12 : Vec F S64x3584 .bf16) (x13 : Vec F S64x3584 .bf16) (x14 : Vec F S64x256 .f32) (x15 : Vec F S64x256 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare (k0_pay1 (F := F) x9 (k0_pay8 (F := F) x8) (k0_pay9 (F := F) x0 x1 x2 x3 x4 x5 x6 x9 x11 x7 x10)) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d)) -∗ K ⟨⟩))
          ⊢ wp frame (wpE (defs₀ (F := F)) Variants.none c none) E (cc0_dx i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K := by
    intro E K
    simp only [cc0_dx_eq_skeleton]; unfold cc0_dx_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%d17, %f17, -, H17⟩, ⟨%d18, %f18, -, H18⟩, ⟨%d19, %f19, -, H19⟩, ⟨%d20, %f20, -, H20⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]
    · iexists _; isplitr; · ipureintro; exact harg17.read_unread _
      iexact H15
    isplitl [H16]
    · iexists _; isplitr; swap; · iexact H16
      ipureintro
      refine (View.read_writes_full _ _ _ _ _).trans ?_
      unfold kernelRun0_B.sl.r kernelRun0_B.sl.r_3 kernelRun0_B.sl.r_4
      exact congr (congr (congrArg k0_pay1 (load_whole arg11 harg11 x9 _)) (congrArg k0_pay8 (load_whole arg10 harg10 x8 _)))
        (congr (congr (congr (congr (congr (congr (congr (congr (congr (congr (congrArg k0_pay9 (load_whole arg2 harg2 x0 _)) (load_whole arg3 harg3 x1 _)) (load_whole arg4 harg4 x2 _)) (load_whole arg5 harg5 x3 _)) (load_whole arg6 harg6 x4 _)) (load_whole arg7 harg7 x5 _)) (load_whole arg8 harg8 x6 _)) (load_whole arg11 harg11 x9 _)) (load_whole arg13 harg13 x11 _)) (load_whole arg9 harg9 x7 _)) (load_whole arg12 harg12 x10 _))
    isplitl [H17]
    · iexists _, _; isplitr; swap; · iexact H17
      ipureintro; rfl
    isplitl [H18]
    · iexists _, _; isplitr; swap; · iexact H18
      ipureintro; rfl
    isplitl [H19]
    · iexists _, _; isplitr; swap; · iexact H19
      ipureintro; rfl
    iexists _, _; isplitr; swap; · iexact H20
    ipureintro; rfl

end Cert.Dx.Frame
-- ==== Proof.Dx.Body.lean ====
module

public import proofs.«01_k».proof.Proof.Dx.RunB
public import Idealize.ShloMosaic.Lib.Claim

/-! The call `dx`: the whole run. -/

@[expose] public section

set_option maxRecDepth 16384

noncomputable section

namespace Cert.Dx.Frame

open Cert.Dx Cert.Dx.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's proof data -/

/-- The four gradient buffers: what they hold is not stated. -/
def forgets0 : Fin 21 → Bool := fun w => w.val == 17 || w.val == 18 || w.val == 19 || w.val == 20

/-- What `dx`'s block holds after a point. -/
def dxBlock (c : Dev nD) (t : Fin cfg0.N) : Vec F S1024x256 .bf16 :=
  k0_pay1 (F := F) (iblk m c 9 t) (k0_pay8 (F := F) (iblk m c 8 t)) (k0_pay9 (F := F) (iblk m c 0 t) (iblk m c 1 t) (iblk m c 2 t) (iblk m c 3 t) (iblk m c 4 t) (iblk m c 5 t) (iblk m c 6 t) (iblk m c 9 t) (iblk m c 11 t) (iblk m c 7 t) (iblk m c 10 t))

/-- What the windows hold: the inputs their blocks, `dx` its value. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => dxBlock m c t
    | ⟨17, h⟩ => Pipeline.Dat.unnamed (cfg := cfg0) ⟨17, h⟩ t
    | ⟨18, h⟩ => Pipeline.Dat.unnamed (cfg := cfg0) ⟨18, h⟩ t
    | ⟨19, h⟩ => Pipeline.Dat.unnamed (cfg := cfg0) ⟨19, h⟩ t
    | ⟨20, h⟩ => Pipeline.Dat.unnamed (cfg := cfg0) ⟨20, h⟩ t
    | ⟨_ + 21, h⟩ => absurd h (Nat.not_lt.2 (Nat.le_add_left _ _))
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_16 (c : Dev nD) (t : Fin cfg0.N) : (dats m 0 c).after 16 t = dxBlock m c t := by dsimp only [dats]
theorem after0_15 (c : Dev nD) (t : Fin cfg0.N) : (dats m 0 c).after 15 t = iblk m c 15 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare d)
    ∗ (∃ d, owns (c : Thread nD τ) (ms0_18 t) fullShare d)
    ∗ (∃ d, owns (c : Thread nD τ) (ms0_19 t) fullShare d)
    ∗ (∃ d, owns (c : Thread nD τ) (ms0_20 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t
    ∗ (∃ d, owns (c : Thread nD τ) (ms0_17 t) fullShare d)
    ∗ (∃ d, owns (c : Thread nD τ) (ms0_18 t) fullShare d)
    ∗ (∃ d, owns (c : Thread nD τ) (ms0_19 t) fullShare d)
    ∗ (∃ d, owns (c : Thread nD τ) (ms0_20 t) fullShare d))

set_option maxHeartbeats 4000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15]
  rw [show (dats m 0 c).Φ t.succ = (dats m 0 c).Φ t.castSucc from rfl,
    show (dats m 0 c).owesAt () t.succ = (dats m 0 c).owesAt () t.castSucc from rfl]
  have hN : t.val < 384 := lt_of_lt_of_eq t.isLt (show cfg0.N = 384 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t], after0_6]
  rw [show (dats m 0 c).leavesExact 7 t = owns (c : Thread nD τ) (ms0_7 t) fullShare ((dats m 0 c).after 7 t) from by
    unfold Dat.leavesExact; rw [liveAt0_7 t], after0_7]
  rw [show (dats m 0 c).leavesExact 8 t = owns (c : Thread nD τ) (ms0_8 t) fullShare ((dats m 0 c).after 8 t) from by
    unfold Dat.leavesExact; rw [liveAt0_8 t], after0_8]
  rw [show (dats m 0 c).leavesExact 9 t = owns (c : Thread nD τ) (ms0_9 t) fullShare ((dats m 0 c).after 9 t) from by
    unfold Dat.leavesExact; rw [liveAt0_9 t], after0_9]
  rw [show (dats m 0 c).leavesExact 10 t = owns (c : Thread nD τ) (ms0_10 t) fullShare ((dats m 0 c).after 10 t) from by
    unfold Dat.leavesExact; rw [liveAt0_10 t], after0_10]
  rw [show (dats m 0 c).leavesExact 11 t = owns (c : Thread nD τ) (ms0_11 t) fullShare ((dats m 0 c).after 11 t) from by
    unfold Dat.leavesExact; rw [liveAt0_11 t], after0_11]
  rw [show (dats m 0 c).leavesExact 12 t = owns (c : Thread nD τ) (ms0_12 t) fullShare ((dats m 0 c).after 12 t) from by
    unfold Dat.leavesExact; rw [liveAt0_12 t], after0_12]
  rw [show (dats m 0 c).leavesExact 13 t = owns (c : Thread nD τ) (ms0_13 t) fullShare ((dats m 0 c).after 13 t) from by
    unfold Dat.leavesExact; rw [liveAt0_13 t], after0_13]
  rw [show (dats m 0 c).leavesExact 14 t = owns (c : Thread nD τ) (ms0_14 t) fullShare ((dats m 0 c).after 14 t) from by
    unfold Dat.leavesExact; rw [liveAt0_14 t], after0_14]
  rw [show (dats m 0 c).leavesExact 15 t = owns (c : Thread nD τ) (ms0_15 t) fullShare ((dats m 0 c).after 15 t) from by
    unfold Dat.leavesExact; rw [liveAt0_15 t], after0_15]
  rw [show (dats m 0 c).leavesExact 16 t = owns (c : Thread nD τ) (ms0_16 t) fullShare ((dats m 0 c).after 16 t) from by
    unfold Dat.leavesExact; rw [liveAt0_16 t], after0_16]
  by_cases h0 : t.val < 32
  · iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
    iapply ((kernelRun0_A c (grid0.coords t) _ _ _ _ _ _ _ _ _ _ _ _ _ _ _ _ _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexists _; iexact H16
    isplitl [H17]; · iexists _; iexact H17
    isplitl [H18]; · iexists _; iexact H18
    isplitl [H19]; · iexists _; iexact H19
    isplitl [H20]; · iexists _; iexact H20
    iintro ⟨H0, H1, H2, H3, H4, H5, H6, H7, H8, H9, H10, H11, H12, H13, H14, H15, H16, H17, H18, H19, H20⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    iexact H20
  · iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
    iapply ((kernelRun0_B c (grid0.coords t) _ _ _ _ _ _ _ _ _ _ _ _ _ _ _ _ _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexists _; iexact H16
    isplitl [H17]; · iexists _; iexact H17
    isplitl [H18]; · iexists _; iexact H18
    isplitl [H19]; · iexists _; iexact H19
    isplitl [H20]; · iexists _; iexact H20
    iintro ⟨H0, H1, H2, H3, H4, H5, H6, H7, H8, H9, H10, H11, H12, H13, H14, H15, H16, H17, H18, H19, H20⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    iexact H20

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

set_option backward.isDefEq.respectTransparency.types false in
/-- Every execution ends with the arrays as the data say and every semaphore counter at zero. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- Every execution ends with the arrays as the data say. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- Every execution leaves the arguments as they were. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  frame_of m ρ (fun c => (dats m 0 c).toRForget forgets0) (A_eq m) (run_main m ρ)

/-- Every execution ends, with the arguments as they were and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15))
      ∧ r.2.sem = fun _ => 0) :=
  θ_run_and (unchanged m ρ) ((θ_run defs _ _).mono (fun _ h => h.2) (run_main_quiescent m ρ))

end Cert.Dx.Frame
-- ==== Proof.DxIdeal.Kit.lean ====
module

public import proofs.«01_k».proof.Proof.Gen.DxIdeal.Skeleton
public import proofs.«01_k».proof.Proof.Gen.DxIdeal.Frame
public import Idealize.ShloMosaic.Lib.VecWindow

/-! The call `dx`: when its conditional is taken, where its windows are idle, and its staging buffers. -/

@[expose] public section

set_option maxRecDepth 16384

noncomputable section

namespace Cert.DxIdeal.Frame

open Cert.DxIdeal Cert.DxIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A load of the whole of a buffer that holds `x` reads `x`. -/
theorem load_whole {κ : Kind} {sp : Space} {s : Shape} {e : EltTy} (M : Memref sig κ sp s e) (h : M.IsWhole) (x : s.Idx → Elt F e)
    {off : Fin s.rank → ℕ} (inb : ∀ a, off a + s.size a ≤ s.size a) :
    M.view.readAt (Elt F) (Rect.unit off s.size inb).toLoadRect (h.unread x) = x :=
  (View.readAt_full M.view (h.unread x) inb).trans (h.read_unread x)

set_option maxHeartbeats 4000000 in
/-- A run whose arrays follow any relational data leaves the arguments as they were. -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      (Pipeline.RDat.FramePost.arr_in h c 2 rfl).trans ((hA c 2).trans (V_main_arg2 m c)),
      (Pipeline.RDat.FramePost.arr_in h c 3 rfl).trans ((hA c 3).trans (V_main_arg3 m c)),
      (Pipeline.RDat.FramePost.arr_in h c 4 rfl).trans ((hA c 4).trans (V_main_arg4 m c)),
      (Pipeline.RDat.FramePost.arr_in h c 5 rfl).trans ((hA c 5).trans (V_main_arg5 m c)),
      (Pipeline.RDat.FramePost.arr_in h c 6 rfl).trans ((hA c 6).trans (V_main_arg6 m c)),
      (Pipeline.RDat.FramePost.arr_in h c 7 rfl).trans ((hA c 7).trans (V_main_arg7 m c)),
      (Pipeline.RDat.FramePost.arr_in h c 8 rfl).trans ((hA c 8).trans (V_main_arg8 m c)),
      (Pipeline.RDat.FramePost.arr_in h c 9 rfl).trans ((hA c 9).trans (V_main_arg9 m c)),
      (Pipeline.RDat.FramePost.arr_in h c 10 rfl).trans ((hA c 10).trans (V_main_arg10 m c)),
      (Pipeline.RDat.FramePost.arr_in h c 11 rfl).trans ((hA c 11).trans (V_main_arg11 m c)),
      (Pipeline.RDat.FramePost.arr_in h c 12 rfl).trans ((hA c 12).trans (V_main_arg12 m c)),
      (Pipeline.RDat.FramePost.arr_in h c 13 rfl).trans ((hA c 13).trans (V_main_arg13 m c)),
      (Pipeline.RDat.FramePost.arr_in h c 14 rfl).trans ((hA c 14).trans (V_main_arg14 m c)),
      (Pipeline.RDat.FramePost.arr_in h c 15 rfl).trans ((hA c 15).trans (V_main_arg15 m c))⟩) h

/-! ## The body's branch conditions -/

/-- The condition of the body's `scf.if` 0 (`k0_h1`), from the grid coordinates. -/
abbrev cond0_0 (i : grid0.Coords) : Prop := k0_cond1 i = 1#1
/-- It holds at the points before point 32. -/
theorem hcond0_0 : ∀ t : Fin cfg0.N, cond0_0 (grid0.coords t) ↔ t.val < 32 :=
  (fun t => by
    have ht : t.val < 384 := Nat.lt_of_lt_of_eq t.isLt N_0
    have e0 : (grid0.coords t 0).val = t.val / 32 % 12 := Pipeline.Grid.coords_val t 0 (by decide) rfl
    have e1 : (grid0.coords t 1).val = t.val / 1 % 32 := Pipeline.Grid.coords_val t 1 (by decide) rfl
    simp only [cond0_0, k0_cond1, e0, e1]
    word_cmp
   : ∀ t : Fin grid0.N, cond0_0 (grid0.coords t) ↔ t.val < 32)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-- Window 8 is never idle (an input). -/
theorem liveAt0_8 : ∀ t : Fin cfg0.N, cfg0.idle 8 (grid0.coords t) = false := fun _ => rfl
/-- Window 9 is never idle (an input). -/
theorem liveAt0_9 : ∀ t : Fin cfg0.N, cfg0.idle 9 (grid0.coords t) = false := fun _ => rfl
/-- Window 10 is never idle (an input). -/
theorem liveAt0_10 : ∀ t : Fin cfg0.N, cfg0.idle 10 (grid0.coords t) = false := fun _ => rfl
/-- Window 11 is never idle (an input). -/
theorem liveAt0_11 : ∀ t : Fin cfg0.N, cfg0.idle 11 (grid0.coords t) = false := fun _ => rfl
/-- Window 12 is never idle (an input). -/
theorem liveAt0_12 : ∀ t : Fin cfg0.N, cfg0.idle 12 (grid0.coords t) = false := fun _ => rfl
/-- Window 13 is never idle (an input). -/
theorem liveAt0_13 : ∀ t : Fin cfg0.N, cfg0.idle 13 (grid0.coords t) = false := fun _ => rfl
/-- Window 14 is never idle (an input). -/
theorem liveAt0_14 : ∀ t : Fin cfg0.N, cfg0.idle 14 (grid0.coords t) = false := fun _ => rfl
/-- Window 15 is never idle (an input). -/
theorem liveAt0_15 : ∀ t : Fin cfg0.N, cfg0.idle 15 (grid0.coords t) = false := fun _ => rfl
theorem liveAt0_16 : ∀ t : Fin cfg0.N, cfg0.idle 16 (grid0.coords t) = false := fun _ => rfl

/-- Each window's current staging memref at point `t`, spelled as the pipeline passes it (`bodyAt0`), and its wholeness. -/
abbrev ms0_0 (t : Fin cfg0.N) : Memref sig .tc .vmem S1024x3584 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x3584 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S3584x256 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S3584x256 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S64x256 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S64x256 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1024x256 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1024x256 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1024x1 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1024x1 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x256 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S64x3584 .bf16 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S64x3584 .bf16 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S64x256 .f32 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S64x256 .f32 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S1024x256 .bf16 := win0_16.stage (cfg0.slots t 16)
abbrev hs0_16 (t : Fin cfg0.N) : (ms0_16 t).IsWhole := hstage0_16 ((cfg0.slots t 16).cast nbuf0_16)
abbrev ms0_17 (t : Fin cfg0.N) : Memref sig .tc .vmem S64x8192 .f32 := win0_17.stage (cfg0.slots t 17)
abbrev hs0_17 (t : Fin cfg0.N) : (ms0_17 t).IsWhole := hstage0_17 ((cfg0.slots t 17).cast nbuf0_17)
abbrev ms0_18 (t : Fin cfg0.N) : Memref sig .tc .vmem S64x8192 .f32 := win0_18.stage (cfg0.slots t 18)
abbrev hs0_18 (t : Fin cfg0.N) : (ms0_18 t).IsWhole := hstage0_18 ((cfg0.slots t 18).cast nbuf0_18)
abbrev ms0_19 (t : Fin cfg0.N) : Memref sig .tc .vmem S64x8192 .f32 := win0_19.stage (cfg0.slots t 19)
abbrev hs0_19 (t : Fin cfg0.N) : (ms0_19 t).IsWhole := hstage0_19 ((cfg0.slots t 19).cast nbuf0_19)
abbrev ms0_20 (t : Fin cfg0.N) : Memref sig .tc .vmem S64x8192 .f32 := win0_20.stage (cfg0.slots t 20)
abbrev hs0_20 (t : Fin cfg0.N) : (ms0_20 t).IsWhole := hstage0_20 ((cfg0.slots t 20).cast nbuf0_20)

end Cert.DxIdeal.Frame
-- ==== Proof.DxIdeal.RunA.lean ====
module

public import proofs.«01_k».proof.Proof.DxIdeal.Kit

/-! The call `dx`: one run of the body. -/

@[expose] public section

set_option maxRecDepth 16384

noncomputable section

namespace Cert.DxIdeal.Frame

open Cert.DxIdeal Cert.DxIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A slice of 256 columns lies inside a gradient buffer. -/
theorem inbSlice (i : grid0.Coords) : ∀ a, (![0, 256 * (i 1).val] : Fin S64x8192.rank → ℕ) a + S64x256.size a ≤ S64x8192.size a :=
  k0_off2_eq i ▸ k0_off2_inb i

/-- A load of that slice of a buffer's contents reads a window of them. -/
theorem load_slice (M : Memref sig .tc .vmem S64x8192 .f32) (i : grid0.Coords) (f : M.view.ty.Contents (Elt F)) :
    M.view.readAt (Elt F) (Rect.unit (s := S64x8192) (k0_off2 i) S64x256.size (k0_off2_inb i)).toLoadRect f
      = VecWindow.window (M.view.read (Elt F) f) ![0, 256 * (i 1).val] S64x256.size (inbSlice i) :=
  View.readAt_unit M.view f (k0_off2_inb i) (k0_off2_eq i) (inbSlice i)

/-- A load of that slice after a store there reads what was stored. -/
theorem load_stored (M : Memref sig .tc .vmem S64x8192 .f32) (i : grid0.Coords) (h : k0_cond1 i = 1#1) (f : M.view.ty.Contents (Elt F)) (w : Vec F S64x256 .f32) :
    M.view.readAt (Elt F) (Rect.unit (s := S64x8192) (k0_off2 i) S64x256.size (k0_off2_inb i)).toLoadRect
      (M.view.writes (Elt F) f [⟨Rect.unit (s := S64x8192) (k0_off1 i) S64x256.size (k0_off1_inb i h), w⟩]) = w := by
  rw [load_slice, View.read_writes_cons_put _ _ _ _ _ (k0_off1_eq i)]
  exact VecWindow.window_put_same _ _ _ _ _

set_option maxHeartbeats 1000000 in
/-- The body at a point where its conditional is taken: `dx` is left at its value, and each gradient buffer has its slice replaced. -/
theorem kernelRun0_A (c : Dev nD) (i : grid0.Coords) (arg2 : Memref sig .tc .vmem S1024x3584 .bf16) (harg2 : arg2.IsWhole) (arg3 : Memref sig .tc .vmem S1024x3584 .bf16) (harg3 : arg3.IsWhole) (arg4 : Memref sig .tc .vmem S1024x128 .bf16) (harg4 : arg4.IsWhole) (arg5 : Memref sig .tc .vmem S3584x256 .bf16) (harg5 : arg5.IsWhole) (arg6 : Memref sig .tc .vmem S3584x256 .bf16) (harg6 : arg6.IsWhole) (arg7 : Memref sig .tc .vmem S64x256 .bf16) (harg7 : arg7.IsWhole) (arg8 : Memref sig .tc .vmem S64x256 .bf16) (harg8 : arg8.IsWhole) (arg9 : Memref sig .tc .vmem S1024x256 .bf16) (harg9 : arg9.IsWhole) (arg10 : Memref sig .tc .vmem S1024x256 .bf16) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1x256 .f32) (harg13 : arg13.IsWhole) (arg14 : Memref sig .tc .vmem S64x3584 .bf16) (harg14 : arg14.IsWhole) (arg15 : Memref sig .tc .vmem S64x3584 .bf16) (harg15 : arg15.IsWhole) (arg16 : Memref sig .tc .vmem S64x256 .f32) (harg16 : arg16.IsWhole) (arg17 : Memref sig .tc .vmem S64x256 .f32) (harg17 : arg17.IsWhole) (arg18 : Memref sig .tc .vmem S1024x256 .bf16) (harg18 : arg18.IsWhole) (arg19 : Memref sig .tc .vmem S64x8192 .f32) (harg19 : arg19.IsWhole) (arg20 : Memref sig .tc .vmem S64x8192 .f32) (harg20 : arg20.IsWhole) (arg21 : Memref sig .tc .vmem S64x8192 .f32) (harg21 : arg21.IsWhole) (arg22 : Memref sig .tc .vmem S64x8192 .f32) (harg22 : arg22.IsWhole) (hc0 : cond0_0 i)
    (x0 : Vec F S1024x3584 .bf16) (x1 : Vec F S1024x3584 .bf16) (x2 : Vec F S1024x128 .bf16) (x3 : Vec F S3584x256 .bf16) (x4 : Vec F S3584x256 .bf16) (x5 : Vec F S64x256 .bf16) (x6 : Vec F S64x256 .bf16) (x7 : Vec F S1024x256 .bf16) (x8 : Vec F S1024x256 .bf16) (x9 : Vec F S1024x1 .f32) (x10 : Vec F S1024x1 .f32) (x11 : Vec F S1x256 .f32) (x12 : Vec F S64x3584 .bf16) (x13 : Vec F S64x3584 .bf16) (x14 : Vec F S64x256 .f32) (x15 : Vec F S64x256 .f32) (y17 y18 y19 y20 : Vec F S64x8192 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ (∃ d, owns (c : Thread nD τ) arg18 fullShare d) ∗ owns (c : Thread nD τ) arg19 fullShare y17 ∗ owns (c : Thread nD τ) arg20 fullShare y18 ∗ owns (c : Thread nD τ) arg21 fullShare y19 ∗ owns (c : Thread nD τ) arg22 fullShare y20
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare (k0_pay1 (F := F) x9 (k0_pay8 (F := F) x8) (k0_pay9 (F := F) x0 x1 x2 x3 x4 x5 x6 x9 x11 x7 x10)) ∗ owns (c : Thread nD τ) arg19 fullShare (VecWindow.put y17 ![0, 256 * (i 1).val] S64x256.size (k0_pay3 (F := F) x11 (k0_pay7 (F := F) x9 x7) x2 (k0_pay5 (F := F) x12 x3 x14))) ∗ owns (c : Thread nD τ) arg20 fullShare (VecWindow.put y18 ![0, 256 * (i 1).val] S64x256.size (k0_pay4 (F := F) x11 (k0_pay7 (F := F) x9 x7) x2 (k0_pay6 (F := F) x13 x4 x15))) ∗ owns (c : Thread nD τ) arg21 fullShare (VecWindow.put y19 ![0, 256 * (i 1).val] S64x256.size (k0_pay5 (F := F) x12 x3 x14)) ∗ owns (c : Thread nD τ) arg22 fullShare (VecWindow.put y20 ![0, 256 * (i 1).val] S64x256.size (k0_pay6 (F := F) x13 x4 x15))) -∗ K ⟨⟩))
          ⊢ wp frame (wpE (defs₀ (F := F)) Variants.none c none) E (cc0_dx i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K := by
    intro E K
    simp only [cc0_dx_eq_skeleton]; unfold cc0_dx_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%f17, %hf17, H17⟩, ⟨%f18, %hf18, H18⟩, ⟨%f19, %hf19, H19⟩, ⟨%f20, %hf20, H20⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg19.eq_unread hf17; obtain rfl := harg20.eq_unread hf18; obtain rfl := harg21.eq_unread hf19; obtain rfl := harg22.eq_unread hf20
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]
    · iexists _; isplitr; · ipureintro; exact harg17.read_unread _
      iexact H15
    isplitl [H16]
    · iexists _; isplitr; swap; · iexact H16
      ipureintro
      refine (View.read_writes_full _ _ _ _ _).trans ?_
      unfold kernelRun0_A.sl.r kernelRun0_A.sl.r_3 kernelRun0_A.sl.r_4
      exact congr (congr (congrArg k0_pay1 (load_whole arg11 harg11 x9 _)) (congrArg k0_pay8 (load_whole arg10 harg10 x8 _)))
        (congr (congr (congr (congr (congr (congr (congr (congr (congr (congr (congrArg k0_pay9 (load_whole arg2 harg2 x0 _)) (load_whole arg3 harg3 x1 _)) (load_whole arg4 harg4 x2 _)) (load_whole arg5 harg5 x3 _)) (load_whole arg6 harg6 x4 _)) (load_whole arg7 harg7 x5 _)) (load_whole arg8 harg8 x6 _)) (load_whole arg11 harg11 x9 _)) (load_whole arg13 harg13 x11 _)) (load_whole arg9 harg9 x7 _)) (load_whole arg12 harg12 x10 _))
    isplitl [H17]
    · iexists _; isplitr; swap; · iexact H17
      ipureintro
      refine (View.read_writes_cons_put _ _ _ _ _ (k0_off2_eq i)).trans ?_
      refine (congrArg (fun z => VecWindow.put z _ _ _) ((View.read_writes_cons_put _ _ _ _ _ (k0_off1_eq i)).trans (congrArg (fun z => VecWindow.put z _ _ _) hf17))).trans ?_
      refine (VecWindow.put_put_same _ _ _ _ _).trans (congrArg (VecWindow.put y17 _ _) ?_)
      refine congr (congr (congr (congrArg k0_pay3 (load_whole arg13 harg13 x11 _)) (congr (congrArg k0_pay7 (load_whole arg11 harg11 x9 _)) (load_whole arg9 harg9 x7 _))) (load_whole arg4 harg4 x2 _)) ?_
      exact (load_stored _ i hc0 _ _).trans (congr (congr (congrArg k0_pay5 (load_whole arg14 harg14 x12 _)) (load_whole arg5 harg5 x3 _)) (load_whole arg16 harg16 x14 _))
    isplitl [H18]
    · iexists _; isplitr; swap; · iexact H18
      ipureintro
      refine (View.read_writes_cons_put _ _ _ _ _ (k0_off2_eq i)).trans ?_
      refine (congrArg (fun z => VecWindow.put z _ _ _) ((View.read_writes_cons_put _ _ _ _ _ (k0_off1_eq i)).trans (congrArg (fun z => VecWindow.put z _ _ _) hf18))).trans ?_
      refine (VecWindow.put_put_same _ _ _ _ _).trans (congrArg (VecWindow.put y18 _ _) ?_)
      refine congr (congr (congr (congrArg k0_pay4 (load_whole arg13 harg13 x11 _)) (congr (congrArg k0_pay7 (load_whole arg11 harg11 x9 _)) (load_whole arg9 harg9 x7 _))) (load_whole arg4 harg4 x2 _)) ?_
      exact (load_stored _ i hc0 _ _).trans (congr (congr (congrArg k0_pay6 (load_whole arg15 harg15 x13 _)) (load_whole arg6 harg6 x4 _)) (load_whole arg17 harg17 x15 _))
    isplitl [H19]
    · iexists _; isplitr; swap; · iexact H19
      ipureintro
      refine (View.read_writes_cons_put _ _ _ _ _ (k0_off1_eq i)).trans ?_
      refine (congrArg (fun z => VecWindow.put z _ _ _) hf19).trans (congrArg (VecWindow.put y19 _ _) ?_)
      exact (congr (congr (congrArg k0_pay5 (load_whole arg14 harg14 x12 _)) (load_whole arg5 harg5 x3 _)) (load_whole arg16 harg16 x14 _))
    iexists _; isplitr; swap; · iexact H20
    ipureintro
    refine (View.read_writes_cons_put _ _ _ _ _ (k0_off1_eq i)).trans ?_
    refine (congrArg (fun z => VecWindow.put z _ _ _) hf20).trans (congrArg (VecWindow.put y20 _ _) ?_)
    exact (congr (congr (congrArg k0_pay6 (load_whole arg15 harg15 x13 _)) (load_whole arg6 harg6 x4 _)) (load_whole arg17 harg17 x15 _))

end Cert.DxIdeal.Frame
-- ==== Proof.DxIdeal.RunB.lean ====
module

public import proofs.«01_k».proof.Proof.DxIdeal.RunA

/-! The call `dx`: one run of the body. -/

@[expose] public section

set_option maxRecDepth 16384

noncomputable section

namespace Cert.DxIdeal.Frame

open Cert.DxIdeal Cert.DxIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body at a point where its conditional is not taken: `dx` is left at its value, and two gradient buffers have their slices added to. -/
theorem kernelRun0_B (c : Dev nD) (i : grid0.Coords) (arg2 : Memref sig .tc .vmem S1024x3584 .bf16) (harg2 : arg2.IsWhole) (arg3 : Memref sig .tc .vmem S1024x3584 .bf16) (harg3 : arg3.IsWhole) (arg4 : Memref sig .tc .vmem S1024x128 .bf16) (harg4 : arg4.IsWhole) (arg5 : Memref sig .tc .vmem S3584x256 .bf16) (harg5 : arg5.IsWhole) (arg6 : Memref sig .tc .vmem S3584x256 .bf16) (harg6 : arg6.IsWhole) (arg7 : Memref sig .tc .vmem S64x256 .bf16) (harg7 : arg7.IsWhole) (arg8 : Memref sig .tc .vmem S64x256 .bf16) (harg8 : arg8.IsWhole) (arg9 : Memref sig .tc .vmem S1024x256 .bf16) (harg9 : arg9.IsWhole) (arg10 : Memref sig .tc .vmem S1024x256 .bf16) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1x256 .f32) (harg13 : arg13.IsWhole) (arg14 : Memref sig .tc .vmem S64x3584 .bf16) (harg14 : arg14.IsWhole) (arg15 : Memref sig .tc .vmem S64x3584 .bf16) (harg15 : arg15.IsWhole) (arg16 : Memref sig .tc .vmem S64x256 .f32) (harg16 : arg16.IsWhole) (arg17 : Memref sig .tc .vmem S64x256 .f32) (harg17 : arg17.IsWhole) (arg18 : Memref sig .tc .vmem S1024x256 .bf16) (harg18 : arg18.IsWhole) (arg19 : Memref sig .tc .vmem S64x8192 .f32) (harg19 : arg19.IsWhole) (arg20 : Memref sig .tc .vmem S64x8192 .f32) (harg20 : arg20.IsWhole) (arg21 : Memref sig .tc .vmem S64x8192 .f32) (harg21 : arg21.IsWhole) (arg22 : Memref sig .tc .vmem S64x8192 .f32) (harg22 : arg22.IsWhole) (hc0 : ¬cond0_0 i)
    (x0 : Vec F S1024x3584 .bf16) (x1 : Vec F S1024x3584 .bf16) (x2 : Vec F S1024x128 .bf16) (x3 : Vec F S3584x256 .bf16) (x4 : Vec F S3584x256 .bf16) (x5 : Vec F S64x256 .bf16) (x6 : Vec F S64x256 .bf16) (x7 : Vec F S1024x256 .bf16) (x8 : Vec F S1024x256 .bf16) (x9 : Vec F S1024x1 .f32) (x10 : Vec F S1024x1 .f32) (x11 : Vec F S1x256 .f32) (x12 : Vec F S64x3584 .bf16) (x13 : Vec F S64x3584 .bf16) (x14 : Vec F S64x256 .f32) (x15 : Vec F S64x256 .f32) (y17 y18 y19 y20 : Vec F S64x8192 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ (∃ d, owns (c : Thread nD τ) arg18 fullShare d) ∗ owns (c : Thread nD τ) arg19 fullShare y17 ∗ owns (c : Thread nD τ) arg20 fullShare y18 ∗ owns (c : Thread nD τ) arg21 fullShare y19 ∗ owns (c : Thread nD τ) arg22 fullShare y20
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare (k0_pay1 (F := F) x9 (k0_pay8 (F := F) x8) (k0_pay9 (F := F) x0 x1 x2 x3 x4 x5 x6 x9 x11 x7 x10)) ∗ owns (c : Thread nD τ) arg19 fullShare (VecWindow.put y17 ![0, 256 * (i 1).val] S64x256.size (k0_pay3 (F := F) x11 (k0_pay7 (F := F) x9 x7) x2 (VecWindow.window y17 ![0, 256 * (i 1).val] S64x256.size (inbSlice i)))) ∗ owns (c : Thread nD τ) arg20 fullShare (VecWindow.put y18 ![0, 256 * (i 1).val] S64x256.size (k0_pay4 (F := F) x11 (k0_pay7 (F := F) x9 x7) x2 (VecWindow.window y18 ![0, 256 * (i 1).val] S64x256.size (inbSlice i)))) ∗ owns (c : Thread nD τ) arg21 fullShare y19 ∗ owns (c : Thread nD τ) arg22 fullShare y20) -∗ K ⟨⟩))
          ⊢ wp frame (wpE (defs₀ (F := F)) Variants.none c none) E (cc0_dx i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K := by
    intro E K
    simp only [cc0_dx_eq_skeleton]; unfold cc0_dx_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%f17, %hf17, H17⟩, ⟨%f18, %hf18, H18⟩, ⟨%f19, %hf19, H19⟩, ⟨%f20, %hf20, H20⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg19.eq_unread hf17; obtain rfl := harg20.eq_unread hf18; obtain rfl := harg21.eq_unread hf19; obtain rfl := harg22.eq_unread hf20
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]
    · iexists _; isplitr; · ipureintro; exact harg17.read_unread _
      iexact H15
    isplitl [H16]
    · iexists _; isplitr; swap; · iexact H16
      ipureintro
      refine (View.read_writes_full _ _ _ _ _).trans ?_
      unfold kernelRun0_B.sl.r kernelRun0_B.sl.r_3 kernelRun0_B.sl.r_4
      exact congr (congr (congrArg k0_pay1 (load_whole arg11 harg11 x9 _)) (congrArg k0_pay8 (load_whole arg10 harg10 x8 _)))
        (congr (congr (congr (congr (congr (congr (congr (congr (congr (congr (congrArg k0_pay9 (load_whole arg2 harg2 x0 _)) (load_whole arg3 harg3 x1 _)) (load_whole arg4 harg4 x2 _)) (load_whole arg5 harg5 x3 _)) (load_whole arg6 harg6 x4 _)) (load_whole arg7 harg7 x5 _)) (load_whole arg8 harg8 x6 _)) (load_whole arg11 harg11 x9 _)) (load_whole arg13 harg13 x11 _)) (load_whole arg9 harg9 x7 _)) (load_whole arg12 harg12 x10 _))
    isplitl [H17]
    · iexists _; isplitr; swap; · iexact H17
      ipureintro
      refine (View.read_writes_cons_put _ _ _ _ _ (k0_off2_eq i)).trans ?_
      refine (congrArg (fun z => VecWindow.put z _ _ _) hf17).trans (congrArg (VecWindow.put y17 _ _) ?_)
      refine congr (congr (congr (congrArg k0_pay3 (load_whole arg13 harg13 x11 _)) (congr (congrArg k0_pay7 (load_whole arg11 harg11 x9 _)) (load_whole arg9 harg9 x7 _))) (load_whole arg4 harg4 x2 _)) ?_
      exact (load_slice _ i _).trans (congrArg (fun z => VecWindow.window z _ _ (inbSlice i)) hf17)
    isplitl [H18]
    · iexists _; isplitr; swap; · iexact H18
      ipureintro
      refine (View.read_writes_cons_put _ _ _ _ _ (k0_off2_eq i)).trans ?_
      refine (congrArg (fun z => VecWindow.put z _ _ _) hf18).trans (congrArg (VecWindow.put y18 _ _) ?_)
      refine congr (congr (congr (congrArg k0_pay4 (load_whole arg13 harg13 x11 _)) (congr (congrArg k0_pay7 (load_whole arg11 harg11 x9 _)) (load_whole arg9 harg9 x7 _))) (load_whole arg4 harg4 x2 _)) ?_
      exact (load_slice _ i _).trans (congrArg (fun z => VecWindow.window z _ _ (inbSlice i)) hf18)
    isplitl [H19]
    · iexists _; isplitr; swap; · iexact H19
      ipureintro
      exact hf19
    iexists _; isplitr; swap; · iexact H20
    ipureintro
    exact hf20

end Cert.DxIdeal.Frame
-- ==== Proof.DxIdeal.Acc.lean ====
module

public import proofs.«01_k».proof.Proof.DxIdeal.RunB

/-! The call `dx`: what its four gradient buffers hold as the grid is walked. Each buffer is 32 slices of 256 columns; the
points of column block `j` write slice `j`, and at a point a slice holds what the last of them left. -/

@[expose] public section

set_option maxRecDepth 16384

noncomputable section

namespace Cert.DxIdeal.Frame

open Cert.DxIdeal Cert.DxIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window)

variable {F : FTy → Type} [FloatOps F]

variable (m : (ℓ : Loc nD τ sig) → Buf (Elt F) ℓ)

/-- The grid point of row block `n` and column block `j`. -/
def pt (n j : ℕ) : Fin cfg0.N := ⟨(32 * n + j) % 384, lt_of_lt_of_eq (Nat.mod_lt _ (by omega)) (show (384 : ℕ) = cfg0.N from N_0.symm)⟩

theorem pt_self (t : Fin cfg0.N) : pt (t.val / 32) (t.val % 32) = t :=
  Fin.ext (by
    have hN : t.val < 384 := lt_of_lt_of_eq t.isLt (show cfg0.N = 384 from N_0)
    show (32 * (t.val / 32) + t.val % 32) % 384 = t.val
    omega)

/-- The part of the gradients of the down-projections that the normalization gives: at a point, -/
def bankG (c : Dev nD) (t : Fin cfg0.N) : Vec F S64x256 .f32 := k0_pay5 (F := F) (iblk m c 12 t) (iblk m c 3 t) (iblk m c 14 t)
/-- of the up branch, -/
def bankU (c : Dev nD) (t : Fin cfg0.N) : Vec F S64x256 .f32 := k0_pay6 (F := F) (iblk m c 13 t) (iblk m c 4 t) (iblk m c 15 t)
/-- and what a point adds to a slice, of the gate -/
def addG (c : Dev nD) (t : Fin cfg0.N) (v : Vec F S64x256 .f32) : Vec F S64x256 .f32 :=
  k0_pay3 (F := F) (iblk m c 11 t) (k0_pay7 (F := F) (iblk m c 9 t) (iblk m c 7 t)) (iblk m c 2 t) v
/-- and of the up branch. -/
def addU (c : Dev nD) (t : Fin cfg0.N) (v : Vec F S64x256 .f32) : Vec F S64x256 .f32 :=
  k0_pay4 (F := F) (iblk m c 11 t) (k0_pay7 (F := F) (iblk m c 9 t) (iblk m c 7 t)) (iblk m c 2 t) v

/-- What slice `j` holds after row block `n`. -/
def accG (c : Dev nD) (j : ℕ) : ℕ → Vec F S64x256 .f32
  | 0 => addG m c (pt 0 j) (bankG m c (pt 0 j))
  | n + 1 => addG m c (pt (n + 1) j) (accG c j n)
/-- The same of the up branch. -/
def accU (c : Dev nD) (j : ℕ) : ℕ → Vec F S64x256 .f32
  | 0 => addU m c (pt 0 j) (bankU m c (pt 0 j))
  | n + 1 => addU m c (pt (n + 1) j) (accU c j n)

/-- Slice `j` lies inside the buffer. -/
theorem inbCol (j : Fin 32) : ∀ a, (![0, 256 * j.val] : Fin S64x8192.rank → ℕ) a + S64x256.size a ≤ S64x8192.size a :=
  (Fin.forall_fin_two (p := fun a => (![0, 256 * j.val] : Fin 2 → ℕ) a + S64x256.size a ≤ S64x8192.size a)).mpr
    ⟨by show 0 + 64 ≤ 64; omega, by show 256 * j.val + 256 ≤ 8192; omega⟩

/-- After point `t`, every slice that has been written holds what its last point left: `acc j n`, that point being of row block `n`. -/
def Held (t : ℕ) (acc : ℕ → ℕ → Vec F S64x256 .f32) (X : Vec F S64x8192 .f32) : Prop :=
  ∀ (j : Fin 32) (n : ℕ), 32 * n + j.val ≤ t → t < 32 * (n + 1) + j.val →
    VecWindow.window X ![0, 256 * j.val] S64x256.size (inbCol j) = acc j.val n

/-- A point that writes its slice. -/
theorem Held.step {t : ℕ} {acc : ℕ → ℕ → Vec F S64x256 .f32} {Y : Vec F S64x8192 .f32} {w : Vec F S64x256 .f32} {q : ℕ} (hq : q = t % 32)
    (h : t ≠ 0 → Held (t - 1) acc Y) (hw : w = acc (t % 32) (t / 32)) :
    Held t acc (VecWindow.put Y ![0, 256 * q] S64x256.size w) := by
  subst hq
  intro j n h1 h2
  by_cases hj : j.val = t % 32
  · obtain rfl : n = t / 32 := by omega
    obtain ⟨j, hlt⟩ := j
    obtain rfl : j = t % 32 := hj
    exact (VecWindow.window_put_same _ _ _ _ _).trans hw
  · refine (VecWindow.window_put_of_disjoint _ _ _ _ _ (inbCol j) _ 1 ?_).trans (h (by omega) j n (by omega) (by omega))
    show 256 * j.val + 256 ≤ 256 * (t % 32) ∨ 256 * (t % 32) + 256 ≤ 256 * j.val
    omega

/-- A point past the first row block that writes nothing, of a buffer whose slices are written once. -/
theorem Held.keep {t : ℕ} {b : ℕ → Vec F S64x256 .f32} {Y : Vec F S64x8192 .f32} (ht : 32 ≤ t)
    (h : Held (t - 1) (fun j _ => b j) Y) : Held t (fun j _ => b j) Y := by
  intro j n h1 h2
  by_cases hj : 32 * n + j.val = t
  · exact h j (n - 1) (by omega) (by omega)
  · exact h j n (by omega) (by omega)

/-- What a point past the first row block finds in its slice. -/
theorem Held.read {t : ℕ} {acc : ℕ → ℕ → Vec F S64x256 .f32} {Y : Vec F S64x8192 .f32} {q : ℕ} (hq : q = t % 32) (ht : 32 ≤ t)
    (h : Held (t - 1) acc Y) (inb : ∀ a, (![0, 256 * q] : Fin S64x8192.rank → ℕ) a + S64x256.size a ≤ S64x8192.size a) :
    VecWindow.window Y ![0, 256 * q] S64x256.size inb = acc (t % 32) (t / 32 - 1) := by
  subst hq
  exact h ⟨t % 32, by omega⟩ (t / 32 - 1) (by show 32 * (t / 32 - 1) + t % 32 ≤ t - 1; omega)
    (by show t - 1 < 32 * (t / 32 - 1 + 1) + t % 32; omega)

/-- The accumulation, at a point of the first row block -/
theorem accG_first (c : Dev nD) (t : Fin cfg0.N) (ht : t.val < 32) : addG m c t (bankG m c t) = accG m c (t.val % 32) (t.val / 32) := by
  have e : pt 0 (t.val % 32) = t := by rw [← Nat.div_eq_of_lt ht]; exact pt_self t
  rw [Nat.div_eq_of_lt ht, accG, e]
theorem accU_first (c : Dev nD) (t : Fin cfg0.N) (ht : t.val < 32) : addU m c t (bankU m c t) = accU m c (t.val % 32) (t.val / 32) := by
  have e : pt 0 (t.val % 32) = t := by rw [← Nat.div_eq_of_lt ht]; exact pt_self t
  rw [Nat.div_eq_of_lt ht, accU, e]

/-- and at a later one. -/
theorem accG_next (c : Dev nD) (t : Fin cfg0.N) (ht : 32 ≤ t.val) :
    addG m c t (accG m c (t.val % 32) (t.val / 32 - 1)) = accG m c (t.val % 32) (t.val / 32) := by
  obtain ⟨n, hn⟩ : ∃ n, t.val / 32 = n + 1 := ⟨t.val / 32 - 1, by omega⟩
  have e : pt (n + 1) (t.val % 32) = t := by rw [← hn]; exact pt_self t
  rw [hn, accG, e]; rfl
theorem accU_next (c : Dev nD) (t : Fin cfg0.N) (ht : 32 ≤ t.val) :
    addU m c t (accU m c (t.val % 32) (t.val / 32 - 1)) = accU m c (t.val % 32) (t.val / 32) := by
  obtain ⟨n, hn⟩ : ∃ n, t.val / 32 = n + 1 := ⟨t.val / 32 - 1, by omega⟩
  have e : pt (n + 1) (t.val % 32) = t := by rw [← hn]; exact pt_self t
  rw [hn, accU, e]; rfl

/-- The part that is written once, at a point of the first row block. -/
theorem pt_first (t : Fin cfg0.N) (ht : t.val < 32) : t = pt 0 (t.val % 32) := by
  rw [← Nat.div_eq_of_lt ht]; exact (pt_self t).symm

/-- The column block of a point. -/
theorem coords_col (t : Fin cfg0.N) : (grid0.coords t 1).val = t.val % 32 := by
  have e1 : (grid0.coords t 1).val = t.val / 1 % 32 := Pipeline.Grid.coords_val t 1 (by decide) rfl
  omega

end Cert.DxIdeal.Frame
-- ==== Proof.DxIdeal.Body.lean ====
module

public import proofs.«01_k».proof.Proof.DxIdeal.Acc
public import Idealize.ShloMosaic.Lib.Pipeline.DatRel
public import Idealize.ShloMosaic.Lib.Pipeline.ArrRel
public import Idealize.ShloMosaic.Lib.Claim

/-! The call `dx`: the whole run. -/

@[expose] public section

set_option maxRecDepth 16384

noncomputable section

namespace Cert.DxIdeal.Frame

open Cert.DxIdeal Cert.DxIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's proof data -/

/-- The four gradient buffers: what they hold is stated slice by slice (`held`). -/
def forgets0 : Fin 21 → Bool := fun w => w.val == 17 || w.val == 18 || w.val == 19 || w.val == 20

/-- What `dx`'s block holds after a point. -/
def dxBlock (c : Dev nD) (t : Fin cfg0.N) : Vec F S1024x256 .bf16 :=
  k0_pay1 (F := F) (iblk m c 9 t) (k0_pay8 (F := F) (iblk m c 8 t)) (k0_pay9 (F := F) (iblk m c 0 t) (iblk m c 1 t) (iblk m c 2 t) (iblk m c 3 t) (iblk m c 4 t) (iblk m c 5 t) (iblk m c 6 t) (iblk m c 9 t) (iblk m c 11 t) (iblk m c 7 t) (iblk m c 10 t))

/-- What the windows hold: the inputs their blocks, `dx` its value. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => dxBlock m c t
    | ⟨17, h⟩ => Pipeline.Dat.unnamed (cfg := cfg0) ⟨17, h⟩ t
    | ⟨18, h⟩ => Pipeline.Dat.unnamed (cfg := cfg0) ⟨18, h⟩ t
    | ⟨19, h⟩ => Pipeline.Dat.unnamed (cfg := cfg0) ⟨19, h⟩ t
    | ⟨20, h⟩ => Pipeline.Dat.unnamed (cfg := cfg0) ⟨20, h⟩ t
    | ⟨_ + 21, h⟩ => absurd h (Nat.not_lt.2 (Nat.le_add_left _ _))
  Φ _ := Pipeline.ΦA spec0 c
  q _ := fullShare
  owed _ := 0

/-- What the four gradient buffers hold after a point. -/
def held (c : Dev nD) : (w : Fin cfg0.W) → Fin cfg0.N → ((cfg0.win w).block.Idx → Elt F (cfg0.win w).elt) → Prop := fun w => match w with
  | ⟨17, _⟩ => fun t X => Held t.val (accG m c) X
  | ⟨18, _⟩ => fun t X => Held t.val (accU m c) X
  | ⟨19, _⟩ => fun t X => Held t.val (fun j _ => bankG m c (pt 0 j)) X
  | ⟨20, _⟩ => fun t X => Held t.val (fun j _ => bankU m c (pt 0 j)) X
  | _ => fun _ _ => True

/-- The run's data: the inputs and `dx` exactly, the four gradient buffers by what holds of them. -/
abbrev rdat (c : Dev nD) : Pipeline.RDat τ (Elt F) Unit ℕ (UR sig nD τ) ℕ cfg0 c := (dats m 0 c).toRRel forgets0 (held m c)

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_16 (c : Dev nD) (t : Fin cfg0.N) : (dats m 0 c).after 16 t = dxBlock m c t := by dsimp only [dats]
theorem after0_15 (c : Dev nD) (t : Fin cfg0.N) : (dats m 0 c).after 15 t = iblk m c 15 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d

/-- The gradient buffers are written back at the last point only. -/
theorem flush_last : ∀ t : Fin cfg0.N, t.val ≠ 383 → (cfg0.win 17).flush t = false ∧ (cfg0.win 18).flush t = false
    ∧ (cfg0.win 19).flush t = false ∧ (cfg0.win 20).flush t = false :=
  (by decide +kernel : ∀ t : Fin grid0.N, _)

/-- A gradient buffer is found, past the first point, as the point before left it. -/
theorem found17 (c : Dev nD) (t : Fin cfg0.N) (Y : Vec F S64x8192 .f32) (hY : (rdat m c).Finds 17 t Y) (ht : t.val ≠ 0) :
    Held (t.val - 1) (accG m c) Y := by
  have hN : t.val < 384 := lt_of_lt_of_eq t.isLt (show cfg0.N = 384 from N_0)
  refine (dats m 0 c).toRRel_leaves (w := 17) rfl ((((rdat m c).finds_of_pos (w := 17) rfl ht Y).mp hY).resolve_left fun hf => ?_)
  have h := flush_last ⟨t.val - 1, Nat.lt_of_le_of_lt (Nat.sub_le _ _) t.isLt⟩ (by show t.val - 1 ≠ 383; omega)
  exact Bool.false_ne_true (h.1.symm.trans hf)
theorem found18 (c : Dev nD) (t : Fin cfg0.N) (Y : Vec F S64x8192 .f32) (hY : (rdat m c).Finds 18 t Y) (ht : t.val ≠ 0) :
    Held (t.val - 1) (accU m c) Y := by
  have hN : t.val < 384 := lt_of_lt_of_eq t.isLt (show cfg0.N = 384 from N_0)
  refine (dats m 0 c).toRRel_leaves (w := 18) rfl ((((rdat m c).finds_of_pos (w := 18) rfl ht Y).mp hY).resolve_left fun hf => ?_)
  have h := flush_last ⟨t.val - 1, Nat.lt_of_le_of_lt (Nat.sub_le _ _) t.isLt⟩ (by show t.val - 1 ≠ 383; omega)
  exact Bool.false_ne_true (h.2.1.symm.trans hf)
theorem found19 (c : Dev nD) (t : Fin cfg0.N) (Y : Vec F S64x8192 .f32) (hY : (rdat m c).Finds 19 t Y) (ht : t.val ≠ 0) :
    Held (t.val - 1) (fun j _ => bankG m c (pt 0 j)) Y := by
  have hN : t.val < 384 := lt_of_lt_of_eq t.isLt (show cfg0.N = 384 from N_0)
  refine (dats m 0 c).toRRel_leaves (w := 19) rfl ((((rdat m c).finds_of_pos (w := 19) rfl ht Y).mp hY).resolve_left fun hf => ?_)
  have h := flush_last ⟨t.val - 1, Nat.lt_of_le_of_lt (Nat.sub_le _ _) t.isLt⟩ (by show t.val - 1 ≠ 383; omega)
  exact Bool.false_ne_true (h.2.2.1.symm.trans hf)
theorem found20 (c : Dev nD) (t : Fin cfg0.N) (Y : Vec F S64x8192 .f32) (hY : (rdat m c).Finds 20 t Y) (ht : t.val ≠ 0) :
    Held (t.val - 1) (fun j _ => bankU m c (pt 0 j)) Y := by
  have hN : t.val < 384 := lt_of_lt_of_eq t.isLt (show cfg0.N = 384 from N_0)
  refine (dats m 0 c).toRRel_leaves (w := 20) rfl ((((rdat m c).finds_of_pos (w := 20) rfl ht Y).mp hY).resolve_left fun hf => ?_)
  have h := flush_last ⟨t.val - 1, Nat.lt_of_le_of_lt (Nat.sub_le _ _) t.isLt⟩ (by show t.val - 1 ≠ 383; omega)
  exact Bool.false_ne_true (h.2.2.2.symm.trans hf)

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ Y, ⌜(rdat m c).Finds 17 t Y⌝ ∗ owns (c : Thread nD τ) (ms0_17 t) fullShare Y)
    ∗ (∃ Y, ⌜(rdat m c).Finds 18 t Y⌝ ∗ owns (c : Thread nD τ) (ms0_18 t) fullShare Y)
    ∗ (∃ Y, ⌜(rdat m c).Finds 19 t Y⌝ ∗ owns (c : Thread nD τ) (ms0_19 t) fullShare Y)
    ∗ (∃ Y, ⌜(rdat m c).Finds 20 t Y⌝ ∗ owns (c : Thread nD τ) (ms0_20 t) fullShare Y))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t
    ∗ (∃ X, ⌜held m c 17 t X⌝ ∗ owns (c : Thread nD τ) (ms0_17 t) fullShare X)
    ∗ (∃ X, ⌜held m c 18 t X⌝ ∗ owns (c : Thread nD τ) (ms0_18 t) fullShare X)
    ∗ (∃ X, ⌜held m c 19 t X⌝ ∗ owns (c : Thread nD τ) (ms0_19 t) fullShare X)
    ∗ (∃ X, ⌜held m c 20 t X⌝ ∗ owns (c : Thread nD τ) (ms0_20 t) fullShare X))

set_option maxHeartbeats 4000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15]
  rw [show (dats m 0 c).Φ t.succ = (dats m 0 c).Φ t.castSucc from rfl,
    show (dats m 0 c).owesAt () t.succ = (dats m 0 c).owesAt () t.castSucc from rfl]
  have hN : t.val < 384 := lt_of_lt_of_eq t.isLt (show cfg0.N = 384 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t], after0_6]
  rw [show (dats m 0 c).leavesExact 7 t = owns (c : Thread nD τ) (ms0_7 t) fullShare ((dats m 0 c).after 7 t) from by
    unfold Dat.leavesExact; rw [liveAt0_7 t], after0_7]
  rw [show (dats m 0 c).leavesExact 8 t = owns (c : Thread nD τ) (ms0_8 t) fullShare ((dats m 0 c).after 8 t) from by
    unfold Dat.leavesExact; rw [liveAt0_8 t], after0_8]
  rw [show (dats m 0 c).leavesExact 9 t = owns (c : Thread nD τ) (ms0_9 t) fullShare ((dats m 0 c).after 9 t) from by
    unfold Dat.leavesExact; rw [liveAt0_9 t], after0_9]
  rw [show (dats m 0 c).leavesExact 10 t = owns (c : Thread nD τ) (ms0_10 t) fullShare ((dats m 0 c).after 10 t) from by
    unfold Dat.leavesExact; rw [liveAt0_10 t], after0_10]
  rw [show (dats m 0 c).leavesExact 11 t = owns (c : Thread nD τ) (ms0_11 t) fullShare ((dats m 0 c).after 11 t) from by
    unfold Dat.leavesExact; rw [liveAt0_11 t], after0_11]
  rw [show (dats m 0 c).leavesExact 12 t = owns (c : Thread nD τ) (ms0_12 t) fullShare ((dats m 0 c).after 12 t) from by
    unfold Dat.leavesExact; rw [liveAt0_12 t], after0_12]
  rw [show (dats m 0 c).leavesExact 13 t = owns (c : Thread nD τ) (ms0_13 t) fullShare ((dats m 0 c).after 13 t) from by
    unfold Dat.leavesExact; rw [liveAt0_13 t], after0_13]
  rw [show (dats m 0 c).leavesExact 14 t = owns (c : Thread nD τ) (ms0_14 t) fullShare ((dats m 0 c).after 14 t) from by
    unfold Dat.leavesExact; rw [liveAt0_14 t], after0_14]
  rw [show (dats m 0 c).leavesExact 15 t = owns (c : Thread nD τ) (ms0_15 t) fullShare ((dats m 0 c).after 15 t) from by
    unfold Dat.leavesExact; rw [liveAt0_15 t], after0_15]
  rw [show (dats m 0 c).leavesExact 16 t = owns (c : Thread nD τ) (ms0_16 t) fullShare ((dats m 0 c).after 16 t) from by
    unfold Dat.leavesExact; rw [liveAt0_16 t], after0_16]
  by_cases h0 : t.val < 32
  · iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%Y17, %hY17, H17⟩, ⟨%Y18, %hY18, H18⟩, ⟨%Y19, %hY19, H19⟩, ⟨%Y20, %hY20, H20⟩⟩
    iapply ((kernelRun0_A c (grid0.coords t) _ _ _ _ _ _ _ _ _ _ _ _ _ _ _ _ _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) Y17 Y18 Y19 Y20) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexists _; iexact H16
    isplitl [H17]; · iexact H17
    isplitl [H18]; · iexact H18
    isplitl [H19]; · iexact H19
    isplitl [H20]; · iexact H20
    iintro ⟨H0, H1, H2, H3, H4, H5, H6, H7, H8, H9, H10, H11, H12, H13, H14, H15, H16, H17, H18, H19, H20⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]
    · iexists _; isplitr; swap; · iexact H17
      ipureintro; exact Held.step (coords_col t) (found17 m c t Y17 hY17) (accG_first m c t h0)
    isplitl [H18]
    · iexists _; isplitr; swap; · iexact H18
      ipureintro; exact Held.step (coords_col t) (found18 m c t Y18 hY18) (accU_first m c t h0)
    isplitl [H19]
    · iexists _; isplitr; swap; · iexact H19
      ipureintro; exact Held.step (coords_col t) (found19 m c t Y19 hY19) (congrArg (bankG m c) (pt_first t h0))
    iexists _; isplitr; swap; · iexact H20
    ipureintro; exact Held.step (coords_col t) (found20 m c t Y20 hY20) (congrArg (bankU m c) (pt_first t h0))
  · have h32 : 32 ≤ t.val := not_lt.mp h0
    have hne : t.val ≠ 0 := by omega
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%Y17, %hY17, H17⟩, ⟨%Y18, %hY18, H18⟩, ⟨%Y19, %hY19, H19⟩, ⟨%Y20, %hY20, H20⟩⟩
    iapply ((kernelRun0_B c (grid0.coords t) _ _ _ _ _ _ _ _ _ _ _ _ _ _ _ _ _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) Y17 Y18 Y19 Y20) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexists _; iexact H16
    isplitl [H17]; · iexact H17
    isplitl [H18]; · iexact H18
    isplitl [H19]; · iexact H19
    isplitl [H20]; · iexact H20
    iintro ⟨H0, H1, H2, H3, H4, H5, H6, H7, H8, H9, H10, H11, H12, H13, H14, H15, H16, H17, H18, H19, H20⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]
    · iexists _; isplitr; swap; · iexact H17
      ipureintro; exact Held.step (coords_col t) (found17 m c t Y17 hY17) ((congrArg (addG m c t) (Held.read (coords_col t) h32 (found17 m c t Y17 hY17 hne) _)).trans (accG_next m c t h32))
    isplitl [H18]
    · iexists _; isplitr; swap; · iexact H18
      ipureintro; exact Held.step (coords_col t) (found18 m c t Y18 hY18) ((congrArg (addU m c t) (Held.read (coords_col t) h32 (found18 m c t Y18 hY18 hne) _)).trans (accU_next m c t h32))
    isplitl [H19]
    · iexists _; isplitr; swap; · iexact H19
      ipureintro; exact Held.keep h32 (found19 m c t Y19 hY19 hne)
    iexists _; isplitr; swap; · iexact H20
    ipureintro; exact Held.keep h32 (found20 m c t Y20 hY20 hne)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : Pipeline.BodyObligationRel (dats (F := F) m 0 c) (defs₀ (F := F)) Variants.none () Set.univ forgets0 (held m c) := fun t => by
  rw [bigSep_W0, bigSep_W0, defs₀_row]
  exact triple_restated (sound_body m c t) rfl .rfl fun _ => .rfl

/-! ## The run and the frame -/

set_option backward.isDefEq.respectTransparency.types false in
/-- Every execution ends with the arrays as the data say and every semaphore counter at zero. -/
theorem run_main_quiescent : θ_run defs (onTc (τ := τ) (main (F := F))) (s₀ m ρ) (fun r => (Pipeline.RDat.FramePost (cfgs 0) (rdat m) (V m)) r ∧ r.2.sem = fun _ => 0) :=
  Pipeline.RDat.θ_run_frame (Q' := _) cfgs (0 : Fin 1) launch0 defs₀ Variants.none (rdat m) m ρ main
    (hbody := fun c => (body_obligation m c).toRRel) (hshare := fun c => (dats m 0 c).share_full fun _ => rfl)
    (howed := fun _ _ => rfl) (V := V m) (hmain := hmain m Variants.none) (hA := A_eq m) (hΦ := fun _ _ => rfl)

/-- Every execution ends with the arrays as the data say. -/
theorem run_main : θ_run defs (onTc (τ := τ) (main (F := F))) (s₀ m ρ) (Pipeline.RDat.FramePost (cfgs 0) (rdat m) (V m)) :=
  (θ_run defs _ _).mono (fun _ h => h.1) (run_main_quiescent m ρ)

/-- Every execution leaves the arguments as they were. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  frame_of m ρ (rdat m) (A_eq m) (run_main m ρ)

/-- Every execution ends, with the arguments as they were and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15))
      ∧ r.2.sem = fun _ => 0) :=
  θ_run_and (unchanged m ρ) ((θ_run defs _ _).mono (fun _ h => h.2) (run_main_quiescent m ρ))

end Cert.DxIdeal.Frame
-- ==== Proof.DxIdeal.Payload.lean ====
module

public import proofs.«01_k».proof.Proof.Gen.DxIdeal.Skeleton
public import proofs.«01_k».proof.Proof.Gen.DxRefIdeal.Read
public import Idealize.ShloMosaic.Lib.Pipeline.ValueKit

/-! The call `dx`: the function it computes, what one grid point computes, and the reference, element by element. -/

@[expose] public section

set_option maxRecDepth 16384

noncomputable section

open Idealize.ShloMosaic Idealize.ShloMosaic.TcCoe Idealize.SL.Sem
open scoped BigOperators

namespace Cert.DxIdeal.Value

open Cert.DxIdeal Cert.DxIdeal.Gen

/-- The gradient at the normalized activations: two products by the frozen weights, two by the adapters. -/
def hidden (G U : FVec Ideal S12288x3584 .bf16) (S : FVec Ideal S12288x128 .bf16) (WG WU : FVec Ideal S3584x8192 .bf16)
    (AG AU : FVec Ideal S64x8192 .bf16) (i : Fin 12288) (o : Fin 8192) : EReal :=
  ((∑ k : Fin 3584, G (ix2 i k) * WG (ix2 k o)) + (∑ k : Fin 3584, U (ix2 i k) * WU (ix2 k o))
    + (∑ k : Fin 64, S (ix2 i ⟨k.val, by omega⟩) * AG (ix2 k o)) + ∑ k : Fin 64, S (ix2 i ⟨64 + k.val, by omega⟩) * AU (ix2 k o) : Ideal .f32)

/-- The gradient at the input: the residual's, plus the normalization's. -/
def gradient (G U : FVec Ideal S12288x3584 .bf16) (S : FVec Ideal S12288x128 .bf16) (WG WU : FVec Ideal S3584x8192 .bf16)
    (AG AU : FVec Ideal S64x8192 .bf16) (X DY : FVec Ideal S12288x8192 .bf16) (R D : FVec Ideal S12288x1 .f32) (N : FVec Ideal S1x8192 .f32) :
    FVec Ideal S12288x8192 .bf16 :=
  fun j => (DY j + R (ix2 (j 0) 0) * (hidden G U S WG WU AG AU (j 0) (j 1) * N (ix2 0 (j 1)) - X j * R (ix2 (j 0) 0) * D (ix2 (j 0) 0)) : Ideal .bf16)

/-- The product of the operands laid side by side is the sum of the four products. -/
theorem joined_sum (g u : FVec Ideal S1024x3584 .bf16) (s : FVec Ideal S1024x128 .bf16) (wg wu : FVec Ideal S3584x256 .bf16)
    (ag au : FVec Ideal S64x256 .bf16) (h h') (i : Fin 1024) (o : Fin 256) :
    (∑ k : Fin 7296, (concatenate S1024x7296 1 [⟨S1024x3584, g⟩, ⟨S1024x3584, u⟩, ⟨S1024x128, s⟩] h : FVec Ideal S1024x7296 .bf16) (ix2 i k)
        * (concatenate S7296x256 0 [⟨S3584x256, wg⟩, ⟨S3584x256, wu⟩, ⟨S64x256, ag⟩, ⟨S64x256, au⟩] h' : FVec Ideal S7296x256 .bf16) (ix2 k o))
      = (∑ k : Fin 3584, g (ix2 i k) * wg (ix2 k o)) + (∑ k : Fin 3584, u (ix2 i k) * wu (ix2 k o))
        + (∑ k : Fin 64, s (ix2 i ⟨k.val, by omega⟩) * ag (ix2 k o)) + ∑ k : Fin 64, s (ix2 i ⟨64 + k.val, by omega⟩) * au (ix2 k o) := by
  rw [Fin.sum_univ_two_halves 7232 64 rfl, Fin.sum_univ_two_halves 7168 64 rfl, Fin.sum_univ_two_halves 3584 3584 rfl]
  refine congrArg₂ (· + ·) (congrArg₂ (· + ·) (congrArg₂ (· + ·) ?_ ?_) ?_) ?_
  all_goals
    refine Finset.sum_congr rfl fun k _ => ?_
    pointwise []
  · rw [dif_neg (by omega), dif_neg (by omega), dif_neg (by omega), dif_neg (by omega), dif_pos (by omega)]
    refine congrArg₂ (· * ·) (congrArg (fun p => s (ix2 i p)) (Fin.ext ?_)) (congrArg (fun p => ag (ix2 p o)) (Fin.ext ?_))
    all_goals
      dsimp only
      omega
  · rw [dif_neg (by omega), dif_neg (by omega), dif_neg (by omega), dif_neg (by omega), dif_neg (by omega)]
    refine congrArg₂ (· * ·) (congrArg (fun p => s (ix2 i p)) (Fin.ext ?_)) (congrArg (fun p => au (ix2 p o)) (Fin.ext ?_))
    all_goals
      dsimp only
      omega

theorem pay1 (g u : FVec Ideal S1024x3584 .bf16) (s : FVec Ideal S1024x128 .bf16) (wg wu : FVec Ideal S3584x256 .bf16)
    (ag au : FVec Ideal S64x256 .bf16) (x y : FVec Ideal S1024x256 .bf16) (r d : FVec Ideal S1024x1 .f32) (n : FVec Ideal S1x256 .f32)
    (j : S1024x256.Idx) :
    k0_pay1 (F := Ideal) r (k0_pay8 (F := Ideal) y) (k0_pay9 (F := Ideal) g u s wg wu ag au r n x d) j
      = (y j + r (ix2 (j 0) 0) * (((∑ k : Fin 3584, g (ix2 (j 0) k) * wg (ix2 k (j 1))) + (∑ k : Fin 3584, u (ix2 (j 0) k) * wu (ix2 k (j 1)))
        + (∑ k : Fin 64, s (ix2 (j 0) ⟨k.val, by omega⟩) * ag (ix2 k (j 1))) + ∑ k : Fin 64, s (ix2 (j 0) ⟨64 + k.val, by omega⟩) * au (ix2 k (j 1)))
          * n (ix2 0 (j 1)) - x j * r (ix2 (j 0) 0) * d (ix2 (j 0) 0)) : Ideal .bf16) := by
  rw [← joined_sum g u s wg wu ag au Gen.concatenates_S1024x3584_S1024x3584_S1024x128_S1024x7296_d1
    Gen.concatenates_S3584x256_S3584x256_S64x256_S64x256_S7296x256_d0 (j 0) (j 1)]
  pointwise [k0_pay1, k0_pay8, k0_pay9, k0_pay7]

/-- The part of a down-projection's gradient that the norm gives. -/
def viaNorm (E : FVec Ideal S64x3584 .bf16) (W : FVec Ideal S3584x8192 .bf16) (M : FVec Ideal S64x8192 .f32) (i : Fin 64) (o : Fin 8192) : EReal :=
  (Ideal.ofBits .f32 0x3F400000#32 * (∑ k : Fin 3584, E (ix2 i k) * W (ix2 k o)) + Ideal.ofBits .f32 0x3E900000#32 * M (ix2 i o) : Ideal .f32)

/-- What token `t` adds to a down-projection's gradient: its low-rank gradient times its normalized activation. -/
def term (S : FVec Ideal S12288x128 .bf16) (X : FVec Ideal S12288x8192 .bf16) (R : FVec Ideal S12288x1 .f32) (N : FVec Ideal S1x8192 .f32)
    (i : Fin 128) (o : Fin 8192) (t : Fin 12288) : EReal :=
  (S (ix2 t i) * (X (ix2 t o) * R (ix2 t 0) * N (ix2 0 o)) : Ideal .f32)

/-- The gradient that the norm gives, as an array. -/
def normGradient (E : FVec Ideal S64x3584 .bf16) (W : FVec Ideal S3584x8192 .bf16) (M : FVec Ideal S64x8192 .f32) : FVec Ideal S64x8192 .f32 :=
  fun j => viaNorm E W M (j 0) (j 1)

/-- The gradient of the gate's down-projection, and the up branch's: the sum over the tokens, and what the norm gives. -/
def gateGradient (S : FVec Ideal S12288x128 .bf16) (X : FVec Ideal S12288x8192 .bf16) (R : FVec Ideal S12288x1 .f32) (N : FVec Ideal S1x8192 .f32)
    (E : FVec Ideal S64x3584 .bf16) (W : FVec Ideal S3584x8192 .bf16) (M : FVec Ideal S64x8192 .f32) : FVec Ideal S64x8192 .f32 :=
  fun j => ((∑ t : Fin 12288, term S X R N ⟨(j 0).val, by have := (j 0).isLt; change _ < 64 at this; omega⟩ (j 1) t) + viaNorm E W M (j 0) (j 1) : Ideal .f32)
def upGradient (S : FVec Ideal S12288x128 .bf16) (X : FVec Ideal S12288x8192 .bf16) (R : FVec Ideal S12288x1 .f32) (N : FVec Ideal S1x8192 .f32)
    (E : FVec Ideal S64x3584 .bf16) (W : FVec Ideal S3584x8192 .bf16) (M : FVec Ideal S64x8192 .f32) : FVec Ideal S64x8192 .f32 :=
  fun j => ((∑ t : Fin 12288, term S X R N ⟨64 + (j 0).val, by have := (j 0).isLt; change _ < 64 at this; omega⟩ (j 1) t) + viaNorm E W M (j 0) (j 1) : Ideal .f32)

theorem pay5 (e : FVec Ideal S64x3584 .bf16) (w : FVec Ideal S3584x256 .bf16) (a : FVec Ideal S64x256 .f32) (j : S64x256.Idx) :
    k0_pay5 (F := Ideal) e w a j = (Ideal.ofBits .f32 0x3F400000#32 * (∑ k : Fin 3584, e (ix2 (j 0) k) * w (ix2 k (j 1)))
      + Ideal.ofBits .f32 0x3E900000#32 * a j : Ideal .f32) := by
  pointwise [k0_pay5]

theorem pay6 (e : FVec Ideal S64x3584 .bf16) (w : FVec Ideal S3584x256 .bf16) (a : FVec Ideal S64x256 .f32) (j : S64x256.Idx) :
    k0_pay6 (F := Ideal) e w a j = (Ideal.ofBits .f32 0x3F400000#32 * (∑ k : Fin 3584, e (ix2 (j 0) k) * w (ix2 k (j 1)))
      + Ideal.ofBits .f32 0x3E900000#32 * a j : Ideal .f32) := by
  pointwise [k0_pay6]

theorem pay3 (n : FVec Ideal S1x256 .f32) (r : FVec Ideal S1024x1 .f32) (x : FVec Ideal S1024x256 .bf16) (s : FVec Ideal S1024x128 .bf16)
    (v : FVec Ideal S64x256 .f32) (j : S64x256.Idx) :
    k0_pay3 (F := Ideal) n (k0_pay7 (F := Ideal) r x) s v j
      = (v j + ∑ k : Fin 1024, s (ix2 k ⟨(j 0).val, by have := (j 0).isLt; change _ < 64 at this; omega⟩) * (x (ix2 k (j 1)) * r (ix2 k 0) * n (ix2 0 (j 1))) : Ideal .f32) := by
  pointwise [k0_pay3, k0_pay2, k0_pay7]

theorem pay4 (n : FVec Ideal S1x256 .f32) (r : FVec Ideal S1024x1 .f32) (x : FVec Ideal S1024x256 .bf16) (s : FVec Ideal S1024x128 .bf16)
    (v : FVec Ideal S64x256 .f32) (j : S64x256.Idx) :
    k0_pay4 (F := Ideal) n (k0_pay7 (F := Ideal) r x) s v j
      = (v j + ∑ k : Fin 1024, s (ix2 k ⟨64 + (j 0).val, by have := (j 0).isLt; change _ < 64 at this; omega⟩) * (x (ix2 k (j 1)) * r (ix2 k 0) * n (ix2 0 (j 1))) : Ideal .f32) := by
  pointwise [k0_pay4, k0_pay2, k0_pay7]

open Cert.DxRefIdeal.Read in
theorem ref_dx (G U : FVec Ideal S12288x3584 .bf16) (S : FVec Ideal S12288x128 .bf16) (WG WU : FVec Ideal S3584x8192 .bf16)
    (AG AU : FVec Ideal S64x8192 .bf16) (X DY : FVec Ideal S12288x8192 .bf16) (R D : FVec Ideal S12288x1 .f32) (N : FVec Ideal S1x8192 .f32) :
    val_main_v24 (F := Ideal) G U S WG WU AG AU X DY R D N = gradient G U S WG WU AG AU X DY R D N := by
  funext j
  idx_vars j
  unfold gradient hidden
  pointwise [val_main_v24, val_main_v23, val_main_v22, val_main_v21, val_main_v20, val_main_v19, val_main_v18, val_main_v17, val_main_v16, val_main_v15, val_main_v11, val_main_v10, val_main_v9, val_main_v8, val_main_v7, val_main_v6, val_main_v5, val_main_v4, val_main_v3, val_main_v2, val_main_v1, val_main_v0]

open Cert.DxRefIdeal.Read in
theorem ref_dan_gate (E : FVec Ideal S64x3584 .bf16) (W : FVec Ideal S3584x8192 .bf16) (M : FVec Ideal S64x8192 .f32) :
    val_main_v30 (F := Ideal) W E M = normGradient E W M := by
  funext j
  idx_vars j
  unfold normGradient viaNorm
  pointwise [val_main_v30, val_main_v29, val_main_v28, val_main_v27, val_main_v26, val_main_v25]
  rfl

open Cert.DxRefIdeal.Read in
theorem ref_dan_up (E : FVec Ideal S64x3584 .bf16) (W : FVec Ideal S3584x8192 .bf16) (M : FVec Ideal S64x8192 .f32) :
    val_main_v36 (F := Ideal) W E M = normGradient E W M := by
  funext j
  idx_vars j
  unfold normGradient viaNorm
  pointwise [val_main_v36, val_main_v35, val_main_v34, val_main_v33, val_main_v32, val_main_v31]
  rfl

open Cert.DxRefIdeal.Read in
theorem ref_da_gate (S : FVec Ideal S12288x128 .bf16) (X : FVec Ideal S12288x8192 .bf16) (R : FVec Ideal S12288x1 .f32) (N : FVec Ideal S1x8192 .f32)
    (E : FVec Ideal S64x3584 .bf16) (W : FVec Ideal S3584x8192 .bf16) (M : FVec Ideal S64x8192 .f32) :
    val_main_v39 (F := Ideal) S W X R N E M = gateGradient S X R N E W M := by
  funext j
  have h : val_main_v39 (F := Ideal) S W X R N E M j = val_main_v38 (F := Ideal) S X R N j + val_main_v30 (F := Ideal) W E M j := rfl
  rw [h, ref_dan_gate]
  idx_vars j
  unfold gateGradient normGradient term
  pointwise [val_main_v38, val_main_v37, val_main_v14, val_main_v13, val_main_v12, val_main_v11, val_main_v10, val_main_v9]

open Cert.DxRefIdeal.Read in
theorem ref_da_up (S : FVec Ideal S12288x128 .bf16) (X : FVec Ideal S12288x8192 .bf16) (R : FVec Ideal S12288x1 .f32) (N : FVec Ideal S1x8192 .f32)
    (E : FVec Ideal S64x3584 .bf16) (W : FVec Ideal S3584x8192 .bf16) (M : FVec Ideal S64x8192 .f32) :
    val_main_v42 (F := Ideal) S W X R N E M = upGradient S X R N E W M := by
  funext j
  have h : val_main_v42 (F := Ideal) S W X R N E M j = val_main_v41 (F := Ideal) S X R N j + val_main_v36 (F := Ideal) W E M j := rfl
  rw [h, ref_dan_up]
  idx_vars j
  unfold upGradient normGradient term
  pointwise [val_main_v41, val_main_v40, val_main_v14, val_main_v13, val_main_v12, val_main_v11, val_main_v10, val_main_v9]

end Cert.DxIdeal.Value
-- ==== Proof.DxIdeal.Final.lean ====
module

public import proofs.«01_k».proof.Proof.DxIdeal.Body
public import proofs.«01_k».proof.Proof.DxIdeal.Payload

/-! The call `dx`: what its five result arrays hold after the run, as functions of the arrays it reads. -/

@[expose] public section

set_option maxRecDepth 16384

noncomputable section

open Idealize.ShloMosaic Idealize.ShloMosaic.TcCoe Idealize.SL.Sem
open Idealize.ShloMosaic.Pipeline (Dat)
open scoped BigOperators

namespace Cert.DxIdeal.Value

open Cert.DxIdeal Cert.DxIdeal.Gen Cert.DxIdeal.Frame

variable (m : (ℓ : Loc nD τ sig) → Buf (Elt Ideal) ℓ)

/-- The block index of every window `dx` depends on, at a grid point. -/
theorem idx : ∀ t : Fin cfg0.N, win0_0.index t = ![t.val / 32, 0] ∧ win0_1.index t = ![t.val / 32, 0] ∧ win0_2.index t = ![t.val / 32, 0]
    ∧ win0_3.index t = ![0, t.val % 32] ∧ win0_4.index t = ![0, t.val % 32] ∧ win0_5.index t = ![0, t.val % 32] ∧ win0_6.index t = ![0, t.val % 32]
    ∧ win0_7.index t = ![t.val / 32, t.val % 32] ∧ win0_8.index t = ![t.val / 32, t.val % 32]
    ∧ win0_9.index t = ![t.val / 32, 0] ∧ win0_10.index t = ![t.val / 32, 0] ∧ win0_11.index t = ![0, t.val % 32]
    ∧ win0_12.index t = ![0, 0] ∧ win0_13.index t = ![0, 0] ∧ win0_14.index t = ![0, t.val % 32] ∧ win0_15.index t = ![0, t.val % 32]
    ∧ win0_16.index t = ![t.val / 32, t.val % 32] :=
  (by decide +kernel : ∀ t : Fin grid0.N, _)

theorem sub_congr {a b x y : EReal} (h : a = x) (h' : b = y) : a - b = x - y := congrArg₂ (· - ·) h h'

theorem final16 (c : Dev nD) : (dats m 0 c).arrAt 16 cfg0.N
    = gradient (V m c main_arg0) (V m c main_arg1) (V m c main_arg2) (V m c main_arg3) (V m c main_arg4) (V m c main_arg5) (V m c main_arg6)
        (V m c main_arg7) (V m c main_arg8) (V m c main_arg9) (V m c main_arg10) (V m c main_arg11) := by
  refine (dats m 0 c).arrAt_eq_of_covers 16 _ (by decide +kernel) fun t hf y => ?_
  blk_simp
  rw [after0_16, dxBlock, pay1]
  unfold gradient hidden
  refine Ideal.add_congr ?_ (Ideal.mul_congr ?_ (sub_congr (Ideal.mul_congr (Ideal.add_congr (Ideal.add_congr (Ideal.add_congr
    (Fin.sum_fin_congr fun k => Ideal.mul_congr ?_ ?_) (Fin.sum_fin_congr fun k => Ideal.mul_congr ?_ ?_))
    (Fin.sum_fin_congr fun k => Ideal.mul_congr ?_ ?_)) (Fin.sum_fin_congr fun k => Ideal.mul_congr ?_ ?_)) ?_)
    (Ideal.mul_congr (Ideal.mul_congr ?_ ?_) ?_)))
  all_goals blk_point [iblk, idx t]

/-! The gradients of the down-projections: a slice's sum over the row blocks is the sum over all tokens. -/

/-- `term` with the token as a number, zero past the last. -/
def termAt (c : Dev nD) (i : Fin 128) (o : Fin 8192) (t : ℕ) : EReal :=
  if h : t < 12288 then term (V m c main_arg2) (V m c main_arg7) (V m c main_arg9) (V m c main_arg11) i o ⟨t, h⟩ else 0

theorem sum_termAt (c : Dev nD) (i : Fin 128) (o : Fin 8192) :
    ∑ t ∈ Finset.range 12288, termAt m c i o t
      = ∑ t : Fin 12288, term (V m c main_arg2) (V m c main_arg7) (V m c main_arg9) (V m c main_arg11) i o t := by
  rw [Finset.sum_range]
  exact Finset.sum_congr rfl fun t _ => dif_pos t.isLt

/-- Row `i` of the gate's half of the low-rank gradients, of the up branch's, and a column of slice `q`. -/
def lowG (j : S64x256.Idx) : Fin 128 := ⟨(j 0).val, by have := (j 0).isLt; change _ < 64 at this; omega⟩
def lowU (j : S64x256.Idx) : Fin 128 := ⟨64 + (j 0).val, by have := (j 0).isLt; change _ < 64 at this; omega⟩
def col (q : ℕ) (hq : q < 32) (j : S64x256.Idx) : Fin 8192 := ⟨256 * q + (j 1).val, by have := (j 1).isLt; change _ < 256 at this; omega⟩

theorem addG_eq (c : Dev nD) (t : Fin cfg0.N) {n q : ℕ} (hn : t.val / 32 = n) (hq : t.val % 32 = q) (hq' : q < 32) (v : FVec Ideal S64x256 .f32)
    (j : S64x256.Idx) :
    addG m c t v j = (v j + ∑ k : Fin 1024, termAt m c (lowG j) (col q hq' j) (1024 * n + k.val) : Ideal .f32) := by
  have hN : t.val < 384 := lt_of_lt_of_eq t.isLt (show cfg0.N = 384 from N_0)
  subst hn hq
  rw [addG, pay3]
  refine Ideal.add_congr rfl (Fin.sum_fin_congr fun k => ?_)
  have hk := k.isLt
  rw [termAt, dif_pos (by omega), term]
  refine Ideal.mul_congr ?_ (Ideal.mul_congr (Ideal.mul_congr ?_ ?_) ?_)
  all_goals blk_point [iblk, idx t, lowG, col]

theorem addU_eq (c : Dev nD) (t : Fin cfg0.N) {n q : ℕ} (hn : t.val / 32 = n) (hq : t.val % 32 = q) (hq' : q < 32) (v : FVec Ideal S64x256 .f32)
    (j : S64x256.Idx) :
    addU m c t v j = (v j + ∑ k : Fin 1024, termAt m c (lowU j) (col q hq' j) (1024 * n + k.val) : Ideal .f32) := by
  have hN : t.val < 384 := lt_of_lt_of_eq t.isLt (show cfg0.N = 384 from N_0)
  subst hn hq
  rw [addU, pay4]
  refine Ideal.add_congr rfl (Fin.sum_fin_congr fun k => ?_)
  have hk := k.isLt
  rw [termAt, dif_pos (by omega), term]
  refine Ideal.mul_congr ?_ (Ideal.mul_congr (Ideal.mul_congr ?_ ?_) ?_)
  all_goals blk_point [iblk, idx t, lowU, col]

theorem bankG_eq (c : Dev nD) (t : Fin cfg0.N) {q : ℕ} (hq : t.val % 32 = q) (hq' : q < 32) (j : S64x256.Idx) :
    bankG m c t j = viaNorm (V m c main_arg12) (V m c main_arg3) (V m c main_arg14) (j 0) (col q hq' j) := by
  subst hq
  rw [bankG, pay5]
  unfold viaNorm
  refine Ideal.add_congr (Ideal.mul_congr rfl (Fin.sum_fin_congr fun k => Ideal.mul_congr ?_ ?_)) (Ideal.mul_congr rfl ?_)
  all_goals blk_point [iblk, idx t, col]

theorem bankU_eq (c : Dev nD) (t : Fin cfg0.N) {q : ℕ} (hq : t.val % 32 = q) (hq' : q < 32) (j : S64x256.Idx) :
    bankU m c t j = viaNorm (V m c main_arg13) (V m c main_arg4) (V m c main_arg15) (j 0) (col q hq' j) := by
  subst hq
  rw [bankU, pay6]
  unfold viaNorm
  refine Ideal.add_congr (Ideal.mul_congr rfl (Fin.sum_fin_congr fun k => Ideal.mul_congr ?_ ?_)) (Ideal.mul_congr rfl ?_)
  all_goals blk_point [iblk, idx t, col]

theorem pt_row {n q : ℕ} (hn : n < 12) (hq : q < 32) : (pt n q).val / 32 = n := by
  show (32 * n + q) % 384 / 32 = n
  omega
theorem pt_col {n q : ℕ} (hn : n < 12) (hq : q < 32) : (pt n q).val % 32 = q := by
  show (32 * n + q) % 384 % 32 = q
  omega

/-- One more row block of a sum. -/
theorem sum_block (f : ℕ → EReal) (b : EReal) (n : ℕ) :
    b + ∑ t ∈ Finset.range (1024 * n), f t + ∑ k : Fin 1024, f (1024 * n + k.val) = b + ∑ t ∈ Finset.range (1024 * (n + 1)), f t := by
  rw [show 1024 * (n + 1) = 1024 * n + 1024 from by omega, Finset.sum_range_add, add_assoc, Finset.sum_range (n := 1024)]

theorem accG_eq (c : Dev nD) {q : ℕ} (hq : q < 32) (j : S64x256.Idx) : ∀ n : ℕ, n < 12 →
    accG m c q n j = (bankG m c (pt 0 q) j : EReal) + ∑ t ∈ Finset.range (1024 * (n + 1)), termAt m c (lowG j) (col q hq j) t
  | 0, h => by
    rw [accG, addG_eq m c (pt 0 q) (pt_row h hq) (pt_col h hq) hq]
    refine Eq.trans ?_ (sum_block _ _ 0)
    rw [Nat.mul_zero, Finset.sum_range_zero, add_zero]
  | n + 1, h => by
    rw [accG, addG_eq m c (pt (n + 1) q) (pt_row h hq) (pt_col h hq) hq, accG_eq c hq j n (by omega)]
    exact sum_block _ _ (n + 1)

theorem accU_eq (c : Dev nD) {q : ℕ} (hq : q < 32) (j : S64x256.Idx) : ∀ n : ℕ, n < 12 →
    accU m c q n j = (bankU m c (pt 0 q) j : EReal) + ∑ t ∈ Finset.range (1024 * (n + 1)), termAt m c (lowU j) (col q hq j) t
  | 0, h => by
    rw [accU, addU_eq m c (pt 0 q) (pt_row h hq) (pt_col h hq) hq]
    refine Eq.trans ?_ (sum_block _ _ 0)
    rw [Nat.mul_zero, Finset.sum_range_zero, add_zero]
  | n + 1, h => by
    rw [accU, addU_eq m c (pt (n + 1) q) (pt_row h hq) (pt_col h hq) hq, accU_eq c hq j n (by omega)]
    exact sum_block _ _ (n + 1)

/-- The slice of a column, and its place in the slice. -/
def slice (j : S64x8192.Idx) : ℕ := (j 1).val / 256
theorem slice_lt (j : S64x8192.Idx) : slice j < 32 := by
  have := (j 1).isLt
  change _ < 8192 at this
  unfold slice
  omega
def inSlice (j : S64x8192.Idx) : S64x256.Idx := ix2 (j 0) ⟨(j 1).val % 256, Nat.mod_lt _ (by omega)⟩

theorem col_inSlice (j : S64x8192.Idx) : col (slice j) (slice_lt j) (inSlice j) = j 1 :=
  Fin.ext (by show 256 * ((j 1).val / 256) + (j 1).val % 256 = (j 1).val; omega)

/-- After the last point a buffer holds, under each index, what the last row block left of its slice. -/
theorem held_last {acc : ℕ → ℕ → FVec Ideal S64x256 .f32} {X : FVec Ideal S64x8192 .f32} (h : Held (F := Ideal) 383 acc X) (j : S64x8192.Idx) :
    X j = acc (slice j) 11 (inSlice j) := by
  have hq := slice_lt j
  have e := congrFun (h ⟨slice j, hq⟩ 11 (by show 32 * 11 + slice j ≤ 383; omega) (by show 383 < 32 * (11 + 1) + slice j; omega)) (inSlice j)
  refine Eq.trans (congrArg X ?_) e
  funext a
  apply Fin.ext
  revert a
  refine Fin.forall_fin_two.mpr ⟨?_, ?_⟩
  · show (j 0).val = 0 + 1 * (j 0).val
    omega
  · show (j 1).val = 256 * ((j 1).val / 256) + 1 * ((j 1).val % 256)
    omega

theorem normG (c : Dev nD) (j : S64x8192.Idx) : bankG m c (pt 0 (slice j)) (inSlice j) = viaNorm (V m c main_arg12) (V m c main_arg3) (V m c main_arg14) (j 0) (j 1) :=
  (bankG_eq m c (pt 0 (slice j)) (pt_col (by omega) (slice_lt j)) (slice_lt j) (inSlice j)).trans (by rw [col_inSlice]; rfl)

theorem lastG (c : Dev nD) (j : S64x8192.Idx) : accG m c (slice j) 11 (inSlice j)
    = (∑ t : Fin 12288, term (V m c main_arg2) (V m c main_arg7) (V m c main_arg9) (V m c main_arg11) (lowG (inSlice j)) (j 1) t)
      + viaNorm (V m c main_arg12) (V m c main_arg3) (V m c main_arg14) (j 0) (j 1) := by
  refine (accG_eq m c (slice_lt j) (inSlice j) 11 (by omega)).trans ((add_comm _ _).trans (congrArg₂ (· + ·) ?_ (normG m c j)))
  rw [col_inSlice]
  exact sum_termAt m c _ _

theorem normU (c : Dev nD) (j : S64x8192.Idx) : bankU m c (pt 0 (slice j)) (inSlice j) = viaNorm (V m c main_arg13) (V m c main_arg4) (V m c main_arg15) (j 0) (j 1) :=
  (bankU_eq m c (pt 0 (slice j)) (pt_col (by omega) (slice_lt j)) (slice_lt j) (inSlice j)).trans (by rw [col_inSlice]; rfl)

theorem lastU (c : Dev nD) (j : S64x8192.Idx) : accU m c (slice j) 11 (inSlice j)
    = (∑ t : Fin 12288, term (V m c main_arg2) (V m c main_arg7) (V m c main_arg9) (V m c main_arg11) (lowU (inSlice j)) (j 1) t)
      + viaNorm (V m c main_arg13) (V m c main_arg4) (V m c main_arg15) (j 0) (j 1) := by
  refine (accU_eq m c (slice_lt j) (inSlice j) 11 (by omega)).trans ((add_comm _ _).trans (congrArg₂ (· + ·) ?_ (normU m c j)))
  rw [col_inSlice]
  exact sum_termAt m c _ _

/-- What the run left in the four gradient arrays. -/
theorem arr17 (c : Dev nD) {G : Buf (Elt Ideal) ((cfg0.win 17).arr.view.loc (c.tc : Thread nD τ))} (h : (rdat m c).ArrAt 17 cfg0.N G) (j : S64x8192.Idx) :
    G j = accG m c (slice j) 11 (inSlice j) := by
  obtain ⟨X, hX, hG⟩ := h.emb_eq_of_wholeAt (t₀ := ⟨383, lt_of_lt_of_eq (by omega) N_0.symm⟩) (by decide +kernel)
  have hh : Held (F := Ideal) 383 (accG m c) X := (dats m 0 c).toRRel_leaves (Rl := held m c) (fgt := forgets0) rfl hX
  exact (hG j).trans (held_last hh j)

theorem arr18 (c : Dev nD) {G : Buf (Elt Ideal) ((cfg0.win 18).arr.view.loc (c.tc : Thread nD τ))} (h : (rdat m c).ArrAt 18 cfg0.N G) (j : S64x8192.Idx) :
    G j = accU m c (slice j) 11 (inSlice j) := by
  obtain ⟨X, hX, hG⟩ := h.emb_eq_of_wholeAt (t₀ := ⟨383, lt_of_lt_of_eq (by omega) N_0.symm⟩) (by decide +kernel)
  have hh : Held (F := Ideal) 383 (accU m c) X := (dats m 0 c).toRRel_leaves (Rl := held m c) (fgt := forgets0) rfl hX
  exact (hG j).trans (held_last hh j)

theorem arr19 (c : Dev nD) {G : Buf (Elt Ideal) ((cfg0.win 19).arr.view.loc (c.tc : Thread nD τ))} (h : (rdat m c).ArrAt 19 cfg0.N G) (j : S64x8192.Idx) :
    G j = (fun j _ => bankG m c (pt 0 j)) (slice j) 11 (inSlice j) := by
  obtain ⟨X, hX, hG⟩ := h.emb_eq_of_wholeAt (t₀ := ⟨383, lt_of_lt_of_eq (by omega) N_0.symm⟩) (by decide +kernel)
  have hh : Held (F := Ideal) 383 (fun j _ => bankG m c (pt 0 j)) X := (dats m 0 c).toRRel_leaves (Rl := held m c) (fgt := forgets0) rfl hX
  exact (hG j).trans (held_last hh j)

theorem arr20 (c : Dev nD) {G : Buf (Elt Ideal) ((cfg0.win 20).arr.view.loc (c.tc : Thread nD τ))} (h : (rdat m c).ArrAt 20 cfg0.N G) (j : S64x8192.Idx) :
    G j = (fun j _ => bankU m c (pt 0 j)) (slice j) 11 (inSlice j) := by
  obtain ⟨X, hX, hG⟩ := h.emb_eq_of_wholeAt (t₀ := ⟨383, lt_of_lt_of_eq (by omega) N_0.symm⟩) (by decide +kernel)
  have hh : Held (F := Ideal) 383 (fun j _ => bankU m c (pt 0 j)) X := (dats m 0 c).toRRel_leaves (Rl := held m c) (fgt := forgets0) rfl hX
  exact (hG j).trans (held_last hh j)

theorem final17 (c : Dev nD) {G : Buf (Elt Ideal) ((cfg0.win 17).arr.view.loc (c.tc : Thread nD τ))} (h : (rdat m c).ArrAt 17 cfg0.N G) :
    G = gateGradient (V m c main_arg2) (V m c main_arg7) (V m c main_arg9) (V m c main_arg11) (V m c main_arg12) (V m c main_arg3) (V m c main_arg14) := by
  funext j
  exact (arr17 m c h j).trans (lastG m c j)

theorem final18 (c : Dev nD) {G : Buf (Elt Ideal) ((cfg0.win 18).arr.view.loc (c.tc : Thread nD τ))} (h : (rdat m c).ArrAt 18 cfg0.N G) :
    G = upGradient (V m c main_arg2) (V m c main_arg7) (V m c main_arg9) (V m c main_arg11) (V m c main_arg13) (V m c main_arg4) (V m c main_arg15) := by
  funext j
  exact (arr18 m c h j).trans (lastU m c j)

theorem final19 (c : Dev nD) {G : Buf (Elt Ideal) ((cfg0.win 19).arr.view.loc (c.tc : Thread nD τ))} (h : (rdat m c).ArrAt 19 cfg0.N G) :
    G = normGradient (V m c main_arg12) (V m c main_arg3) (V m c main_arg14) := by
  funext j
  exact (arr19 m c h j).trans (normG m c j)

theorem final20 (c : Dev nD) {G : Buf (Elt Ideal) ((cfg0.win 20).arr.view.loc (c.tc : Thread nD τ))} (h : (rdat m c).ArrAt 20 cfg0.N G) :
    G = normGradient (V m c main_arg13) (V m c main_arg4) (V m c main_arg15) := by
  funext j
  exact (arr20 m c h j).trans (normU m c j)

/-- The input gradient, of the arrays as given. -/
theorem result_dx (c : Dev nD) : (dats m 0 c).arrAt 16 cfg0.N = Cert.DxRefIdeal.Read.val_main_v24 (F := Ideal)
    (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10)) (m ((c : Thread nD τ).loc main_arg11)) :=
  (final16 m c).trans (ref_dx _ _ _ _ _ _ _ _ _ _ _ _).symm

/-- The gradient of the gate's down-projection, of the arrays as given. -/
theorem result17 (c : Dev nD) {G : Buf (Elt Ideal) ((cfg0.win 17).arr.view.loc (c.tc : Thread nD τ))} (h : (rdat m c).ArrAt 17 cfg0.N G) :
    G = Cert.DxRefIdeal.Read.val_main_v39 (F := Ideal) (m ((c : Thread nD τ).loc main_arg2)) (m ((c : Thread nD τ).loc main_arg3)) (m ((c : Thread nD τ).loc main_arg7)) (m ((c : Thread nD τ).loc main_arg9)) (m ((c : Thread nD τ).loc main_arg11)) (m ((c : Thread nD τ).loc main_arg12)) (m ((c : Thread nD τ).loc main_arg14)) :=
  (final17 m c h).trans (ref_da_gate _ _ _ _ _ _ _).symm

/-- The gradient of the up branch's down-projection, of the arrays as given. -/
theorem result18 (c : Dev nD) {G : Buf (Elt Ideal) ((cfg0.win 18).arr.view.loc (c.tc : Thread nD τ))} (h : (rdat m c).ArrAt 18 cfg0.N G) :
    G = Cert.DxRefIdeal.Read.val_main_v42 (F := Ideal) (m ((c : Thread nD τ).loc main_arg2)) (m ((c : Thread nD τ).loc main_arg4)) (m ((c : Thread nD τ).loc main_arg7)) (m ((c : Thread nD τ).loc main_arg9)) (m ((c : Thread nD τ).loc main_arg11)) (m ((c : Thread nD τ).loc main_arg13)) (m ((c : Thread nD τ).loc main_arg15)) :=
  (final18 m c h).trans (ref_da_up _ _ _ _ _ _ _).symm

/-- The part of the gate's that the norm gives, of the arrays as given. -/
theorem result19 (c : Dev nD) {G : Buf (Elt Ideal) ((cfg0.win 19).arr.view.loc (c.tc : Thread nD τ))} (h : (rdat m c).ArrAt 19 cfg0.N G) :
    G = Cert.DxRefIdeal.Read.val_main_v30 (F := Ideal) (m ((c : Thread nD τ).loc main_arg3)) (m ((c : Thread nD τ).loc main_arg12)) (m ((c : Thread nD τ).loc main_arg14)) :=
  (final19 m c h).trans (ref_dan_gate _ _ _).symm

/-- The part of the up branch's that the norm gives, of the arrays as given. -/
theorem result20 (c : Dev nD) {G : Buf (Elt Ideal) ((cfg0.win 20).arr.view.loc (c.tc : Thread nD τ))} (h : (rdat m c).ArrAt 20 cfg0.N G) :
    G = Cert.DxRefIdeal.Read.val_main_v36 (F := Ideal) (m ((c : Thread nD τ).loc main_arg4)) (m ((c : Thread nD τ).loc main_arg13)) (m ((c : Thread nD τ).loc main_arg15)) :=
  (final20 m c h).trans (ref_dan_up _ _ _).symm

end Cert.DxIdeal.Value
-- ==== Proof.DxIdeal.Claim.lean ====
module

public import proofs.«01_k».proof.Proof.DxIdeal.Final
public import proofs.«01_k».proof.Proof.Gen.DxRefIdeal.Run
public import proofs.«01_k».proof.Defs

/-! The call `dx`: its frame of the reference and the equality of the five results over the extended reals. -/

@[expose] public section

set_option maxRecDepth 16384

noncomputable section

open Idealize.ShloMosaic Idealize.ShloMosaic.TcCoe Idealize.SL.Sem
open Idealize.ShloMosaic.Pipeline (Dat)

namespace Cert.DxIdeal.Value

open Cert.DxIdeal Cert.DxIdeal.Gen Cert.DxIdeal.Frame

variable (m : (ℓ : Loc nD τ sig) → Buf (Elt Ideal) ℓ) (ρ : Dev nD → PrngReg)

/-- Every execution ends with the five results at their values. -/
theorem run_dx : θ_run defs (onTc (τ := τ) (main (F := Ideal))) ⟨m, fun _ => 0, ρ⟩ (fun r => ∀ c : Dev nD,
    r.2.mem ((c.tc : Thread nD τ).loc main_v0_0) = (dats m 0 c).arrAt 16 cfg0.N
    ∧ r.2.mem ((c.tc : Thread nD τ).loc main_v0_1) = Cert.DxRefIdeal.Read.val_main_v39 (F := Ideal)
      (m ((c : Thread nD τ).loc main_arg2)) (m ((c : Thread nD τ).loc main_arg3)) (m ((c : Thread nD τ).loc main_arg7)) (m ((c : Thread nD τ).loc main_arg9))
      (m ((c : Thread nD τ).loc main_arg11)) (m ((c : Thread nD τ).loc main_arg12)) (m ((c : Thread nD τ).loc main_arg14))
    ∧ r.2.mem ((c.tc : Thread nD τ).loc main_v0_2) = Cert.DxRefIdeal.Read.val_main_v42 (F := Ideal)
      (m ((c : Thread nD τ).loc main_arg2)) (m ((c : Thread nD τ).loc main_arg4)) (m ((c : Thread nD τ).loc main_arg7)) (m ((c : Thread nD τ).loc main_arg9))
      (m ((c : Thread nD τ).loc main_arg11)) (m ((c : Thread nD τ).loc main_arg13)) (m ((c : Thread nD τ).loc main_arg15))
    ∧ r.2.mem ((c.tc : Thread nD τ).loc main_v0_3) = Cert.DxRefIdeal.Read.val_main_v30 (F := Ideal) (m ((c : Thread nD τ).loc main_arg3)) (m ((c : Thread nD τ).loc main_arg12)) (m ((c : Thread nD τ).loc main_arg14))
    ∧ r.2.mem ((c.tc : Thread nD τ).loc main_v0_4) = Cert.DxRefIdeal.Read.val_main_v36 (F := Ideal) (m ((c : Thread nD τ).loc main_arg4)) (m ((c : Thread nD τ).loc main_arg13)) (m ((c : Thread nD τ).loc main_arg15))) :=
  (θ_run defs _ _).mono (fun _ h c => ⟨((dats m 0 c).toR_arrAt_iff 16 _ _).mp ((Pipeline.RDat.override_arrAt (rd := (dats m 0 c).toR) rfl _ _).mp ((h c).1 16)),
    result17 m c ((h c).1 17), result18 m c ((h c).1 18), result19 m c ((h c).1 19), result20 m c ((h c).1 20)⟩) (run_main m ρ)

/-- The reference runs, leaves its arguments unchanged and every semaphore counter at zero. -/
theorem frame_ref : Cert.quiescent_DxRefIdeal := by
  intro m g _
  hlo_run
  · exact fun _ => ⟨trivial, trivial, trivial, trivial, trivial, trivial, trivial, trivial, trivial, trivial, trivial, trivial, trivial, trivial, trivial, trivial⟩
  · exact sem_eq_zero_of_no_sems (sig := Cert.DxRefIdeal.sig) (by decide) _

open Cert.DxRefIdeal.Read in
set_option maxHeartbeats 1600000 in
/-- The call and the reference end with equal results over the extended reals. -/
theorem algebraic : Cert.algebraic_DxIdeal_DxRefIdeal := by
  pair_intro
  · run_from θ_run_and (run_dx m g) (unchanged m g)
  · run_from Cert.DxRefIdeal.Value.run m' g'
    · exact (val_main_v24_eq _ _ _ _ _ _ _ _ _ _ _ _).trans (result_dx m c).symm
    · exact val_main_v39_eq _ _ _ _ _ _ _
    · exact val_main_v42_eq _ _ _ _ _ _ _
    · exact val_main_v30_eq _ _ _
    · exact val_main_v36_eq _ _ _

end Cert.DxIdeal.Value
-- ==== Proof.DownBwd.Kit.lean ====
module

public import proofs.«01_k».proof.Proof.Gen.DownBwd.Skeleton
public import proofs.«01_k».proof.Proof.Gen.DownBwd.Frame
public import Idealize.ShloMosaic.Lib.VecWindow

/-! The call `down_bwd`: when its conditionals are taken, and its staging buffers. -/

@[expose] public section

set_option maxRecDepth 16384

noncomputable section

namespace Cert.DownBwd.Frame

open Cert.DownBwd Cert.DownBwd.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A load of the whole of a buffer that holds `x` reads `x`. -/
theorem load_whole {κ : Kind} {sp : Space} {s : Shape} {e : EltTy} (M : Memref sig κ sp s e) (h : M.IsWhole) (x : s.Idx → Elt F e)
    {off : Fin s.rank → ℕ} (inb : ∀ a, off a + s.size a ≤ s.size a) :
    M.view.readAt (Elt F) (Rect.unit off s.size inb).toLoadRect (h.unread x) = x :=
  (View.readAt_full M.view (h.unread x) inb).trans (h.read_unread x)

/-- The gate's gradient of one tile. -/
abbrev tileGate (x0 : Vec F S1024x8192 .bf16) (x1 : Vec F S1024x64 .bf16) (x2 : Vec F S8192x256 .bf16) (x3 : Vec F S64x256 .bf16)
    (x4 x5 : Vec F S1024x256 .f32) (x7 x8 : Vec F S1x256 .f32) : Vec F S1024x256 .bf16 :=
  k0_pay19 (F := F) x7 (k0_pay11 (F := F) x7 x4) (k0_pay12 (F := F) x8 x5) (k0_pay13 (F := F) x7 x4) (k0_pay14 (F := F) x0 x1 x2 x3 x7 x4)

/-- The up projection's gradient of one tile. -/
abbrev tileUp (x0 : Vec F S1024x8192 .bf16) (x1 : Vec F S1024x64 .bf16) (x2 : Vec F S8192x256 .bf16) (x3 : Vec F S64x256 .bf16)
    (x4 : Vec F S1024x256 .f32) (x7 x8 : Vec F S1x256 .f32) : Vec F S1024x256 .bf16 :=
  k0_pay20 (F := F) x8 (k0_pay11 (F := F) x7 x4) (k0_pay14 (F := F) x0 x1 x2 x3 x7 x4)

theorem tileGate_congr {x0 y0 : Vec F S1024x8192 .bf16} {x1 y1 : Vec F S1024x64 .bf16} {x2 y2 : Vec F S8192x256 .bf16} {x3 y3 : Vec F S64x256 .bf16}
    {x4 y4 x5 y5 : Vec F S1024x256 .f32} {x7 y7 x8 y8 : Vec F S1x256 .f32} (e0 : y0 = x0) (e1 : y1 = x1) (e2 : y2 = x2) (e3 : y3 = x3)
    (e4 : y4 = x4) (e5 : y5 = x5) (e7 : y7 = x7) (e8 : y8 = x8) : tileGate y0 y1 y2 y3 y4 y5 y7 y8 = tileGate x0 x1 x2 x3 x4 x5 x7 x8 := by
  rw [e0, e1, e2, e3, e4, e5, e7, e8]

theorem tileUp_congr {x0 y0 : Vec F S1024x8192 .bf16} {x1 y1 : Vec F S1024x64 .bf16} {x2 y2 : Vec F S8192x256 .bf16} {x3 y3 : Vec F S64x256 .bf16}
    {x4 y4 : Vec F S1024x256 .f32} {x7 y7 x8 y8 : Vec F S1x256 .f32} (e0 : y0 = x0) (e1 : y1 = x1) (e2 : y2 = x2) (e3 : y3 = x3)
    (e4 : y4 = x4) (e7 : y7 = x7) (e8 : y8 = x8) : tileUp y0 y1 y2 y3 y4 y7 y8 = tileUp x0 x1 x2 x3 x4 x7 x8 := by
  rw [e0, e1, e2, e3, e4, e7, e8]

set_option maxHeartbeats 4000000 in
/-- A run whose arrays follow any relational data leaves the arguments as they were. -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      (Pipeline.RDat.FramePost.arr_in h c 2 rfl).trans ((hA c 2).trans (V_main_arg2 m c)),
      (Pipeline.RDat.FramePost.arr_in h c 3 rfl).trans ((hA c 3).trans (V_main_arg3 m c)),
      (Pipeline.RDat.FramePost.arr_in h c 4 rfl).trans ((hA c 4).trans (V_main_arg4 m c)),
      (Pipeline.RDat.FramePost.arr_in h c 5 rfl).trans ((hA c 5).trans (V_main_arg5 m c)),
      (Pipeline.RDat.FramePost.arr_in h c 6 rfl).trans ((hA c 6).trans (V_main_arg6 m c)),
      (Pipeline.RDat.FramePost.arr_in h c 7 rfl).trans ((hA c 7).trans (V_main_arg7 m c)),
      (Pipeline.RDat.FramePost.arr_in h c 8 rfl).trans ((hA c 8).trans (V_main_arg8 m c)),
      (Pipeline.RDat.FramePost.arr_in h c 9 rfl).trans ((hA c 9).trans (V_main_arg9 m c)),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      (Pipeline.RDat.FramePost.arr_in h c 12 rfl).trans ((hA c 12).trans (V_main_arg12 m c)),
      (Pipeline.RDat.FramePost.arr_in h c 13 rfl).trans ((hA c 13).trans (V_main_arg13 m c))⟩) h

/-! ## The body's branch conditions -/

/-- The condition of the body's `scf.if` 0 (`k0_h1`), from the grid coordinates. -/
abbrev cond0_0 (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
/-- It holds at the first point only. -/
theorem hcond0_0 : ∀ t : Fin cfg0.N, cond0_0 (grid0.coords t) ↔ t.val % 168 = 0 :=
  (fun t => by
    have ht : t.val < 168 := Nat.lt_of_lt_of_eq t.isLt N_0
    have e0 : (grid0.coords t 0).val = t.val / 14 % 12 := Pipeline.Grid.coords_val t 0 (by decide) rfl
    have e1 : (grid0.coords t 1).val = t.val / 1 % 14 := Pipeline.Grid.coords_val t 1 (by decide) rfl
    simp only [cond0_0, e0, e1]
    word_cmp
   : ∀ t : Fin grid0.N, cond0_0 (grid0.coords t) ↔ t.val % 168 = 0)

/-- The condition of the body's `scf.if` 1 (`k0_h2`), from the grid coordinates. -/
abbrev cond0_1 (i : grid0.Coords) : Prop := (Scalar.cmpi .ne (Scalar.extui (Scalar.cmpi .eq (BitVec.ofNat 32 (i 1).val) 0#32)) 0#32) = 1#1
/-- It holds at the points ≡ 0 (mod 14). -/
theorem hcond0_1 : ∀ t : Fin cfg0.N, cond0_1 (grid0.coords t) ↔ t.val % 14 = 0 :=
  (fun t => by
    have ht : t.val < 168 := Nat.lt_of_lt_of_eq t.isLt N_0
    have e0 : (grid0.coords t 0).val = t.val / 14 % 12 := Pipeline.Grid.coords_val t 0 (by decide) rfl
    have e1 : (grid0.coords t 1).val = t.val / 1 % 14 := Pipeline.Grid.coords_val t 1 (by decide) rfl
    simp only [cond0_1, e0, e1]
    word_cmp
   : ∀ t : Fin grid0.N, cond0_1 (grid0.coords t) ↔ t.val % 14 = 0)

/-- The condition of the body's `scf.if` 2 (`k0_h3`), from the grid coordinates. -/
abbrev cond0_2 (i : grid0.Coords) : Prop := k0_cond3 i = 1#1
/-- It holds at the points before point 14. -/
theorem hcond0_2 : ∀ t : Fin cfg0.N, cond0_2 (grid0.coords t) ↔ t.val < 14 :=
  (fun t => by
    have ht : t.val < 168 := Nat.lt_of_lt_of_eq t.isLt N_0
    have e0 : (grid0.coords t 0).val = t.val / 14 % 12 := Pipeline.Grid.coords_val t 0 (by decide) rfl
    have e1 : (grid0.coords t 1).val = t.val / 1 % 14 := Pipeline.Grid.coords_val t 1 (by decide) rfl
    simp only [cond0_2, k0_cond3, e0, e1]
    word_cmp
   : ∀ t : Fin grid0.N, cond0_2 (grid0.coords t) ↔ t.val < 14)

/-- The condition of the body's `scf.if` 3 (`k0_h4`), from the grid coordinates. -/
abbrev cond0_3 (i : grid0.Coords) : Prop := k0_cond4 i = 1#1
/-- It holds at the points ≡ 13 (mod 14). -/
theorem hcond0_3 : ∀ t : Fin cfg0.N, cond0_3 (grid0.coords t) ↔ t.val % 14 = 13 :=
  (fun t => by
    have ht : t.val < 168 := Nat.lt_of_lt_of_eq t.isLt N_0
    have e0 : (grid0.coords t 0).val = t.val / 14 % 12 := Pipeline.Grid.coords_val t 0 (by decide) rfl
    have e1 : (grid0.coords t 1).val = t.val / 1 % 14 := Pipeline.Grid.coords_val t 1 (by decide) rfl
    simp only [cond0_3, k0_cond4, e0, e1]
    word_cmp
   : ∀ t : Fin grid0.N, cond0_3 (grid0.coords t) ↔ t.val % 14 = 13)

/-! ## Where the windows are idle (the printed configuration's table `Cfg.idle`) -/

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
theorem liveAt0_5 : ∀ t : Fin cfg0.N, cfg0.idle 5 (grid0.coords t) = false := fun _ => rfl
theorem liveAt0_6 : ∀ t : Fin cfg0.N, cfg0.idle 6 (grid0.coords t) = false := fun _ => rfl
theorem liveAt0_7 : ∀ t : Fin cfg0.N, cfg0.idle 7 (grid0.coords t) = false := fun _ => rfl
theorem liveAt0_8 : ∀ t : Fin cfg0.N, cfg0.idle 8 (grid0.coords t) = false := fun _ => rfl
theorem liveAt0_9 : ∀ t : Fin cfg0.N, cfg0.idle 9 (grid0.coords t) = false := fun _ => rfl
theorem liveAt0_10 : ∀ t : Fin cfg0.N, cfg0.idle 10 (grid0.coords t) = false := fun _ => rfl
theorem liveAt0_11 : ∀ t : Fin cfg0.N, cfg0.idle 11 (grid0.coords t) = false := fun _ => rfl
theorem liveAt0_12 : ∀ t : Fin cfg0.N, cfg0.idle 12 (grid0.coords t) = false := fun _ => rfl
theorem liveAt0_13 : ∀ t : Fin cfg0.N, cfg0.idle 13 (grid0.coords t) = false := fun _ => rfl
/-! ## The kernel body on any staging memrefs: a subtype the run finds -/

theorem liveAt0_14 : ∀ t : Fin cfg0.N, cfg0.idle 14 (grid0.coords t) = false := fun _ => rfl
theorem liveAt0_15 : ∀ t : Fin cfg0.N, cfg0.idle 15 (grid0.coords t) = false := fun _ => rfl

/-- Each window's staging memref at a point, and that it is the whole of its buffer. -/
abbrev ms0_0 (t : Fin cfg0.N) : Memref sig .tc .vmem S1024x8192 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x64 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8192x256 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S64x256 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1024x256 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x256 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x256 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1024x256 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S256x128 .bf16 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S256x128 .bf16 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S64x8192 .bf16 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S64x256 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S1024x256 .bf16 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S1024x256 .bf16 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S1024x128 .bf16 := win0_16.stage (cfg0.slots t 16)
abbrev hs0_16 (t : Fin cfg0.N) : (ms0_16 t).IsWhole := hstage0_16 ((cfg0.slots t 16).cast nbuf0_16)
abbrev ms0_17 (t : Fin cfg0.N) : Memref sig .tc .vmem S1024x1 .f32 := win0_17.stage (cfg0.slots t 17)
abbrev hs0_17 (t : Fin cfg0.N) : (ms0_17 t).IsWhole := hstage0_17 ((cfg0.slots t 17).cast nbuf0_17)
abbrev ms0_18 (t : Fin cfg0.N) : Memref sig .tc .vmem S8x3584 .f32 := win0_18.stage (cfg0.slots t 18)
abbrev hs0_18 (t : Fin cfg0.N) : (ms0_18 t).IsWhole := hstage0_18 ((cfg0.slots t 18).cast nbuf0_18)
abbrev ms0_19 (t : Fin cfg0.N) : Memref sig .tc .vmem S8x3584 .f32 := win0_19.stage (cfg0.slots t 19)
abbrev hs0_19 (t : Fin cfg0.N) : (ms0_19 t).IsWhole := hstage0_19 ((cfg0.slots t 19).cast nbuf0_19)
abbrev ms0_20 (t : Fin cfg0.N) : Memref sig .tc .vmem S64x3584 .f32 := win0_20.stage (cfg0.slots t 20)
abbrev hs0_20 (t : Fin cfg0.N) : (ms0_20 t).IsWhole := hstage0_20 ((cfg0.slots t 20).cast nbuf0_20)
abbrev ms0_21 (t : Fin cfg0.N) : Memref sig .tc .vmem S64x3584 .f32 := win0_21.stage (cfg0.slots t 21)
abbrev hs0_21 (t : Fin cfg0.N) : (ms0_21 t).IsWhole := hstage0_21 ((cfg0.slots t 21).cast nbuf0_21)
abbrev ms0_22 (t : Fin cfg0.N) : Memref sig .tc .vmem S64x3584 .f32 := win0_22.stage (cfg0.slots t 22)
abbrev hs0_22 (t : Fin cfg0.N) : (ms0_22 t).IsWhole := hstage0_22 ((cfg0.slots t 22).cast nbuf0_22)
abbrev ms0_23 (t : Fin cfg0.N) : Memref sig .tc .vmem S64x3584 .f32 := win0_23.stage (cfg0.slots t 23)
abbrev hs0_23 (t : Fin cfg0.N) : (ms0_23 t).IsWhole := hstage0_23 ((cfg0.slots t 23).cast nbuf0_23)
/-- The scratch operands: whole scoped buffers of the kernel's own, passed beside the windows. -/
abbrev scM0_0 : Memref sig .tc .vmem S1024x128 .f32 := Memref.whole cc0_scratch0
abbrev scM0_1 : Memref sig .tc .vmem S1024x128 .f32 := Memref.whole cc0_scratch1

/-- The region's scratch buffers, each at something. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.DownBwd.Frame
-- ==== Proof.DownBwd.RunA.lean ====
module

public import proofs.«01_k».proof.Proof.DownBwd.Kit

/-! The call `down_bwd`: the body at the first point. -/

@[expose] public section

set_option maxRecDepth 16384

noncomputable section

namespace Cert.DownBwd.Frame

open Cert.DownBwd Cert.DownBwd.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body at the first point: the two gradients are left at their values, the other outputs and the scratch at something. -/
theorem kernelRun0_A (c : Dev nD) (i : grid0.Coords) (arg2 : Memref sig .tc .vmem S1024x8192 .bf16) (harg2 : arg2.IsWhole) (arg3 : Memref sig .tc .vmem S1024x64 .bf16) (harg3 : arg3.IsWhole) (arg4 : Memref sig .tc .vmem S8192x256 .bf16) (harg4 : arg4.IsWhole) (arg5 : Memref sig .tc .vmem S64x256 .bf16) (harg5 : arg5.IsWhole) (arg6 : Memref sig .tc .vmem S1024x256 .f32) (harg6 : arg6.IsWhole) (arg7 : Memref sig .tc .vmem S1024x256 .f32) (harg7 : arg7.IsWhole) (arg8 : Memref sig .tc .vmem S1024x256 .bf16) (harg8 : arg8.IsWhole) (arg9 : Memref sig .tc .vmem S1x256 .f32) (harg9 : arg9.IsWhole) (arg10 : Memref sig .tc .vmem S1x256 .f32) (harg10 : arg10.IsWhole) (arg11 : Memref sig .tc .vmem S1024x256 .bf16) (harg11 : arg11.IsWhole) (arg12 : Memref sig .tc .vmem S256x128 .bf16) (harg12 : arg12.IsWhole) (arg13 : Memref sig .tc .vmem S256x128 .bf16) (harg13 : arg13.IsWhole) (arg14 : Memref sig .tc .vmem S64x8192 .bf16) (harg14 : arg14.IsWhole) (arg15 : Memref sig .tc .vmem S64x256 .f32) (harg15 : arg15.IsWhole) (arg16 : Memref sig .tc .vmem S1024x256 .bf16) (harg16 : arg16.IsWhole) (arg17 : Memref sig .tc .vmem S1024x256 .bf16) (harg17 : arg17.IsWhole) (arg18 : Memref sig .tc .vmem S1024x128 .bf16) (harg18 : arg18.IsWhole) (arg19 : Memref sig .tc .vmem S1024x1 .f32) (harg19 : arg19.IsWhole) (arg20 : Memref sig .tc .vmem S8x3584 .f32) (harg20 : arg20.IsWhole) (arg21 : Memref sig .tc .vmem S8x3584 .f32) (harg21 : arg21.IsWhole) (arg22 : Memref sig .tc .vmem S64x3584 .f32) (harg22 : arg22.IsWhole) (arg23 : Memref sig .tc .vmem S64x3584 .f32) (harg23 : arg23.IsWhole) (arg24 : Memref sig .tc .vmem S64x3584 .f32) (harg24 : arg24.IsWhole) (arg25 : Memref sig .tc .vmem S64x3584 .f32) (harg25 : arg25.IsWhole) (arg26 : Memref sig .tc .vmem S1024x128 .f32) (harg26 : arg26.IsWhole) (arg27 : Memref sig .tc .vmem S1024x128 .f32) (harg27 : arg27.IsWhole) (hc0 : cond0_0 i) (hc1 : cond0_1 i) (hc2 : cond0_2 i) (hc3 : ¬cond0_3 i)
    (x0 : Vec F S1024x8192 .bf16) (x1 : Vec F S1024x64 .bf16) (x2 : Vec F S8192x256 .bf16) (x3 : Vec F S64x256 .bf16) (x4 : Vec F S1024x256 .f32) (x5 : Vec F S1024x256 .f32) (x6 : Vec F S1024x256 .bf16) (x7 : Vec F S1x256 .f32) (x8 : Vec F S1x256 .f32) (x9 : Vec F S1024x256 .bf16) (x10 : Vec F S256x128 .bf16) (x11 : Vec F S256x128 .bf16) (x12 : Vec F S64x8192 .bf16) (x13 : Vec F S64x256 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare (tileGate x0 x1 x2 x3 x4 x5 x7 x8) ∗ owns (c : Thread nD τ) arg17 fullShare (tileUp x0 x1 x2 x3 x4 x7 x8) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d)) -∗ K ⟨⟩))
          ⊢ wp frame (wpE (defs₀ (F := F)) Variants.none c none) E (cc0_down_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K := by
    intro E K
    simp only [cc0_down_bwd_eq_skeleton]; unfold cc0_down_bwd_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13
    sl_exec (disch := first | sl_exact hc0 | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; swap; · iexact H14
      ipureintro
      refine (View.read_writes_full _ _ _ _ _).trans ?_
      unfold kernelRun0_A.sl.r_7 kernelRun0_A.sl.r_6 kernelRun0_A.sl.r_5 kernelRun0_A.sl.r_4 kernelRun0_A.sl.r
      exact tileGate_congr (load_whole arg2 harg2 x0 _) (load_whole arg3 harg3 x1 _) (load_whole arg4 harg4 x2 _) (load_whole arg5 harg5 x3 _)
        (load_whole arg6 harg6 x4 _) (load_whole arg7 harg7 x5 _) (load_whole arg9 harg9 x7 _) (load_whole arg10 harg10 x8 _)
    isplitl [H15]
    · iexists _; isplitr; swap; · iexact H15
      ipureintro
      refine (View.read_writes_full _ _ _ _ _).trans ?_
      unfold kernelRun0_A.sl.r_7 kernelRun0_A.sl.r_4 kernelRun0_A.sl.r_1
      exact tileUp_congr (load_whole arg2 harg2 x0 _) (load_whole arg3 harg3 x1 _) (load_whole arg4 harg4 x2 _) (load_whole arg5 harg5 x3 _)
        (load_whole arg6 harg6 x4 _) (load_whole arg9 harg9 x7 _) (load_whole arg10 harg10 x8 _)
    isplitl [H16]
    · iexists _, _; isplitr; swap; · iexact H16
      ipureintro; rfl
    isplitl [H17]
    · iexists _, _; isplitr; swap; · iexact H17
      ipureintro; rfl
    isplitl [H18]
    · iexists _, _; isplitr; swap; · iexact H18
      ipureintro; rfl
    isplitl [H19]
    · iexists _, _; isplitr; swap; · iexact H19
      ipureintro; rfl
    isplitl [H20]
    · iexists _, _; isplitr; swap; · iexact H20
      ipureintro; rfl
    isplitl [H21]
    · iexists _, _; isplitr; swap; · iexact H21
      ipureintro; rfl
    isplitl [H22]
    · iexists _, _; isplitr; swap; · iexact H22
      ipureintro; rfl
    isplitl [H23]
    · iexists _, _; isplitr; swap; · iexact H23
      ipureintro; rfl
    isplitl [HS0]
    · iexists _, _; isplitr; swap; · iexact HS0
      ipureintro; rfl
    iexists _, _; isplitr; swap; · iexact HS1
    ipureintro; rfl

end Cert.DownBwd.Frame
-- ==== Proof.DownBwd.RunB.lean ====
module

public import proofs.«01_k».proof.Proof.DownBwd.Kit

/-! The call `down_bwd`: the body at a later point of the first row but the last. -/

@[expose] public section

set_option maxRecDepth 16384

noncomputable section

namespace Cert.DownBwd.Frame

open Cert.DownBwd Cert.DownBwd.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body at a later point of the first row but the last: the two gradients are left at their values, the other outputs and the scratch at something. -/
theorem kernelRun0_B (c : Dev nD) (i : grid0.Coords) (arg2 : Memref sig .tc .vmem S1024x8192 .bf16) (harg2 : arg2.IsWhole) (arg3 : Memref sig .tc .vmem S1024x64 .bf16) (harg3 : arg3.IsWhole) (arg4 : Memref sig .tc .vmem S8192x256 .bf16) (harg4 : arg4.IsWhole) (arg5 : Memref sig .tc .vmem S64x256 .bf16) (harg5 : arg5.IsWhole) (arg6 : Memref sig .tc .vmem S1024x256 .f32) (harg6 : arg6.IsWhole) (arg7 : Memref sig .tc .vmem S1024x256 .f32) (harg7 : arg7.IsWhole) (arg8 : Memref sig .tc .vmem S1024x256 .bf16) (harg8 : arg8.IsWhole) (arg9 : Memref sig .tc .vmem S1x256 .f32) (harg9 : arg9.IsWhole) (arg10 : Memref sig .tc .vmem S1x256 .f32) (harg10 : arg10.IsWhole) (arg11 : Memref sig .tc .vmem S1024x256 .bf16) (harg11 : arg11.IsWhole) (arg12 : Memref sig .tc .vmem S256x128 .bf16) (harg12 : arg12.IsWhole) (arg13 : Memref sig .tc .vmem S256x128 .bf16) (harg13 : arg13.IsWhole) (arg14 : Memref sig .tc .vmem S64x8192 .bf16) (harg14 : arg14.IsWhole) (arg15 : Memref sig .tc .vmem S64x256 .f32) (harg15 : arg15.IsWhole) (arg16 : Memref sig .tc .vmem S1024x256 .bf16) (harg16 : arg16.IsWhole) (arg17 : Memref sig .tc .vmem S1024x256 .bf16) (harg17 : arg17.IsWhole) (arg18 : Memref sig .tc .vmem S1024x128 .bf16) (harg18 : arg18.IsWhole) (arg19 : Memref sig .tc .vmem S1024x1 .f32) (harg19 : arg19.IsWhole) (arg20 : Memref sig .tc .vmem S8x3584 .f32) (harg20 : arg20.IsWhole) (arg21 : Memref sig .tc .vmem S8x3584 .f32) (harg21 : arg21.IsWhole) (arg22 : Memref sig .tc .vmem S64x3584 .f32) (harg22 : arg22.IsWhole) (arg23 : Memref sig .tc .vmem S64x3584 .f32) (harg23 : arg23.IsWhole) (arg24 : Memref sig .tc .vmem S64x3584 .f32) (harg24 : arg24.IsWhole) (arg25 : Memref sig .tc .vmem S64x3584 .f32) (harg25 : arg25.IsWhole) (arg26 : Memref sig .tc .vmem S1024x128 .f32) (harg26 : arg26.IsWhole) (arg27 : Memref sig .tc .vmem S1024x128 .f32) (harg27 : arg27.IsWhole) (hc0 : ¬cond0_0 i) (hc1 : ¬cond0_1 i) (hc2 : cond0_2 i) (hc3 : ¬cond0_3 i)
    (x0 : Vec F S1024x8192 .bf16) (x1 : Vec F S1024x64 .bf16) (x2 : Vec F S8192x256 .bf16) (x3 : Vec F S64x256 .bf16) (x4 : Vec F S1024x256 .f32) (x5 : Vec F S1024x256 .f32) (x6 : Vec F S1024x256 .bf16) (x7 : Vec F S1x256 .f32) (x8 : Vec F S1x256 .f32) (x9 : Vec F S1024x256 .bf16) (x10 : Vec F S256x128 .bf16) (x11 : Vec F S256x128 .bf16) (x12 : Vec F S64x8192 .bf16) (x13 : Vec F S64x256 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare (tileGate x0 x1 x2 x3 x4 x5 x7 x8) ∗ owns (c : Thread nD τ) arg17 fullShare (tileUp x0 x1 x2 x3 x4 x7 x8) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d)) -∗ K ⟨⟩))
          ⊢ wp frame (wpE (defs₀ (F := F)) Variants.none c none) E (cc0_down_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K := by
    intro E K
    simp only [cc0_down_bwd_eq_skeleton]; unfold cc0_down_bwd_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13
    sl_exec (disch := first | sl_exact hc0 | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; swap; · iexact H14
      ipureintro
      refine (View.read_writes_full _ _ _ _ _).trans ?_
      unfold kernelRun0_B.sl.r_7 kernelRun0_B.sl.r_6 kernelRun0_B.sl.r_5 kernelRun0_B.sl.r_4 kernelRun0_B.sl.r
      exact tileGate_congr (load_whole arg2 harg2 x0 _) (load_whole arg3 harg3 x1 _) (load_whole arg4 harg4 x2 _) (load_whole arg5 harg5 x3 _)
        (load_whole arg6 harg6 x4 _) (load_whole arg7 harg7 x5 _) (load_whole arg9 harg9 x7 _) (load_whole arg10 harg10 x8 _)
    isplitl [H15]
    · iexists _; isplitr; swap; · iexact H15
      ipureintro
      refine (View.read_writes_full _ _ _ _ _).trans ?_
      unfold kernelRun0_B.sl.r_7 kernelRun0_B.sl.r_4 kernelRun0_B.sl.r_1
      exact tileUp_congr (load_whole arg2 harg2 x0 _) (load_whole arg3 harg3 x1 _) (load_whole arg4 harg4 x2 _) (load_whole arg5 harg5 x3 _)
        (load_whole arg6 harg6 x4 _) (load_whole arg9 harg9 x7 _) (load_whole arg10 harg10 x8 _)
    isplitl [H16]
    · iexists _, _; isplitr; swap; · iexact H16
      ipureintro; rfl
    isplitl [H17]
    · iexists _, _; isplitr; swap; · iexact H17
      ipureintro; rfl
    isplitl [H18]
    · iexists _, _; isplitr; swap; · iexact H18
      ipureintro; rfl
    isplitl [H19]
    · iexists _, _; isplitr; swap; · iexact H19
      ipureintro; rfl
    isplitl [H20]
    · iexists _, _; isplitr; swap; · iexact H20
      ipureintro; rfl
    isplitl [H21]
    · iexists _, _; isplitr; swap; · iexact H21
      ipureintro; rfl
    isplitl [H22]
    · iexists _, _; isplitr; swap; · iexact H22
      ipureintro; rfl
    isplitl [H23]
    · iexists _, _; isplitr; swap; · iexact H23
      ipureintro; rfl
    isplitl [HS0]
    · iexists _, _; isplitr; swap; · iexact HS0
      ipureintro; rfl
    iexists _, _; isplitr; swap; · iexact HS1
    ipureintro; rfl

end Cert.DownBwd.Frame
-- ==== Proof.DownBwd.RunC.lean ====
module

public import proofs.«01_k».proof.Proof.DownBwd.Kit

/-! The call `down_bwd`: the body at the last point of the first row. -/

@[expose] public section

set_option maxRecDepth 16384

noncomputable section

namespace Cert.DownBwd.Frame

open Cert.DownBwd Cert.DownBwd.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body at the last point of the first row: the two gradients are left at their values, the other outputs and the scratch at something. -/
theorem kernelRun0_C (c : Dev nD) (i : grid0.Coords) (arg2 : Memref sig .tc .vmem S1024x8192 .bf16) (harg2 : arg2.IsWhole) (arg3 : Memref sig .tc .vmem S1024x64 .bf16) (harg3 : arg3.IsWhole) (arg4 : Memref sig .tc .vmem S8192x256 .bf16) (harg4 : arg4.IsWhole) (arg5 : Memref sig .tc .vmem S64x256 .bf16) (harg5 : arg5.IsWhole) (arg6 : Memref sig .tc .vmem S1024x256 .f32) (harg6 : arg6.IsWhole) (arg7 : Memref sig .tc .vmem S1024x256 .f32) (harg7 : arg7.IsWhole) (arg8 : Memref sig .tc .vmem S1024x256 .bf16) (harg8 : arg8.IsWhole) (arg9 : Memref sig .tc .vmem S1x256 .f32) (harg9 : arg9.IsWhole) (arg10 : Memref sig .tc .vmem S1x256 .f32) (harg10 : arg10.IsWhole) (arg11 : Memref sig .tc .vmem S1024x256 .bf16) (harg11 : arg11.IsWhole) (arg12 : Memref sig .tc .vmem S256x128 .bf16) (harg12 : arg12.IsWhole) (arg13 : Memref sig .tc .vmem S256x128 .bf16) (harg13 : arg13.IsWhole) (arg14 : Memref sig .tc .vmem S64x8192 .bf16) (harg14 : arg14.IsWhole) (arg15 : Memref sig .tc .vmem S64x256 .f32) (harg15 : arg15.IsWhole) (arg16 : Memref sig .tc .vmem S1024x256 .bf16) (harg16 : arg16.IsWhole) (arg17 : Memref sig .tc .vmem S1024x256 .bf16) (harg17 : arg17.IsWhole) (arg18 : Memref sig .tc .vmem S1024x128 .bf16) (harg18 : arg18.IsWhole) (arg19 : Memref sig .tc .vmem S1024x1 .f32) (harg19 : arg19.IsWhole) (arg20 : Memref sig .tc .vmem S8x3584 .f32) (harg20 : arg20.IsWhole) (arg21 : Memref sig .tc .vmem S8x3584 .f32) (harg21 : arg21.IsWhole) (arg22 : Memref sig .tc .vmem S64x3584 .f32) (harg22 : arg22.IsWhole) (arg23 : Memref sig .tc .vmem S64x3584 .f32) (harg23 : arg23.IsWhole) (arg24 : Memref sig .tc .vmem S64x3584 .f32) (harg24 : arg24.IsWhole) (arg25 : Memref sig .tc .vmem S64x3584 .f32) (harg25 : arg25.IsWhole) (arg26 : Memref sig .tc .vmem S1024x128 .f32) (harg26 : arg26.IsWhole) (arg27 : Memref sig .tc .vmem S1024x128 .f32) (harg27 : arg27.IsWhole) (hc0 : ¬cond0_0 i) (hc1 : ¬cond0_1 i) (hc2 : cond0_2 i) (hc3 : cond0_3 i)
    (x0 : Vec F S1024x8192 .bf16) (x1 : Vec F S1024x64 .bf16) (x2 : Vec F S8192x256 .bf16) (x3 : Vec F S64x256 .bf16) (x4 : Vec F S1024x256 .f32) (x5 : Vec F S1024x256 .f32) (x6 : Vec F S1024x256 .bf16) (x7 : Vec F S1x256 .f32) (x8 : Vec F S1x256 .f32) (x9 : Vec F S1024x256 .bf16) (x10 : Vec F S256x128 .bf16) (x11 : Vec F S256x128 .bf16) (x12 : Vec F S64x8192 .bf16) (x13 : Vec F S64x256 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare (tileGate x0 x1 x2 x3 x4 x5 x7 x8) ∗ owns (c : Thread nD τ) arg17 fullShare (tileUp x0 x1 x2 x3 x4 x7 x8) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d)) -∗ K ⟨⟩))
          ⊢ wp frame (wpE (defs₀ (F := F)) Variants.none c none) E (cc0_down_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K := by
    intro E K
    simp only [cc0_down_bwd_eq_skeleton]; unfold cc0_down_bwd_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13
    sl_exec (disch := first | sl_exact hc0 | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; swap; · iexact H14
      ipureintro
      refine (View.read_writes_full _ _ _ _ _).trans ?_
      unfold kernelRun0_C.sl.r_7 kernelRun0_C.sl.r_6 kernelRun0_C.sl.r_5 kernelRun0_C.sl.r_4 kernelRun0_C.sl.r
      exact tileGate_congr (load_whole arg2 harg2 x0 _) (load_whole arg3 harg3 x1 _) (load_whole arg4 harg4 x2 _) (load_whole arg5 harg5 x3 _)
        (load_whole arg6 harg6 x4 _) (load_whole arg7 harg7 x5 _) (load_whole arg9 harg9 x7 _) (load_whole arg10 harg10 x8 _)
    isplitl [H15]
    · iexists _; isplitr; swap; · iexact H15
      ipureintro
      refine (View.read_writes_full _ _ _ _ _).trans ?_
      unfold kernelRun0_C.sl.r_7 kernelRun0_C.sl.r_4 kernelRun0_C.sl.r_1
      exact tileUp_congr (load_whole arg2 harg2 x0 _) (load_whole arg3 harg3 x1 _) (load_whole arg4 harg4 x2 _) (load_whole arg5 harg5 x3 _)
        (load_whole arg6 harg6 x4 _) (load_whole arg9 harg9 x7 _) (load_whole arg10 harg10 x8 _)
    isplitl [H16]
    · iexists _, _; isplitr; swap; · iexact H16
      ipureintro; rfl
    isplitl [H17]
    · iexists _, _; isplitr; swap; · iexact H17
      ipureintro; rfl
    isplitl [H18]
    · iexists _, _; isplitr; swap; · iexact H18
      ipureintro; rfl
    isplitl [H19]
    · iexists _, _; isplitr; swap; · iexact H19
      ipureintro; rfl
    isplitl [H20]
    · iexists _, _; isplitr; swap; · iexact H20
      ipureintro; rfl
    isplitl [H21]
    · iexists _, _; isplitr; swap; · iexact H21
      ipureintro; rfl
    isplitl [H22]
    · iexists _, _; isplitr; swap; · iexact H22
      ipureintro; rfl
    isplitl [H23]
    · iexists _, _; isplitr; swap; · iexact H23
      ipureintro; rfl
    isplitl [HS0]
    · iexists _, _; isplitr; swap; · iexact HS0
      ipureintro; rfl
    iexists _, _; isplitr; swap; · iexact HS1
    ipureintro; rfl

end Cert.DownBwd.Frame
-- ==== Proof.DownBwd.RunD.lean ====
module

public import proofs.«01_k».proof.Proof.DownBwd.Kit

/-! The call `down_bwd`: the body at the first point of a later row. -/

@[expose] public section

set_option maxRecDepth 16384

noncomputable section

namespace Cert.DownBwd.Frame

open Cert.DownBwd Cert.DownBwd.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body at the first point of a later row: the two gradients are left at their values, the other outputs and the scratch at something. -/
theorem kernelRun0_D (c : Dev nD) (i : grid0.Coords) (arg2 : Memref sig .tc .vmem S1024x8192 .bf16) (harg2 : arg2.IsWhole) (arg3 : Memref sig .tc .vmem S1024x64 .bf16) (harg3 : arg3.IsWhole) (arg4 : Memref sig .tc .vmem S8192x256 .bf16) (harg4 : arg4.IsWhole) (arg5 : Memref sig .tc .vmem S64x256 .bf16) (harg5 : arg5.IsWhole) (arg6 : Memref sig .tc .vmem S1024x256 .f32) (harg6 : arg6.IsWhole) (arg7 : Memref sig .tc .vmem S1024x256 .f32) (harg7 : arg7.IsWhole) (arg8 : Memref sig .tc .vmem S1024x256 .bf16) (harg8 : arg8.IsWhole) (arg9 : Memref sig .tc .vmem S1x256 .f32) (harg9 : arg9.IsWhole) (arg10 : Memref sig .tc .vmem S1x256 .f32) (harg10 : arg10.IsWhole) (arg11 : Memref sig .tc .vmem S1024x256 .bf16) (harg11 : arg11.IsWhole) (arg12 : Memref sig .tc .vmem S256x128 .bf16) (harg12 : arg12.IsWhole) (arg13 : Memref sig .tc .vmem S256x128 .bf16) (harg13 : arg13.IsWhole) (arg14 : Memref sig .tc .vmem S64x8192 .bf16) (harg14 : arg14.IsWhole) (arg15 : Memref sig .tc .vmem S64x256 .f32) (harg15 : arg15.IsWhole) (arg16 : Memref sig .tc .vmem S1024x256 .bf16) (harg16 : arg16.IsWhole) (arg17 : Memref sig .tc .vmem S1024x256 .bf16) (harg17 : arg17.IsWhole) (arg18 : Memref sig .tc .vmem S1024x128 .bf16) (harg18 : arg18.IsWhole) (arg19 : Memref sig .tc .vmem S1024x1 .f32) (harg19 : arg19.IsWhole) (arg20 : Memref sig .tc .vmem S8x3584 .f32) (harg20 : arg20.IsWhole) (arg21 : Memref sig .tc .vmem S8x3584 .f32) (harg21 : arg21.IsWhole) (arg22 : Memref sig .tc .vmem S64x3584 .f32) (harg22 : arg22.IsWhole) (arg23 : Memref sig .tc .vmem S64x3584 .f32) (harg23 : arg23.IsWhole) (arg24 : Memref sig .tc .vmem S64x3584 .f32) (harg24 : arg24.IsWhole) (arg25 : Memref sig .tc .vmem S64x3584 .f32) (harg25 : arg25.IsWhole) (arg26 : Memref sig .tc .vmem S1024x128 .f32) (harg26 : arg26.IsWhole) (arg27 : Memref sig .tc .vmem S1024x128 .f32) (harg27 : arg27.IsWhole) (hc0 : ¬cond0_0 i) (hc1 : cond0_1 i) (hc2 : ¬cond0_2 i) (hc3 : ¬cond0_3 i)
    (x0 : Vec F S1024x8192 .bf16) (x1 : Vec F S1024x64 .bf16) (x2 : Vec F S8192x256 .bf16) (x3 : Vec F S64x256 .bf16) (x4 : Vec F S1024x256 .f32) (x5 : Vec F S1024x256 .f32) (x6 : Vec F S1024x256 .bf16) (x7 : Vec F S1x256 .f32) (x8 : Vec F S1x256 .f32) (x9 : Vec F S1024x256 .bf16) (x10 : Vec F S256x128 .bf16) (x11 : Vec F S256x128 .bf16) (x12 : Vec F S64x8192 .bf16) (x13 : Vec F S64x256 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare (tileGate x0 x1 x2 x3 x4 x5 x7 x8) ∗ owns (c : Thread nD τ) arg17 fullShare (tileUp x0 x1 x2 x3 x4 x7 x8) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d)) -∗ K ⟨⟩))
          ⊢ wp frame (wpE (defs₀ (F := F)) Variants.none c none) E (cc0_down_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K := by
    intro E K
    simp only [cc0_down_bwd_eq_skeleton]; unfold cc0_down_bwd_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13
    sl_exec (disch := first | sl_exact hc0 | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; swap; · iexact H14
      ipureintro
      refine (View.read_writes_full _ _ _ _ _).trans ?_
      unfold kernelRun0_D.sl.r_7 kernelRun0_D.sl.r_6 kernelRun0_D.sl.r_5 kernelRun0_D.sl.r_4 kernelRun0_D.sl.r
      exact tileGate_congr (load_whole arg2 harg2 x0 _) (load_whole arg3 harg3 x1 _) (load_whole arg4 harg4 x2 _) (load_whole arg5 harg5 x3 _)
        (load_whole arg6 harg6 x4 _) (load_whole arg7 harg7 x5 _) (load_whole arg9 harg9 x7 _) (load_whole arg10 harg10 x8 _)
    isplitl [H15]
    · iexists _; isplitr; swap; · iexact H15
      ipureintro
      refine (View.read_writes_full _ _ _ _ _).trans ?_
      unfold kernelRun0_D.sl.r_7 kernelRun0_D.sl.r_4 kernelRun0_D.sl.r_1
      exact tileUp_congr (load_whole arg2 harg2 x0 _) (load_whole arg3 harg3 x1 _) (load_whole arg4 harg4 x2 _) (load_whole arg5 harg5 x3 _)
        (load_whole arg6 harg6 x4 _) (load_whole arg9 harg9 x7 _) (load_whole arg10 harg10 x8 _)
    isplitl [H16]
    · iexists _, _; isplitr; swap; · iexact H16
      ipureintro; rfl
    isplitl [H17]
    · iexists _, _; isplitr; swap; · iexact H17
      ipureintro; rfl
    isplitl [H18]
    · iexists _, _; isplitr; swap; · iexact H18
      ipureintro; rfl
    isplitl [H19]
    · iexists _, _; isplitr; swap; · iexact H19
      ipureintro; rfl
    isplitl [H20]
    · iexists _, _; isplitr; swap; · iexact H20
      ipureintro; rfl
    isplitl [H21]
    · iexists _, _; isplitr; swap; · iexact H21
      ipureintro; rfl
    isplitl [H22]
    · iexists _, _; isplitr; swap; · iexact H22
      ipureintro; rfl
    isplitl [H23]
    · iexists _, _; isplitr; swap; · iexact H23
      ipureintro; rfl
    isplitl [HS0]
    · iexists _, _; isplitr; swap; · iexact HS0
      ipureintro; rfl
    iexists _, _; isplitr; swap; · iexact HS1
    ipureintro; rfl

end Cert.DownBwd.Frame
-- ==== Proof.DownBwd.RunE.lean ====
module

public import proofs.«01_k».proof.Proof.DownBwd.Kit

/-! The call `down_bwd`: the body at a point inside a later row. -/

@[expose] public section

set_option maxRecDepth 16384

noncomputable section

namespace Cert.DownBwd.Frame

open Cert.DownBwd Cert.DownBwd.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body at a point inside a later row: the two gradients are left at their values, the other outputs and the scratch at something. -/
theorem kernelRun0_E (c : Dev nD) (i : grid0.Coords) (arg2 : Memref sig .tc .vmem S1024x8192 .bf16) (harg2 : arg2.IsWhole) (arg3 : Memref sig .tc .vmem S1024x64 .bf16) (harg3 : arg3.IsWhole) (arg4 : Memref sig .tc .vmem S8192x256 .bf16) (harg4 : arg4.IsWhole) (arg5 : Memref sig .tc .vmem S64x256 .bf16) (harg5 : arg5.IsWhole) (arg6 : Memref sig .tc .vmem S1024x256 .f32) (harg6 : arg6.IsWhole) (arg7 : Memref sig .tc .vmem S1024x256 .f32) (harg7 : arg7.IsWhole) (arg8 : Memref sig .tc .vmem S1024x256 .bf16) (harg8 : arg8.IsWhole) (arg9 : Memref sig .tc .vmem S1x256 .f32) (harg9 : arg9.IsWhole) (arg10 : Memref sig .tc .vmem S1x256 .f32) (harg10 : arg10.IsWhole) (arg11 : Memref sig .tc .vmem S1024x256 .bf16) (harg11 : arg11.IsWhole) (arg12 : Memref sig .tc .vmem S256x128 .bf16) (harg12 : arg12.IsWhole) (arg13 : Memref sig .tc .vmem S256x128 .bf16) (harg13 : arg13.IsWhole) (arg14 : Memref sig .tc .vmem S64x8192 .bf16) (harg14 : arg14.IsWhole) (arg15 : Memref sig .tc .vmem S64x256 .f32) (harg15 : arg15.IsWhole) (arg16 : Memref sig .tc .vmem S1024x256 .bf16) (harg16 : arg16.IsWhole) (arg17 : Memref sig .tc .vmem S1024x256 .bf16) (harg17 : arg17.IsWhole) (arg18 : Memref sig .tc .vmem S1024x128 .bf16) (harg18 : arg18.IsWhole) (arg19 : Memref sig .tc .vmem S1024x1 .f32) (harg19 : arg19.IsWhole) (arg20 : Memref sig .tc .vmem S8x3584 .f32) (harg20 : arg20.IsWhole) (arg21 : Memref sig .tc .vmem S8x3584 .f32) (harg21 : arg21.IsWhole) (arg22 : Memref sig .tc .vmem S64x3584 .f32) (harg22 : arg22.IsWhole) (arg23 : Memref sig .tc .vmem S64x3584 .f32) (harg23 : arg23.IsWhole) (arg24 : Memref sig .tc .vmem S64x3584 .f32) (harg24 : arg24.IsWhole) (arg25 : Memref sig .tc .vmem S64x3584 .f32) (harg25 : arg25.IsWhole) (arg26 : Memref sig .tc .vmem S1024x128 .f32) (harg26 : arg26.IsWhole) (arg27 : Memref sig .tc .vmem S1024x128 .f32) (harg27 : arg27.IsWhole) (hc0 : ¬cond0_0 i) (hc1 : ¬cond0_1 i) (hc2 : ¬cond0_2 i) (hc3 : ¬cond0_3 i)
    (x0 : Vec F S1024x8192 .bf16) (x1 : Vec F S1024x64 .bf16) (x2 : Vec F S8192x256 .bf16) (x3 : Vec F S64x256 .bf16) (x4 : Vec F S1024x256 .f32) (x5 : Vec F S1024x256 .f32) (x6 : Vec F S1024x256 .bf16) (x7 : Vec F S1x256 .f32) (x8 : Vec F S1x256 .f32) (x9 : Vec F S1024x256 .bf16) (x10 : Vec F S256x128 .bf16) (x11 : Vec F S256x128 .bf16) (x12 : Vec F S64x8192 .bf16) (x13 : Vec F S64x256 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare (tileGate x0 x1 x2 x3 x4 x5 x7 x8) ∗ owns (c : Thread nD τ) arg17 fullShare (tileUp x0 x1 x2 x3 x4 x7 x8) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d)) -∗ K ⟨⟩))
          ⊢ wp frame (wpE (defs₀ (F := F)) Variants.none c none) E (cc0_down_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K := by
    intro E K
    simp only [cc0_down_bwd_eq_skeleton]; unfold cc0_down_bwd_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13
    sl_exec (disch := first | sl_exact hc0 | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; swap; · iexact H14
      ipureintro
      refine (View.read_writes_full _ _ _ _ _).trans ?_
      unfold kernelRun0_E.sl.r_7 kernelRun0_E.sl.r_6 kernelRun0_E.sl.r_5 kernelRun0_E.sl.r_4 kernelRun0_E.sl.r
      exact tileGate_congr (load_whole arg2 harg2 x0 _) (load_whole arg3 harg3 x1 _) (load_whole arg4 harg4 x2 _) (load_whole arg5 harg5 x3 _)
        (load_whole arg6 harg6 x4 _) (load_whole arg7 harg7 x5 _) (load_whole arg9 harg9 x7 _) (load_whole arg10 harg10 x8 _)
    isplitl [H15]
    · iexists _; isplitr; swap; · iexact H15
      ipureintro
      refine (View.read_writes_full _ _ _ _ _).trans ?_
      unfold kernelRun0_E.sl.r_7 kernelRun0_E.sl.r_4 kernelRun0_E.sl.r_1
      exact tileUp_congr (load_whole arg2 harg2 x0 _) (load_whole arg3 harg3 x1 _) (load_whole arg4 harg4 x2 _) (load_whole arg5 harg5 x3 _)
        (load_whole arg6 harg6 x4 _) (load_whole arg9 harg9 x7 _) (load_whole arg10 harg10 x8 _)
    isplitl [H16]
    · iexists _, _; isplitr; swap; · iexact H16
      ipureintro; rfl
    isplitl [H17]
    · iexists _, _; isplitr; swap; · iexact H17
      ipureintro; rfl
    isplitl [H18]
    · iexists _, _; isplitr; swap; · iexact H18
      ipureintro; rfl
    isplitl [H19]
    · iexists _, _; isplitr; swap; · iexact H19
      ipureintro; rfl
    isplitl [H20]
    · iexists _, _; isplitr; swap; · iexact H20
      ipureintro; rfl
    isplitl [H21]
    · iexists _, _; isplitr; swap; · iexact H21
      ipureintro; rfl
    isplitl [H22]
    · iexists _, _; isplitr; swap; · iexact H22
      ipureintro; rfl
    isplitl [H23]
    · iexists _, _; isplitr; swap; · iexact H23
      ipureintro; rfl
    isplitl [HS0]
    · iexists _, _; isplitr; swap; · iexact HS0
      ipureintro; rfl
    iexists _, _; isplitr; swap; · iexact HS1
    ipureintro; rfl

end Cert.DownBwd.Frame
-- ==== Proof.DownBwd.RunF.lean ====
module

public import proofs.«01_k».proof.Proof.DownBwd.Kit

/-! The call `down_bwd`: the body at the last point of a later row. -/

@[expose] public section

set_option maxRecDepth 16384

noncomputable section

namespace Cert.DownBwd.Frame

open Cert.DownBwd Cert.DownBwd.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body at the last point of a later row: the two gradients are left at their values, the other outputs and the scratch at something. -/
theorem kernelRun0_F (c : Dev nD) (i : grid0.Coords) (arg2 : Memref sig .tc .vmem S1024x8192 .bf16) (harg2 : arg2.IsWhole) (arg3 : Memref sig .tc .vmem S1024x64 .bf16) (harg3 : arg3.IsWhole) (arg4 : Memref sig .tc .vmem S8192x256 .bf16) (harg4 : arg4.IsWhole) (arg5 : Memref sig .tc .vmem S64x256 .bf16) (harg5 : arg5.IsWhole) (arg6 : Memref sig .tc .vmem S1024x256 .f32) (harg6 : arg6.IsWhole) (arg7 : Memref sig .tc .vmem S1024x256 .f32) (harg7 : arg7.IsWhole) (arg8 : Memref sig .tc .vmem S1024x256 .bf16) (harg8 : arg8.IsWhole) (arg9 : Memref sig .tc .vmem S1x256 .f32) (harg9 : arg9.IsWhole) (arg10 : Memref sig .tc .vmem S1x256 .f32) (harg10 : arg10.IsWhole) (arg11 : Memref sig .tc .vmem S1024x256 .bf16) (harg11 : arg11.IsWhole) (arg12 : Memref sig .tc .vmem S256x128 .bf16) (harg12 : arg12.IsWhole) (arg13 : Memref sig .tc .vmem S256x128 .bf16) (harg13 : arg13.IsWhole) (arg14 : Memref sig .tc .vmem S64x8192 .bf16) (harg14 : arg14.IsWhole) (arg15 : Memref sig .tc .vmem S64x256 .f32) (harg15 : arg15.IsWhole) (arg16 : Memref sig .tc .vmem S1024x256 .bf16) (harg16 : arg16.IsWhole) (arg17 : Memref sig .tc .vmem S1024x256 .bf16) (harg17 : arg17.IsWhole) (arg18 : Memref sig .tc .vmem S1024x128 .bf16) (harg18 : arg18.IsWhole) (arg19 : Memref sig .tc .vmem S1024x1 .f32) (harg19 : arg19.IsWhole) (arg20 : Memref sig .tc .vmem S8x3584 .f32) (harg20 : arg20.IsWhole) (arg21 : Memref sig .tc .vmem S8x3584 .f32) (harg21 : arg21.IsWhole) (arg22 : Memref sig .tc .vmem S64x3584 .f32) (harg22 : arg22.IsWhole) (arg23 : Memref sig .tc .vmem S64x3584 .f32) (harg23 : arg23.IsWhole) (arg24 : Memref sig .tc .vmem S64x3584 .f32) (harg24 : arg24.IsWhole) (arg25 : Memref sig .tc .vmem S64x3584 .f32) (harg25 : arg25.IsWhole) (arg26 : Memref sig .tc .vmem S1024x128 .f32) (harg26 : arg26.IsWhole) (arg27 : Memref sig .tc .vmem S1024x128 .f32) (harg27 : arg27.IsWhole) (hc0 : ¬cond0_0 i) (hc1 : ¬cond0_1 i) (hc2 : ¬cond0_2 i) (hc3 : cond0_3 i)
    (x0 : Vec F S1024x8192 .bf16) (x1 : Vec F S1024x64 .bf16) (x2 : Vec F S8192x256 .bf16) (x3 : Vec F S64x256 .bf16) (x4 : Vec F S1024x256 .f32) (x5 : Vec F S1024x256 .f32) (x6 : Vec F S1024x256 .bf16) (x7 : Vec F S1x256 .f32) (x8 : Vec F S1x256 .f32) (x9 : Vec F S1024x256 .bf16) (x10 : Vec F S256x128 .bf16) (x11 : Vec F S256x128 .bf16) (x12 : Vec F S64x8192 .bf16) (x13 : Vec F S64x256 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare (tileGate x0 x1 x2 x3 x4 x5 x7 x8) ∗ owns (c : Thread nD τ) arg17 fullShare (tileUp x0 x1 x2 x3 x4 x7 x8) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d)) -∗ K ⟨⟩))
          ⊢ wp frame (wpE (defs₀ (F := F)) Variants.none c none) E (cc0_down_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K := by
    intro E K
    simp only [cc0_down_bwd_eq_skeleton]; unfold cc0_down_bwd_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13
    sl_exec (disch := first | sl_exact hc0 | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; swap; · iexact H14
      ipureintro
      refine (View.read_writes_full _ _ _ _ _).trans ?_
      unfold kernelRun0_F.sl.r_7 kernelRun0_F.sl.r_6 kernelRun0_F.sl.r_5 kernelRun0_F.sl.r_4 kernelRun0_F.sl.r
      exact tileGate_congr (load_whole arg2 harg2 x0 _) (load_whole arg3 harg3 x1 _) (load_whole arg4 harg4 x2 _) (load_whole arg5 harg5 x3 _)
        (load_whole arg6 harg6 x4 _) (load_whole arg7 harg7 x5 _) (load_whole arg9 harg9 x7 _) (load_whole arg10 harg10 x8 _)
    isplitl [H15]
    · iexists _; isplitr; swap; · iexact H15
      ipureintro
      refine (View.read_writes_full _ _ _ _ _).trans ?_
      unfold kernelRun0_F.sl.r_7 kernelRun0_F.sl.r_4 kernelRun0_F.sl.r_1
      exact tileUp_congr (load_whole arg2 harg2 x0 _) (load_whole arg3 harg3 x1 _) (load_whole arg4 harg4 x2 _) (load_whole arg5 harg5 x3 _)
        (load_whole arg6 harg6 x4 _) (load_whole arg9 harg9 x7 _) (load_whole arg10 harg10 x8 _)
    isplitl [H16]
    · iexists _, _; isplitr; swap; · iexact H16
      ipureintro; rfl
    isplitl [H17]
    · iexists _, _; isplitr; swap; · iexact H17
      ipureintro; rfl
    isplitl [H18]
    · iexists _, _; isplitr; swap; · iexact H18
      ipureintro; rfl
    isplitl [H19]
    · iexists _, _; isplitr; swap; · iexact H19
      ipureintro; rfl
    isplitl [H20]
    · iexists _, _; isplitr; swap; · iexact H20
      ipureintro; rfl
    isplitl [H21]
    · iexists _, _; isplitr; swap; · iexact H21
      ipureintro; rfl
    isplitl [H22]
    · iexists _, _; isplitr; swap; · iexact H22
      ipureintro; rfl
    isplitl [H23]
    · iexists _, _; isplitr; swap; · iexact H23
      ipureintro; rfl
    isplitl [HS0]
    · iexists _, _; isplitr; swap; · iexact HS0
      ipureintro; rfl
    iexists _, _; isplitr; swap; · iexact HS1
    ipureintro; rfl

end Cert.DownBwd.Frame
-- ==== Proof.DownBwd.Body.lean ====
module

public import proofs.«01_k».proof.Proof.DownBwd.RunA
public import proofs.«01_k».proof.Proof.DownBwd.RunB
public import proofs.«01_k».proof.Proof.DownBwd.RunC
public import proofs.«01_k».proof.Proof.DownBwd.RunD
public import proofs.«01_k».proof.Proof.DownBwd.RunE
public import proofs.«01_k».proof.Proof.DownBwd.RunF
public import Idealize.ShloMosaic.Lib.Claim

/-! The call `down_bwd`: the whole run. -/

@[expose] public section

set_option maxRecDepth 16384

noncomputable section

namespace Cert.DownBwd.Frame

open Cert.DownBwd Cert.DownBwd.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's proof data -/

/-- The outputs whose contents are not stated. -/
def forgets0 : Fin 24 → Bool := fun w => w.val == 16 || w.val == 17 || w.val == 18 || w.val == 19 || w.val == 20 || w.val == 21 || w.val == 22 || w.val == 23

/-- What the gate gradient's block holds after a point. -/
def gateBlock (c : Dev nD) (t : Fin cfg0.N) : Vec F S1024x256 .bf16 :=
  tileGate (iblk m c 0 t) (iblk m c 1 t) (iblk m c 2 t) (iblk m c 3 t) (iblk m c 4 t) (iblk m c 5 t) (iblk m c 7 t) (iblk m c 8 t)

/-- What the up gradient's block holds after a point. -/
def upBlock (c : Dev nD) (t : Fin cfg0.N) : Vec F S1024x256 .bf16 :=
  tileUp (iblk m c 0 t) (iblk m c 1 t) (iblk m c 2 t) (iblk m c 3 t) (iblk m c 4 t) (iblk m c 7 t) (iblk m c 8 t)

/-- What the windows hold: the inputs their blocks, the two gradients their values. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => gateBlock m c t
    | ⟨15, _⟩ => upBlock m c t
    | ⟨16, h⟩ => Pipeline.Dat.unnamed (cfg := cfg0) ⟨16, h⟩ t
    | ⟨17, h⟩ => Pipeline.Dat.unnamed (cfg := cfg0) ⟨17, h⟩ t
    | ⟨18, h⟩ => Pipeline.Dat.unnamed (cfg := cfg0) ⟨18, h⟩ t
    | ⟨19, h⟩ => Pipeline.Dat.unnamed (cfg := cfg0) ⟨19, h⟩ t
    | ⟨20, h⟩ => Pipeline.Dat.unnamed (cfg := cfg0) ⟨20, h⟩ t
    | ⟨21, h⟩ => Pipeline.Dat.unnamed (cfg := cfg0) ⟨21, h⟩ t
    | ⟨22, h⟩ => Pipeline.Dat.unnamed (cfg := cfg0) ⟨22, h⟩ t
    | ⟨23, h⟩ => Pipeline.Dat.unnamed (cfg := cfg0) ⟨23, h⟩ t
    | ⟨_ + 24, h⟩ => absurd h (Nat.not_lt.2 (Nat.le_add_left _ _))
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_14 (c : Dev nD) (t : Fin cfg0.N) : (dats m 0 c).after 14 t = gateBlock m c t := by dsimp only [dats]
theorem after0_15 (c : Dev nD) (t : Fin cfg0.N) : (dats m 0 c).after 15 t = upBlock m c t := by dsimp only [dats]
theorem after0_13 (c : Dev nD) (t : Fin cfg0.N) : (dats m 0 c).after 13 t = iblk m c 13 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare d)
    ∗ (∃ d, owns (c : Thread nD τ) (ms0_17 t) fullShare d)
    ∗ (∃ d, owns (c : Thread nD τ) (ms0_18 t) fullShare d)
    ∗ (∃ d, owns (c : Thread nD τ) (ms0_19 t) fullShare d)
    ∗ (∃ d, owns (c : Thread nD τ) (ms0_20 t) fullShare d)
    ∗ (∃ d, owns (c : Thread nD τ) (ms0_21 t) fullShare d)
    ∗ (∃ d, owns (c : Thread nD τ) (ms0_22 t) fullShare d)
    ∗ (∃ d, owns (c : Thread nD τ) (ms0_23 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (∃ d, owns (c : Thread nD τ) (ms0_16 t) fullShare d)
    ∗ (∃ d, owns (c : Thread nD τ) (ms0_17 t) fullShare d)
    ∗ (∃ d, owns (c : Thread nD τ) (ms0_18 t) fullShare d)
    ∗ (∃ d, owns (c : Thread nD τ) (ms0_19 t) fullShare d)
    ∗ (∃ d, owns (c : Thread nD τ) (ms0_20 t) fullShare d)
    ∗ (∃ d, owns (c : Thread nD τ) (ms0_21 t) fullShare d)
    ∗ (∃ d, owns (c : Thread nD τ) (ms0_22 t) fullShare d)
    ∗ (∃ d, owns (c : Thread nD τ) (ms0_23 t) fullShare d))

/-- What the body needs at a point, buffer by buffer, and what it leaves to what follows it. -/
def pointPre (c : Dev nD) (t : Fin cfg0.N) (K : PUnit → sProp 𝕄) : sProp 𝕄 :=
  iprop(owns (c : Thread nD τ) (ms0_0 t) fullShare (iblk m c 0 t)
    ∗ owns (c : Thread nD τ) (ms0_1 t) fullShare (iblk m c 1 t)
    ∗ owns (c : Thread nD τ) (ms0_2 t) fullShare (iblk m c 2 t)
    ∗ owns (c : Thread nD τ) (ms0_3 t) fullShare (iblk m c 3 t)
    ∗ owns (c : Thread nD τ) (ms0_4 t) fullShare (iblk m c 4 t)
    ∗ owns (c : Thread nD τ) (ms0_5 t) fullShare (iblk m c 5 t)
    ∗ owns (c : Thread nD τ) (ms0_6 t) fullShare (iblk m c 6 t)
    ∗ owns (c : Thread nD τ) (ms0_7 t) fullShare (iblk m c 7 t)
    ∗ owns (c : Thread nD τ) (ms0_8 t) fullShare (iblk m c 8 t)
    ∗ owns (c : Thread nD τ) (ms0_9 t) fullShare (iblk m c 9 t)
    ∗ owns (c : Thread nD τ) (ms0_10 t) fullShare (iblk m c 10 t)
    ∗ owns (c : Thread nD τ) (ms0_11 t) fullShare (iblk m c 11 t)
    ∗ owns (c : Thread nD τ) (ms0_12 t) fullShare (iblk m c 12 t)
    ∗ owns (c : Thread nD τ) (ms0_13 t) fullShare (iblk m c 13 t)
    ∗ (∃ d, owns (c : Thread nD τ) (ms0_14 t) fullShare d)
    ∗ (∃ d, owns (c : Thread nD τ) (ms0_15 t) fullShare d)
    ∗ (∃ d, owns (c : Thread nD τ) (ms0_16 t) fullShare d)
    ∗ (∃ d, owns (c : Thread nD τ) (ms0_17 t) fullShare d)
    ∗ (∃ d, owns (c : Thread nD τ) (ms0_18 t) fullShare d)
    ∗ (∃ d, owns (c : Thread nD τ) (ms0_19 t) fullShare d)
    ∗ (∃ d, owns (c : Thread nD τ) (ms0_20 t) fullShare d)
    ∗ (∃ d, owns (c : Thread nD τ) (ms0_21 t) fullShare d)
    ∗ (∃ d, owns (c : Thread nD τ) (ms0_22 t) fullShare d)
    ∗ (∃ d, owns (c : Thread nD τ) (ms0_23 t) fullShare d)
    ∗ (∃ d, owns (c : Thread nD τ) scM0_0 fullShare d)
    ∗ (∃ d, owns (c : Thread nD τ) scM0_1 fullShare d)
    ∗ (iprop(owns (c : Thread nD τ) (ms0_0 t) fullShare (iblk m c 0 t)
    ∗ owns (c : Thread nD τ) (ms0_1 t) fullShare (iblk m c 1 t)
    ∗ owns (c : Thread nD τ) (ms0_2 t) fullShare (iblk m c 2 t)
    ∗ owns (c : Thread nD τ) (ms0_3 t) fullShare (iblk m c 3 t)
    ∗ owns (c : Thread nD τ) (ms0_4 t) fullShare (iblk m c 4 t)
    ∗ owns (c : Thread nD τ) (ms0_5 t) fullShare (iblk m c 5 t)
    ∗ owns (c : Thread nD τ) (ms0_6 t) fullShare (iblk m c 6 t)
    ∗ owns (c : Thread nD τ) (ms0_7 t) fullShare (iblk m c 7 t)
    ∗ owns (c : Thread nD τ) (ms0_8 t) fullShare (iblk m c 8 t)
    ∗ owns (c : Thread nD τ) (ms0_9 t) fullShare (iblk m c 9 t)
    ∗ owns (c : Thread nD τ) (ms0_10 t) fullShare (iblk m c 10 t)
    ∗ owns (c : Thread nD τ) (ms0_11 t) fullShare (iblk m c 11 t)
    ∗ owns (c : Thread nD τ) (ms0_12 t) fullShare (iblk m c 12 t)
    ∗ owns (c : Thread nD τ) (ms0_13 t) fullShare (iblk m c 13 t)
    ∗ owns (c : Thread nD τ) (ms0_14 t) fullShare (gateBlock m c t)
    ∗ owns (c : Thread nD τ) (ms0_15 t) fullShare (upBlock m c t)
    ∗ (∃ d, owns (c : Thread nD τ) (ms0_16 t) fullShare d)
    ∗ (∃ d, owns (c : Thread nD τ) (ms0_17 t) fullShare d)
    ∗ (∃ d, owns (c : Thread nD τ) (ms0_18 t) fullShare d)
    ∗ (∃ d, owns (c : Thread nD τ) (ms0_19 t) fullShare d)
    ∗ (∃ d, owns (c : Thread nD τ) (ms0_20 t) fullShare d)
    ∗ (∃ d, owns (c : Thread nD τ) (ms0_21 t) fullShare d)
    ∗ (∃ d, owns (c : Thread nD τ) (ms0_22 t) fullShare d)
    ∗ (∃ d, owns (c : Thread nD τ) (ms0_23 t) fullShare d)
    ∗ (∃ d, owns (c : Thread nD τ) scM0_0 fullShare d)
    ∗ (∃ d, owns (c : Thread nD τ) scM0_1 fullShare d)) -∗ K ⟨⟩))

set_option maxHeartbeats 4000000 in
/-- The body at any point: the six cases of its conditionals. -/
theorem body_point (c : Dev nD) (t : Fin cfg0.N) (K : PUnit → sProp 𝕄) :
    pointPre m c t K ⊢ wp frame (wpE (defs₀ (F := F)) Variants.none c none) Set.univ (bodyAt0 t) K := by
  unfold pointPre bodyAt0 gateBlock upBlock
  have hN : t.val < 168 := lt_of_lt_of_eq t.isLt (show cfg0.N = 168 from N_0)
  by_cases h1 : t.val % 14 = 0
  · have h3 : ¬t.val % 14 = 13 := by omega
    by_cases h2 : t.val < 14
    · have h0 : t.val % 168 = 0 := by omega
      exact kernelRun0_A c (grid0.coords t) _ _ _ _ _ _ _ _ _ _ _ _ _ _ _ _ _ _ _ _ _ _ _ _ _ _ _ _ _ _ _ _ _ _ _ _ _ _ _ _ _ _ _ _ _ _ _ _ _ _ _ _ ((hcond0_0 t).mpr h0) ((hcond0_1 t).mpr h1) ((hcond0_2 t).mpr h2) (fun h => h3 ((hcond0_3 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) Set.univ K
    · have h0 : ¬t.val % 168 = 0 := by omega
      exact kernelRun0_D c (grid0.coords t) _ _ _ _ _ _ _ _ _ _ _ _ _ _ _ _ _ _ _ _ _ _ _ _ _ _ _ _ _ _ _ _ _ _ _ _ _ _ _ _ _ _ _ _ _ _ _ _ _ _ _ _ (fun h => h0 ((hcond0_0 t).mp h)) ((hcond0_1 t).mpr h1) (fun h => h2 ((hcond0_2 t).mp h)) (fun h => h3 ((hcond0_3 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) Set.univ K
  · have h0 : ¬t.val % 168 = 0 := by omega
    by_cases h2 : t.val < 14
    · by_cases h3 : t.val % 14 = 13
      · exact kernelRun0_C c (grid0.coords t) _ _ _ _ _ _ _ _ _ _ _ _ _ _ _ _ _ _ _ _ _ _ _ _ _ _ _ _ _ _ _ _ _ _ _ _ _ _ _ _ _ _ _ _ _ _ _ _ _ _ _ _ (fun h => h0 ((hcond0_0 t).mp h)) (fun h => h1 ((hcond0_1 t).mp h)) ((hcond0_2 t).mpr h2) ((hcond0_3 t).mpr h3) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) Set.univ K
      · exact kernelRun0_B c (grid0.coords t) _ _ _ _ _ _ _ _ _ _ _ _ _ _ _ _ _ _ _ _ _ _ _ _ _ _ _ _ _ _ _ _ _ _ _ _ _ _ _ _ _ _ _ _ _ _ _ _ _ _ _ _ (fun h => h0 ((hcond0_0 t).mp h)) (fun h => h1 ((hcond0_1 t).mp h)) ((hcond0_2 t).mpr h2) (fun h => h3 ((hcond0_3 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) Set.univ K
    · by_cases h3 : t.val % 14 = 13
      · exact kernelRun0_F c (grid0.coords t) _ _ _ _ _ _ _ _ _ _ _ _ _ _ _ _ _ _ _ _ _ _ _ _ _ _ _ _ _ _ _ _ _ _ _ _ _ _ _ _ _ _ _ _ _ _ _ _ _ _ _ _ (fun h => h0 ((hcond0_0 t).mp h)) (fun h => h1 ((hcond0_1 t).mp h)) (fun h => h2 ((hcond0_2 t).mp h)) ((hcond0_3 t).mpr h3) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) Set.univ K
      · exact kernelRun0_E c (grid0.coords t) _ _ _ _ _ _ _ _ _ _ _ _ _ _ _ _ _ _ _ _ _ _ _ _ _ _ _ _ _ _ _ _ _ _ _ _ _ _ _ _ _ _ _ _ _ _ _ _ _ _ _ _ (fun h => h0 ((hcond0_0 t).mp h)) (fun h => h1 ((hcond0_1 t).mp h)) (fun h => h2 ((hcond0_2 t).mp h)) (fun h => h3 ((hcond0_3 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) Set.univ K

set_option maxHeartbeats 4000000 in
/-- The body at any point, as the pipeline calls it. -/
theorem sound_body (c : Dev nD) (t : Fin cfg0.N) :
    bodyPre m c t ⊢ wp frame (wpE (defs₀ (F := F)) Variants.none c none) Set.univ (bodyAt0 t) (fun _ => bodyPost m c t) := by
  refine BIBase.Entails.trans ?_ (body_point m c t _)
  unfold bodyPre bodyPost pointPre
  simp only [before0_0, before0_1, before0_2, before0_3, before0_4, before0_5, before0_6, before0_7, before0_8, before0_9, before0_10, before0_11, before0_12, before0_13]
  rw [show (dats m 0 c).Φ t.succ = Pipeline.ΦA spec0 c from rfl, show (dats m 0 c).Φ t.castSucc = Pipeline.ΦA spec0 c from rfl, PhiA0_eq,
    show (dats m 0 c).owesAt () t.succ = (dats m 0 c).owesAt () t.castSucc from rfl]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t], after0_6]
  rw [show (dats m 0 c).leavesExact 7 t = owns (c : Thread nD τ) (ms0_7 t) fullShare ((dats m 0 c).after 7 t) from by
    unfold Dat.leavesExact; rw [liveAt0_7 t], after0_7]
  rw [show (dats m 0 c).leavesExact 8 t = owns (c : Thread nD τ) (ms0_8 t) fullShare ((dats m 0 c).after 8 t) from by
    unfold Dat.leavesExact; rw [liveAt0_8 t], after0_8]
  rw [show (dats m 0 c).leavesExact 9 t = owns (c : Thread nD τ) (ms0_9 t) fullShare ((dats m 0 c).after 9 t) from by
    unfold Dat.leavesExact; rw [liveAt0_9 t], after0_9]
  rw [show (dats m 0 c).leavesExact 10 t = owns (c : Thread nD τ) (ms0_10 t) fullShare ((dats m 0 c).after 10 t) from by
    unfold Dat.leavesExact; rw [liveAt0_10 t], after0_10]
  rw [show (dats m 0 c).leavesExact 11 t = owns (c : Thread nD τ) (ms0_11 t) fullShare ((dats m 0 c).after 11 t) from by
    unfold Dat.leavesExact; rw [liveAt0_11 t], after0_11]
  rw [show (dats m 0 c).leavesExact 12 t = owns (c : Thread nD τ) (ms0_12 t) fullShare ((dats m 0 c).after 12 t) from by
    unfold Dat.leavesExact; rw [liveAt0_12 t], after0_12]
  rw [show (dats m 0 c).leavesExact 13 t = owns (c : Thread nD τ) (ms0_13 t) fullShare ((dats m 0 c).after 13 t) from by
    unfold Dat.leavesExact; rw [liveAt0_13 t], after0_13]
  rw [show (dats m 0 c).leavesExact 14 t = owns (c : Thread nD τ) (ms0_14 t) fullShare ((dats m 0 c).after 14 t) from by
    unfold Dat.leavesExact; rw [liveAt0_14 t], after0_14]
  rw [show (dats m 0 c).leavesExact 15 t = owns (c : Thread nD τ) (ms0_15 t) fullShare ((dats m 0 c).after 15 t) from by
    unfold Dat.leavesExact; rw [liveAt0_15 t], after0_15]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  isplitl [H22]; · iexists _; iexact H22
  isplitl [H23]; · iexists _; iexact H23
  isplitl [HS0]; · iexact HS0
  isplitl [HS1]; · iexact HS1
  iintro ⟨H0, H1, H2, H3, H4, H5, H6, H7, H8, H9, H10, H11, H12, H13, H14, H15, H16, H17, H18, H19, H20, H21, H22, H23, HS0, HS1⟩
  isplitl [HS0 HS1 Hg]
  · isplitl [HS0 HS1]
    · isplitl [HS0]; · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  iexact H23

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

set_option backward.isDefEq.respectTransparency.types false in
/-- Every execution ends with the arrays as the data say and every semaphore counter at zero. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- Every execution ends with the arrays as the data say. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- Every execution leaves the arguments as they were. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  frame_of m ρ (fun c => (dats m 0 c).toRForget forgets0) (A_eq m) (run_main m ρ)

/-- Every execution ends, with the arguments as they were and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13))
      ∧ r.2.sem = fun _ => 0) :=
  θ_run_and (unchanged m ρ) ((θ_run defs _ _).mono (fun _ h => h.2) (run_main_quiescent m ρ))

end Cert.DownBwd.Frame
-- ==== Proof.DownBwdIdeal.Kit.lean ====
module

public import proofs.«01_k».proof.Proof.Gen.DownBwdIdeal.Skeleton
public import proofs.«01_k».proof.Proof.Gen.DownBwdIdeal.Frame
public import Idealize.ShloMosaic.Lib.VecWindow

/-! The call `down_bwd`: when its conditionals are taken, and its staging buffers. -/

@[expose] public section

set_option maxRecDepth 16384

noncomputable section

namespace Cert.DownBwdIdeal.Frame

open Cert.DownBwdIdeal Cert.DownBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A load of the whole of a buffer that holds `x` reads `x`. -/
theorem load_whole {κ : Kind} {sp : Space} {s : Shape} {e : EltTy} (M : Memref sig κ sp s e) (h : M.IsWhole) (x : s.Idx → Elt F e)
    {off : Fin s.rank → ℕ} (inb : ∀ a, off a + s.size a ≤ s.size a) :
    M.view.readAt (Elt F) (Rect.unit off s.size inb).toLoadRect (h.unread x) = x :=
  (View.readAt_full M.view (h.unread x) inb).trans (h.read_unread x)

/-- The gate's gradient of one tile. -/
abbrev tileGate (x0 : Vec F S1024x8192 .bf16) (x1 : Vec F S1024x64 .bf16) (x2 : Vec F S8192x256 .bf16) (x3 : Vec F S64x256 .bf16)
    (x4 x5 : Vec F S1024x256 .f32) (x7 x8 : Vec F S1x256 .f32) : Vec F S1024x256 .bf16 :=
  k0_pay19 (F := F) x7 (k0_pay11 (F := F) x7 x4) (k0_pay12 (F := F) x8 x5) (k0_pay13 (F := F) x7 x4) (k0_pay14 (F := F) x0 x1 x2 x3 x7 x4)

/-- The up projection's gradient of one tile. -/
abbrev tileUp (x0 : Vec F S1024x8192 .bf16) (x1 : Vec F S1024x64 .bf16) (x2 : Vec F S8192x256 .bf16) (x3 : Vec F S64x256 .bf16)
    (x4 : Vec F S1024x256 .f32) (x7 x8 : Vec F S1x256 .f32) : Vec F S1024x256 .bf16 :=
  k0_pay20 (F := F) x8 (k0_pay11 (F := F) x7 x4) (k0_pay14 (F := F) x0 x1 x2 x3 x7 x4)

theorem tileGate_congr {x0 y0 : Vec F S1024x8192 .bf16} {x1 y1 : Vec F S1024x64 .bf16} {x2 y2 : Vec F S8192x256 .bf16} {x3 y3 : Vec F S64x256 .bf16}
    {x4 y4 x5 y5 : Vec F S1024x256 .f32} {x7 y7 x8 y8 : Vec F S1x256 .f32} (e0 : y0 = x0) (e1 : y1 = x1) (e2 : y2 = x2) (e3 : y3 = x3)
    (e4 : y4 = x4) (e5 : y5 = x5) (e7 : y7 = x7) (e8 : y8 = x8) : tileGate y0 y1 y2 y3 y4 y5 y7 y8 = tileGate x0 x1 x2 x3 x4 x5 x7 x8 := by
  rw [e0, e1, e2, e3, e4, e5, e7, e8]

theorem tileUp_congr {x0 y0 : Vec F S1024x8192 .bf16} {x1 y1 : Vec F S1024x64 .bf16} {x2 y2 : Vec F S8192x256 .bf16} {x3 y3 : Vec F S64x256 .bf16}
    {x4 y4 : Vec F S1024x256 .f32} {x7 y7 x8 y8 : Vec F S1x256 .f32} (e0 : y0 = x0) (e1 : y1 = x1) (e2 : y2 = x2) (e3 : y3 = x3)
    (e4 : y4 = x4) (e7 : y7 = x7) (e8 : y8 = x8) : tileUp y0 y1 y2 y3 y4 y7 y8 = tileUp x0 x1 x2 x3 x4 x7 x8 := by
  rw [e0, e1, e2, e3, e4, e7, e8]

set_option maxHeartbeats 4000000 in
/-- A run whose arrays follow any relational data leaves the arguments as they were. -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      (Pipeline.RDat.FramePost.arr_in h c 2 rfl).trans ((hA c 2).trans (V_main_arg2 m c)),
      (Pipeline.RDat.FramePost.arr_in h c 3 rfl).trans ((hA c 3).trans (V_main_arg3 m c)),
      (Pipeline.RDat.FramePost.arr_in h c 4 rfl).trans ((hA c 4).trans (V_main_arg4 m c)),
      (Pipeline.RDat.FramePost.arr_in h c 5 rfl).trans ((hA c 5).trans (V_main_arg5 m c)),
      (Pipeline.RDat.FramePost.arr_in h c 6 rfl).trans ((hA c 6).trans (V_main_arg6 m c)),
      (Pipeline.RDat.FramePost.arr_in h c 7 rfl).trans ((hA c 7).trans (V_main_arg7 m c)),
      (Pipeline.RDat.FramePost.arr_in h c 8 rfl).trans ((hA c 8).trans (V_main_arg8 m c)),
      (Pipeline.RDat.FramePost.arr_in h c 9 rfl).trans ((hA c 9).trans (V_main_arg9 m c)),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      (Pipeline.RDat.FramePost.arr_in h c 12 rfl).trans ((hA c 12).trans (V_main_arg12 m c)),
      (Pipeline.RDat.FramePost.arr_in h c 13 rfl).trans ((hA c 13).trans (V_main_arg13 m c))⟩) h

/-! ## The body's branch conditions -/

/-- The condition of the body's `scf.if` 0 (`k0_h1`), from the grid coordinates. -/
abbrev cond0_0 (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
/-- It holds at the first point only. -/
theorem hcond0_0 : ∀ t : Fin cfg0.N, cond0_0 (grid0.coords t) ↔ t.val % 168 = 0 :=
  (fun t => by
    have ht : t.val < 168 := Nat.lt_of_lt_of_eq t.isLt N_0
    have e0 : (grid0.coords t 0).val = t.val / 14 % 12 := Pipeline.Grid.coords_val t 0 (by decide) rfl
    have e1 : (grid0.coords t 1).val = t.val / 1 % 14 := Pipeline.Grid.coords_val t 1 (by decide) rfl
    simp only [cond0_0, e0, e1]
    word_cmp
   : ∀ t : Fin grid0.N, cond0_0 (grid0.coords t) ↔ t.val % 168 = 0)

/-- The condition of the body's `scf.if` 1 (`k0_h2`), from the grid coordinates. -/
abbrev cond0_1 (i : grid0.Coords) : Prop := (Scalar.cmpi .ne (Scalar.extui (Scalar.cmpi .eq (BitVec.ofNat 32 (i 1).val) 0#32)) 0#32) = 1#1
/-- It holds at the points ≡ 0 (mod 14). -/
theorem hcond0_1 : ∀ t : Fin cfg0.N, cond0_1 (grid0.coords t) ↔ t.val % 14 = 0 :=
  (fun t => by
    have ht : t.val < 168 := Nat.lt_of_lt_of_eq t.isLt N_0
    have e0 : (grid0.coords t 0).val = t.val / 14 % 12 := Pipeline.Grid.coords_val t 0 (by decide) rfl
    have e1 : (grid0.coords t 1).val = t.val / 1 % 14 := Pipeline.Grid.coords_val t 1 (by decide) rfl
    simp only [cond0_1, e0, e1]
    word_cmp
   : ∀ t : Fin grid0.N, cond0_1 (grid0.coords t) ↔ t.val % 14 = 0)

/-- The condition of the body's `scf.if` 2 (`k0_h3`), from the grid coordinates. -/
abbrev cond0_2 (i : grid0.Coords) : Prop := k0_cond3 i = 1#1
/-- It holds at the points before point 14. -/
theorem hcond0_2 : ∀ t : Fin cfg0.N, cond0_2 (grid0.coords t) ↔ t.val < 14 :=
  (fun t => by
    have ht : t.val < 168 := Nat.lt_of_lt_of_eq t.isLt N_0
    have e0 : (grid0.coords t 0).val = t.val / 14 % 12 := Pipeline.Grid.coords_val t 0 (by decide) rfl
    have e1 : (grid0.coords t 1).val = t.val / 1 % 14 := Pipeline.Grid.coords_val t 1 (by decide) rfl
    simp only [cond0_2, k0_cond3, e0, e1]
    word_cmp
   : ∀ t : Fin grid0.N, cond0_2 (grid0.coords t) ↔ t.val < 14)

/-- The condition of the body's `scf.if` 3 (`k0_h4`), from the grid coordinates. -/
abbrev cond0_3 (i : grid0.Coords) : Prop := k0_cond4 i = 1#1
/-- It holds at the points ≡ 13 (mod 14). -/
theorem hcond0_3 : ∀ t : Fin cfg0.N, cond0_3 (grid0.coords t) ↔ t.val % 14 = 13 :=
  (fun t => by
    have ht : t.val < 168 := Nat.lt_of_lt_of_eq t.isLt N_0
    have e0 : (grid0.coords t 0).val = t.val / 14 % 12 := Pipeline.Grid.coords_val t 0 (by decide) rfl
    have e1 : (grid0.coords t 1).val = t.val / 1 % 14 := Pipeline.Grid.coords_val t 1 (by decide) rfl
    simp only [cond0_3, k0_cond4, e0, e1]
    word_cmp
   : ∀ t : Fin grid0.N, cond0_3 (grid0.coords t) ↔ t.val % 14 = 13)

/-! ## Where the windows are idle (the printed configuration's table `Cfg.idle`) -/

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
theorem liveAt0_5 : ∀ t : Fin cfg0.N, cfg0.idle 5 (grid0.coords t) = false := fun _ => rfl
theorem liveAt0_6 : ∀ t : Fin cfg0.N, cfg0.idle 6 (grid0.coords t) = false := fun _ => rfl
theorem liveAt0_7 : ∀ t : Fin cfg0.N, cfg0.idle 7 (grid0.coords t) = false := fun _ => rfl
theorem liveAt0_8 : ∀ t : Fin cfg0.N, cfg0.idle 8 (grid0.coords t) = false := fun _ => rfl
theorem liveAt0_9 : ∀ t : Fin cfg0.N, cfg0.idle 9 (grid0.coords t) = false := fun _ => rfl
theorem liveAt0_10 : ∀ t : Fin cfg0.N, cfg0.idle 10 (grid0.coords t) = false := fun _ => rfl
theorem liveAt0_11 : ∀ t : Fin cfg0.N, cfg0.idle 11 (grid0.coords t) = false := fun _ => rfl
theorem liveAt0_12 : ∀ t : Fin cfg0.N, cfg0.idle 12 (grid0.coords t) = false := fun _ => rfl
theorem liveAt0_13 : ∀ t : Fin cfg0.N, cfg0.idle 13 (grid0.coords t) = false := fun _ => rfl
/-! ## The kernel body on any staging memrefs: a subtype the run finds -/

theorem liveAt0_14 : ∀ t : Fin cfg0.N, cfg0.idle 14 (grid0.coords t) = false := fun _ => rfl
theorem liveAt0_15 : ∀ t : Fin cfg0.N, cfg0.idle 15 (grid0.coords t) = false := fun _ => rfl

/-- Each window's staging memref at a point, and that it is the whole of its buffer. -/
abbrev ms0_0 (t : Fin cfg0.N) : Memref sig .tc .vmem S1024x8192 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x64 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8192x256 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S64x256 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1024x256 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x256 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x256 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1024x256 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S256x128 .bf16 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S256x128 .bf16 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S64x8192 .bf16 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S64x256 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S1024x256 .bf16 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S1024x256 .bf16 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S1024x128 .bf16 := win0_16.stage (cfg0.slots t 16)
abbrev hs0_16 (t : Fin cfg0.N) : (ms0_16 t).IsWhole := hstage0_16 ((cfg0.slots t 16).cast nbuf0_16)
abbrev ms0_17 (t : Fin cfg0.N) : Memref sig .tc .vmem S1024x1 .f32 := win0_17.stage (cfg0.slots t 17)
abbrev hs0_17 (t : Fin cfg0.N) : (ms0_17 t).IsWhole := hstage0_17 ((cfg0.slots t 17).cast nbuf0_17)
abbrev ms0_18 (t : Fin cfg0.N) : Memref sig .tc .vmem S8x3584 .f32 := win0_18.stage (cfg0.slots t 18)
abbrev hs0_18 (t : Fin cfg0.N) : (ms0_18 t).IsWhole := hstage0_18 ((cfg0.slots t 18).cast nbuf0_18)
abbrev ms0_19 (t : Fin cfg0.N) : Memref sig .tc .vmem S8x3584 .f32 := win0_19.stage (cfg0.slots t 19)
abbrev hs0_19 (t : Fin cfg0.N) : (ms0_19 t).IsWhole := hstage0_19 ((cfg0.slots t 19).cast nbuf0_19)
abbrev ms0_20 (t : Fin cfg0.N) : Memref sig .tc .vmem S64x3584 .f32 := win0_20.stage (cfg0.slots t 20)
abbrev hs0_20 (t : Fin cfg0.N) : (ms0_20 t).IsWhole := hstage0_20 ((cfg0.slots t 20).cast nbuf0_20)
abbrev ms0_21 (t : Fin cfg0.N) : Memref sig .tc .vmem S64x3584 .f32 := win0_21.stage (cfg0.slots t 21)
abbrev hs0_21 (t : Fin cfg0.N) : (ms0_21 t).IsWhole := hstage0_21 ((cfg0.slots t 21).cast nbuf0_21)
abbrev ms0_22 (t : Fin cfg0.N) : Memref sig .tc .vmem S64x3584 .f32 := win0_22.stage (cfg0.slots t 22)
abbrev hs0_22 (t : Fin cfg0.N) : (ms0_22 t).IsWhole := hstage0_22 ((cfg0.slots t 22).cast nbuf0_22)
abbrev ms0_23 (t : Fin cfg0.N) : Memref sig .tc .vmem S64x3584 .f32 := win0_23.stage (cfg0.slots t 23)
abbrev hs0_23 (t : Fin cfg0.N) : (ms0_23 t).IsWhole := hstage0_23 ((cfg0.slots t 23).cast nbuf0_23)
/-- The scratch operands: whole scoped buffers of the kernel's own, passed beside the windows. -/
abbrev scM0_0 : Memref sig .tc .vmem S1024x128 .f32 := Memref.whole cc0_scratch0
abbrev scM0_1 : Memref sig .tc .vmem S1024x128 .f32 := Memref.whole cc0_scratch1

/-- The region's scratch buffers, each at something. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.DownBwdIdeal.Frame
-- ==== Proof.DownBwdIdeal.RunA.lean ====
module

public import proofs.«01_k».proof.Proof.DownBwdIdeal.Kit

/-! The call `down_bwd`: the body at the first point. -/

@[expose] public section

set_option maxRecDepth 16384

noncomputable section

namespace Cert.DownBwdIdeal.Frame

open Cert.DownBwdIdeal Cert.DownBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body at the first point: the two gradients are left at their values, the other outputs and the scratch at something. -/
theorem kernelRun0_A (c : Dev nD) (i : grid0.Coords) (arg2 : Memref sig .tc .vmem S1024x8192 .bf16) (harg2 : arg2.IsWhole) (arg3 : Memref sig .tc .vmem S1024x64 .bf16) (harg3 : arg3.IsWhole) (arg4 : Memref sig .tc .vmem S8192x256 .bf16) (harg4 : arg4.IsWhole) (arg5 : Memref sig .tc .vmem S64x256 .bf16) (harg5 : arg5.IsWhole) (arg6 : Memref sig .tc .vmem S1024x256 .f32) (harg6 : arg6.IsWhole) (arg7 : Memref sig .tc .vmem S1024x256 .f32) (harg7 : arg7.IsWhole) (arg8 : Memref sig .tc .vmem S1024x256 .bf16) (harg8 : arg8.IsWhole) (arg9 : Memref sig .tc .vmem S1x256 .f32) (harg9 : arg9.IsWhole) (arg10 : Memref sig .tc .vmem S1x256 .f32) (harg10 : arg10.IsWhole) (arg11 : Memref sig .tc .vmem S1024x256 .bf16) (harg11 : arg11.IsWhole) (arg12 : Memref sig .tc .vmem S256x128 .bf16) (harg12 : arg12.IsWhole) (arg13 : Memref sig .tc .vmem S256x128 .bf16) (harg13 : arg13.IsWhole) (arg14 : Memref sig .tc .vmem S64x8192 .bf16) (harg14 : arg14.IsWhole) (arg15 : Memref sig .tc .vmem S64x256 .f32) (harg15 : arg15.IsWhole) (arg16 : Memref sig .tc .vmem S1024x256 .bf16) (harg16 : arg16.IsWhole) (arg17 : Memref sig .tc .vmem S1024x256 .bf16) (harg17 : arg17.IsWhole) (arg18 : Memref sig .tc .vmem S1024x128 .bf16) (harg18 : arg18.IsWhole) (arg19 : Memref sig .tc .vmem S1024x1 .f32) (harg19 : arg19.IsWhole) (arg20 : Memref sig .tc .vmem S8x3584 .f32) (harg20 : arg20.IsWhole) (arg21 : Memref sig .tc .vmem S8x3584 .f32) (harg21 : arg21.IsWhole) (arg22 : Memref sig .tc .vmem S64x3584 .f32) (harg22 : arg22.IsWhole) (arg23 : Memref sig .tc .vmem S64x3584 .f32) (harg23 : arg23.IsWhole) (arg24 : Memref sig .tc .vmem S64x3584 .f32) (harg24 : arg24.IsWhole) (arg25 : Memref sig .tc .vmem S64x3584 .f32) (harg25 : arg25.IsWhole) (arg26 : Memref sig .tc .vmem S1024x128 .f32) (harg26 : arg26.IsWhole) (arg27 : Memref sig .tc .vmem S1024x128 .f32) (harg27 : arg27.IsWhole) (hc0 : cond0_0 i) (hc1 : cond0_1 i) (hc2 : cond0_2 i) (hc3 : ¬cond0_3 i)
    (x0 : Vec F S1024x8192 .bf16) (x1 : Vec F S1024x64 .bf16) (x2 : Vec F S8192x256 .bf16) (x3 : Vec F S64x256 .bf16) (x4 : Vec F S1024x256 .f32) (x5 : Vec F S1024x256 .f32) (x6 : Vec F S1024x256 .bf16) (x7 : Vec F S1x256 .f32) (x8 : Vec F S1x256 .f32) (x9 : Vec F S1024x256 .bf16) (x10 : Vec F S256x128 .bf16) (x11 : Vec F S256x128 .bf16) (x12 : Vec F S64x8192 .bf16) (x13 : Vec F S64x256 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare (tileGate x0 x1 x2 x3 x4 x5 x7 x8) ∗ owns (c : Thread nD τ) arg17 fullShare (tileUp x0 x1 x2 x3 x4 x7 x8) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d)) -∗ K ⟨⟩))
          ⊢ wp frame (wpE (defs₀ (F := F)) Variants.none c none) E (cc0_down_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K := by
    intro E K
    simp only [cc0_down_bwd_eq_skeleton]; unfold cc0_down_bwd_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13
    sl_exec (disch := first | sl_exact hc0 | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; swap; · iexact H14
      ipureintro
      refine (View.read_writes_full _ _ _ _ _).trans ?_
      unfold kernelRun0_A.sl.r_7 kernelRun0_A.sl.r_6 kernelRun0_A.sl.r_5 kernelRun0_A.sl.r_4 kernelRun0_A.sl.r
      exact tileGate_congr (load_whole arg2 harg2 x0 _) (load_whole arg3 harg3 x1 _) (load_whole arg4 harg4 x2 _) (load_whole arg5 harg5 x3 _)
        (load_whole arg6 harg6 x4 _) (load_whole arg7 harg7 x5 _) (load_whole arg9 harg9 x7 _) (load_whole arg10 harg10 x8 _)
    isplitl [H15]
    · iexists _; isplitr; swap; · iexact H15
      ipureintro
      refine (View.read_writes_full _ _ _ _ _).trans ?_
      unfold kernelRun0_A.sl.r_7 kernelRun0_A.sl.r_4 kernelRun0_A.sl.r_1
      exact tileUp_congr (load_whole arg2 harg2 x0 _) (load_whole arg3 harg3 x1 _) (load_whole arg4 harg4 x2 _) (load_whole arg5 harg5 x3 _)
        (load_whole arg6 harg6 x4 _) (load_whole arg9 harg9 x7 _) (load_whole arg10 harg10 x8 _)
    isplitl [H16]
    · iexists _, _; isplitr; swap; · iexact H16
      ipureintro; rfl
    isplitl [H17]
    · iexists _, _; isplitr; swap; · iexact H17
      ipureintro; rfl
    isplitl [H18]
    · iexists _, _; isplitr; swap; · iexact H18
      ipureintro; rfl
    isplitl [H19]
    · iexists _, _; isplitr; swap; · iexact H19
      ipureintro; rfl
    isplitl [H20]
    · iexists _, _; isplitr; swap; · iexact H20
      ipureintro; rfl
    isplitl [H21]
    · iexists _, _; isplitr; swap; · iexact H21
      ipureintro; rfl
    isplitl [H22]
    · iexists _, _; isplitr; swap; · iexact H22
      ipureintro; rfl
    isplitl [H23]
    · iexists _, _; isplitr; swap; · iexact H23
      ipureintro; rfl
    isplitl [HS0]
    · iexists _, _; isplitr; swap; · iexact HS0
      ipureintro; rfl
    iexists _, _; isplitr; swap; · iexact HS1
    ipureintro; rfl

end Cert.DownBwdIdeal.Frame
-- ==== Proof.DownBwdIdeal.RunB.lean ====
module

public import proofs.«01_k».proof.Proof.DownBwdIdeal.Kit

/-! The call `down_bwd`: the body at a later point of the first row but the last. -/

@[expose] public section

set_option maxRecDepth 16384

noncomputable section

namespace Cert.DownBwdIdeal.Frame

open Cert.DownBwdIdeal Cert.DownBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body at a later point of the first row but the last: the two gradients are left at their values, the other outputs and the scratch at something. -/
theorem kernelRun0_B (c : Dev nD) (i : grid0.Coords) (arg2 : Memref sig .tc .vmem S1024x8192 .bf16) (harg2 : arg2.IsWhole) (arg3 : Memref sig .tc .vmem S1024x64 .bf16) (harg3 : arg3.IsWhole) (arg4 : Memref sig .tc .vmem S8192x256 .bf16) (harg4 : arg4.IsWhole) (arg5 : Memref sig .tc .vmem S64x256 .bf16) (harg5 : arg5.IsWhole) (arg6 : Memref sig .tc .vmem S1024x256 .f32) (harg6 : arg6.IsWhole) (arg7 : Memref sig .tc .vmem S1024x256 .f32) (harg7 : arg7.IsWhole) (arg8 : Memref sig .tc .vmem S1024x256 .bf16) (harg8 : arg8.IsWhole) (arg9 : Memref sig .tc .vmem S1x256 .f32) (harg9 : arg9.IsWhole) (arg10 : Memref sig .tc .vmem S1x256 .f32) (harg10 : arg10.IsWhole) (arg11 : Memref sig .tc .vmem S1024x256 .bf16) (harg11 : arg11.IsWhole) (arg12 : Memref sig .tc .vmem S256x128 .bf16) (harg12 : arg12.IsWhole) (arg13 : Memref sig .tc .vmem S256x128 .bf16) (harg13 : arg13.IsWhole) (arg14 : Memref sig .tc .vmem S64x8192 .bf16) (harg14 : arg14.IsWhole) (arg15 : Memref sig .tc .vmem S64x256 .f32) (harg15 : arg15.IsWhole) (arg16 : Memref sig .tc .vmem S1024x256 .bf16) (harg16 : arg16.IsWhole) (arg17 : Memref sig .tc .vmem S1024x256 .bf16) (harg17 : arg17.IsWhole) (arg18 : Memref sig .tc .vmem S1024x128 .bf16) (harg18 : arg18.IsWhole) (arg19 : Memref sig .tc .vmem S1024x1 .f32) (harg19 : arg19.IsWhole) (arg20 : Memref sig .tc .vmem S8x3584 .f32) (harg20 : arg20.IsWhole) (arg21 : Memref sig .tc .vmem S8x3584 .f32) (harg21 : arg21.IsWhole) (arg22 : Memref sig .tc .vmem S64x3584 .f32) (harg22 : arg22.IsWhole) (arg23 : Memref sig .tc .vmem S64x3584 .f32) (harg23 : arg23.IsWhole) (arg24 : Memref sig .tc .vmem S64x3584 .f32) (harg24 : arg24.IsWhole) (arg25 : Memref sig .tc .vmem S64x3584 .f32) (harg25 : arg25.IsWhole) (arg26 : Memref sig .tc .vmem S1024x128 .f32) (harg26 : arg26.IsWhole) (arg27 : Memref sig .tc .vmem S1024x128 .f32) (harg27 : arg27.IsWhole) (hc0 : ¬cond0_0 i) (hc1 : ¬cond0_1 i) (hc2 : cond0_2 i) (hc3 : ¬cond0_3 i)
    (x0 : Vec F S1024x8192 .bf16) (x1 : Vec F S1024x64 .bf16) (x2 : Vec F S8192x256 .bf16) (x3 : Vec F S64x256 .bf16) (x4 : Vec F S1024x256 .f32) (x5 : Vec F S1024x256 .f32) (x6 : Vec F S1024x256 .bf16) (x7 : Vec F S1x256 .f32) (x8 : Vec F S1x256 .f32) (x9 : Vec F S1024x256 .bf16) (x10 : Vec F S256x128 .bf16) (x11 : Vec F S256x128 .bf16) (x12 : Vec F S64x8192 .bf16) (x13 : Vec F S64x256 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare (tileGate x0 x1 x2 x3 x4 x5 x7 x8) ∗ owns (c : Thread nD τ) arg17 fullShare (tileUp x0 x1 x2 x3 x4 x7 x8) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d)) -∗ K ⟨⟩))
          ⊢ wp frame (wpE (defs₀ (F := F)) Variants.none c none) E (cc0_down_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K := by
    intro E K
    simp only [cc0_down_bwd_eq_skeleton]; unfold cc0_down_bwd_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13
    sl_exec (disch := first | sl_exact hc0 | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; swap; · iexact H14
      ipureintro
      refine (View.read_writes_full _ _ _ _ _).trans ?_
      unfold kernelRun0_B.sl.r_7 kernelRun0_B.sl.r_6 kernelRun0_B.sl.r_5 kernelRun0_B.sl.r_4 kernelRun0_B.sl.r
      exact tileGate_congr (load_whole arg2 harg2 x0 _) (load_whole arg3 harg3 x1 _) (load_whole arg4 harg4 x2 _) (load_whole arg5 harg5 x3 _)
        (load_whole arg6 harg6 x4 _) (load_whole arg7 harg7 x5 _) (load_whole arg9 harg9 x7 _) (load_whole arg10 harg10 x8 _)
    isplitl [H15]
    · iexists _; isplitr; swap; · iexact H15
      ipureintro
      refine (View.read_writes_full _ _ _ _ _).trans ?_
      unfold kernelRun0_B.sl.r_7 kernelRun0_B.sl.r_4 kernelRun0_B.sl.r_1
      exact tileUp_congr (load_whole arg2 harg2 x0 _) (load_whole arg3 harg3 x1 _) (load_whole arg4 harg4 x2 _) (load_whole arg5 harg5 x3 _)
        (load_whole arg6 harg6 x4 _) (load_whole arg9 harg9 x7 _) (load_whole arg10 harg10 x8 _)
    isplitl [H16]
    · iexists _, _; isplitr; swap; · iexact H16
      ipureintro; rfl
    isplitl [H17]
    · iexists _, _; isplitr; swap; · iexact H17
      ipureintro; rfl
    isplitl [H18]
    · iexists _, _; isplitr; swap; · iexact H18
      ipureintro; rfl
    isplitl [H19]
    · iexists _, _; isplitr; swap; · iexact H19
      ipureintro; rfl
    isplitl [H20]
    · iexists _, _; isplitr; swap; · iexact H20
      ipureintro; rfl
    isplitl [H21]
    · iexists _, _; isplitr; swap; · iexact H21
      ipureintro; rfl
    isplitl [H22]
    · iexists _, _; isplitr; swap; · iexact H22
      ipureintro; rfl
    isplitl [H23]
    · iexists _, _; isplitr; swap; · iexact H23
      ipureintro; rfl
    isplitl [HS0]
    · iexists _, _; isplitr; swap; · iexact HS0
      ipureintro; rfl
    iexists _, _; isplitr; swap; · iexact HS1
    ipureintro; rfl

end Cert.DownBwdIdeal.Frame
-- ==== Proof.DownBwdIdeal.RunC.lean ====
module

public import proofs.«01_k».proof.Proof.DownBwdIdeal.Kit

/-! The call `down_bwd`: the body at the last point of the first row. -/

@[expose] public section

set_option maxRecDepth 16384

noncomputable section

namespace Cert.DownBwdIdeal.Frame

open Cert.DownBwdIdeal Cert.DownBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body at the last point of the first row: the two gradients are left at their values, the other outputs and the scratch at something. -/
theorem kernelRun0_C (c : Dev nD) (i : grid0.Coords) (arg2 : Memref sig .tc .vmem S1024x8192 .bf16) (harg2 : arg2.IsWhole) (arg3 : Memref sig .tc .vmem S1024x64 .bf16) (harg3 : arg3.IsWhole) (arg4 : Memref sig .tc .vmem S8192x256 .bf16) (harg4 : arg4.IsWhole) (arg5 : Memref sig .tc .vmem S64x256 .bf16) (harg5 : arg5.IsWhole) (arg6 : Memref sig .tc .vmem S1024x256 .f32) (harg6 : arg6.IsWhole) (arg7 : Memref sig .tc .vmem S1024x256 .f32) (harg7 : arg7.IsWhole) (arg8 : Memref sig .tc .vmem S1024x256 .bf16) (harg8 : arg8.IsWhole) (arg9 : Memref sig .tc .vmem S1x256 .f32) (harg9 : arg9.IsWhole) (arg10 : Memref sig .tc .vmem S1x256 .f32) (harg10 : arg10.IsWhole) (arg11 : Memref sig .tc .vmem S1024x256 .bf16) (harg11 : arg11.IsWhole) (arg12 : Memref sig .tc .vmem S256x128 .bf16) (harg12 : arg12.IsWhole) (arg13 : Memref sig .tc .vmem S256x128 .bf16) (harg13 : arg13.IsWhole) (arg14 : Memref sig .tc .vmem S64x8192 .bf16) (harg14 : arg14.IsWhole) (arg15 : Memref sig .tc .vmem S64x256 .f32) (harg15 : arg15.IsWhole) (arg16 : Memref sig .tc .vmem S1024x256 .bf16) (harg16 : arg16.IsWhole) (arg17 : Memref sig .tc .vmem S1024x256 .bf16) (harg17 : arg17.IsWhole) (arg18 : Memref sig .tc .vmem S1024x128 .bf16) (harg18 : arg18.IsWhole) (arg19 : Memref sig .tc .vmem S1024x1 .f32) (harg19 : arg19.IsWhole) (arg20 : Memref sig .tc .vmem S8x3584 .f32) (harg20 : arg20.IsWhole) (arg21 : Memref sig .tc .vmem S8x3584 .f32) (harg21 : arg21.IsWhole) (arg22 : Memref sig .tc .vmem S64x3584 .f32) (harg22 : arg22.IsWhole) (arg23 : Memref sig .tc .vmem S64x3584 .f32) (harg23 : arg23.IsWhole) (arg24 : Memref sig .tc .vmem S64x3584 .f32) (harg24 : arg24.IsWhole) (arg25 : Memref sig .tc .vmem S64x3584 .f32) (harg25 : arg25.IsWhole) (arg26 : Memref sig .tc .vmem S1024x128 .f32) (harg26 : arg26.IsWhole) (arg27 : Memref sig .tc .vmem S1024x128 .f32) (harg27 : arg27.IsWhole) (hc0 : ¬cond0_0 i) (hc1 : ¬cond0_1 i) (hc2 : cond0_2 i) (hc3 : cond0_3 i)
    (x0 : Vec F S1024x8192 .bf16) (x1 : Vec F S1024x64 .bf16) (x2 : Vec F S8192x256 .bf16) (x3 : Vec F S64x256 .bf16) (x4 : Vec F S1024x256 .f32) (x5 : Vec F S1024x256 .f32) (x6 : Vec F S1024x256 .bf16) (x7 : Vec F S1x256 .f32) (x8 : Vec F S1x256 .f32) (x9 : Vec F S1024x256 .bf16) (x10 : Vec F S256x128 .bf16) (x11 : Vec F S256x128 .bf16) (x12 : Vec F S64x8192 .bf16) (x13 : Vec F S64x256 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare (tileGate x0 x1 x2 x3 x4 x5 x7 x8) ∗ owns (c : Thread nD τ) arg17 fullShare (tileUp x0 x1 x2 x3 x4 x7 x8) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d)) -∗ K ⟨⟩))
          ⊢ wp frame (wpE (defs₀ (F := F)) Variants.none c none) E (cc0_down_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K := by
    intro E K
    simp only [cc0_down_bwd_eq_skeleton]; unfold cc0_down_bwd_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13
    sl_exec (disch := first | sl_exact hc0 | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; swap; · iexact H14
      ipureintro
      refine (View.read_writes_full _ _ _ _ _).trans ?_
      unfold kernelRun0_C.sl.r_7 kernelRun0_C.sl.r_6 kernelRun0_C.sl.r_5 kernelRun0_C.sl.r_4 kernelRun0_C.sl.r
      exact tileGate_congr (load_whole arg2 harg2 x0 _) (load_whole arg3 harg3 x1 _) (load_whole arg4 harg4 x2 _) (load_whole arg5 harg5 x3 _)
        (load_whole arg6 harg6 x4 _) (load_whole arg7 harg7 x5 _) (load_whole arg9 harg9 x7 _) (load_whole arg10 harg10 x8 _)
    isplitl [H15]
    · iexists _; isplitr; swap; · iexact H15
      ipureintro
      refine (View.read_writes_full _ _ _ _ _).trans ?_
      unfold kernelRun0_C.sl.r_7 kernelRun0_C.sl.r_4 kernelRun0_C.sl.r_1
      exact tileUp_congr (load_whole arg2 harg2 x0 _) (load_whole arg3 harg3 x1 _) (load_whole arg4 harg4 x2 _) (load_whole arg5 harg5 x3 _)
        (load_whole arg6 harg6 x4 _) (load_whole arg9 harg9 x7 _) (load_whole arg10 harg10 x8 _)
    isplitl [H16]
    · iexists _, _; isplitr; swap; · iexact H16
      ipureintro; rfl
    isplitl [H17]
    · iexists _, _; isplitr; swap; · iexact H17
      ipureintro; rfl
    isplitl [H18]
    · iexists _, _; isplitr; swap; · iexact H18
      ipureintro; rfl
    isplitl [H19]
    · iexists _, _; isplitr; swap; · iexact H19
      ipureintro; rfl
    isplitl [H20]
    · iexists _, _; isplitr; swap; · iexact H20
      ipureintro; rfl
    isplitl [H21]
    · iexists _, _; isplitr; swap; · iexact H21
      ipureintro; rfl
    isplitl [H22]
    · iexists _, _; isplitr; swap; · iexact H22
      ipureintro; rfl
    isplitl [H23]
    · iexists _, _; isplitr; swap; · iexact H23
      ipureintro; rfl
    isplitl [HS0]
    · iexists _, _; isplitr; swap; · iexact HS0
      ipureintro; rfl
    iexists _, _; isplitr; swap; · iexact HS1
    ipureintro; rfl

end Cert.DownBwdIdeal.Frame
-- ==== Proof.DownBwdIdeal.RunD.lean ====
module

public import proofs.«01_k».proof.Proof.DownBwdIdeal.Kit

/-! The call `down_bwd`: the body at the first point of a later row. -/

@[expose] public section

set_option maxRecDepth 16384

noncomputable section

namespace Cert.DownBwdIdeal.Frame

open Cert.DownBwdIdeal Cert.DownBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body at the first point of a later row: the two gradients are left at their values, the other outputs and the scratch at something. -/
theorem kernelRun0_D (c : Dev nD) (i : grid0.Coords) (arg2 : Memref sig .tc .vmem S1024x8192 .bf16) (harg2 : arg2.IsWhole) (arg3 : Memref sig .tc .vmem S1024x64 .bf16) (harg3 : arg3.IsWhole) (arg4 : Memref sig .tc .vmem S8192x256 .bf16) (harg4 : arg4.IsWhole) (arg5 : Memref sig .tc .vmem S64x256 .bf16) (harg5 : arg5.IsWhole) (arg6 : Memref sig .tc .vmem S1024x256 .f32) (harg6 : arg6.IsWhole) (arg7 : Memref sig .tc .vmem S1024x256 .f32) (harg7 : arg7.IsWhole) (arg8 : Memref sig .tc .vmem S1024x256 .bf16) (harg8 : arg8.IsWhole) (arg9 : Memref sig .tc .vmem S1x256 .f32) (harg9 : arg9.IsWhole) (arg10 : Memref sig .tc .vmem S1x256 .f32) (harg10 : arg10.IsWhole) (arg11 : Memref sig .tc .vmem S1024x256 .bf16) (harg11 : arg11.IsWhole) (arg12 : Memref sig .tc .vmem S256x128 .bf16) (harg12 : arg12.IsWhole) (arg13 : Memref sig .tc .vmem S256x128 .bf16) (harg13 : arg13.IsWhole) (arg14 : Memref sig .tc .vmem S64x8192 .bf16) (harg14 : arg14.IsWhole) (arg15 : Memref sig .tc .vmem S64x256 .f32) (harg15 : arg15.IsWhole) (arg16 : Memref sig .tc .vmem S1024x256 .bf16) (harg16 : arg16.IsWhole) (arg17 : Memref sig .tc .vmem S1024x256 .bf16) (harg17 : arg17.IsWhole) (arg18 : Memref sig .tc .vmem S1024x128 .bf16) (harg18 : arg18.IsWhole) (arg19 : Memref sig .tc .vmem S1024x1 .f32) (harg19 : arg19.IsWhole) (arg20 : Memref sig .tc .vmem S8x3584 .f32) (harg20 : arg20.IsWhole) (arg21 : Memref sig .tc .vmem S8x3584 .f32) (harg21 : arg21.IsWhole) (arg22 : Memref sig .tc .vmem S64x3584 .f32) (harg22 : arg22.IsWhole) (arg23 : Memref sig .tc .vmem S64x3584 .f32) (harg23 : arg23.IsWhole) (arg24 : Memref sig .tc .vmem S64x3584 .f32) (harg24 : arg24.IsWhole) (arg25 : Memref sig .tc .vmem S64x3584 .f32) (harg25 : arg25.IsWhole) (arg26 : Memref sig .tc .vmem S1024x128 .f32) (harg26 : arg26.IsWhole) (arg27 : Memref sig .tc .vmem S1024x128 .f32) (harg27 : arg27.IsWhole) (hc0 : ¬cond0_0 i) (hc1 : cond0_1 i) (hc2 : ¬cond0_2 i) (hc3 : ¬cond0_3 i)
    (x0 : Vec F S1024x8192 .bf16) (x1 : Vec F S1024x64 .bf16) (x2 : Vec F S8192x256 .bf16) (x3 : Vec F S64x256 .bf16) (x4 : Vec F S1024x256 .f32) (x5 : Vec F S1024x256 .f32) (x6 : Vec F S1024x256 .bf16) (x7 : Vec F S1x256 .f32) (x8 : Vec F S1x256 .f32) (x9 : Vec F S1024x256 .bf16) (x10 : Vec F S256x128 .bf16) (x11 : Vec F S256x128 .bf16) (x12 : Vec F S64x8192 .bf16) (x13 : Vec F S64x256 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare (tileGate x0 x1 x2 x3 x4 x5 x7 x8) ∗ owns (c : Thread nD τ) arg17 fullShare (tileUp x0 x1 x2 x3 x4 x7 x8) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d)) -∗ K ⟨⟩))
          ⊢ wp frame (wpE (defs₀ (F := F)) Variants.none c none) E (cc0_down_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K := by
    intro E K
    simp only [cc0_down_bwd_eq_skeleton]; unfold cc0_down_bwd_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13
    sl_exec (disch := first | sl_exact hc0 | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; swap; · iexact H14
      ipureintro
      refine (View.read_writes_full _ _ _ _ _).trans ?_
      unfold kernelRun0_D.sl.r_7 kernelRun0_D.sl.r_6 kernelRun0_D.sl.r_5 kernelRun0_D.sl.r_4 kernelRun0_D.sl.r
      exact tileGate_congr (load_whole arg2 harg2 x0 _) (load_whole arg3 harg3 x1 _) (load_whole arg4 harg4 x2 _) (load_whole arg5 harg5 x3 _)
        (load_whole arg6 harg6 x4 _) (load_whole arg7 harg7 x5 _) (load_whole arg9 harg9 x7 _) (load_whole arg10 harg10 x8 _)
    isplitl [H15]
    · iexists _; isplitr; swap; · iexact H15
      ipureintro
      refine (View.read_writes_full _ _ _ _ _).trans ?_
      unfold kernelRun0_D.sl.r_7 kernelRun0_D.sl.r_4 kernelRun0_D.sl.r_1
      exact tileUp_congr (load_whole arg2 harg2 x0 _) (load_whole arg3 harg3 x1 _) (load_whole arg4 harg4 x2 _) (load_whole arg5 harg5 x3 _)
        (load_whole arg6 harg6 x4 _) (load_whole arg9 harg9 x7 _) (load_whole arg10 harg10 x8 _)
    isplitl [H16]
    · iexists _, _; isplitr; swap; · iexact H16
      ipureintro; rfl
    isplitl [H17]
    · iexists _, _; isplitr; swap; · iexact H17
      ipureintro; rfl
    isplitl [H18]
    · iexists _, _; isplitr; swap; · iexact H18
      ipureintro; rfl
    isplitl [H19]
    · iexists _, _; isplitr; swap; · iexact H19
      ipureintro; rfl
    isplitl [H20]
    · iexists _, _; isplitr; swap; · iexact H20
      ipureintro; rfl
    isplitl [H21]
    · iexists _, _; isplitr; swap; · iexact H21
      ipureintro; rfl
    isplitl [H22]
    · iexists _, _; isplitr; swap; · iexact H22
      ipureintro; rfl
    isplitl [H23]
    · iexists _, _; isplitr; swap; · iexact H23
      ipureintro; rfl
    isplitl [HS0]
    · iexists _, _; isplitr; swap; · iexact HS0
      ipureintro; rfl
    iexists _, _; isplitr; swap; · iexact HS1
    ipureintro; rfl

end Cert.DownBwdIdeal.Frame
-- ==== Proof.DownBwdIdeal.RunE.lean ====
module

public import proofs.«01_k».proof.Proof.DownBwdIdeal.Kit

/-! The call `down_bwd`: the body at a point inside a later row. -/

@[expose] public section

set_option maxRecDepth 16384

noncomputable section

namespace Cert.DownBwdIdeal.Frame

open Cert.DownBwdIdeal Cert.DownBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body at a point inside a later row: the two gradients are left at their values, the other outputs and the scratch at something. -/
theorem kernelRun0_E (c : Dev nD) (i : grid0.Coords) (arg2 : Memref sig .tc .vmem S1024x8192 .bf16) (harg2 : arg2.IsWhole) (arg3 : Memref sig .tc .vmem S1024x64 .bf16) (harg3 : arg3.IsWhole) (arg4 : Memref sig .tc .vmem S8192x256 .bf16) (harg4 : arg4.IsWhole) (arg5 : Memref sig .tc .vmem S64x256 .bf16) (harg5 : arg5.IsWhole) (arg6 : Memref sig .tc .vmem S1024x256 .f32) (harg6 : arg6.IsWhole) (arg7 : Memref sig .tc .vmem S1024x256 .f32) (harg7 : arg7.IsWhole) (arg8 : Memref sig .tc .vmem S1024x256 .bf16) (harg8 : arg8.IsWhole) (arg9 : Memref sig .tc .vmem S1x256 .f32) (harg9 : arg9.IsWhole) (arg10 : Memref sig .tc .vmem S1x256 .f32) (harg10 : arg10.IsWhole) (arg11 : Memref sig .tc .vmem S1024x256 .bf16) (harg11 : arg11.IsWhole) (arg12 : Memref sig .tc .vmem S256x128 .bf16) (harg12 : arg12.IsWhole) (arg13 : Memref sig .tc .vmem S256x128 .bf16) (harg13 : arg13.IsWhole) (arg14 : Memref sig .tc .vmem S64x8192 .bf16) (harg14 : arg14.IsWhole) (arg15 : Memref sig .tc .vmem S64x256 .f32) (harg15 : arg15.IsWhole) (arg16 : Memref sig .tc .vmem S1024x256 .bf16) (harg16 : arg16.IsWhole) (arg17 : Memref sig .tc .vmem S1024x256 .bf16) (harg17 : arg17.IsWhole) (arg18 : Memref sig .tc .vmem S1024x128 .bf16) (harg18 : arg18.IsWhole) (arg19 : Memref sig .tc .vmem S1024x1 .f32) (harg19 : arg19.IsWhole) (arg20 : Memref sig .tc .vmem S8x3584 .f32) (harg20 : arg20.IsWhole) (arg21 : Memref sig .tc .vmem S8x3584 .f32) (harg21 : arg21.IsWhole) (arg22 : Memref sig .tc .vmem S64x3584 .f32) (harg22 : arg22.IsWhole) (arg23 : Memref sig .tc .vmem S64x3584 .f32) (harg23 : arg23.IsWhole) (arg24 : Memref sig .tc .vmem S64x3584 .f32) (harg24 : arg24.IsWhole) (arg25 : Memref sig .tc .vmem S64x3584 .f32) (harg25 : arg25.IsWhole) (arg26 : Memref sig .tc .vmem S1024x128 .f32) (harg26 : arg26.IsWhole) (arg27 : Memref sig .tc .vmem S1024x128 .f32) (harg27 : arg27.IsWhole) (hc0 : ¬cond0_0 i) (hc1 : ¬cond0_1 i) (hc2 : ¬cond0_2 i) (hc3 : ¬cond0_3 i)
    (x0 : Vec F S1024x8192 .bf16) (x1 : Vec F S1024x64 .bf16) (x2 : Vec F S8192x256 .bf16) (x3 : Vec F S64x256 .bf16) (x4 : Vec F S1024x256 .f32) (x5 : Vec F S1024x256 .f32) (x6 : Vec F S1024x256 .bf16) (x7 : Vec F S1x256 .f32) (x8 : Vec F S1x256 .f32) (x9 : Vec F S1024x256 .bf16) (x10 : Vec F S256x128 .bf16) (x11 : Vec F S256x128 .bf16) (x12 : Vec F S64x8192 .bf16) (x13 : Vec F S64x256 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare (tileGate x0 x1 x2 x3 x4 x5 x7 x8) ∗ owns (c : Thread nD τ) arg17 fullShare (tileUp x0 x1 x2 x3 x4 x7 x8) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d)) -∗ K ⟨⟩))
          ⊢ wp frame (wpE (defs₀ (F := F)) Variants.none c none) E (cc0_down_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K := by
    intro E K
    simp only [cc0_down_bwd_eq_skeleton]; unfold cc0_down_bwd_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13
    sl_exec (disch := first | sl_exact hc0 | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; swap; · iexact H14
      ipureintro
      refine (View.read_writes_full _ _ _ _ _).trans ?_
      unfold kernelRun0_E.sl.r_7 kernelRun0_E.sl.r_6 kernelRun0_E.sl.r_5 kernelRun0_E.sl.r_4 kernelRun0_E.sl.r
      exact tileGate_congr (load_whole arg2 harg2 x0 _) (load_whole arg3 harg3 x1 _) (load_whole arg4 harg4 x2 _) (load_whole arg5 harg5 x3 _)
        (load_whole arg6 harg6 x4 _) (load_whole arg7 harg7 x5 _) (load_whole arg9 harg9 x7 _) (load_whole arg10 harg10 x8 _)
    isplitl [H15]
    · iexists _; isplitr; swap; · iexact H15
      ipureintro
      refine (View.read_writes_full _ _ _ _ _).trans ?_
      unfold kernelRun0_E.sl.r_7 kernelRun0_E.sl.r_4 kernelRun0_E.sl.r_1
      exact tileUp_congr (load_whole arg2 harg2 x0 _) (load_whole arg3 harg3 x1 _) (load_whole arg4 harg4 x2 _) (load_whole arg5 harg5 x3 _)
        (load_whole arg6 harg6 x4 _) (load_whole arg9 harg9 x7 _) (load_whole arg10 harg10 x8 _)
    isplitl [H16]
    · iexists _, _; isplitr; swap; · iexact H16
      ipureintro; rfl
    isplitl [H17]
    · iexists _, _; isplitr; swap; · iexact H17
      ipureintro; rfl
    isplitl [H18]
    · iexists _, _; isplitr; swap; · iexact H18
      ipureintro; rfl
    isplitl [H19]
    · iexists _, _; isplitr; swap; · iexact H19
      ipureintro; rfl
    isplitl [H20]
    · iexists _, _; isplitr; swap; · iexact H20
      ipureintro; rfl
    isplitl [H21]
    · iexists _, _; isplitr; swap; · iexact H21
      ipureintro; rfl
    isplitl [H22]
    · iexists _, _; isplitr; swap; · iexact H22
      ipureintro; rfl
    isplitl [H23]
    · iexists _, _; isplitr; swap; · iexact H23
      ipureintro; rfl
    isplitl [HS0]
    · iexists _, _; isplitr; swap; · iexact HS0
      ipureintro; rfl
    iexists _, _; isplitr; swap; · iexact HS1
    ipureintro; rfl

end Cert.DownBwdIdeal.Frame
-- ==== Proof.DownBwdIdeal.RunF.lean ====
module

public import proofs.«01_k».proof.Proof.DownBwdIdeal.Kit

/-! The call `down_bwd`: the body at the last point of a later row. -/

@[expose] public section

set_option maxRecDepth 16384

noncomputable section

namespace Cert.DownBwdIdeal.Frame

open Cert.DownBwdIdeal Cert.DownBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body at the last point of a later row: the two gradients are left at their values, the other outputs and the scratch at something. -/
theorem kernelRun0_F (c : Dev nD) (i : grid0.Coords) (arg2 : Memref sig .tc .vmem S1024x8192 .bf16) (harg2 : arg2.IsWhole) (arg3 : Memref sig .tc .vmem S1024x64 .bf16) (harg3 : arg3.IsWhole) (arg4 : Memref sig .tc .vmem S8192x256 .bf16) (harg4 : arg4.IsWhole) (arg5 : Memref sig .tc .vmem S64x256 .bf16) (harg5 : arg5.IsWhole) (arg6 : Memref sig .tc .vmem S1024x256 .f32) (harg6 : arg6.IsWhole) (arg7 : Memref sig .tc .vmem S1024x256 .f32) (harg7 : arg7.IsWhole) (arg8 : Memref sig .tc .vmem S1024x256 .bf16) (harg8 : arg8.IsWhole) (arg9 : Memref sig .tc .vmem S1x256 .f32) (harg9 : arg9.IsWhole) (arg10 : Memref sig .tc .vmem S1x256 .f32) (harg10 : arg10.IsWhole) (arg11 : Memref sig .tc .vmem S1024x256 .bf16) (harg11 : arg11.IsWhole) (arg12 : Memref sig .tc .vmem S256x128 .bf16) (harg12 : arg12.IsWhole) (arg13 : Memref sig .tc .vmem S256x128 .bf16) (harg13 : arg13.IsWhole) (arg14 : Memref sig .tc .vmem S64x8192 .bf16) (harg14 : arg14.IsWhole) (arg15 : Memref sig .tc .vmem S64x256 .f32) (harg15 : arg15.IsWhole) (arg16 : Memref sig .tc .vmem S1024x256 .bf16) (harg16 : arg16.IsWhole) (arg17 : Memref sig .tc .vmem S1024x256 .bf16) (harg17 : arg17.IsWhole) (arg18 : Memref sig .tc .vmem S1024x128 .bf16) (harg18 : arg18.IsWhole) (arg19 : Memref sig .tc .vmem S1024x1 .f32) (harg19 : arg19.IsWhole) (arg20 : Memref sig .tc .vmem S8x3584 .f32) (harg20 : arg20.IsWhole) (arg21 : Memref sig .tc .vmem S8x3584 .f32) (harg21 : arg21.IsWhole) (arg22 : Memref sig .tc .vmem S64x3584 .f32) (harg22 : arg22.IsWhole) (arg23 : Memref sig .tc .vmem S64x3584 .f32) (harg23 : arg23.IsWhole) (arg24 : Memref sig .tc .vmem S64x3584 .f32) (harg24 : arg24.IsWhole) (arg25 : Memref sig .tc .vmem S64x3584 .f32) (harg25 : arg25.IsWhole) (arg26 : Memref sig .tc .vmem S1024x128 .f32) (harg26 : arg26.IsWhole) (arg27 : Memref sig .tc .vmem S1024x128 .f32) (harg27 : arg27.IsWhole) (hc0 : ¬cond0_0 i) (hc1 : ¬cond0_1 i) (hc2 : ¬cond0_2 i) (hc3 : cond0_3 i)
    (x0 : Vec F S1024x8192 .bf16) (x1 : Vec F S1024x64 .bf16) (x2 : Vec F S8192x256 .bf16) (x3 : Vec F S64x256 .bf16) (x4 : Vec F S1024x256 .f32) (x5 : Vec F S1024x256 .f32) (x6 : Vec F S1024x256 .bf16) (x7 : Vec F S1x256 .f32) (x8 : Vec F S1x256 .f32) (x9 : Vec F S1024x256 .bf16) (x10 : Vec F S256x128 .bf16) (x11 : Vec F S256x128 .bf16) (x12 : Vec F S64x8192 .bf16) (x13 : Vec F S64x256 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare (tileGate x0 x1 x2 x3 x4 x5 x7 x8) ∗ owns (c : Thread nD τ) arg17 fullShare (tileUp x0 x1 x2 x3 x4 x7 x8) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d)) -∗ K ⟨⟩))
          ⊢ wp frame (wpE (defs₀ (F := F)) Variants.none c none) E (cc0_down_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K := by
    intro E K
    simp only [cc0_down_bwd_eq_skeleton]; unfold cc0_down_bwd_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13
    sl_exec (disch := first | sl_exact hc0 | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; swap; · iexact H14
      ipureintro
      refine (View.read_writes_full _ _ _ _ _).trans ?_
      unfold kernelRun0_F.sl.r_7 kernelRun0_F.sl.r_6 kernelRun0_F.sl.r_5 kernelRun0_F.sl.r_4 kernelRun0_F.sl.r
      exact tileGate_congr (load_whole arg2 harg2 x0 _) (load_whole arg3 harg3 x1 _) (load_whole arg4 harg4 x2 _) (load_whole arg5 harg5 x3 _)
        (load_whole arg6 harg6 x4 _) (load_whole arg7 harg7 x5 _) (load_whole arg9 harg9 x7 _) (load_whole arg10 harg10 x8 _)
    isplitl [H15]
    · iexists _; isplitr; swap; · iexact H15
      ipureintro
      refine (View.read_writes_full _ _ _ _ _).trans ?_
      unfold kernelRun0_F.sl.r_7 kernelRun0_F.sl.r_4 kernelRun0_F.sl.r_1
      exact tileUp_congr (load_whole arg2 harg2 x0 _) (load_whole arg3 harg3 x1 _) (load_whole arg4 harg4 x2 _) (load_whole arg5 harg5 x3 _)
        (load_whole arg6 harg6 x4 _) (load_whole arg9 harg9 x7 _) (load_whole arg10 harg10 x8 _)
    isplitl [H16]
    · iexists _, _; isplitr; swap; · iexact H16
      ipureintro; rfl
    isplitl [H17]
    · iexists _, _; isplitr; swap; · iexact H17
      ipureintro; rfl
    isplitl [H18]
    · iexists _, _; isplitr; swap; · iexact H18
      ipureintro; rfl
    isplitl [H19]
    · iexists _, _; isplitr; swap; · iexact H19
      ipureintro; rfl
    isplitl [H20]
    · iexists _, _; isplitr; swap; · iexact H20
      ipureintro; rfl
    isplitl [H21]
    · iexists _, _; isplitr; swap; · iexact H21
      ipureintro; rfl
    isplitl [H22]
    · iexists _, _; isplitr; swap; · iexact H22
      ipureintro; rfl
    isplitl [H23]
    · iexists _, _; isplitr; swap; · iexact H23
      ipureintro; rfl
    isplitl [HS0]
    · iexists _, _; isplitr; swap; · iexact HS0
      ipureintro; rfl
    iexists _, _; isplitr; swap; · iexact HS1
    ipureintro; rfl

end Cert.DownBwdIdeal.Frame
-- ==== Proof.DownBwdIdeal.Body.lean ====
module

public import proofs.«01_k».proof.Proof.DownBwdIdeal.RunA
public import proofs.«01_k».proof.Proof.DownBwdIdeal.RunB
public import proofs.«01_k».proof.Proof.DownBwdIdeal.RunC
public import proofs.«01_k».proof.Proof.DownBwdIdeal.RunD
public import proofs.«01_k».proof.Proof.DownBwdIdeal.RunE
public import proofs.«01_k».proof.Proof.DownBwdIdeal.RunF
public import Idealize.ShloMosaic.Lib.Claim

/-! The call `down_bwd`: the whole run. -/

@[expose] public section

set_option maxRecDepth 16384

noncomputable section

namespace Cert.DownBwdIdeal.Frame

open Cert.DownBwdIdeal Cert.DownBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's proof data -/

/-- The outputs whose contents are not stated. -/
def forgets0 : Fin 24 → Bool := fun w => w.val == 16 || w.val == 17 || w.val == 18 || w.val == 19 || w.val == 20 || w.val == 21 || w.val == 22 || w.val == 23

/-- What the gate gradient's block holds after a point. -/
def gateBlock (c : Dev nD) (t : Fin cfg0.N) : Vec F S1024x256 .bf16 :=
  tileGate (iblk m c 0 t) (iblk m c 1 t) (iblk m c 2 t) (iblk m c 3 t) (iblk m c 4 t) (iblk m c 5 t) (iblk m c 7 t) (iblk m c 8 t)

/-- What the up gradient's block holds after a point. -/
def upBlock (c : Dev nD) (t : Fin cfg0.N) : Vec F S1024x256 .bf16 :=
  tileUp (iblk m c 0 t) (iblk m c 1 t) (iblk m c 2 t) (iblk m c 3 t) (iblk m c 4 t) (iblk m c 7 t) (iblk m c 8 t)

/-- What the windows hold: the inputs their blocks, the two gradients their values. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => gateBlock m c t
    | ⟨15, _⟩ => upBlock m c t
    | ⟨16, h⟩ => Pipeline.Dat.unnamed (cfg := cfg0) ⟨16, h⟩ t
    | ⟨17, h⟩ => Pipeline.Dat.unnamed (cfg := cfg0) ⟨17, h⟩ t
    | ⟨18, h⟩ => Pipeline.Dat.unnamed (cfg := cfg0) ⟨18, h⟩ t
    | ⟨19, h⟩ => Pipeline.Dat.unnamed (cfg := cfg0) ⟨19, h⟩ t
    | ⟨20, h⟩ => Pipeline.Dat.unnamed (cfg := cfg0) ⟨20, h⟩ t
    | ⟨21, h⟩ => Pipeline.Dat.unnamed (cfg := cfg0) ⟨21, h⟩ t
    | ⟨22, h⟩ => Pipeline.Dat.unnamed (cfg := cfg0) ⟨22, h⟩ t
    | ⟨23, h⟩ => Pipeline.Dat.unnamed (cfg := cfg0) ⟨23, h⟩ t
    | ⟨_ + 24, h⟩ => absurd h (Nat.not_lt.2 (Nat.le_add_left _ _))
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_14 (c : Dev nD) (t : Fin cfg0.N) : (dats m 0 c).after 14 t = gateBlock m c t := by dsimp only [dats]
theorem after0_15 (c : Dev nD) (t : Fin cfg0.N) : (dats m 0 c).after 15 t = upBlock m c t := by dsimp only [dats]
theorem after0_13 (c : Dev nD) (t : Fin cfg0.N) : (dats m 0 c).after 13 t = iblk m c 13 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare d)
    ∗ (∃ d, owns (c : Thread nD τ) (ms0_17 t) fullShare d)
    ∗ (∃ d, owns (c : Thread nD τ) (ms0_18 t) fullShare d)
    ∗ (∃ d, owns (c : Thread nD τ) (ms0_19 t) fullShare d)
    ∗ (∃ d, owns (c : Thread nD τ) (ms0_20 t) fullShare d)
    ∗ (∃ d, owns (c : Thread nD τ) (ms0_21 t) fullShare d)
    ∗ (∃ d, owns (c : Thread nD τ) (ms0_22 t) fullShare d)
    ∗ (∃ d, owns (c : Thread nD τ) (ms0_23 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (∃ d, owns (c : Thread nD τ) (ms0_16 t) fullShare d)
    ∗ (∃ d, owns (c : Thread nD τ) (ms0_17 t) fullShare d)
    ∗ (∃ d, owns (c : Thread nD τ) (ms0_18 t) fullShare d)
    ∗ (∃ d, owns (c : Thread nD τ) (ms0_19 t) fullShare d)
    ∗ (∃ d, owns (c : Thread nD τ) (ms0_20 t) fullShare d)
    ∗ (∃ d, owns (c : Thread nD τ) (ms0_21 t) fullShare d)
    ∗ (∃ d, owns (c : Thread nD τ) (ms0_22 t) fullShare d)
    ∗ (∃ d, owns (c : Thread nD τ) (ms0_23 t) fullShare d))

/-- What the body needs at a point, buffer by buffer, and what it leaves to what follows it. -/
def pointPre (c : Dev nD) (t : Fin cfg0.N) (K : PUnit → sProp 𝕄) : sProp 𝕄 :=
  iprop(owns (c : Thread nD τ) (ms0_0 t) fullShare (iblk m c 0 t)
    ∗ owns (c : Thread nD τ) (ms0_1 t) fullShare (iblk m c 1 t)
    ∗ owns (c : Thread nD τ) (ms0_2 t) fullShare (iblk m c 2 t)
    ∗ owns (c : Thread nD τ) (ms0_3 t) fullShare (iblk m c 3 t)
    ∗ owns (c : Thread nD τ) (ms0_4 t) fullShare (iblk m c 4 t)
    ∗ owns (c : Thread nD τ) (ms0_5 t) fullShare (iblk m c 5 t)
    ∗ owns (c : Thread nD τ) (ms0_6 t) fullShare (iblk m c 6 t)
    ∗ owns (c : Thread nD τ) (ms0_7 t) fullShare (iblk m c 7 t)
    ∗ owns (c : Thread nD τ) (ms0_8 t) fullShare (iblk m c 8 t)
    ∗ owns (c : Thread nD τ) (ms0_9 t) fullShare (iblk m c 9 t)
    ∗ owns (c : Thread nD τ) (ms0_10 t) fullShare (iblk m c 10 t)
    ∗ owns (c : Thread nD τ) (ms0_11 t) fullShare (iblk m c 11 t)
    ∗ owns (c : Thread nD τ) (ms0_12 t) fullShare (iblk m c 12 t)
    ∗ owns (c : Thread nD τ) (ms0_13 t) fullShare (iblk m c 13 t)
    ∗ (∃ d, owns (c : Thread nD τ) (ms0_14 t) fullShare d)
    ∗ (∃ d, owns (c : Thread nD τ) (ms0_15 t) fullShare d)
    ∗ (∃ d, owns (c : Thread nD τ) (ms0_16 t) fullShare d)
    ∗ (∃ d, owns (c : Thread nD τ) (ms0_17 t) fullShare d)
    ∗ (∃ d, owns (c : Thread nD τ) (ms0_18 t) fullShare d)
    ∗ (∃ d, owns (c : Thread nD τ) (ms0_19 t) fullShare d)
    ∗ (∃ d, owns (c : Thread nD τ) (ms0_20 t) fullShare d)
    ∗ (∃ d, owns (c : Thread nD τ) (ms0_21 t) fullShare d)
    ∗ (∃ d, owns (c : Thread nD τ) (ms0_22 t) fullShare d)
    ∗ (∃ d, owns (c : Thread nD τ) (ms0_23 t) fullShare d)
    ∗ (∃ d, owns (c : Thread nD τ) scM0_0 fullShare d)
    ∗ (∃ d, owns (c : Thread nD τ) scM0_1 fullShare d)
    ∗ (iprop(owns (c : Thread nD τ) (ms0_0 t) fullShare (iblk m c 0 t)
    ∗ owns (c : Thread nD τ) (ms0_1 t) fullShare (iblk m c 1 t)
    ∗ owns (c : Thread nD τ) (ms0_2 t) fullShare (iblk m c 2 t)
    ∗ owns (c : Thread nD τ) (ms0_3 t) fullShare (iblk m c 3 t)
    ∗ owns (c : Thread nD τ) (ms0_4 t) fullShare (iblk m c 4 t)
    ∗ owns (c : Thread nD τ) (ms0_5 t) fullShare (iblk m c 5 t)
    ∗ owns (c : Thread nD τ) (ms0_6 t) fullShare (iblk m c 6 t)
    ∗ owns (c : Thread nD τ) (ms0_7 t) fullShare (iblk m c 7 t)
    ∗ owns (c : Thread nD τ) (ms0_8 t) fullShare (iblk m c 8 t)
    ∗ owns (c : Thread nD τ) (ms0_9 t) fullShare (iblk m c 9 t)
    ∗ owns (c : Thread nD τ) (ms0_10 t) fullShare (iblk m c 10 t)
    ∗ owns (c : Thread nD τ) (ms0_11 t) fullShare (iblk m c 11 t)
    ∗ owns (c : Thread nD τ) (ms0_12 t) fullShare (iblk m c 12 t)
    ∗ owns (c : Thread nD τ) (ms0_13 t) fullShare (iblk m c 13 t)
    ∗ owns (c : Thread nD τ) (ms0_14 t) fullShare (gateBlock m c t)
    ∗ owns (c : Thread nD τ) (ms0_15 t) fullShare (upBlock m c t)
    ∗ (∃ d, owns (c : Thread nD τ) (ms0_16 t) fullShare d)
    ∗ (∃ d, owns (c : Thread nD τ) (ms0_17 t) fullShare d)
    ∗ (∃ d, owns (c : Thread nD τ) (ms0_18 t) fullShare d)
    ∗ (∃ d, owns (c : Thread nD τ) (ms0_19 t) fullShare d)
    ∗ (∃ d, owns (c : Thread nD τ) (ms0_20 t) fullShare d)
    ∗ (∃ d, owns (c : Thread nD τ) (ms0_21 t) fullShare d)
    ∗ (∃ d, owns (c : Thread nD τ) (ms0_22 t) fullShare d)
    ∗ (∃ d, owns (c : Thread nD τ) (ms0_23 t) fullShare d)
    ∗ (∃ d, owns (c : Thread nD τ) scM0_0 fullShare d)
    ∗ (∃ d, owns (c : Thread nD τ) scM0_1 fullShare d)) -∗ K ⟨⟩))

set_option maxHeartbeats 4000000 in
/-- The body at any point: the six cases of its conditionals. -/
theorem body_point (c : Dev nD) (t : Fin cfg0.N) (K : PUnit → sProp 𝕄) :
    pointPre m c t K ⊢ wp frame (wpE (defs₀ (F := F)) Variants.none c none) Set.univ (bodyAt0 t) K := by
  unfold pointPre bodyAt0 gateBlock upBlock
  have hN : t.val < 168 := lt_of_lt_of_eq t.isLt (show cfg0.N = 168 from N_0)
  by_cases h1 : t.val % 14 = 0
  · have h3 : ¬t.val % 14 = 13 := by omega
    by_cases h2 : t.val < 14
    · have h0 : t.val % 168 = 0 := by omega
      exact kernelRun0_A c (grid0.coords t) _ _ _ _ _ _ _ _ _ _ _ _ _ _ _ _ _ _ _ _ _ _ _ _ _ _ _ _ _ _ _ _ _ _ _ _ _ _ _ _ _ _ _ _ _ _ _ _ _ _ _ _ ((hcond0_0 t).mpr h0) ((hcond0_1 t).mpr h1) ((hcond0_2 t).mpr h2) (fun h => h3 ((hcond0_3 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) Set.univ K
    · have h0 : ¬t.val % 168 = 0 := by omega
      exact kernelRun0_D c (grid0.coords t) _ _ _ _ _ _ _ _ _ _ _ _ _ _ _ _ _ _ _ _ _ _ _ _ _ _ _ _ _ _ _ _ _ _ _ _ _ _ _ _ _ _ _ _ _ _ _ _ _ _ _ _ (fun h => h0 ((hcond0_0 t).mp h)) ((hcond0_1 t).mpr h1) (fun h => h2 ((hcond0_2 t).mp h)) (fun h => h3 ((hcond0_3 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) Set.univ K
  · have h0 : ¬t.val % 168 = 0 := by omega
    by_cases h2 : t.val < 14
    · by_cases h3 : t.val % 14 = 13
      · exact kernelRun0_C c (grid0.coords t) _ _ _ _ _ _ _ _ _ _ _ _ _ _ _ _ _ _ _ _ _ _ _ _ _ _ _ _ _ _ _ _ _ _ _ _ _ _ _ _ _ _ _ _ _ _ _ _ _ _ _ _ (fun h => h0 ((hcond0_0 t).mp h)) (fun h => h1 ((hcond0_1 t).mp h)) ((hcond0_2 t).mpr h2) ((hcond0_3 t).mpr h3) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) Set.univ K
      · exact kernelRun0_B c (grid0.coords t) _ _ _ _ _ _ _ _ _ _ _ _ _ _ _ _ _ _ _ _ _ _ _ _ _ _ _ _ _ _ _ _ _ _ _ _ _ _ _ _ _ _ _ _ _ _ _ _ _ _ _ _ (fun h => h0 ((hcond0_0 t).mp h)) (fun h => h1 ((hcond0_1 t).mp h)) ((hcond0_2 t).mpr h2) (fun h => h3 ((hcond0_3 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) Set.univ K
    · by_cases h3 : t.val % 14 = 13
      · exact kernelRun0_F c (grid0.coords t) _ _ _ _ _ _ _ _ _ _ _ _ _ _ _ _ _ _ _ _ _ _ _ _ _ _ _ _ _ _ _ _ _ _ _ _ _ _ _ _ _ _ _ _ _ _ _ _ _ _ _ _ (fun h => h0 ((hcond0_0 t).mp h)) (fun h => h1 ((hcond0_1 t).mp h)) (fun h => h2 ((hcond0_2 t).mp h)) ((hcond0_3 t).mpr h3) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) Set.univ K
      · exact kernelRun0_E c (grid0.coords t) _ _ _ _ _ _ _ _ _ _ _ _ _ _ _ _ _ _ _ _ _ _ _ _ _ _ _ _ _ _ _ _ _ _ _ _ _ _ _ _ _ _ _ _ _ _ _ _ _ _ _ _ (fun h => h0 ((hcond0_0 t).mp h)) (fun h => h1 ((hcond0_1 t).mp h)) (fun h => h2 ((hcond0_2 t).mp h)) (fun h => h3 ((hcond0_3 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) Set.univ K

set_option maxHeartbeats 4000000 in
/-- The body at any point, as the pipeline calls it. -/
theorem sound_body (c : Dev nD) (t : Fin cfg0.N) :
    bodyPre m c t ⊢ wp frame (wpE (defs₀ (F := F)) Variants.none c none) Set.univ (bodyAt0 t) (fun _ => bodyPost m c t) := by
  refine BIBase.Entails.trans ?_ (body_point m c t _)
  unfold bodyPre bodyPost pointPre
  simp only [before0_0, before0_1, before0_2, before0_3, before0_4, before0_5, before0_6, before0_7, before0_8, before0_9, before0_10, before0_11, before0_12, before0_13]
  rw [show (dats m 0 c).Φ t.succ = Pipeline.ΦA spec0 c from rfl, show (dats m 0 c).Φ t.castSucc = Pipeline.ΦA spec0 c from rfl, PhiA0_eq,
    show (dats m 0 c).owesAt () t.succ = (dats m 0 c).owesAt () t.castSucc from rfl]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t], after0_6]
  rw [show (dats m 0 c).leavesExact 7 t = owns (c : Thread nD τ) (ms0_7 t) fullShare ((dats m 0 c).after 7 t) from by
    unfold Dat.leavesExact; rw [liveAt0_7 t], after0_7]
  rw [show (dats m 0 c).leavesExact 8 t = owns (c : Thread nD τ) (ms0_8 t) fullShare ((dats m 0 c).after 8 t) from by
    unfold Dat.leavesExact; rw [liveAt0_8 t], after0_8]
  rw [show (dats m 0 c).leavesExact 9 t = owns (c : Thread nD τ) (ms0_9 t) fullShare ((dats m 0 c).after 9 t) from by
    unfold Dat.leavesExact; rw [liveAt0_9 t], after0_9]
  rw [show (dats m 0 c).leavesExact 10 t = owns (c : Thread nD τ) (ms0_10 t) fullShare ((dats m 0 c).after 10 t) from by
    unfold Dat.leavesExact; rw [liveAt0_10 t], after0_10]
  rw [show (dats m 0 c).leavesExact 11 t = owns (c : Thread nD τ) (ms0_11 t) fullShare ((dats m 0 c).after 11 t) from by
    unfold Dat.leavesExact; rw [liveAt0_11 t], after0_11]
  rw [show (dats m 0 c).leavesExact 12 t = owns (c : Thread nD τ) (ms0_12 t) fullShare ((dats m 0 c).after 12 t) from by
    unfold Dat.leavesExact; rw [liveAt0_12 t], after0_12]
  rw [show (dats m 0 c).leavesExact 13 t = owns (c : Thread nD τ) (ms0_13 t) fullShare ((dats m 0 c).after 13 t) from by
    unfold Dat.leavesExact; rw [liveAt0_13 t], after0_13]
  rw [show (dats m 0 c).leavesExact 14 t = owns (c : Thread nD τ) (ms0_14 t) fullShare ((dats m 0 c).after 14 t) from by
    unfold Dat.leavesExact; rw [liveAt0_14 t], after0_14]
  rw [show (dats m 0 c).leavesExact 15 t = owns (c : Thread nD τ) (ms0_15 t) fullShare ((dats m 0 c).after 15 t) from by
    unfold Dat.leavesExact; rw [liveAt0_15 t], after0_15]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  isplitl [H22]; · iexists _; iexact H22
  isplitl [H23]; · iexists _; iexact H23
  isplitl [HS0]; · iexact HS0
  isplitl [HS1]; · iexact HS1
  iintro ⟨H0, H1, H2, H3, H4, H5, H6, H7, H8, H9, H10, H11, H12, H13, H14, H15, H16, H17, H18, H19, H20, H21, H22, H23, HS0, HS1⟩
  isplitl [HS0 HS1 Hg]
  · isplitl [HS0 HS1]
    · isplitl [HS0]; · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  iexact H23

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

set_option backward.isDefEq.respectTransparency.types false in
/-- Every execution ends with the arrays as the data say and every semaphore counter at zero. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- Every execution ends with the arrays as the data say. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- Every execution leaves the arguments as they were. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  frame_of m ρ (fun c => (dats m 0 c).toRForget forgets0) (A_eq m) (run_main m ρ)

/-- Every execution ends, with the arguments as they were and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13))
      ∧ r.2.sem = fun _ => 0) :=
  θ_run_and (unchanged m ρ) ((θ_run defs _ _).mono (fun _ h => h.2) (run_main_quiescent m ρ))

end Cert.DownBwdIdeal.Frame
-- ==== Proof.DownBwdIdeal.Payload.lean ====
module

public import proofs.«01_k».proof.Proof.DownBwdIdeal.Kit
public import proofs.«01_k».proof.Proof.Gen.DownBwdRefIdeal.Read
public import Idealize.ShloMosaic.Lib.Pipeline.ValueKit

/-! The call `down_backward`: the functions it computes, what one grid point computes, and the reference, element by element. -/

@[expose] public section

set_option maxRecDepth 16384

noncomputable section

open Idealize.ShloMosaic Idealize.ShloMosaic.TcCoe Idealize.SL.Sem
open scoped BigOperators

namespace Cert.DownBwdIdeal.Value

open Cert.DownBwdIdeal Cert.DownBwdIdeal.Gen Cert.DownBwdIdeal.Frame

/-- The gradient at the activation: the product by the frozen weight and the product by the adapter. -/
def dact (G : FVec Ideal S12288x8192 .bf16) (S : FVec Ideal S12288x64 .bf16) (W : FVec Ideal S8192x3584 .bf16)
    (A : FVec Ideal S64x3584 .bf16) (i : Fin 12288) (o : Fin 3584) : EReal :=
  ((∑ k : Fin 8192, G (ix2 i k) * W (ix2 k o)) + ∑ k : Fin 64, S (ix2 i k) * A (ix2 k o) : Ideal .f32)

/-- The gradient at the gate projection's unscaled output. -/
def gateGrad (G : FVec Ideal S12288x8192 .bf16) (S : FVec Ideal S12288x64 .bf16) (W : FVec Ideal S8192x3584 .bf16)
    (A : FVec Ideal S64x3584 .bf16) (UG UU : FVec Ideal S12288x3584 .f32) (RG RU : FVec Ideal S1x3584 .f32) :
    FVec Ideal S12288x3584 .bf16 :=
  fun j => (dact G S W A (j 0) (j 1) * Ideal.logistic (RG (ix2 0 (j 1)) * UG j) * (RU (ix2 0 (j 1)) * UU j)
    * (1 + RG (ix2 0 (j 1)) * UG j * (1 - Ideal.logistic (RG (ix2 0 (j 1)) * UG j))) * RG (ix2 0 (j 1)) : Ideal .bf16)

/-- The gradient at the up projection's unscaled output. -/
def upGrad (G : FVec Ideal S12288x8192 .bf16) (S : FVec Ideal S12288x64 .bf16) (W : FVec Ideal S8192x3584 .bf16)
    (A : FVec Ideal S64x3584 .bf16) (UG : FVec Ideal S12288x3584 .f32) (RG RU : FVec Ideal S1x3584 .f32) :
    FVec Ideal S12288x3584 .bf16 :=
  fun j => (dact G S W A (j 0) (j 1) * Ideal.logistic (RG (ix2 0 (j 1)) * UG j) * (RG (ix2 0 (j 1)) * UG j) * RU (ix2 0 (j 1)) : Ideal .bf16)

/-- The product of the operands laid side by side is the sum of the two products. -/
theorem joined_sum (g : FVec Ideal S1024x8192 .bf16) (s : FVec Ideal S1024x64 .bf16) (w : FVec Ideal S8192x256 .bf16)
    (a : FVec Ideal S64x256 .bf16) (h h') (i : Fin 1024) (o : Fin 256) :
    (∑ k : Fin 8256, (concatenate S1024x8256 1 [⟨S1024x8192, g⟩, ⟨S1024x64, s⟩] h : FVec Ideal S1024x8256 .bf16) (ix2 i k)
        * (concatenate S8256x256 0 [⟨S8192x256, w⟩, ⟨S64x256, a⟩] h' : FVec Ideal S8256x256 .bf16) (ix2 k o))
      = (∑ k : Fin 8192, g (ix2 i k) * w (ix2 k o)) + ∑ k : Fin 64, s (ix2 i k) * a (ix2 k o) := by
  rw [Fin.sum_univ_two_halves 8192 64 rfl]
  refine congrArg₂ (· + ·) ?_ ?_
  all_goals
    refine Finset.sum_congr rfl fun k _ => ?_
    pointwise []

theorem pay14 (g : FVec Ideal S1024x8192 .bf16) (s : FVec Ideal S1024x64 .bf16) (w : FVec Ideal S8192x256 .bf16)
    (a : FVec Ideal S64x256 .bf16) (ug : FVec Ideal S1024x256 .f32) (rg : FVec Ideal S1x256 .f32) (j : S1024x256.Idx) :
    k0_pay14 (F := Ideal) g s w a rg ug j
      = (((∑ k : Fin 8192, g (ix2 (j 0) k) * w (ix2 k (j 1))) + ∑ k : Fin 64, s (ix2 (j 0) k) * a (ix2 k (j 1)))
        * Ideal.logistic (rg (ix2 0 (j 1)) * ug j) : Ideal .f32) := by
  rw [← joined_sum g s w a Gen.concatenates_S1024x8192_S1024x64_S1024x8256_d1
    Gen.concatenates_S8192x256_S64x256_S8256x256_d0 (j 0) (j 1)]
  pointwise [k0_pay14, k0_pay13, k0_pay11]

theorem pay_gate (g : FVec Ideal S1024x8192 .bf16) (s : FVec Ideal S1024x64 .bf16) (w : FVec Ideal S8192x256 .bf16)
    (a : FVec Ideal S64x256 .bf16) (ug uu : FVec Ideal S1024x256 .f32) (rg ru : FVec Ideal S1x256 .f32) (j : S1024x256.Idx) :
    tileGate (F := Ideal) g s w a ug uu rg ru j
      = (((∑ k : Fin 8192, g (ix2 (j 0) k) * w (ix2 k (j 1))) + ∑ k : Fin 64, s (ix2 (j 0) k) * a (ix2 k (j 1)))
        * Ideal.logistic (rg (ix2 0 (j 1)) * ug j) * (ru (ix2 0 (j 1)) * uu j)
        * (1 + rg (ix2 0 (j 1)) * ug j * (1 - Ideal.logistic (rg (ix2 0 (j 1)) * ug j))) * rg (ix2 0 (j 1)) : Ideal .bf16) := by
  rw [← pay14 g s w a ug rg j]
  pointwise [k0_pay19, k0_pay16, k0_pay13, k0_pay12, k0_pay11]

theorem pay_up (g : FVec Ideal S1024x8192 .bf16) (s : FVec Ideal S1024x64 .bf16) (w : FVec Ideal S8192x256 .bf16)
    (a : FVec Ideal S64x256 .bf16) (ug : FVec Ideal S1024x256 .f32) (rg ru : FVec Ideal S1x256 .f32) (j : S1024x256.Idx) :
    tileUp (F := Ideal) g s w a ug rg ru j
      = (((∑ k : Fin 8192, g (ix2 (j 0) k) * w (ix2 k (j 1))) + ∑ k : Fin 64, s (ix2 (j 0) k) * a (ix2 k (j 1)))
        * Ideal.logistic (rg (ix2 0 (j 1)) * ug j) * (rg (ix2 0 (j 1)) * ug j) * ru (ix2 0 (j 1)) : Ideal .bf16) := by
  rw [← pay14 g s w a ug rg j]
  pointwise [k0_pay20, k0_pay15, k0_pay11]

open Cert.DownBwdRefIdeal.Read

/-- The reference's gradient at the activation. -/
theorem ref_dact (G : FVec Ideal S12288x8192 .bf16) (S : FVec Ideal S12288x64 .bf16) (W : FVec Ideal S8192x3584 .bf16)
    (A : FVec Ideal S64x3584 .bf16) (j : S12288x3584.Idx) : val_main_v6 (F := Ideal) G S W A j = dact G S W A (j 0) (j 1) := by
  unfold dact
  pointwise [val_main_v6, val_main_v5, val_main_v4]

/-- The reference's sigmoid. -/
theorem ref_sigmoid (UG : FVec Ideal S12288x3584 .f32) (RG : FVec Ideal S1x3584 .f32) (j : S12288x3584.Idx) :
    val_main_v12 (F := Ideal) UG RG j = Ideal.logistic (RG (ix2 0 (j 1)) * UG j) := by
  idx_vars j
  unfold Ideal.logistic
  pointwise [val_main_v12, val_main_v11, val_main_v10, val_main_v9, val_main_v8, val_main_v7, val_main_v1, val_main_v0, val_main_cst, val_main_cst_0]

theorem ref_gate (G : FVec Ideal S12288x8192 .bf16) (S : FVec Ideal S12288x64 .bf16) (W : FVec Ideal S8192x3584 .bf16)
    (A : FVec Ideal S64x3584 .bf16) (UG UU : FVec Ideal S12288x3584 .f32) (RG RU : FVec Ideal S1x3584 .f32) :
    val_main_v25 (F := Ideal) G S W A UG UU RG RU = gateGrad G S W A UG UU RG RU := by
  funext j
  unfold gateGrad
  rw [← ref_dact, ← ref_sigmoid UG RG j, mul_right_comm (val_main_v6 (F := Ideal) G S W A j)]
  pointwise [val_main_v25, val_main_v24, val_main_v23, val_main_v22, val_main_v21, val_main_v20, val_main_v19, val_main_v18, val_main_v17, val_main_v16, val_main_v15, val_main_v3, val_main_v2, val_main_v1, val_main_v0, val_main_cst_1, val_main_cst_2]

theorem ref_up (G : FVec Ideal S12288x8192 .bf16) (S : FVec Ideal S12288x64 .bf16) (W : FVec Ideal S8192x3584 .bf16)
    (A : FVec Ideal S64x3584 .bf16) (UG : FVec Ideal S12288x3584 .f32) (RG RU : FVec Ideal S1x3584 .f32) :
    val_main_v28 (F := Ideal) G S W A UG RG RU = upGrad G S W A UG RG RU := by
  funext j
  unfold upGrad
  rw [← ref_dact, ← ref_sigmoid UG RG j, mul_right_comm (val_main_v6 (F := Ideal) G S W A j)]
  pointwise [val_main_v28, val_main_v27, val_main_v26, val_main_v14, val_main_v13, val_main_v2, val_main_v1, val_main_v0]

end Cert.DownBwdIdeal.Value
-- ==== Proof.DownBwdIdeal.Final.lean ====
module

public import proofs.«01_k».proof.Proof.DownBwdIdeal.Body
public import proofs.«01_k».proof.Proof.DownBwdIdeal.Payload

/-! The call `down_backward`: what its two gradient arrays hold after the run, as functions of the arrays it reads. -/

@[expose] public section

set_option maxRecDepth 16384

noncomputable section

open Idealize.ShloMosaic Idealize.ShloMosaic.TcCoe Idealize.SL.Sem
open Idealize.ShloMosaic.Pipeline (Dat)
open scoped BigOperators

namespace Cert.DownBwdIdeal.Value

open Cert.DownBwdIdeal Cert.DownBwdIdeal.Gen Cert.DownBwdIdeal.Frame

variable (m : (ℓ : Loc nD τ sig) → Buf (Elt Ideal) ℓ)

/-- The block index of every window the two gradients depend on, at a grid point. -/
theorem idx : ∀ t : Fin cfg0.N, win0_0.index t = ![t.val / 14, 0] ∧ win0_1.index t = ![t.val / 14, 0]
    ∧ win0_2.index t = ![0, t.val % 14] ∧ win0_3.index t = ![0, t.val % 14]
    ∧ win0_4.index t = ![t.val / 14, t.val % 14] ∧ win0_5.index t = ![t.val / 14, t.val % 14]
    ∧ win0_7.index t = ![0, t.val % 14] ∧ win0_8.index t = ![0, t.val % 14]
    ∧ win0_14.index t = ![t.val / 14, t.val % 14] ∧ win0_15.index t = ![t.val / 14, t.val % 14] :=
  (by decide +kernel : ∀ t : Fin grid0.N, _)

theorem sub_congr {a b x y : EReal} (h : a = x) (h' : b = y) : a - b = x - y := congrArg₂ (· - ·) h h'

theorem logistic_congr {a x : EReal} (h : a = x) : Ideal.logistic a = Ideal.logistic x := congrArg Ideal.logistic h

theorem final14 (c : Dev nD) : (dats m 0 c).arrAt 14 cfg0.N
    = gateGrad (V m c main_arg0) (V m c main_arg1) (V m c main_arg2) (V m c main_arg3) (V m c main_arg4) (V m c main_arg5)
        (V m c main_arg7) (V m c main_arg8) := by
  refine (dats m 0 c).arrAt_eq_of_covers 14 _ (by decide +kernel) fun t hf y => ?_
  blk_simp
  rw [after0_14, gateBlock, pay_gate]
  unfold gateGrad dact
  refine Ideal.mul_congr (Ideal.mul_congr (Ideal.mul_congr (Ideal.mul_congr (Ideal.add_congr
    (Fin.sum_fin_congr fun k => Ideal.mul_congr ?_ ?_) (Fin.sum_fin_congr fun k => Ideal.mul_congr ?_ ?_))
    (logistic_congr (Ideal.mul_congr ?_ ?_))) (Ideal.mul_congr ?_ ?_))
    (Ideal.add_congr rfl (Ideal.mul_congr (Ideal.mul_congr ?_ ?_) (sub_congr rfl (logistic_congr (Ideal.mul_congr ?_ ?_)))))) ?_
  all_goals blk_point [iblk, idx t]

theorem final15 (c : Dev nD) : (dats m 0 c).arrAt 15 cfg0.N
    = upGrad (V m c main_arg0) (V m c main_arg1) (V m c main_arg2) (V m c main_arg3) (V m c main_arg4)
        (V m c main_arg7) (V m c main_arg8) := by
  refine (dats m 0 c).arrAt_eq_of_covers 15 _ (by decide +kernel) fun t hf y => ?_
  blk_simp
  rw [after0_15, upBlock, pay_up]
  unfold upGrad dact
  refine Ideal.mul_congr (Ideal.mul_congr (Ideal.mul_congr (Ideal.add_congr
    (Fin.sum_fin_congr fun k => Ideal.mul_congr ?_ ?_) (Fin.sum_fin_congr fun k => Ideal.mul_congr ?_ ?_))
    (logistic_congr (Ideal.mul_congr ?_ ?_))) (Ideal.mul_congr ?_ ?_)) ?_
  all_goals blk_point [iblk, idx t]

/-- The gradient at the gate projection, of the arrays as given. -/
theorem result_gate (c : Dev nD) : (dats m 0 c).arrAt 14 cfg0.N = Cert.DownBwdRefIdeal.Read.val_main_v25 (F := Ideal)
    (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg7)) (m ((c : Thread nD τ).loc main_arg8)) := by
  refine (final14 m c).trans ?_
  rw [V_main_arg0, V_main_arg1, V_main_arg2, V_main_arg3, V_main_arg4, V_main_arg5, V_main_arg7, V_main_arg8]
  exact (ref_gate _ _ _ _ _ _ _ _).symm

/-- The gradient at the up projection, of the arrays as given. -/
theorem result_up (c : Dev nD) : (dats m 0 c).arrAt 15 cfg0.N = Cert.DownBwdRefIdeal.Read.val_main_v28 (F := Ideal)
    (m ((c : Thread nD τ).loc main_arg0)) (m ((c : Thread nD τ).loc main_arg1)) (m ((c : Thread nD τ).loc main_arg2))
    (m ((c : Thread nD τ).loc main_arg3)) (m ((c : Thread nD τ).loc main_arg4))
    (m ((c : Thread nD τ).loc main_arg7)) (m ((c : Thread nD τ).loc main_arg8)) := by
  refine (final15 m c).trans ?_
  rw [V_main_arg0, V_main_arg1, V_main_arg2, V_main_arg3, V_main_arg4, V_main_arg7, V_main_arg8]
  exact (ref_up _ _ _ _ _ _ _).symm

end Cert.DownBwdIdeal.Value
-- ==== Proof.DownBwdIdeal.Claim.lean ====
module

public import proofs.«01_k».proof.Proof.DownBwdIdeal.Final
public import proofs.«01_k».proof.Proof.Gen.DownBwdRefIdeal.Run
public import proofs.«01_k».proof.Defs

/-! The call `down_backward`: its frame of the reference and the equality of the results over the extended reals. -/

@[expose] public section

set_option maxRecDepth 16384

noncomputable section

open Idealize.ShloMosaic Idealize.ShloMosaic.TcCoe Idealize.SL.Sem
open Idealize.ShloMosaic.Pipeline (Dat)

namespace Cert.DownBwdIdeal.Value

open Cert.DownBwdIdeal Cert.DownBwdIdeal.Gen Cert.DownBwdIdeal.Frame

variable (m : (ℓ : Loc nD τ sig) → Buf (Elt Ideal) ℓ) (ρ : Dev nD → PrngReg)

set_option maxHeartbeats 4000000 in
/-- Every execution ends with the two gradients at their values. -/
theorem run_grads : θ_run defs (onTc (τ := τ) (main (F := Ideal))) ⟨m, fun _ => 0, ρ⟩ (fun r => ∀ c : Dev nD,
    r.2.mem ((c.tc : Thread nD τ).loc main_v3_0) = (dats m 0 c).arrAt 14 cfg0.N
    ∧ r.2.mem ((c.tc : Thread nD τ).loc main_v3_1) = (dats m 0 c).arrAt 15 cfg0.N) :=
  (θ_run defs _ _).mono (fun _ h c => ⟨((dats m 0 c).toRForget_arrAt_iff (fgt := forgets0) rfl _ _).mp ((h c).1 14),
    ((dats m 0 c).toRForget_arrAt_iff (fgt := forgets0) rfl _ _).mp ((h c).1 15)⟩) (run_main m ρ)

/-- The reference runs, leaves its arguments unchanged and every semaphore counter at zero. -/
theorem frame_ref : Cert.quiescent_DownBwdRefIdeal := by
  intro m g _
  hlo_run
  · exact fun _ => ⟨trivial, trivial, trivial, trivial, trivial, trivial, trivial, trivial, trivial, trivial, trivial, trivial, trivial, trivial⟩
  · exact sem_eq_zero_of_no_sems (sig := Cert.DownBwdRefIdeal.sig) (by decide) _

open Cert.DownBwdRefIdeal.Read in
set_option maxHeartbeats 1600000 in
/-- The call and the reference end with equal results over the extended reals. -/
theorem algebraic : Cert.algebraic_DownBwdIdeal_DownBwdRefIdeal := by
  pair_intro
  · run_from θ_run_and (run_grads m g) (unchanged m g)
  · run_from Cert.DownBwdRefIdeal.Value.run m' g'
    · exact (val_main_v25_eq _ _ _ _ _ _ _ _).trans (result_gate m c).symm
    · exact (val_main_v28_eq _ _ _ _ _ _ _).trans (result_up m c).symm

end Cert.DownBwdIdeal.Value
-- ==== Proof.Common.Four.lean ====
module

public import proofs.«01_k».proof.Proof.Common.Scale

/-! Four times the scale, three eighths, is three halves. -/

@[expose] public section

noncomputable section

open Idealize.ShloMosaic

namespace Cert.Scale

/-- Three halves is three eighths of four. -/
theorem scale_four (x : EReal) : Ideal.ofBits .f32 0x3FC00000#32 * x
    = Ideal.ofBits .f32 0x3EC00000#32 * (Ideal.ofBits .f32 0x40800000#32 * x) := by
  rw [← mul_assoc]
  congr 1
  simp [Ideal.ofBits, Ideal.ieee]
  norm_num
  repeat rw [← EReal.coe_mul]
  norm_num

end Cert.Scale
-- ==== Proof.NormGradIdeal.Payload.lean ====
module

public import proofs.«01_k».proof.Proof.Gen.NormGradIdeal.Skeleton
public import proofs.«01_k».proof.Proof.Gen.NormGradRefIdeal.Read
public import proofs.«01_k».proof.Proof.Common.Four
public import Idealize.ShloMosaic.Lib.Pipeline.ValueKit

/-! The call `norm_grad` of the gate projection: what it computes of whole arrays is what the reference computes. -/

@[expose] public section

set_option maxRecDepth 16384

noncomputable section

open Idealize.ShloMosaic Idealize.ShloMosaic.TcCoe Idealize.SL.Sem
open scoped BigOperators

namespace Cert.NormGradIdeal.Value

open Cert.NormGradIdeal Cert.NormGradIdeal.Gen
open Cert.NormGradRefIdeal.Read

variable (P : FVec Ideal S8x3584 .f32) (N : FVec Ideal S1x3584 .f32) (M : FVec Ideal S3584 .f32) (B : FVec Ideal S3584x64 .bf16)
  (Q G T : FVec Ideal S64x3584 .f32) (A : FVec Ideal S64x8192 .bf16)

/-- The magnitude as one row. -/
abbrev row : FVec Ideal S1x3584 .f32 := shapeCast S1x3584 M Gen.shapeCasts_S3584_S1x3584

/-- The low-rank factor transposed. -/
abbrev tr : FVec Ideal S64x3584 .bf16 := transpose S64x3584 [1, 0] B Gen.transposes_S3584x64_S64x3584_1_0

/-- The norm, with one in the place of zero. -/
theorem pay_safe : k0_pay3 (F := Ideal) N = val_main_v2 (F := Ideal) N := by
  funext j
  idx_vars j
  pointwise [k0_pay3, val_main_v2, val_main_v1, val_main_v0, val_main_cst, val_main_cst_0, val_main_call0_v0, val_main_call0_v1, id]

/-- The gradient of the magnitude. -/
theorem pay_dmag : k0_pay4 (F := Ideal) N P = val_main_v5 (F := Ideal) P N := by
  unfold k0_pay4 val_main_v5
  rw [pay_safe]
  funext j
  idx_vars j
  pointwise [val_main_v4, val_main_v3, val_main_cst_1]

/-- The norm's part of the gradients, one factor for every column. -/
theorem pay_factor : k0_pay5 (F := Ideal) N P (row M) = val_main_v12 (F := Ideal) P N M := by
  unfold k0_pay5 val_main_v12
  rw [pay_safe, pay_dmag]
  funext j
  idx_vars j
  pointwise [val_main_v11, val_main_v10, val_main_v9, val_main_v8, val_main_v7, val_main_v6, val_main_cst_2]
  rw [sub_eq_add_neg, zero_add]

/-- The factor times the transposed low-rank factor. -/
theorem pay_eb32 : k0_pay8 (F := Ideal) N P (row M) (tr B) = val_main_v28 (F := Ideal) P N M B := by
  unfold k0_pay8
  rw [pay_factor]
  funext j
  idx_vars j
  pointwise [k0_pay6, val_main_v28, val_main_v23, val_main_v22, val_main_v21, val_main_v13]

/-- The same, rounded. -/
theorem pay_eb : k0_pay9 (F := Ideal) N P (row M) (tr B) = val_main_v29 (F := Ideal) P N M B := by
  unfold k0_pay9 val_main_v29
  rw [pay_eb32]

/-- The low-rank factor's gradient through the norm. -/
theorem pay_dbn : k0_pay7 (F := Ideal) N P (row M) Q G = val_main_v20 (F := Ideal) P N M Q G := by
  unfold k0_pay7 val_main_v20
  rw [pay_factor]
  funext j
  idx_vars j
  pointwise [val_main_v19, val_main_v18, val_main_v17, val_main_v16, val_main_v15, val_main_v14, val_main_cst_3, val_main_cst_4]

/-- The low-rank factor's gradient. -/
theorem pay_db : k0_pay1 (F := Ideal) (k0_pay7 (F := Ideal) N P (row M) Q G) T = val_main_v34 (F := Ideal) P N M Q G T := by
  rw [pay_dbn]
  funext j
  refine (congrArg (· + val_main_v20 (F := Ideal) P N M Q G j) (Cert.Scale.scale_four (T j))).trans ?_
  pointwise [val_main_v34, val_main_v33, val_main_v32, val_main_v31, val_main_v30, val_main_cst_5, val_main_cst_6]

/-- The product of the low-rank factor, its gradient and the adapter. -/
theorem pay_ma : k0_pay2 (F := Ideal) (k0_pay6 (F := Ideal) (tr B)) (k0_pay8 (F := Ideal) N P (row M) (tr B)) A
    = val_main_v27 (F := Ideal) P N M B A := by
  rw [pay_eb32]
  funext j
  idx_vars j
  pointwise [k0_pay2, k0_pay6, val_main_v28, val_main_v27, val_main_v26, val_main_v25, val_main_v24, val_main_v13]

end Cert.NormGradIdeal.Value
-- ==== Proof.NormGradIdeal.Final.lean ====
module

public import proofs.«01_k».proof.Proof.NormGradIdeal.Payload
public import proofs.«01_k».proof.Proof.Gen.NormGradIdeal.Frame
public import Idealize.ShloMosaic.Lib.Pipeline.ValueKit

/-! The call `norm_grad` of the gate projection: what its five result arrays hold after the run. Its grid has one point
and every block is a whole array. -/

@[expose] public section

set_option maxRecDepth 16384

noncomputable section

open Idealize.ShloMosaic Idealize.ShloMosaic.TcCoe Idealize.SL.Sem
open Idealize.ShloMosaic.Pipeline (Dat)
open scoped BigOperators

namespace Cert.NormGradIdeal.Value

open Cert.NormGradIdeal Cert.NormGradIdeal.Gen
open Cert.NormGradRefIdeal.Read

variable (m : (ℓ : Loc nD τ sig) → Buf (Elt Ideal) ℓ)

/-- Every window's block is the first one. -/
theorem idx : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![0, 0]
    ∧ win0_11.index t = ![0, 0] ∧ win0_12.index t = ![0, 0] :=
  (by decide +kernel : ∀ t : Fin grid0.N, _)

/-- The magnitude the kernel reads is the argument as one row. -/
theorem V_row (c : Dev nD) : V m c main_v0 = row (m ((c : Thread nD τ).loc main_arg2)) := by
  unfold V; after_results; try rfl

/-- The low-rank factor the kernel reads is the argument transposed. -/
theorem V_tr (c : Dev nD) : V m c main_v1 = tr (m ((c : Thread nD τ).loc main_arg3)) := by
  unfold V; after_results; try rfl

/-! Each block is the whole array it is cut from. -/

theorem blk_P (c : Dev nD) (t : Fin cfg0.N) : iblk m c 0 t = m ((c : Thread nD τ).loc main_arg0) := by
  refine Eq.trans ?_ (V_main_arg0 m c)
  funext y
  blk_point [iblk, idx t]

theorem blk_N (c : Dev nD) (t : Fin cfg0.N) : iblk m c 1 t = m ((c : Thread nD τ).loc main_arg1) := by
  refine Eq.trans ?_ (V_main_arg1 m c)
  funext y
  blk_point [iblk, idx t]

theorem blk_M (c : Dev nD) (t : Fin cfg0.N) : iblk m c 2 t = row (m ((c : Thread nD τ).loc main_arg2)) := by
  refine Eq.trans ?_ (V_row m c)
  funext y
  blk_point [iblk, idx t]

theorem blk_B (c : Dev nD) (t : Fin cfg0.N) : iblk m c 3 t = tr (m ((c : Thread nD τ).loc main_arg3)) := by
  refine Eq.trans ?_ (V_tr m c)
  funext y
  blk_point [iblk, idx t]

theorem blk_Q (c : Dev nD) (t : Fin cfg0.N) : iblk m c 4 t = m ((c : Thread nD τ).loc main_arg4) := by
  refine Eq.trans ?_ (V_main_arg4 m c)
  funext y
  blk_point [iblk, idx t]

theorem blk_G (c : Dev nD) (t : Fin cfg0.N) : iblk m c 5 t = m ((c : Thread nD τ).loc main_arg5) := by
  refine Eq.trans ?_ (V_main_arg5 m c)
  funext y
  blk_point [iblk, idx t]

theorem blk_T (c : Dev nD) (t : Fin cfg0.N) : iblk m c 6 t = m ((c : Thread nD τ).loc main_arg6) := by
  refine Eq.trans ?_ (V_main_arg6 m c)
  funext y
  blk_point [iblk, idx t]

theorem blk_A (c : Dev nD) (t : Fin cfg0.N) : iblk m c 7 t = m ((c : Thread nD τ).loc main_arg7) := by
  refine Eq.trans ?_ (V_main_arg7 m c)
  funext y
  blk_point [iblk, idx t]

/-- The gradient of the magnitude. -/
theorem final8 (c : Dev nD) : (dats m 0 c).arrAt 8 cfg0.N = val_main_v5 (F := Ideal)
    (m ((c : Thread nD τ).loc main_arg0)) (m ((c : Thread nD τ).loc main_arg1)) := by
  refine (dats m 0 c).arrAt_eq_of_covers 8 _ (by decide +kernel) fun t hf y => ?_
  blk_simp
  rw [after0_8, blk_P, blk_N]
  unfold out0_8
  frame_out
  rw [pay_dmag]
  blk_point [idx t]

/-- The factor times the transposed low-rank factor, rounded. -/
theorem final9 (c : Dev nD) : (dats m 0 c).arrAt 9 cfg0.N = val_main_v29 (F := Ideal)
    (m ((c : Thread nD τ).loc main_arg0)) (m ((c : Thread nD τ).loc main_arg1)) (m ((c : Thread nD τ).loc main_arg2)) (m ((c : Thread nD τ).loc main_arg3)) := by
  refine (dats m 0 c).arrAt_eq_of_covers 9 _ (by decide +kernel) fun t hf y => ?_
  blk_simp
  rw [after0_9, blk_P, blk_N, blk_M, blk_B]
  unfold out0_9
  frame_out
  rw [pay_eb]
  blk_point [idx t]

/-- The low-rank factor's gradient. -/
theorem final10 (c : Dev nD) : (dats m 0 c).arrAt 10 cfg0.N = val_main_v34 (F := Ideal)
    (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) := by
  refine (dats m 0 c).arrAt_eq_of_covers 10 _ (by decide +kernel) fun t hf y => ?_
  blk_simp
  rw [after0_10, blk_P, blk_N, blk_M, blk_Q, blk_G, blk_T]
  unfold out0_10 k0_pay10
  frame_out
  rw [pay_db]
  blk_point [idx t]

/-- The low-rank factor's gradient through the norm. -/
theorem final11 (c : Dev nD) : (dats m 0 c).arrAt 11 cfg0.N = val_main_v20 (F := Ideal)
    (m ((c : Thread nD τ).loc main_arg0)) (m ((c : Thread nD τ).loc main_arg1)) (m ((c : Thread nD τ).loc main_arg2)) (m ((c : Thread nD τ).loc main_arg4)) (m ((c : Thread nD τ).loc main_arg5)) := by
  refine (dats m 0 c).arrAt_eq_of_covers 11 _ (by decide +kernel) fun t hf y => ?_
  blk_simp
  rw [after0_11, blk_P, blk_N, blk_M, blk_Q, blk_G]
  unfold out0_11 k0_pay10
  frame_out
  rw [pay_dbn]
  blk_point [idx t]

/-- The product with the adapter. -/
theorem final12 (c : Dev nD) : (dats m 0 c).arrAt 12 cfg0.N = val_main_v27 (F := Ideal)
    (m ((c : Thread nD τ).loc main_arg0)) (m ((c : Thread nD τ).loc main_arg1)) (m ((c : Thread nD τ).loc main_arg2)) (m ((c : Thread nD τ).loc main_arg3)) (m ((c : Thread nD τ).loc main_arg7)) := by
  refine (dats m 0 c).arrAt_eq_of_covers 12 _ (by decide +kernel) fun t hf y => ?_
  blk_simp
  rw [after0_12, blk_P, blk_N, blk_M, blk_B, blk_A]
  unfold out0_12
  frame_out
  rw [pay_ma]
  blk_point [idx t]

end Cert.NormGradIdeal.Value
-- ==== Proof.NormGradIdeal.Claim.lean ====
module

public import proofs.«01_k».proof.Proof.NormGradIdeal.Final
public import proofs.«01_k».proof.Proof.Gen.NormGradIdeal.Value
public import proofs.«01_k».proof.Proof.Gen.NormGradRefIdeal.Run
public import proofs.«01_k».proof.Defs

/-! The call `norm_grad` of the gate projection: the frame of the reference and the equality of the five results over
the extended reals. -/

@[expose] public section

set_option maxRecDepth 16384

noncomputable section

open Idealize.ShloMosaic Idealize.ShloMosaic.TcCoe Idealize.SL.Sem

namespace Cert.NormGradIdeal.Value

open Cert.NormGradIdeal Cert.NormGradIdeal.Gen

/-- The reference runs, leaves its arguments unchanged and every semaphore counter at zero. -/
theorem frame_ref : Cert.quiescent_NormGradRefIdeal := by
  intro m g _
  hlo_run
  · exact fun _ => ⟨trivial, trivial, trivial, trivial, trivial, trivial, trivial, trivial⟩
  · exact sem_eq_zero_of_no_sems (sig := Cert.NormGradRefIdeal.sig) (by decide) _

open Cert.NormGradRefIdeal.Read in
set_option maxHeartbeats 1600000 in
/-- The call and the reference end with equal results over the extended reals. -/
theorem algebraic : Cert.algebraic_NormGradIdeal_NormGradRefIdeal := by
  pair_intro
  · run_from run_blocks m g
  · run_from Cert.NormGradRefIdeal.Value.run m' g'
    · exact (val_main_v5_eq _ _).trans (final8 m c).symm
    · exact (val_main_v29_eq _ _ _ _).trans (final9 m c).symm
    · exact (val_main_v34_eq _ _ _ _ _ _).trans (final10 m c).symm
    · exact (val_main_v20_eq _ _ _ _ _).trans (final11 m c).symm
    · exact (val_main_v27_eq _ _ _ _ _).trans (final12 m c).symm

end Cert.NormGradIdeal.Value
-- ==== Proof.NormGradDownIdeal.Payload.lean ====
module

public import proofs.«01_k».proof.Proof.Gen.NormGradDownIdeal.Skeleton
public import proofs.«01_k».proof.Proof.Gen.NormGradDownRefIdeal.Read
public import proofs.«01_k».proof.Proof.Common.Four
public import Idealize.ShloMosaic.Lib.Pipeline.ValueKit

/-! The call `norm_grad` of the down projection: what it computes of whole arrays is what the reference computes. -/

@[expose] public section

set_option maxRecDepth 16384

noncomputable section

open Idealize.ShloMosaic Idealize.ShloMosaic.TcCoe Idealize.SL.Sem
open scoped BigOperators

namespace Cert.NormGradDownIdeal.Value

open Cert.NormGradDownIdeal Cert.NormGradDownIdeal.Gen
open Cert.NormGradDownRefIdeal.Read

variable (P : FVec Ideal S8x8192 .f32) (N : FVec Ideal S1x8192 .f32) (M : FVec Ideal S8192 .f32) (B : FVec Ideal S8192x64 .bf16)
  (Q G T : FVec Ideal S64x8192 .f32) (A : FVec Ideal S64x3584 .bf16)

/-- The magnitude as one row. -/
abbrev row : FVec Ideal S1x8192 .f32 := shapeCast S1x8192 M Gen.shapeCasts_S8192_S1x8192

/-- The low-rank factor transposed. -/
abbrev tr : FVec Ideal S64x8192 .bf16 := transpose S64x8192 [1, 0] B Gen.transposes_S8192x64_S64x8192_1_0

/-- The norm, with one in the place of zero. -/
theorem pay_safe : k0_pay3 (F := Ideal) N = val_main_v2 (F := Ideal) N := by
  funext j
  idx_vars j
  pointwise [k0_pay3, val_main_v2, val_main_v1, val_main_v0, val_main_cst, val_main_cst_0, val_main_call0_v0, val_main_call0_v1, id]

/-- The gradient of the magnitude. -/
theorem pay_dmag : k0_pay4 (F := Ideal) N P = val_main_v5 (F := Ideal) P N := by
  unfold k0_pay4 val_main_v5
  rw [pay_safe]
  funext j
  idx_vars j
  pointwise [val_main_v4, val_main_v3, val_main_cst_1]

/-- The norm's part of the gradients, one factor for every column. -/
theorem pay_factor : k0_pay5 (F := Ideal) N P (row M) = val_main_v12 (F := Ideal) P N M := by
  unfold k0_pay5 val_main_v12
  rw [pay_safe, pay_dmag]
  funext j
  idx_vars j
  pointwise [val_main_v11, val_main_v10, val_main_v9, val_main_v8, val_main_v7, val_main_v6, val_main_cst_2]
  rw [sub_eq_add_neg, zero_add]

/-- The factor times the transposed low-rank factor. -/
theorem pay_eb32 : k0_pay8 (F := Ideal) N P (row M) (tr B) = val_main_v28 (F := Ideal) P N M B := by
  unfold k0_pay8
  rw [pay_factor]
  funext j
  idx_vars j
  pointwise [k0_pay6, val_main_v28, val_main_v23, val_main_v22, val_main_v21, val_main_v13]

/-- The same, rounded. -/
theorem pay_eb : k0_pay9 (F := Ideal) N P (row M) (tr B) = val_main_v29 (F := Ideal) P N M B := by
  unfold k0_pay9 val_main_v29
  rw [pay_eb32]

/-- The low-rank factor's gradient through the norm. -/
theorem pay_dbn : k0_pay7 (F := Ideal) N P (row M) Q G = val_main_v20 (F := Ideal) P N M Q G := by
  unfold k0_pay7 val_main_v20
  rw [pay_factor]
  funext j
  idx_vars j
  pointwise [val_main_v19, val_main_v18, val_main_v17, val_main_v16, val_main_v15, val_main_v14, val_main_cst_3, val_main_cst_4]

/-- The low-rank factor's gradient. -/
theorem pay_db : k0_pay1 (F := Ideal) (k0_pay7 (F := Ideal) N P (row M) Q G) T = val_main_v34 (F := Ideal) P N M Q G T := by
  rw [pay_dbn]
  funext j
  refine (congrArg (· + val_main_v20 (F := Ideal) P N M Q G j) (Cert.Scale.scale_four (T j))).trans ?_
  pointwise [val_main_v34, val_main_v33, val_main_v32, val_main_v31, val_main_v30, val_main_cst_5, val_main_cst_6]

/-- The product of the low-rank factor, its gradient and the adapter. -/
theorem pay_ma : k0_pay2 (F := Ideal) (k0_pay6 (F := Ideal) (tr B)) (k0_pay8 (F := Ideal) N P (row M) (tr B)) A
    = val_main_v27 (F := Ideal) P N M B A := by
  rw [pay_eb32]
  funext j
  idx_vars j
  pointwise [k0_pay2, k0_pay6, val_main_v28, val_main_v27, val_main_v26, val_main_v25, val_main_v24, val_main_v13]

end Cert.NormGradDownIdeal.Value
-- ==== Proof.NormGradDownIdeal.Final.lean ====
module

public import proofs.«01_k».proof.Proof.NormGradDownIdeal.Payload
public import proofs.«01_k».proof.Proof.Gen.NormGradDownIdeal.Frame
public import Idealize.ShloMosaic.Lib.Pipeline.ValueKit

/-! The call `norm_grad` of the down projection: what its five result arrays hold after the run. Its grid has one point
and every block is a whole array. -/

@[expose] public section

set_option maxRecDepth 16384

noncomputable section

open Idealize.ShloMosaic Idealize.ShloMosaic.TcCoe Idealize.SL.Sem
open Idealize.ShloMosaic.Pipeline (Dat)
open scoped BigOperators

namespace Cert.NormGradDownIdeal.Value

open Cert.NormGradDownIdeal Cert.NormGradDownIdeal.Gen
open Cert.NormGradDownRefIdeal.Read

variable (m : (ℓ : Loc nD τ sig) → Buf (Elt Ideal) ℓ)

/-- Every window's block is the first one. -/
theorem idx : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![0, 0]
    ∧ win0_11.index t = ![0, 0] ∧ win0_12.index t = ![0, 0] :=
  (by decide +kernel : ∀ t : Fin grid0.N, _)

/-- The magnitude the kernel reads is the argument as one row. -/
theorem V_row (c : Dev nD) : V m c main_v0 = row (m ((c : Thread nD τ).loc main_arg2)) := by
  unfold V; after_results; try rfl

/-- The low-rank factor the kernel reads is the argument transposed. -/
theorem V_tr (c : Dev nD) : V m c main_v1 = tr (m ((c : Thread nD τ).loc main_arg3)) := by
  unfold V; after_results; try rfl

/-! Each block is the whole array it is cut from. -/

theorem blk_P (c : Dev nD) (t : Fin cfg0.N) : iblk m c 0 t = m ((c : Thread nD τ).loc main_arg0) := by
  refine Eq.trans ?_ (V_main_arg0 m c)
  funext y
  blk_point [iblk, idx t]

theorem blk_N (c : Dev nD) (t : Fin cfg0.N) : iblk m c 1 t = m ((c : Thread nD τ).loc main_arg1) := by
  refine Eq.trans ?_ (V_main_arg1 m c)
  funext y
  blk_point [iblk, idx t]

theorem blk_M (c : Dev nD) (t : Fin cfg0.N) : iblk m c 2 t = row (m ((c : Thread nD τ).loc main_arg2)) := by
  refine Eq.trans ?_ (V_row m c)
  funext y
  blk_point [iblk, idx t]

theorem blk_B (c : Dev nD) (t : Fin cfg0.N) : iblk m c 3 t = tr (m ((c : Thread nD τ).loc main_arg3)) := by
  refine Eq.trans ?_ (V_tr m c)
  funext y
  blk_point [iblk, idx t]

theorem blk_Q (c : Dev nD) (t : Fin cfg0.N) : iblk m c 4 t = m ((c : Thread nD τ).loc main_arg4) := by
  refine Eq.trans ?_ (V_main_arg4 m c)
  funext y
  blk_point [iblk, idx t]

theorem blk_G (c : Dev nD) (t : Fin cfg0.N) : iblk m c 5 t = m ((c : Thread nD τ).loc main_arg5) := by
  refine Eq.trans ?_ (V_main_arg5 m c)
  funext y
  blk_point [iblk, idx t]

theorem blk_T (c : Dev nD) (t : Fin cfg0.N) : iblk m c 6 t = m ((c : Thread nD τ).loc main_arg6) := by
  refine Eq.trans ?_ (V_main_arg6 m c)
  funext y
  blk_point [iblk, idx t]

theorem blk_A (c : Dev nD) (t : Fin cfg0.N) : iblk m c 7 t = m ((c : Thread nD τ).loc main_arg7) := by
  refine Eq.trans ?_ (V_main_arg7 m c)
  funext y
  blk_point [iblk, idx t]

/-- The gradient of the magnitude. -/
theorem final8 (c : Dev nD) : (dats m 0 c).arrAt 8 cfg0.N = val_main_v5 (F := Ideal)
    (m ((c : Thread nD τ).loc main_arg0)) (m ((c : Thread nD τ).loc main_arg1)) := by
  refine (dats m 0 c).arrAt_eq_of_covers 8 _ (by decide +kernel) fun t hf y => ?_
  blk_simp
  rw [after0_8, blk_P, blk_N]
  unfold out0_8
  frame_out
  rw [pay_dmag]
  blk_point [idx t]

/-- The factor times the transposed low-rank factor, rounded. -/
theorem final9 (c : Dev nD) : (dats m 0 c).arrAt 9 cfg0.N = val_main_v29 (F := Ideal)
    (m ((c : Thread nD τ).loc main_arg0)) (m ((c : Thread nD τ).loc main_arg1)) (m ((c : Thread nD τ).loc main_arg2)) (m ((c : Thread nD τ).loc main_arg3)) := by
  refine (dats m 0 c).arrAt_eq_of_covers 9 _ (by decide +kernel) fun t hf y => ?_
  blk_simp
  rw [after0_9, blk_P, blk_N, blk_M, blk_B]
  unfold out0_9
  frame_out
  rw [pay_eb]
  blk_point [idx t]

/-- The low-rank factor's gradient. -/
theorem final10 (c : Dev nD) : (dats m 0 c).arrAt 10 cfg0.N = val_main_v34 (F := Ideal)
    (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) := by
  refine (dats m 0 c).arrAt_eq_of_covers 10 _ (by decide +kernel) fun t hf y => ?_
  blk_simp
  rw [after0_10, blk_P, blk_N, blk_M, blk_Q, blk_G, blk_T]
  unfold out0_10 k0_pay10
  frame_out
  rw [pay_db]
  blk_point [idx t]

/-- The low-rank factor's gradient through the norm. -/
theorem final11 (c : Dev nD) : (dats m 0 c).arrAt 11 cfg0.N = val_main_v20 (F := Ideal)
    (m ((c : Thread nD τ).loc main_arg0)) (m ((c : Thread nD τ).loc main_arg1)) (m ((c : Thread nD τ).loc main_arg2)) (m ((c : Thread nD τ).loc main_arg4)) (m ((c : Thread nD τ).loc main_arg5)) := by
  refine (dats m 0 c).arrAt_eq_of_covers 11 _ (by decide +kernel) fun t hf y => ?_
  blk_simp
  rw [after0_11, blk_P, blk_N, blk_M, blk_Q, blk_G]
  unfold out0_11 k0_pay10
  frame_out
  rw [pay_dbn]
  blk_point [idx t]

/-- The product with the adapter. -/
theorem final12 (c : Dev nD) : (dats m 0 c).arrAt 12 cfg0.N = val_main_v27 (F := Ideal)
    (m ((c : Thread nD τ).loc main_arg0)) (m ((c : Thread nD τ).loc main_arg1)) (m ((c : Thread nD τ).loc main_arg2)) (m ((c : Thread nD τ).loc main_arg3)) (m ((c : Thread nD τ).loc main_arg7)) := by
  refine (dats m 0 c).arrAt_eq_of_covers 12 _ (by decide +kernel) fun t hf y => ?_
  blk_simp
  rw [after0_12, blk_P, blk_N, blk_M, blk_B, blk_A]
  unfold out0_12
  frame_out
  rw [pay_ma]
  blk_point [idx t]

end Cert.NormGradDownIdeal.Value
-- ==== Proof.NormGradDownIdeal.Claim.lean ====
module

public import proofs.«01_k».proof.Proof.NormGradDownIdeal.Final
public import proofs.«01_k».proof.Proof.Gen.NormGradDownIdeal.Value
public import proofs.«01_k».proof.Proof.Gen.NormGradDownRefIdeal.Run
public import proofs.«01_k».proof.Defs

/-! The call `norm_grad` of the down projection: the frame of the reference and the equality of the five results over
the extended reals. -/

@[expose] public section

set_option maxRecDepth 16384

noncomputable section

open Idealize.ShloMosaic Idealize.ShloMosaic.TcCoe Idealize.SL.Sem

namespace Cert.NormGradDownIdeal.Value

open Cert.NormGradDownIdeal Cert.NormGradDownIdeal.Gen

/-- The reference runs, leaves its arguments unchanged and every semaphore counter at zero. -/
theorem frame_ref : Cert.quiescent_NormGradDownRefIdeal := by
  intro m g _
  hlo_run
  · exact fun _ => ⟨trivial, trivial, trivial, trivial, trivial, trivial, trivial, trivial⟩
  · exact sem_eq_zero_of_no_sems (sig := Cert.NormGradDownRefIdeal.sig) (by decide) _

open Cert.NormGradDownRefIdeal.Read in
set_option maxHeartbeats 1600000 in
/-- The call and the reference end with equal results over the extended reals. -/
theorem algebraic : Cert.algebraic_NormGradDownIdeal_NormGradDownRefIdeal := by
  pair_intro
  · run_from run_blocks m g
  · run_from Cert.NormGradDownRefIdeal.Value.run m' g'
    · exact (val_main_v5_eq _ _).trans (final8 m c).symm
    · exact (val_main_v29_eq _ _ _ _).trans (final9 m c).symm
    · exact (val_main_v34_eq _ _ _ _ _ _).trans (final10 m c).symm
    · exact (val_main_v20_eq _ _ _ _ _).trans (final11 m c).symm
    · exact (val_main_v27_eq _ _ _ _ _).trans (final12 m c).symm

end Cert.NormGradDownIdeal.Value
-- ==== Proof.lean ====
module

public import proofs.«01_k».proof.Defs
public import proofs.«01_k».proof.Proof.Gen.Fwd
public import proofs.«01_k».proof.Proof.Gen.Fwd.Skeleton
public import proofs.«01_k».proof.Proof.Gen.Fwd.Launch
public import proofs.«01_k».proof.Proof.Gen.Fwd.Points
public import proofs.«01_k».proof.Proof.Gen.Fwd.Frame
public import proofs.«01_k».proof.Proof.Gen.FwdIdeal
public import proofs.«01_k».proof.Proof.Gen.FwdIdeal.Skeleton
public import proofs.«01_k».proof.Proof.Gen.FwdIdeal.Launch
public import proofs.«01_k».proof.Proof.Gen.FwdIdeal.Points
public import proofs.«01_k».proof.Proof.Gen.FwdIdeal.Frame
public import proofs.«01_k».proof.Proof.Gen.FwdRefIdeal
public import proofs.«01_k».proof.Proof.Gen.FwdRefIdeal.Run
public import proofs.«01_k».proof.Proof.Gen.FwdRefIdeal.Read
public import proofs.«01_k».proof.Proof.Gen.DownFwd
public import proofs.«01_k».proof.Proof.Gen.DownFwd.Frame
public import proofs.«01_k».proof.Proof.Gen.DownFwdIdeal
public import proofs.«01_k».proof.Proof.Gen.DownFwdIdeal.Frame
public import proofs.«01_k».proof.Proof.Gen.DownFwdRefIdeal
public import proofs.«01_k».proof.Proof.Gen.DownFwdRefIdeal.Run
public import proofs.«01_k».proof.Proof.Gen.DownFwdRefIdeal.Read
public import proofs.«01_k».proof.Proof.Gen.Dx
public import proofs.«01_k».proof.Proof.Gen.Dx.Skeleton
public import proofs.«01_k».proof.Proof.Gen.Dx.Launch
public import proofs.«01_k».proof.Proof.Gen.Dx.Points
public import proofs.«01_k».proof.Proof.Gen.Dx.Frame
public import proofs.«01_k».proof.Proof.Gen.DxIdeal
public import proofs.«01_k».proof.Proof.Gen.DxIdeal.Skeleton
public import proofs.«01_k».proof.Proof.Gen.DxIdeal.Launch
public import proofs.«01_k».proof.Proof.Gen.DxIdeal.Points
public import proofs.«01_k».proof.Proof.Gen.DxIdeal.Frame
public import proofs.«01_k».proof.Proof.Gen.DxRefIdeal
public import proofs.«01_k».proof.Proof.Gen.DxRefIdeal.Run
public import proofs.«01_k».proof.Proof.Gen.DxRefIdeal.Read
public import proofs.«01_k».proof.Proof.Gen.DownBwd
public import proofs.«01_k».proof.Proof.Gen.DownBwd.Skeleton
public import proofs.«01_k».proof.Proof.Gen.DownBwd.Launch
public import proofs.«01_k».proof.Proof.Gen.DownBwd.Points
public import proofs.«01_k».proof.Proof.Gen.DownBwd.Frame
public import proofs.«01_k».proof.Proof.Gen.DownBwdIdeal
public import proofs.«01_k».proof.Proof.Gen.DownBwdIdeal.Skeleton
public import proofs.«01_k».proof.Proof.Gen.DownBwdIdeal.Launch
public import proofs.«01_k».proof.Proof.Gen.DownBwdIdeal.Points
public import proofs.«01_k».proof.Proof.Gen.DownBwdIdeal.Frame
public import proofs.«01_k».proof.Proof.Gen.DownBwdRefIdeal
public import proofs.«01_k».proof.Proof.Gen.DownBwdRefIdeal.Run
public import proofs.«01_k».proof.Proof.Gen.DownBwdRefIdeal.Read
public import proofs.«01_k».proof.Proof.Gen.NormGrad
public import proofs.«01_k».proof.Proof.Gen.NormGrad.Frame
public import proofs.«01_k».proof.Proof.Gen.NormGradIdeal
public import proofs.«01_k».proof.Proof.Gen.NormGradIdeal.Frame
public import proofs.«01_k».proof.Proof.Gen.NormGradIdeal.Value
public import proofs.«01_k».proof.Proof.Gen.NormGradRefIdeal
public import proofs.«01_k».proof.Proof.Gen.NormGradRefIdeal.Run
public import proofs.«01_k».proof.Proof.Gen.NormGradRefIdeal.Read
public import proofs.«01_k».proof.Proof.Gen.NormGradDown
public import proofs.«01_k».proof.Proof.Gen.NormGradDown.Frame
public import proofs.«01_k».proof.Proof.Gen.NormGradDownIdeal
public import proofs.«01_k».proof.Proof.Gen.NormGradDownIdeal.Frame
public import proofs.«01_k».proof.Proof.Gen.NormGradDownIdeal.Value
public import proofs.«01_k».proof.Proof.Gen.NormGradDownRefIdeal
public import proofs.«01_k».proof.Proof.Gen.NormGradDownRefIdeal.Run
public import proofs.«01_k».proof.Proof.Gen.NormGradDownRefIdeal.Read
public import proofs.«01_k».proof.Proof.Fwd.Claim
public import proofs.«01_k».proof.Proof.DownFwd.Claim
public import proofs.«01_k».proof.Proof.Dx.Body
public import proofs.«01_k».proof.Proof.DxIdeal.Claim
public import proofs.«01_k».proof.Proof.DownBwd.Body
public import proofs.«01_k».proof.Proof.DownBwdIdeal.Claim
public import proofs.«01_k».proof.Proof.NormGradIdeal.Claim
public import proofs.«01_k».proof.Proof.NormGradDownIdeal.Claim
public import Idealize.ShloMosaic.Adequacy
public import Idealize.ShloMosaic.Init

@[expose] public section

noncomputable section

namespace Cert.Proof

open Idealize.ShloMosaic Idealize.SL.Sem Cert.Fwd

theorem claim : Cert.Claim := ⟨Cert.Fwd.Gen.facts, Cert.FwdIdeal.Gen.facts, Cert.FwdRefIdeal.Gen.facts,
  Cert.DownFwd.Gen.facts, Cert.DownFwdIdeal.Gen.facts, Cert.DownFwdRefIdeal.Gen.facts,
  Cert.Dx.Gen.facts, Cert.DxIdeal.Gen.facts, Cert.DxRefIdeal.Gen.facts,
  Cert.DownBwd.Gen.facts, Cert.DownBwdIdeal.Gen.facts, Cert.DownBwdRefIdeal.Gen.facts,
  Cert.NormGrad.Gen.facts, Cert.NormGradIdeal.Gen.facts, Cert.NormGradRefIdeal.Gen.facts,
  Cert.NormGradDown.Gen.facts, Cert.NormGradDownIdeal.Gen.facts, Cert.NormGradDownRefIdeal.Gen.facts,
  fun m ρ _ => Cert.Fwd.Gen.frame m ρ, fun m ρ _ => Cert.FwdIdeal.Gen.frame m ρ, Cert.FwdIdeal.Value.frame_ref,
  fun m ρ _ => Cert.DownFwd.Gen.frame m ρ, fun m ρ _ => Cert.DownFwdIdeal.Gen.frame m ρ, Cert.DownFwdIdeal.Value.frame_ref,
  fun m ρ _ => Cert.Dx.Frame.frame m ρ, fun m ρ _ => Cert.DxIdeal.Frame.frame m ρ, Cert.DxIdeal.Value.frame_ref,
  fun m ρ _ => Cert.DownBwd.Frame.frame m ρ, fun m ρ _ => Cert.DownBwdIdeal.Frame.frame m ρ, Cert.DownBwdIdeal.Value.frame_ref,
  fun m ρ _ => Cert.NormGrad.Gen.frame m ρ, fun m ρ _ => Cert.NormGradIdeal.Gen.frame m ρ, Cert.NormGradIdeal.Value.frame_ref,
  fun m ρ _ => Cert.NormGradDown.Gen.frame m ρ, fun m ρ _ => Cert.NormGradDownIdeal.Gen.frame m ρ, Cert.NormGradDownIdeal.Value.frame_ref,
  trivial, Cert.FwdIdeal.Value.algebraic, trivial, Cert.DownFwdIdeal.Value.algebraic,
  trivial, Cert.DxIdeal.Value.algebraic, trivial, Cert.DownBwdIdeal.Value.algebraic,
  trivial, Cert.NormGradIdeal.Value.algebraic, trivial, Cert.NormGradDownIdeal.Value.algebraic⟩

end Cert.Proof

end
